-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  IdealRules.named_const.Statement Cert.KernelIdeal.κ "rsqrt2" .f32 0x3F3504F3#32 (((Real.sqrt 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  IdealRules.named_const.Statement Cert.Kernel2Ideal.κ "rsqrt2" .f32 0x3F3504F3#32 (((Real.sqrt 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "mask" .f32 0xF149F2CA#32 ⊥
  ∧ IdealRules.named_const.Statement Cert.Kernel3Ideal.κ "log2e" .f32 0x3FB8AA3B#32 (((Real.log 2)⁻¹ : ℝ) : EReal)

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v59)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v59) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v100) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "mask" .f32 0xF149F2CA#32 ⊥
  ∧ IdealRules.named_const.Statement Cert.Kernel5Ideal.κ "log2e" .f32 0x3FB8AA3B#32 (((Real.log 2)⁻¹ : ℝ) : EReal)

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v59)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v59) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v100) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  IdealRules.named_const.Statement Cert.Kernel6Ideal.κ "qscale" .f32 0x3E38AA3B#32 (((Real.log 256)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)) (v3 : (c : Dev Cert.Kernel6Ideal.nD) → Buf (Elt Ideal) ((c.tc : Thread Cert.Kernel6Ideal.nD Cert.Kernel6Ideal.τ).loc Cert.Kernel6Ideal.main_v2_3)) (v4 : (c : Dev Cert.Kernel6Ideal.nD) → Buf (Elt Ideal) ((c.tc : Thread Cert.Kernel6Ideal.nD Cert.Kernel6Ideal.τ).loc Cert.Kernel6Ideal.main_v2_4)) (v5 : (c : Dev Cert.Kernel6Ideal.nD) → Buf (Elt Ideal) ((c.tc : Thread Cert.Kernel6Ideal.nD Cert.Kernel6Ideal.τ).loc Cert.Kernel6Ideal.main_v2_5)) (v6 : (c : Dev Cert.Kernel6Ideal.nD) → Buf (Elt Ideal) ((c.tc : Thread Cert.Kernel6Ideal.nD Cert.Kernel6Ideal.τ).loc Cert.Kernel6Ideal.main_v2_6)) (v7 : (c : Dev Cert.Kernel6Ideal.nD) → Buf (Elt Ideal) ((c.tc : Thread Cert.Kernel6Ideal.nD Cert.Kernel6Ideal.τ).loc Cert.Kernel6Ideal.main_v2_7)) (v8 : (c : Dev Cert.Kernel6Ideal.nD) → Buf (Elt Ideal) ((c.tc : Thread Cert.Kernel6Ideal.nD Cert.Kernel6Ideal.τ).loc Cert.Kernel6Ideal.main_v2_8)) (v9 : (c : Dev Cert.Kernel6Ideal.nD) → Buf (Elt Ideal) ((c.tc : Thread Cert.Kernel6Ideal.nD Cert.Kernel6Ideal.τ).loc Cert.Kernel6Ideal.main_v2_9)) (v10 : (c : Dev Cert.Kernel6Ideal.nD) → Buf (Elt Ideal) ((c.tc : Thread Cert.Kernel6Ideal.nD Cert.Kernel6Ideal.τ).loc Cert.Kernel6Ideal.main_v2_10)) (v11 : (c : Dev Cert.Kernel6Ideal.nD) → Buf (Elt Ideal) ((c.tc : Thread Cert.Kernel6Ideal.nD Cert.Kernel6Ideal.τ).loc Cert.Kernel6Ideal.main_v2_11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_v2_3) = v3 c
          ∧ r.2.mem ((c.tc : Thread Cert.Kernel6Ideal.nD Cert.Kernel6Ideal.τ).loc Cert.Kernel6Ideal.main_v2_4) = v4 c
          ∧ r.2.mem ((c.tc : Thread Cert.Kernel6Ideal.nD Cert.Kernel6Ideal.τ).loc Cert.Kernel6Ideal.main_v2_5) = v5 c
          ∧ r.2.mem ((c.tc : Thread Cert.Kernel6Ideal.nD Cert.Kernel6Ideal.τ).loc Cert.Kernel6Ideal.main_v2_6) = v6 c
          ∧ r.2.mem ((c.tc : Thread Cert.Kernel6Ideal.nD Cert.Kernel6Ideal.τ).loc Cert.Kernel6Ideal.main_v2_7) = v7 c
          ∧ r.2.mem ((c.tc : Thread Cert.Kernel6Ideal.nD Cert.Kernel6Ideal.τ).loc Cert.Kernel6Ideal.main_v2_8) = v8 c
          ∧ r.2.mem ((c.tc : Thread Cert.Kernel6Ideal.nD Cert.Kernel6Ideal.τ).loc Cert.Kernel6Ideal.main_v2_9) = v9 c
          ∧ r.2.mem ((c.tc : Thread Cert.Kernel6Ideal.nD Cert.Kernel6Ideal.τ).loc Cert.Kernel6Ideal.main_v2_10) = v10 c
          ∧ r.2.mem ((c.tc : Thread Cert.Kernel6Ideal.nD Cert.Kernel6Ideal.τ).loc Cert.Kernel6Ideal.main_v2_11) = v11 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v50) = v0 c
          ∧ r.2.mem ((c.tc : Thread Cert.Reference6Ideal.nD Cert.Reference6Ideal.τ).loc Cert.Reference6Ideal.main_v51) = v1 c
          ∧ r.2.mem ((c.tc : Thread Cert.Reference6Ideal.nD Cert.Reference6Ideal.τ).loc Cert.Reference6Ideal.main_v52) = v2 c
          ∧ r.2.mem ((c.tc : Thread Cert.Reference6Ideal.nD Cert.Reference6Ideal.τ).loc Cert.Reference6Ideal.main_v53) = v3 c
          ∧ r.2.mem ((c.tc : Thread Cert.Reference6Ideal.nD Cert.Reference6Ideal.τ).loc Cert.Reference6Ideal.main_v54) = v4 c
          ∧ r.2.mem ((c.tc : Thread Cert.Reference6Ideal.nD Cert.Reference6Ideal.τ).loc Cert.Reference6Ideal.main_v55) = v5 c
          ∧ r.2.mem ((c.tc : Thread Cert.Reference6Ideal.nD Cert.Reference6Ideal.τ).loc Cert.Reference6Ideal.main_v56) = v6 c
          ∧ r.2.mem ((c.tc : Thread Cert.Reference6Ideal.nD Cert.Reference6Ideal.τ).loc Cert.Reference6Ideal.main_v57) = v7 c
          ∧ r.2.mem ((c.tc : Thread Cert.Reference6Ideal.nD Cert.Reference6Ideal.τ).loc Cert.Reference6Ideal.main_v58) = v8 c
          ∧ r.2.mem ((c.tc : Thread Cert.Reference6Ideal.nD Cert.Reference6Ideal.τ).loc Cert.Reference6Ideal.main_v59) = v9 c
          ∧ r.2.mem ((c.tc : Thread Cert.Reference6Ideal.nD Cert.Reference6Ideal.τ).loc Cert.Reference6Ideal.main_v60) = v10 c
          ∧ r.2.mem ((c.tc : Thread Cert.Reference6Ideal.nD Cert.Reference6Ideal.τ).loc Cert.Reference6Ideal.main_v61) = v11 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  IdealRules.named_const.Statement Cert.Kernel7Ideal.κ "qscale" .f32 0x3E38AA3B#32 (((Real.log 256)⁻¹ : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v29_0)) (v1 : (c : Dev Cert.Kernel7Ideal.nD) → Buf (Elt Ideal) ((c.tc : Thread Cert.Kernel7Ideal.nD Cert.Kernel7Ideal.τ).loc Cert.Kernel7Ideal.main_v29_1)) (v2 : (c : Dev Cert.Kernel7Ideal.nD) → Buf (Elt Ideal) ((c.tc : Thread Cert.Kernel7Ideal.nD Cert.Kernel7Ideal.τ).loc Cert.Kernel7Ideal.main_v29_3)) (v3 : (c : Dev Cert.Kernel7Ideal.nD) → Buf (Elt Ideal) ((c.tc : Thread Cert.Kernel7Ideal.nD Cert.Kernel7Ideal.τ).loc Cert.Kernel7Ideal.main_v29_4)) (v4 : (c : Dev Cert.Kernel7Ideal.nD) → Buf (Elt Ideal) ((c.tc : Thread Cert.Kernel7Ideal.nD Cert.Kernel7Ideal.τ).loc Cert.Kernel7Ideal.main_v29_5)) (v5 : (c : Dev Cert.Kernel7Ideal.nD) → Buf (Elt Ideal) ((c.tc : Thread Cert.Kernel7Ideal.nD Cert.Kernel7Ideal.τ).loc Cert.Kernel7Ideal.main_v29_6)) (v6 : (c : Dev Cert.Kernel7Ideal.nD) → Buf (Elt Ideal) ((c.tc : Thread Cert.Kernel7Ideal.nD Cert.Kernel7Ideal.τ).loc Cert.Kernel7Ideal.main_v29_7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v29_0) = v0 c
          ∧ r.2.mem ((c.tc : Thread Cert.Kernel7Ideal.nD Cert.Kernel7Ideal.τ).loc Cert.Kernel7Ideal.main_v29_1) = v1 c
          ∧ r.2.mem ((c.tc : Thread Cert.Kernel7Ideal.nD Cert.Kernel7Ideal.τ).loc Cert.Kernel7Ideal.main_v29_3) = v2 c
          ∧ r.2.mem ((c.tc : Thread Cert.Kernel7Ideal.nD Cert.Kernel7Ideal.τ).loc Cert.Kernel7Ideal.main_v29_4) = v3 c
          ∧ r.2.mem ((c.tc : Thread Cert.Kernel7Ideal.nD Cert.Kernel7Ideal.τ).loc Cert.Kernel7Ideal.main_v29_5) = v4 c
          ∧ r.2.mem ((c.tc : Thread Cert.Kernel7Ideal.nD Cert.Kernel7Ideal.τ).loc Cert.Kernel7Ideal.main_v29_6) = v5 c
          ∧ r.2.mem ((c.tc : Thread Cert.Kernel7Ideal.nD Cert.Kernel7Ideal.τ).loc Cert.Kernel7Ideal.main_v29_7) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v60) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_v61) = v2 c
          ∧ r.2.mem ((c.tc : Thread Cert.Reference7Ideal.nD Cert.Reference7Ideal.τ).loc Cert.Reference7Ideal.main_v62) = v3 c
          ∧ r.2.mem ((c.tc : Thread Cert.Reference7Ideal.nD Cert.Reference7Ideal.τ).loc Cert.Reference7Ideal.main_v63) = v4 c
          ∧ r.2.mem ((c.tc : Thread Cert.Reference7Ideal.nD Cert.Reference7Ideal.τ).loc Cert.Reference7Ideal.main_v50) = v5 c
          ∧ r.2.mem ((c.tc : Thread Cert.Reference7Ideal.nD Cert.Reference7Ideal.τ).loc Cert.Reference7Ideal.main_v29) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S16x4096x512 : Shape := ⟨3, ![16, 4096, 512]⟩
abbrev S4x64 : Shape := ⟨2, ![4, 64]⟩
abbrev S32x20 : Shape := ⟨2, ![32, 20]⟩
abbrev S128 : Shape := ⟨1, ![128]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_
  bcast_S_S32x20 : S_.BroadcastsInDim S32x20 (![] : Fin 0 → Fin S32x20.rank)
  reducesTo_S32x20_S_d0_1 : S32x20.ReducesTo [0, 1] S_

variable [Facts]

def fn_part1 {F : FTy → Type} [FloatOps F] (main_arg4 : FVec F S32x20 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S32x20 .f32 := Host.absf main_arg4
  let main_cst_6 : FVec F S_ .f32 := constant S_ .f32 0x7F800000#32
  let main_v20 : FVec F S32x20 .f32 := broadcastInDim S32x20 ![] bcast_S_S32x20 main_cst_6
  let main_v21 : IVec S32x20 1 := cmpf .olt main_v19 main_v20
  let main_c_7 : IVec S_ 1 := constantI S_ 1 1#1
  let main_v22 : IVec S_ 1 := (fun x v => Host.reduce IntOp.andi x v reducesTo_S32x20_S_d0_1 h_S_) main_v21 main_c_7
  let main_v23 : IVec S_ 1 := andi main_v18 main_v22
  main_v23

def fn {F : FTy → Type} [FloatOps F] (main_arg0 : FVec F S16x4096x512 .f32) (main_arg1 : FVec F S16x4096x512 .f32) (main_arg2 : FVec F S16x4096x512 .f32) (main_arg3 : FVec F S4x64 .f32) (main_arg4 : FVec F S32x20 .f32) (main_arg5 : FVec F S128 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S16x4096x512 .f32 := Host.absf main_arg1
  let main_cst_0 : FVec F S_ .f32 := constant S_ .f32 0x7F800000#32
  let main_v5 : FVec F S16x4096x512 .f32 := broadcastInDim S16x4096x512 ![] bcast_S_S16x4096x512 main_cst_0
  let main_v6 : IVec S16x4096x512 1 := cmpf .olt main_v4 main_v5
  let main_c_1 : IVec S_ 1 := constantI S_ 1 1#1
  let main_v7 : IVec S_ 1 := (fun x v => Host.reduce IntOp.andi x v reducesTo_S16x4096x512_S_d0_1_2 h_S_) main_v6 main_c_1
  let main_v8 : IVec S_ 1 := andi main_v3 main_v7
  let main_v9 : FVec F S16x4096x512 .f32 := Host.absf main_arg2
  let main_cst_2 : FVec F S_ .f32 := constant S_ .f32 0x7F800000#32
  let main_v10 : FVec F S16x4096x512 .f32 := broadcastInDim S16x4096x512 ![] bcast_S_S16x4096x512 main_cst_2
  let main_v11 : IVec S16x4096x512 1 := cmpf .olt main_v9 main_v10
  let main_c_3 : IVec S_ 1 := constantI S_ 1 1#1
  let main_v12 : IVec S_ 1 := (fun x v => Host.reduce IntOp.andi x v reducesTo_S16x4096x512_S_d0_1_2 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg4 main_v13 main_v16
-- ==== Kernel.lean ====
abbrev S16x4096x1024 : Shape := ⟨3, ![16, 4096, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S1x512x1024 : Shape := ⟨3, ![1, 512, 1024]⟩
abbrev S2x520x1024 : Shape := ⟨3, ![2, 520, 1024]⟩
abbrev S3x8x1024 : Shape := ⟨3, ![3, 8, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1x8x1024 : Shape := ⟨3, ![1, 8, 1024]⟩
abbrev S8x1024 : Shape := ⟨2, ![8, 1024]⟩
abbrev S1024x768 : Shape := ⟨2, ![1024, 768]⟩
abbrev S512x768 : Shape := ⟨2, ![512, 768]⟩
abbrev S1x8x768 : Shape := ⟨3, ![1, 8, 768]⟩
abbrev S8x768 : Shape := ⟨2, ![8, 768]⟩
abbrev S1x512x768 : Shape := ⟨3, ![1, 512, 768]⟩
abbrev S1x768 : Shape := ⟨2, ![1, 768]⟩
abbrev S768x1024 : Shape := ⟨2, ![768, 1024]⟩

abbrev nBuf : Space → Nat
  | .hbm => 15
  | .vmem => 13
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S1x2816, .f32⟩
  | .hbm, ⟨12, _⟩ => ⟨S2816x1024, .bf16⟩
  | .hbm, ⟨13, _⟩ => ⟨S1x1024, .f32⟩
  | .hbm, ⟨14, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S3x2816, .f32⟩
  | .local _ .vmem, ⟨6, _⟩ => ⟨S1x2816, .f32⟩
  | .local _ .vmem, ⟨7, _⟩ => ⟨S2816x1024, .bf16⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S2x520x1024, .f32⟩
  | .local _ .vmem, ⟨12, _⟩ => ⟨S3x8x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "rsqrt2" => some (((Real.sqrt 2)⁻¹ : ℝ) : EReal)
  | _ => none
-- ==== ReferenceIdeal.lean ====
abbrev S16x4096x1024 : Shape := ⟨3, ![16, 4096, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2816 : Shape := ⟨3, ![16, 4096, 2816]⟩
abbrev S16x4098x2816 : Shape := ⟨3, ![16, 4098, 2816]⟩
abbrev S1x2816 : Shape := ⟨2, ![1, 2816]⟩
abbrev S1x1x2816 : Shape := ⟨3, ![1, 1, 2816]⟩

abbrev nBuf : Space → Nat
  | .hbm => 86
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S16x4096x1024, .f32⟩
  | .hbm, ⟨9, _⟩ => ⟨S_, .f32⟩
  | .hbm, ⟨10, _⟩ => ⟨S16x4096, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S_, .f32⟩
  | .hbm, ⟨16, _⟩ => ⟨S16x4096x1, .f32⟩
  | .hbm, ⟨17, _⟩ => ⟨S16x4096x1, .f32⟩
  | .hbm, ⟨18, _⟩ => ⟨S16x4096x1, .f32⟩
  | .hbm, ⟨19, _⟩ => ⟨S16x4096x1024, .f32⟩
  | .hbm, ⟨20, _⟩ => ⟨S16x4096x1024, .f32⟩
  | .hbm, ⟨21, _⟩ => ⟨S1x1x1024, .f32⟩
  | .hbm, ⟨22, _⟩ => ⟨S16x4096x1024, .f32⟩
  | .hbm, ⟨23, _⟩ => ⟨S16x4096x1024, .f32⟩
  | .hbm, ⟨24, _⟩ => ⟨S16x4096x2816, .f32⟩
  | .hbm, ⟨25, _⟩ => ⟨S_, .i32⟩
  | .hbm, ⟨26, _⟩ => ⟨S_, .f32⟩
  | .hbm, ⟨27, _⟩ => ⟨S16x4098x2816, .f32⟩
  | .hbm, ⟨28, _⟩ => ⟨S16x4096x2816, .f32⟩
  | .hbm, ⟨29, _⟩ => ⟨S1x2816, .f32⟩
  | .hbm, ⟨30, _⟩ => ⟨S2816, .f32⟩
  | .hbm, ⟨31, _⟩ => ⟨S1x1x2816, .f32⟩
  | .hbm, ⟨32, _⟩ => ⟨S16x4096x2816, .f32⟩
  | .hbm, ⟨33, _⟩ => ⟨S16x4096x2816, .f32⟩
  | .hbm, ⟨34, _⟩ => ⟨S_, .f32⟩
  | .hbm, ⟨35, _⟩ => ⟨S16x4096x2816, .f32⟩
  | .hbm, ⟨36, _⟩ => ⟨S16x4096x2816, .f32⟩
  | .hbm, ⟨37, _⟩ => ⟨S16x4096x2816, .f32⟩
  | .hbm, ⟨38, _⟩ => ⟨S1x2816, .f32⟩
  | .hbm, ⟨39, _⟩ => ⟨S2816, .f32⟩
  | .hbm, ⟨40, _⟩ => ⟨S1x1x2816, .f32⟩
  | .hbm, ⟨41, _⟩ => ⟨S16x4096x2816, .f32⟩
  | .hbm, ⟨42, _⟩ => ⟨S16x4096x2816, .f32⟩
  | .hbm, ⟨43, _⟩ => ⟨S16x4096x2816, .f32⟩
  | .hbm, ⟨44, _⟩ => ⟨S16x4096x2816, .f32⟩
  | .hbm, ⟨45, _⟩ => ⟨S1x2816, .f32⟩
  | .hbm, ⟨46, _⟩ => ⟨S2816, .f32⟩
  | .hbm, ⟨47, _⟩ => ⟨S1x1x2816, .f32⟩
  | .hbm, ⟨48, _⟩ => ⟨S16x4096x2816, .f32⟩
  | .hbm, ⟨49, _⟩ => ⟨S16x4096x2816, .f32⟩
  | .hbm, ⟨50, _⟩ => ⟨S16x4096x2816, .f32⟩
  | .hbm, ⟨51, _⟩ => ⟨S1x1x2816, .f32⟩
  | .hbm, ⟨52, _⟩ => ⟨S16x4096x2816, .f32⟩
  | .hbm, ⟨53, _⟩ => ⟨S16x4096x2816, .f32⟩
  | .hbm, ⟨54, _⟩ => ⟨S_, .f32⟩
  | .hbm, ⟨55, _⟩ => ⟨S16x4096x2816, .f32⟩
  | .hbm, ⟨56, _⟩ => ⟨S16x4096x2816, .f32⟩
  | .hbm, ⟨57, _⟩ => ⟨S_, .f32⟩
  | .hbm, ⟨58, _⟩ => ⟨S_, .f32⟩
  | .hbm, ⟨59, _⟩ => ⟨S16x4096x2816, .f32⟩
  | .hbm, ⟨60, _⟩ => ⟨S16x4096x2816, .f32⟩
  | .hbm, ⟨61, _⟩ => ⟨S16x4096x2816, .f32⟩
  | .hbm, ⟨62, _⟩ => ⟨S_, .f32⟩
  | .hbm, ⟨63, _⟩ => ⟨S16x4096x2816, .f32⟩
  | .hbm, ⟨64, _⟩ => ⟨S16x4096x2816, .f32⟩
  | .hbm, ⟨65, _⟩ => ⟨S16x4096x2816, .f32⟩
  | .hbm, ⟨66, _⟩ => ⟨S16x4096x2816, .f32⟩
  | .hbm, ⟨67, _⟩ => ⟨S16x4096x2816, .f32⟩
  | .hbm, ⟨68, _⟩ => ⟨S16x4096x1024, .f32⟩
  | .hbm, ⟨69, _⟩ => ⟨S16x4096x1024, .f32⟩
  | .hbm, ⟨70, _⟩ => ⟨S16x4096x1024, .f32⟩
  | .hbm, ⟨71, _⟩ => ⟨S_, .f32⟩
  | .hbm, ⟨72, _⟩ => ⟨S16x4096, .f32⟩
  | .hbm, ⟨73, _⟩ => ⟨S16x4096x1, .f32⟩
  | .hbm, ⟨74, _⟩ => ⟨S_, .f32⟩
  | .hbm, ⟨75, _⟩ => ⟨S16x4096x1, .f32⟩
  | .hbm, ⟨76, _⟩ => ⟨S16x4096x1, .f32⟩
  | .hbm, ⟨77, _⟩ => ⟨S_, .f32⟩
  | .hbm, ⟨78, _⟩ => ⟨S16x4096x1, .f32⟩
  | .hbm, ⟨79, _⟩ => ⟨S16x4096x1, .f32⟩
  | .hbm, ⟨80, _⟩ => ⟨S16x4096x1, .f32⟩
  | .hbm, ⟨81, _⟩ => ⟨S16x4096x1024, .f32⟩
  | .hbm, ⟨82, _⟩ => ⟨S16x4096x1024, .f32⟩
  | .hbm, ⟨83, _⟩ => ⟨S1x1x1024, .f32⟩
  | .hbm, ⟨84, _⟩ => ⟨S16x4096x1024, .f32⟩
  | .hbm, ⟨85, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Kernel2.lean ====
abbrev S16x4096x1024 : Shape := ⟨3, ![16, 4096, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S1x512x1024 : Shape := ⟨3, ![1, 512, 1024]⟩
abbrev S2x520x1024 : Shape := ⟨3, ![2, 520, 1024]⟩
abbrev S3x8x1024 : Shape := ⟨3, ![3, 8, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1x8x1024 : Shape := ⟨3, ![1, 8, 1024]⟩
abbrev S8x1024 : Shape := ⟨2, ![8, 1024]⟩
abbrev S1024x768 : Shape := ⟨2, ![1024, 768]⟩
abbrev S512x768 : Shape := ⟨2, ![512, 768]⟩
abbrev S1x8x768 : Shape := ⟨3, ![1, 8, 768]⟩
abbrev S8x768 : Shape := ⟨2, ![8, 768]⟩
abbrev S1x512x768 : Shape := ⟨3, ![1, 512, 768]⟩
abbrev S1x768 : Shape := ⟨2, ![1, 768]⟩
abbrev S768x1024 : Shape := ⟨2, ![768, 1024]⟩

abbrev nBuf : Space → Nat
  | .hbm => 15
  | .vmem => 13
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S1x2816, .f32⟩
  | .hbm, ⟨12, _⟩ => ⟨S2816x1024, .bf16⟩
  | .hbm, ⟨13, _⟩ => ⟨S1x1024, .f32⟩
  | .hbm, ⟨14, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S3x2816, .f32⟩
  | .local _ .vmem, ⟨6, _⟩ => ⟨S1x2816, .f32⟩
  | .local _ .vmem, ⟨7, _⟩ => ⟨S2816x1024, .bf16⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S2x520x1024, .f32⟩
  | .local _ .vmem, ⟨12, _⟩ => ⟨S3x8x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel2Ideal.lean ====
variable {F : FTy → Type} [FloatOps F] [Named F]
def κ : String → Option EReal := fun
  | "rsqrt2" => some (((Real.sqrt 2)⁻¹ : ℝ) : EReal)
  | _ => none
-- ==== Reference2Ideal.lean ====
abbrev S16x4096x1024 : Shape := ⟨3, ![16, 4096, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2816 : Shape := ⟨3, ![16, 4096, 2816]⟩
abbrev S16x4098x2816 : Shape := ⟨3, ![16, 4098, 2816]⟩
abbrev S1x2816 : Shape := ⟨2, ![1, 2816]⟩
abbrev S1x1x2816 : Shape := ⟨3, ![1, 1, 2816]⟩

abbrev nBuf : Space → Nat
  | .hbm => 70
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S16x4096x1024, .f32⟩
  | .hbm, ⟨9, _⟩ => ⟨S_, .f32⟩
  | .hbm, ⟨10, _⟩ => ⟨S16x4096, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S_, .f32⟩
  | .hbm, ⟨16, _⟩ => ⟨S16x4096x1, .f32⟩
  | .hbm, ⟨17, _⟩ => ⟨S16x4096x1, .f32⟩
  | .hbm, ⟨18, _⟩ => ⟨S16x4096x1, .f32⟩
  | .hbm, ⟨19, _⟩ => ⟨S16x4096x1024, .f32⟩
  | .hbm, ⟨20, _⟩ => ⟨S16x4096x1024, .f32⟩
  | .hbm, ⟨21, _⟩ => ⟨S1x1x1024, .f32⟩
  | .hbm, ⟨22, _⟩ => ⟨S16x4096x1024, .f32⟩
  | .hbm, ⟨23, _⟩ => ⟨S16x4096x1024, .f32⟩
  | .hbm, ⟨24, _⟩ => ⟨S16x4096x2816, .f32⟩
  | .hbm, ⟨25, _⟩ => ⟨S_, .i32⟩
  | .hbm, ⟨26, _⟩ => ⟨S_, .f32⟩
  | .hbm, ⟨27, _⟩ => ⟨S16x4098x2816, .f32⟩
  | .hbm, ⟨28, _⟩ => ⟨S16x4096x2816, .f32⟩
  | .hbm, ⟨29, _⟩ => ⟨S1x2816, .f32⟩
  | .hbm, ⟨30, _⟩ => ⟨S2816, .f32⟩
  | .hbm, ⟨31, _⟩ => ⟨S1x1x2816, .f32⟩
  | .hbm, ⟨32, _⟩ => ⟨S16x4096x2816, .f32⟩
  | .hbm, ⟨33, _⟩ => ⟨S16x4096x2816, .f32⟩
  | .hbm, ⟨34, _⟩ => ⟨S_, .f32⟩
  | .hbm, ⟨35, _⟩ => ⟨S16x4096x2816, .f32⟩
  | .hbm, ⟨36, _⟩ => ⟨S16x4096x2816, .f32⟩
  | .hbm, ⟨37, _⟩ => ⟨S16x4096x2816, .f32⟩
  | .hbm, ⟨38, _⟩ => ⟨S1x2816, .f32⟩
  | .hbm, ⟨39, _⟩ => ⟨S2816, .f32⟩
  | .hbm, ⟨40, _⟩ => ⟨S1x1x2816, .f32⟩
  | .hbm, ⟨41, _⟩ => ⟨S16x4096x2816, .f32⟩
  | .hbm, ⟨42, _⟩ => ⟨S16x4096x2816, .f32⟩
  | .hbm, ⟨43, _⟩ => ⟨S16x4096x2816, .f32⟩
  | .hbm, ⟨44, _⟩ => ⟨S16x4096x2816, .f32⟩
  | .hbm, ⟨45, _⟩ => ⟨S1x2816, .f32⟩
  | .hbm, ⟨46, _⟩ => ⟨S2816, .f32⟩
  | .hbm, ⟨47, _⟩ => ⟨S1x1x2816, .f32⟩
  | .hbm, ⟨48, _⟩ => ⟨S16x4096x2816, .f32⟩
  | .hbm, ⟨49, _⟩ => ⟨S16x4096x2816, .f32⟩
  | .hbm, ⟨50, _⟩ => ⟨S16x4096x2816, .f32⟩
  | .hbm, ⟨51, _⟩ => ⟨S1x1x2816, .f32⟩
  | .hbm, ⟨52, _⟩ => ⟨S16x4096x2816, .f32⟩
  | .hbm, ⟨53, _⟩ => ⟨S16x4096x2816, .f32⟩
  | .hbm, ⟨54, _⟩ => ⟨S_, .f32⟩
  | .hbm, ⟨55, _⟩ => ⟨S16x4096x2816, .f32⟩
  | .hbm, ⟨56, _⟩ => ⟨S16x4096x2816, .f32⟩
  | .hbm, ⟨57, _⟩ => ⟨S_, .f32⟩
  | .hbm, ⟨58, _⟩ => ⟨S_, .f32⟩
  | .hbm, ⟨59, _⟩ => ⟨S16x4096x2816, .f32⟩
  | .hbm, ⟨60, _⟩ => ⟨S16x4096x2816, .f32⟩
  | .hbm, ⟨61, _⟩ => ⟨S16x4096x2816, .f32⟩
  | .hbm, ⟨62, _⟩ => ⟨S_, .f32⟩
  | .hbm, ⟨63, _⟩ => ⟨S16x4096x2816, .f32⟩
  | .hbm, ⟨64, _⟩ => ⟨S16x4096x2816, .f32⟩
  | .hbm, ⟨65, _⟩ => ⟨S16x4096x2816, .f32⟩
  | .hbm, ⟨66, _⟩ => ⟨S16x4096x2816, .f32⟩
  | .hbm, ⟨67, _⟩ => ⟨S16x4096x2816, .f32⟩
  | .hbm, ⟨68, _⟩ => ⟨S16x4096x1024, .f32⟩
  | .hbm, ⟨69, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Kernel3.lean ====
abbrev S16x4096x512 : Shape := ⟨3, ![16, 4096, 512]⟩
abbrev S4x64 : Shape := ⟨2, ![4, 64]⟩
abbrev S32x20 : Shape := ⟨2, ![32, 20]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S16 : Shape := ⟨1, ![16]⟩
abbrev S16x1x1 : Shape := ⟨3, ![16, 1, 1]⟩
abbrev S_ : Shape := ⟨0, ![]⟩
abbrev S1x128x128 : Shape := ⟨3, ![1, 128, 128]⟩
abbrev S16x128x128 : Shape := ⟨3, ![16, 128, 128]⟩
abbrev S16x128x128x1 : Shape := ⟨4, ![16, 128, 128, 1]⟩
abbrev S32 : Shape := ⟨1, ![32]⟩
abbrev S1x1x1x32 : Shape := ⟨4, ![1, 1, 1, 32]⟩
abbrev S16x128x128x32 : Shape := ⟨4, ![16, 128, 128, 32]⟩
abbrev S32x4 : Shape := ⟨2, ![32, 4]⟩
abbrev S4x16x128x128 : Shape := ⟨4, ![4, 16, 128, 128]⟩
abbrev S1x16x128x128 : Shape := ⟨4, ![1, 16, 128, 128]⟩
abbrev S1x512x512 : Shape := ⟨3, ![1, 512, 512]⟩
abbrev S1x4096x512 : Shape := ⟨3, ![1, 4096, 512]⟩
abbrev S4x1024x256 : Shape := ⟨3, ![4, 1024, 256]⟩
abbrev S1x64 : Shape := ⟨2, ![1, 64]⟩
abbrev S1 : Shape := ⟨1, ![1]⟩
abbrev S1x1 : Shape := ⟨2, ![1, 1]⟩
abbrev S1024x128 : Shape := ⟨2, ![1024, 128]⟩
abbrev S512x128 : Shape := ⟨2, ![512, 128]⟩
abbrev S1024x1 : Shape := ⟨2, ![1024, 1]⟩
abbrev S1x512x128 : Shape := ⟨3, ![1, 512, 128]⟩
abbrev S1024x512 : Shape := ⟨2, ![1024, 512]⟩
abbrev S1x1x128x128 : Shape := ⟨4, ![1, 1, 128, 128]⟩
abbrev S128x512 : Shape := ⟨2, ![128, 512]⟩
abbrev S1024 : Shape := ⟨1, ![1024]⟩
abbrev S512x256 : Shape := ⟨2, ![512, 256]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩
abbrev S256x128 : Shape := ⟨2, ![256, 128]⟩
abbrev S256x1 : Shape := ⟨2, ![256, 1]⟩
abbrev S1x128x512 : Shape := ⟨3, ![1, 128, 512]⟩

abbrev nBuf : Space → Nat
  | .hbm => 87
  | .vmem => 12
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4096x512, .f32⟩
  | .hbm, ⟨3, _⟩ => ⟨S4x64, .f32⟩
  | .hbm, ⟨4, _⟩ => ⟨S32x20, .f32⟩
  | .hbm, ⟨5, _⟩ => ⟨S128, .f32⟩
  | .hbm, ⟨6, _⟩ => ⟨S128, .i32⟩
  | .hbm, ⟨7, _⟩ => ⟨S128x1, .i32⟩
  | .hbm, ⟨8, _⟩ => ⟨S128, .i32⟩
  | .hbm, ⟨9, _⟩ => ⟨S1x128, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S16, .i32⟩
  | .hbm, ⟨14, _⟩ => ⟨S16x1x1, .i32⟩
  | .hbm, ⟨15, _⟩ => ⟨S_, .i32⟩
  | .hbm, ⟨16, _⟩ => ⟨S16x1x1, .i32⟩
  | .hbm, ⟨17, _⟩ => ⟨S16x1x1, .i1⟩
  | .hbm, ⟨18, _⟩ => ⟨S_, .i32⟩
  | .hbm, ⟨19, _⟩ => ⟨S16x1x1, .i32⟩
  | .hbm, ⟨20, _⟩ => ⟨S16x1x1, .i32⟩
  | .hbm, ⟨21, _⟩ => ⟨S_, .i32⟩
  | .hbm, ⟨22, _⟩ => ⟨S16x1x1, .i32⟩
  | .hbm, ⟨23, _⟩ => ⟨S16x1x1, .i32⟩
  | .hbm, ⟨24, _⟩ => ⟨S1x128x128, .i32⟩
  | .hbm, ⟨25, _⟩ => ⟨S16x128x128, .i32⟩
  | .hbm, ⟨26, _⟩ => ⟨S16x128x128, .i32⟩
  | .hbm, ⟨27, _⟩ => ⟨S16x128x128, .i32⟩
  | .hbm, ⟨28, _⟩ => ⟨S_, .i32⟩
  | .hbm, ⟨29, _⟩ => ⟨S_, .i32⟩
  | .hbm, ⟨30, _⟩ => ⟨S16x128x128, .i1⟩
  | .hbm, ⟨31, _⟩ => ⟨S16x128x128, .i32⟩
  | .hbm, ⟨32, _⟩ => ⟨S16x128x128, .i32⟩
  | .hbm, ⟨33, _⟩ => ⟨S_, .i32⟩
  | .hbm, ⟨34, _⟩ => ⟨S16x128x128, .i32⟩
  | .hbm, ⟨35, _⟩ => ⟨S16x128x128, .i1⟩
  | .hbm, ⟨36, _⟩ => ⟨S_, .i32⟩
  | .hbm, ⟨37, _⟩ => ⟨S16x128x128, .i32⟩
  | .hbm, ⟨38, _⟩ => ⟨S16x128x128, .i32⟩
  | .hbm, ⟨39, _⟩ => ⟨S_, .i32⟩
  | .hbm, ⟨40, _⟩ => ⟨S16x128x128, .i32⟩
  | .hbm, ⟨41, _⟩ => ⟨S16x128x128, .i32⟩
  | .hbm, ⟨42, _⟩ => ⟨S16x128x128, .f32⟩
  | .hbm, ⟨43, _⟩ => ⟨S_, .f32⟩
  | .hbm, ⟨44, _⟩ => ⟨S16x128x128, .f32⟩
  | .hbm, ⟨45, _⟩ => ⟨S16x128x128, .f32⟩
  | .hbm, ⟨46, _⟩ => ⟨S16x128x128, .f32⟩
  | .hbm, ⟨47, _⟩ => ⟨S_, .f32⟩
  | .hbm, ⟨48, _⟩ => ⟨S16x128x128, .f32⟩
  | .hbm, ⟨49, _⟩ => ⟨S16x128x128, .f32⟩
  | .hbm, ⟨50, _⟩ => ⟨S_, .f32⟩
  | .hbm, ⟨51, _⟩ => ⟨S16x128x128, .f32⟩
  | .hbm, ⟨52, _⟩ => ⟨S16x128x128, .f32⟩
  | .hbm, ⟨53, _⟩ => ⟨S16x128x128, .i32⟩
  | .hbm, ⟨54, _⟩ => ⟨S_, .i32⟩
  | .hbm, ⟨55, _⟩ => ⟨S16x128x128, .i32⟩
  | .hbm, ⟨56, _⟩ => ⟨S16x128x128, .i32⟩
  | .hbm, ⟨57, _⟩ => ⟨S_, .i32⟩
  | .hbm, ⟨58, _⟩ => ⟨S16x128x128, .i32⟩
  | .hbm, ⟨59, _⟩ => ⟨S16x128x128, .i32⟩
  | .hbm, ⟨60, _⟩ => ⟨S_, .i32⟩
  | .hbm, ⟨61, _⟩ => ⟨S16x128x128, .i32⟩
  | .hbm, ⟨62, _⟩ => ⟨S16x128x128, .i1⟩
  | .hbm, ⟨63, _⟩ => ⟨S16x128x128, .i32⟩
  | .hbm, ⟨64, _⟩ => ⟨S16x128x128x1, .i32⟩
  | .hbm, ⟨65, _⟩ => ⟨S32, .i32⟩
  | .hbm, ⟨66, _⟩ => ⟨S1x1x1x32, .i32⟩
  | .hbm, ⟨67, _⟩ => ⟨S16x128x128x32, .i32⟩
  | .hbm, ⟨68, _⟩ => ⟨S16x128x128x32, .i32⟩
  | .hbm, ⟨69, _⟩ => ⟨S16x128x128x32, .i1⟩
  | .hbm, ⟨70, _⟩ => ⟨S16x128x128x32, .f32⟩
  | .hbm, ⟨71, _⟩ => ⟨S32x4, .f32⟩
  | .hbm, ⟨72, _⟩ => ⟨S4x16x128x128, .f32⟩
  | .hbm, ⟨73, _⟩ => ⟨S1x16x128x128, .i1⟩
  | .hbm, ⟨74, _⟩ => ⟨S_, .f32⟩
  | .hbm, ⟨75, _⟩ => ⟨S_, .f32⟩
  | .hbm, ⟨76, _⟩ => ⟨S4x16x128x128, .i1⟩
  | .hbm, ⟨77, _⟩ => ⟨S4x16x128x128, .f32⟩
  | .hbm, ⟨78, _⟩ => ⟨S4x16x128x128, .f32⟩
  | .hbm, ⟨79, _⟩ => ⟨S_, .f32⟩
  | .hbm, ⟨80, _⟩ => ⟨S16x4096x512, .f32⟩
  | .hbm, ⟨81, _⟩ => ⟨S16x4096x512, .f32⟩
  | .hbm, ⟨82, _⟩ => ⟨S16x4096x512, .bf16⟩
  | .hbm, ⟨83, _⟩ => ⟨S16x4096x512, .bf16⟩
  | .hbm, ⟨84, _⟩ => ⟨S16x4096x512, .bf16⟩
  | .hbm, ⟨85, _⟩ => ⟨S1x128, .f32⟩
  | .hbm, ⟨86, _⟩ => ⟨S16x4096x512, .bf16⟩
  | .local _ .vmem, ⟨0, _⟩ => ⟨S4x64, .f32⟩
  | .local _ .vmem, ⟨1, _⟩ => ⟨S1x512x512, .bf16⟩
  | .local _ .vmem, ⟨2, _⟩ => ⟨S1x512x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x4096x512, .bf16⟩
  | .local _ .vmem, ⟨7, _⟩ => ⟨S4x16x128x128, .f32⟩
  | .local _ .vmem, ⟨8, _⟩ => ⟨S1x128, .f32⟩
  | .local _ .vmem, ⟨9, _⟩ => ⟨S1x512x512, .bf16⟩
  | .local _ .vmem, ⟨10, _⟩ => ⟨S1x512x512, .bf16⟩
  | .local _ .vmem, ⟨11, _⟩ => ⟨S4x1024x256, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_c_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_111 : BitVec 32 := 0#32
  let arg1 : BitVec 32 := BitVec.ofNat 32 (i 1).val
  let c4_i32 : BitVec 32 := 4#32
  let v0 : BitVec 32 := Scalar.muli arg1 c4_i32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let c1_i32_113 : BitVec 32 := 1#32
  ⟨c0_i32_111, v202, c1_i32_113⟩
def k0_mult1 (i : grid0.Coords) (k0_t1 : Fin (k0_t1_loop i).trips) : BitVec 32 :=
  let c0_i32_111 : BitVec 32 := 0#32
  let c1_i32_113 : BitVec 32 := 1#32
  let arg10 : BitVec 32 := Scf.iv c0_i32_111 c1_i32_113 k0_t1
  let c512_i32 : BitVec 32 := 512#32
  let v669 : BitVec 32 := Scalar.muli arg10 c512_i32
  v669
def k0_off1 (i : grid0.Coords) (k0_t1 : Fin (k0_t1_loop i).trips) : Fin 3 → Nat :=
  let c0_266 : Index := 0#32
  let c0_i32_111 : BitVec 32 := 0#32
  let c1_i32_113 : BitVec 32 := 1#32
  let arg10 : BitVec 32 := Scf.iv c0_i32_111 c1_i32_113 k0_t1
  let c512_i32 : BitVec 32 := 512#32
  let v669 : BitVec 32 := Scalar.muli arg10 c512_i32
  let v670 : BitVec 32 := v669
  let v671 : Index := Scalar.indexCast v670
  let c0_267 : Index := 0#32
  ![0, v671.toNat, 0]
def k0_off2 (i : grid0.Coords) (k0_t1 : Fin (k0_t1_loop i).trips) (c0_i32_269 : BitVec 32) (c0_i32_271 : BitVec 32) : Fin 4 → Nat :=
  let c0_274 : Index := 0#32
  let arg1 : BitVec 32 := BitVec.ofNat 32 (i 1).val
  let c4_i32 : BitVec 32 := 4#32
  let v0 : BitVec 32 := Scalar.muli arg1 c4_i32
  let v675 : BitVec 32 := Scalar.addi v0 c0_i32_269
  let c0_i32_111 : BitVec 32 := 0#32
  let c1_i32_113 : BitVec 32 := 1#32
  let arg10 : BitVec 32 := Scf.iv c0_i32_111 c1_i32_113 k0_t1
  let c4_i32_270 : BitVec 32 := 4#32
  let v676 : BitVec 32 := Scalar.muli arg10 c4_i32_270
  let v677 : BitVec 32 := Scalar.addi v676 c0_i32_271
  let v678 : BitVec 32 := Scalar.subi v675 v677
  let c1_i32_272 : BitVec 32 := 1#32
  let v679 : BitVec 32 := Scalar.addi v678 c1_i32_272
  let c0_i32_273 : BitVec 32 := 0#32
  let v680 : BitVec 32 := Scalar.maxsi v679 c0_i32_273
  let c15_i32 : BitVec 32 := 15#32
  let v681 : BitVec 32 := Scalar.minsi v680 c15_i32
  let v682 : Index := Scalar.indexCast v681
  let c0_275 : Index := 0#32
  let c0_276 : Index := 0#32
  ![0, v682.toNat, 0, 0]
def k0_off3 (i : grid0.Coords) (k0_t1 : Fin (k0_t1_loop i).trips) : Fin 3 → Nat :=
  let c0_421 : Index := 0#32
  let c0_i32_111 : BitVec 32 := 0#32
  let c1_i32_113 : BitVec 32 := 1#32
  let arg10 : BitVec 32 := Scf.iv c0_i32_111 c1_i32_113 k0_t1
  let c512_i32 : BitVec 32 := 512#32
  let v669 : BitVec 32 := Scalar.muli arg10 c512_i32
  let v670 : BitVec 32 := v669
  let v865 : Index := Scalar.indexCast v670
  let c128_422 : Index := 128#32
  ![0, v865.toNat, 128]
def k0_off4 (i : grid0.Coords) (k0_t1 : Fin (k0_t1_loop i).trips) (c0_i32_424 : BitVec 32) (c0_i32_426 : BitVec 32) : Fin 4 → Nat :=
  let c1_430 : Index := 1#32
  let arg1 : BitVec 32 := BitVec.ofNat 32 (i 1).val
  let c4_i32 : BitVec 32 := 4#32
  let v0 : BitVec 32 := Scalar.muli arg1 c4_i32
  let v869 : BitVec 32 := Scalar.addi v0 c0_i32_424
  let c0_i32_111 : BitVec 32 := 0#32
  let c1_i32_113 : BitVec 32 := 1#32
  let arg10 : BitVec 32 := Scf.iv c0_i32_111 c1_i32_113 k0_t1
  let c4_i32_425 : BitVec 32 := 4#32
  let v870 : BitVec 32 := Scalar.muli arg10 c4_i32_425
  let v871 : BitVec 32 := Scalar.addi v870 c0_i32_426
  let v872 : BitVec 32 := Scalar.subi v869 v871
  let c1_i32_427 : BitVec 32 := 1#32
  let v873 : BitVec 32 := Scalar.addi v872 c1_i32_427
  let c0_i32_428 : BitVec 32 := 0#32
  let v874 : BitVec 32 := Scalar.maxsi v873 c0_i32_428
  let c15_i32_429 : BitVec 32 := 15#32
  let v875 : BitVec 32 := Scalar.minsi v874 c15_i32_429
  let v876 : Index := Scalar.indexCast v875
  let c0_431 : Index := 0#32
  let c0_432 : Index := 0#32
  ![1, v876.toNat, 0, 0]
def k0_off5 (i : grid0.Coords) (k0_t1 : Fin (k0_t1_loop i).trips) : Fin 3 → Nat :=
  let c0_579 : Index := 0#32
  let c0_i32_111 : BitVec 32 := 0#32
  let c1_i32_113 : BitVec 32 := 1#32
  let arg10 : BitVec 32 := Scf.iv c0_i32_111 c1_i32_113 k0_t1
  let c512_i32 : BitVec 32 := 512#32
  let v669 : BitVec 32 := Scalar.muli arg10 c512_i32
  let v670 : BitVec 32 := v669
  let v1059 : Index := Scalar.indexCast v670
  let c256_580 : Index := 256#32
  ![0, v1059.toNat, 256]
def k0_off6 (i : grid0.Coords) (k0_t1 : Fin (k0_t1_loop i).trips) (c0_i32_582 : BitVec 32) (c0_i32_584 : BitVec 32) : Fin 4 → Nat :=
  let c2_588 : Index := 2#32
  let arg1 : BitVec 32 := BitVec.ofNat 32 (i 1).val
  let c4_i32 : BitVec 32 := 4#32
  let v0 : BitVec 32 := Scalar.muli arg1 c4_i32
  let v1063 : BitVec 32 := Scalar.addi v0 c0_i32_582
  let c0_i32_111 : BitVec 32 := 0#32
  let c1_i32_113 : BitVec 32 := 1#32
  let arg10 : BitVec 32 := Scf.iv c0_i32_111 c1_i32_113 k0_t1
  let c4_i32_583 : BitVec 32 := 4#32
  let v1064 : BitVec 32 := Scalar.muli arg10 c4_i32_583
  let v1065 : BitVec 32 := Scalar.addi v1064 c0_i32_584
  let v1066 : BitVec 32 := Scalar.subi v1063 v1065
  let c1_i32_585 : BitVec 32 := 1#32
  let v1067 : BitVec 32 := Scalar.addi v1066 c1_i32_585
  let c0_i32_586 : BitVec 32 := 0#32
  let v1068 : BitVec 32 := Scalar.maxsi v1067 c0_i32_586
  let c15_i32_587 : BitVec 32 := 15#32
  let v1069 : BitVec 32 := Scalar.minsi v1068 c15_i32_587
  let v1070 : Index := Scalar.indexCast v1069
  let c0_589 : Index := 0#32
  let c0_590 : Index := 0#32
  ![2, v1070.toNat, 0, 0]
def k0_off7 (i : grid0.Coords) (k0_t1 : Fin (k0_t1_loop i).trips) : Fin 3 → Nat :=
  let c0_737 : Index := 0#32
  let c0_i32_111 : BitVec 32 := 0#32
  let c1_i32_113 : BitVec 32 := 1#32
  let arg10 : BitVec 32 := Scf.iv c0_i32_111 c1_i32_113 k0_t1
  let c512_i32 : BitVec 32 := 512#32
  let v669 : BitVec 32 := Scalar.muli arg10 c512_i32
  let v670 : BitVec 32 := v669
  let v1253 : Index := Scalar.indexCast v670
  let c384_738 : Index := 384#32
  ![0, v1253.toNat, 384]
def k0_off8 (i : grid0.Coords) (k0_t1 : Fin (k0_t1_loop i).trips) (c0_i32_740 : BitVec 32) (c0_i32_742 : BitVec 32) : Fin 4 → Nat :=
  let c3_746 : Index := 3#32
  let arg1 : BitVec 32 := BitVec.ofNat 32 (i 1).val
  let c4_i32 : BitVec 32 := 4#32
  let v0 : BitVec 32 := Scalar.muli arg1 c4_i32
  let v1257 : BitVec 32 := Scalar.addi v0 c0_i32_740
  let c0_i32_111 : BitVec 32 := 0#32
  let c1_i32_113 : BitVec 32 := 1#32
  let arg10 : BitVec 32 := Scf.iv c0_i32_111 c1_i32_113 k0_t1
  let c4_i32_741 : BitVec 32 := 4#32
  let v1258 : BitVec 32 := Scalar.muli arg10 c4_i32_741
  let v1259 : BitVec 32 := Scalar.addi v1258 c0_i32_742
  let v1260 : BitVec 32 := Scalar.subi v1257 v1259
  let c1_i32_743 : BitVec 32 := 1#32
  let v1261 : BitVec 32 := Scalar.addi v1260 c1_i32_743
  let c0_i32_744 : BitVec 32 := 0#32
  let v1262 : BitVec 32 := Scalar.maxsi v1261 c0_i32_744
  let c15_i32_745 : BitVec 32 := 15#32
  let v1263 : BitVec 32 := Scalar.minsi v1262 c15_i32_745
  let v1264 : Index := Scalar.indexCast v1263
  let c0_747 : Index := 0#32
  let c0_748 : Index := 0#32
  ![3, v1264.toNat, 0, 0]
@[reducible] def k0_t2_loop (i : grid0.Coords) : Scf.Loop 32 :=
  let c0_i32_111 : BitVec 32 := 0#32
  let arg1 : BitVec 32 := BitVec.ofNat 32 (i 1).val
  let c4_i32 : BitVec 32 := 4#32
  let v0 : BitVec 32 := Scalar.muli arg1 c4_i32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let v199 : BitVec 32 := Scalar.addi c0_i32_111 v198
  let c1_i32_114 : BitVec 32 := 1#32
  ⟨v202, v199, c1_i32_114⟩
def k0_mult2 (i : grid0.Coords) (k0_t2 : Fin (k0_t2_loop i).trips) : BitVec 32 :=
  let c0_i32_111 : BitVec 32 := 0#32
  let arg1 : BitVec 32 := BitVec.ofNat 32 (i 1).val
  let c4_i32 : BitVec 32 := 4#32
  let v0 : BitVec 32 := Scalar.muli arg1 c4_i32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let c1_i32_114 : BitVec 32 := 1#32
  let arg10 : BitVec 32 := Scf.iv v202 c1_i32_114 k0_t2
  let c512_i32 : BitVec 32 := 512#32
  let v669 : BitVec 32 := Scalar.muli arg10 c512_i32
  v669
def k0_off9 (i : grid0.Coords) (k0_t2 : Fin (k0_t2_loop i).trips) : Fin 3 → Nat :=
  let c0_266 : Index := 0#32
  let c0_i32_111 : BitVec 32 := 0#32
  let arg1 : BitVec 32 := BitVec.ofNat 32 (i 1).val
  let c4_i32 : BitVec 32 := 4#32
  let v0 : BitVec 32 := Scalar.muli arg1 c4_i32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let c1_i32_114 : BitVec 32 := 1#32
  let arg10 : BitVec 32 := Scf.iv v202 c1_i32_114 k0_t2
  let c512_i32 : BitVec 32 := 512#32
  let v669 : BitVec 32 := Scalar.muli arg10 c512_i32
  let v670 : BitVec 32 := v669
  let v671 : Index := Scalar.indexCast v670
  let c0_267 : Index := 0#32
  ![0, v671.toNat, 0]
def k0_off10 (i : grid0.Coords) (k0_t2 : Fin (k0_t2_loop i).trips) (c0_i32_269 : BitVec 32) (c0_i32_271 : BitVec 32) : Fin 4 → Nat :=
  let c0_274 : Index := 0#32
  let arg1 : BitVec 32 := BitVec.ofNat 32 (i 1).val
  let c4_i32 : BitVec 32 := 4#32
  let v0 : BitVec 32 := Scalar.muli arg1 c4_i32
  let v675 : BitVec 32 := Scalar.addi v0 c0_i32_269
  let c0_i32_111 : BitVec 32 := 0#32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let c1_i32_114 : BitVec 32 := 1#32
  let arg10 : BitVec 32 := Scf.iv v202 c1_i32_114 k0_t2
  let c4_i32_270 : BitVec 32 := 4#32
  let v676 : BitVec 32 := Scalar.muli arg10 c4_i32_270
  let v677 : BitVec 32 := Scalar.addi v676 c0_i32_271
  let v678 : BitVec 32 := Scalar.subi v675 v677
  let c1_i32_272 : BitVec 32 := 1#32
  let v679 : BitVec 32 := Scalar.addi v678 c1_i32_272
  let c0_i32_273 : BitVec 32 := 0#32
  let v680 : BitVec 32 := Scalar.maxsi v679 c0_i32_273
  let c15_i32 : BitVec 32 := 15#32
  let v681 : BitVec 32 := Scalar.minsi v680 c15_i32
  let v682 : Index := Scalar.indexCast v681
  let c0_275 : Index := 0#32
  let c0_276 : Index := 0#32
  ![0, v682.toNat, 0, 0]
def k0_off11 (i : grid0.Coords) (k0_t2 : Fin (k0_t2_loop i).trips) : Fin 3 → Nat :=
  let c0_421 : Index := 0#32
  let c0_i32_111 : BitVec 32 := 0#32
  let arg1 : BitVec 32 := BitVec.ofNat 32 (i 1).val
  let c4_i32 : BitVec 32 := 4#32
  let v0 : BitVec 32 := Scalar.muli arg1 c4_i32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let c1_i32_114 : BitVec 32 := 1#32
  let arg10 : BitVec 32 := Scf.iv v202 c1_i32_114 k0_t2
  let c512_i32 : BitVec 32 := 512#32
  let v669 : BitVec 32 := Scalar.muli arg10 c512_i32
  let v670 : BitVec 32 := v669
  let v865 : Index := Scalar.indexCast v670
  let c128_422 : Index := 128#32
  ![0, v865.toNat, 128]
def k0_off12 (i : grid0.Coords) (k0_t2 : Fin (k0_t2_loop i).trips) (c0_i32_424 : BitVec 32) (c0_i32_426 : BitVec 32) : Fin 4 → Nat :=
  let c1_430 : Index := 1#32
  let arg1 : BitVec 32 := BitVec.ofNat 32 (i 1).val
  let c4_i32 : BitVec 32 := 4#32
  let v0 : BitVec 32 := Scalar.muli arg1 c4_i32
  let v869 : BitVec 32 := Scalar.addi v0 c0_i32_424
  let c0_i32_111 : BitVec 32 := 0#32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let c1_i32_114 : BitVec 32 := 1#32
  let arg10 : BitVec 32 := Scf.iv v202 c1_i32_114 k0_t2
  let c4_i32_425 : BitVec 32 := 4#32
  let v870 : BitVec 32 := Scalar.muli arg10 c4_i32_425
  let v871 : BitVec 32 := Scalar.addi v870 c0_i32_426
  let v872 : BitVec 32 := Scalar.subi v869 v871
  let c1_i32_427 : BitVec 32 := 1#32
  let v873 : BitVec 32 := Scalar.addi v872 c1_i32_427
  let c0_i32_428 : BitVec 32 := 0#32
  let v874 : BitVec 32 := Scalar.maxsi v873 c0_i32_428
  let c15_i32_429 : BitVec 32 := 15#32
  let v875 : BitVec 32 := Scalar.minsi v874 c15_i32_429
  let v876 : Index := Scalar.indexCast v875
  let c0_431 : Index := 0#32
  let c0_432 : Index := 0#32
  ![1, v876.toNat, 0, 0]
def k0_off13 (i : grid0.Coords) (k0_t2 : Fin (k0_t2_loop i).trips) : Fin 3 → Nat :=
  let c0_579 : Index := 0#32
  let c0_i32_111 : BitVec 32 := 0#32
  let arg1 : BitVec 32 := BitVec.ofNat 32 (i 1).val
  let c4_i32 : BitVec 32 := 4#32
  let v0 : BitVec 32 := Scalar.muli arg1 c4_i32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let c1_i32_114 : BitVec 32 := 1#32
  let arg10 : BitVec 32 := Scf.iv v202 c1_i32_114 k0_t2
  let c512_i32 : BitVec 32 := 512#32
  let v669 : BitVec 32 := Scalar.muli arg10 c512_i32
  let v670 : BitVec 32 := v669
  let v1059 : Index := Scalar.indexCast v670
  let c256_580 : Index := 256#32
  ![0, v1059.toNat, 256]
def k0_off14 (i : grid0.Coords) (k0_t2 : Fin (k0_t2_loop i).trips) (c0_i32_582 : BitVec 32) (c0_i32_584 : BitVec 32) : Fin 4 → Nat :=
  let c2_588 : Index := 2#32
  let arg1 : BitVec 32 := BitVec.ofNat 32 (i 1).val
  let c4_i32 : BitVec 32 := 4#32
  let v0 : BitVec 32 := Scalar.muli arg1 c4_i32
  let v1063 : BitVec 32 := Scalar.addi v0 c0_i32_582
  let c0_i32_111 : BitVec 32 := 0#32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let c1_i32_114 : BitVec 32 := 1#32
  let arg10 : BitVec 32 := Scf.iv v202 c1_i32_114 k0_t2
  let c4_i32_583 : BitVec 32 := 4#32
  let v1064 : BitVec 32 := Scalar.muli arg10 c4_i32_583
  let v1065 : BitVec 32 := Scalar.addi v1064 c0_i32_584
  let v1066 : BitVec 32 := Scalar.subi v1063 v1065
  let c1_i32_585 : BitVec 32 := 1#32
  let v1067 : BitVec 32 := Scalar.addi v1066 c1_i32_585
  let c0_i32_586 : BitVec 32 := 0#32
  let v1068 : BitVec 32 := Scalar.maxsi v1067 c0_i32_586
  let c15_i32_587 : BitVec 32 := 15#32
  let v1069 : BitVec 32 := Scalar.minsi v1068 c15_i32_587
  let v1070 : Index := Scalar.indexCast v1069
  let c0_589 : Index := 0#32
  let c0_590 : Index := 0#32
  ![2, v1070.toNat, 0, 0]
def k0_off15 (i : grid0.Coords) (k0_t2 : Fin (k0_t2_loop i).trips) : Fin 3 → Nat :=
  let c0_737 : Index := 0#32
  let c0_i32_111 : BitVec 32 := 0#32
  let arg1 : BitVec 32 := BitVec.ofNat 32 (i 1).val
  let c4_i32 : BitVec 32 := 4#32
  let v0 : BitVec 32 := Scalar.muli arg1 c4_i32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let c1_i32_114 : BitVec 32 := 1#32
  let arg10 : BitVec 32 := Scf.iv v202 c1_i32_114 k0_t2
  let c512_i32 : BitVec 32 := 512#32
  let v669 : BitVec 32 := Scalar.muli arg10 c512_i32
  let v670 : BitVec 32 := v669
  let v1253 : Index := Scalar.indexCast v670
  let c384_738 : Index := 384#32
  ![0, v1253.toNat, 384]
def k0_off16 (i : grid0.Coords) (k0_t2 : Fin (k0_t2_loop i).trips) (c0_i32_740 : BitVec 32) (c0_i32_742 : BitVec 32) : Fin 4 → Nat :=
  let c3_746 : Index := 3#32
  let arg1 : BitVec 32 := BitVec.ofNat 32 (i 1).val
  let c4_i32 : BitVec 32 := 4#32
  let v0 : BitVec 32 := Scalar.muli arg1 c4_i32
  let v1257 : BitVec 32 := Scalar.addi v0 c0_i32_740
  let c0_i32_111 : BitVec 32 := 0#32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let c1_i32_114 : BitVec 32 := 1#32
  let arg10 : BitVec 32 := Scf.iv v202 c1_i32_114 k0_t2
  let c4_i32_741 : BitVec 32 := 4#32
  let v1258 : BitVec 32 := Scalar.muli arg10 c4_i32_741
  let v1259 : BitVec 32 := Scalar.addi v1258 c0_i32_742
  let v1260 : BitVec 32 := Scalar.subi v1257 v1259
  let c1_i32_743 : BitVec 32 := 1#32
  let v1261 : BitVec 32 := Scalar.addi v1260 c1_i32_743
  let c0_i32_744 : BitVec 32 := 0#32
  let v1262 : BitVec 32 := Scalar.maxsi v1261 c0_i32_744
  let c15_i32_745 : BitVec 32 := 15#32
  let v1263 : BitVec 32 := Scalar.minsi v1262 c15_i32_745
  let v1264 : Index := Scalar.indexCast v1263
  let c0_747 : Index := 0#32
  let c0_748 : Index := 0#32
  ![3, v1264.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel3Ideal.lean ====
variable {F : FTy → Type} [FloatOps F] [Named F]
def κ : String → Option EReal := fun
  | "log2e" => some (((Real.log 2)⁻¹ : ℝ) : EReal)
  | "mask" => some ⊥
  | _ => none
-- ==== Reference3Ideal.lean ====
abbrev S16x4096x512 : Shape := ⟨3, ![16, 4096, 512]⟩
abbrev S4x64 : Shape := ⟨2, ![4, 64]⟩
abbrev S32x20 : Shape := ⟨2, ![32, 20]⟩
abbrev S128 : Shape := ⟨1, ![128]⟩
abbrev S16x4096x4x2x64 : Shape := ⟨5, ![16, 4096, 4, 2, 64]⟩
abbrev S16x4096x4x128 : Shape := ⟨4, ![16, 4096, 4, 128]⟩
abbrev S1x64 : Shape := ⟨2, ![1, 64]⟩
abbrev S64 : Shape := ⟨1, ![64]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S4096x4096x2 : Shape := ⟨3, ![4096, 4096, 2]⟩
abbrev S4096x4096x4 : Shape := ⟨3, ![4096, 4096, 4]⟩
abbrev S4x4096x4096 : Shape := ⟨3, ![4, 4096, 4096]⟩
abbrev S16x4x2x4096x4096 : Shape := ⟨5, ![16, 4, 2, 4096, 4096]⟩
abbrev S1x4x1x4096x4096 : Shape := ⟨5, ![1, 4, 1, 4096, 4096]⟩
abbrev S16x4x2x4096 : Shape := ⟨4, ![16, 4, 2, 4096]⟩
abbrev S16x4x2x4096x1 : Shape := ⟨5, ![16, 4, 2, 4096, 1]⟩
abbrev S16x4x1x4096x4096 : Shape := ⟨5, ![16, 4, 1, 4096, 4096]⟩
abbrev S16x4x4096x4096 : Shape := ⟨4, ![16, 4, 4096, 4096]⟩
abbrev S16x4x128x4096 : Shape := ⟨4, ![16, 4, 128, 4096]⟩
abbrev S16x4096x4 : Shape := ⟨3, ![16, 4096, 4]⟩
abbrev S16x4096x4x1 : Shape := ⟨4, ![16, 4096, 4, 1]⟩
abbrev S1x1x1x128 : Shape := ⟨4, ![1, 1, 1, 128]⟩

abbrev nBuf : Space → Nat
  | .hbm => 134
  | .vmem => 0
  | .smem => 0
  | _ => 0

abbrev hbmTy0_0 (i : Nat) : BufTy := match i % 128 with
  | 0 => ⟨S16x4096x512, .f32⟩
  | 1 => ⟨S16x4096x512, .f32⟩
  | 2 => ⟨S16x4096x512, .f32⟩
  | 3 => ⟨S4x64, .f32⟩
  | 4 => ⟨S32x20, .f32⟩
  | 5 => ⟨S128, .f32⟩
  | 6 => ⟨S16x4096x4x2x64, .f32⟩
  | 7 => ⟨S16x4096x4x2x64, .f32⟩
  | 8 => ⟨S16x4096x4x128, .f32⟩
  | 9 => ⟨S1x64, .f32⟩
  | 10 => ⟨S64, .f32⟩
  | 11 => ⟨S1x64, .f32⟩
  | 12 => ⟨S64, .f32⟩
  | 13 => ⟨S64, .f32⟩
  | 14 => ⟨S_, .f32⟩
  | 15 => ⟨S_, .f32⟩
  | 16 => ⟨S_, .f32⟩
  | 17 => ⟨S1x64, .f32⟩
  | 18 => ⟨S64, .f32⟩
  | 19 => ⟨S1x64, .f32⟩
  | 20 => ⟨S64, .f32⟩
  | 21 => ⟨S64, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S4096, .i32⟩
  | 29 => ⟨S4096x1, .i32⟩
  | 30 => ⟨S1x4096, .i32⟩
  | 31 => ⟨S4096x4096, .i32⟩
  | 32 => ⟨S4096x4096, .i32⟩
  | 33 => ⟨S4096x4096, .i32⟩
  | 34 => ⟨S_, .i32⟩
  | 35 => ⟨S4096x4096, .i32⟩
  | 36 => ⟨S4096x4096, .i32⟩
  | 37 => ⟨S_, .i32⟩
  | 38 => ⟨S4096x4096, .i32⟩
  | 39 => ⟨S4096x4096, .i32⟩
  | 40 => ⟨S4096x4096, .f32⟩
  | 41 => ⟨S_, .f32⟩
  | 42 => ⟨S4096x4096, .f32⟩
  | 43 => ⟨S4096x4096, .f32⟩
  | 44 => ⟨S4096x4096, .f32⟩
  | 45 => ⟨S_, .f32⟩
  | 46 => ⟨S4096x4096, .f32⟩
  | 47 => ⟨S4096x4096, .f32⟩
  | 48 => ⟨S_, .f32⟩
  | 49 => ⟨S4096x4096, .f32⟩
  | 50 => ⟨S4096x4096, .f32⟩
  | 51 => ⟨S4096x4096, .i32⟩
  | 52 => ⟨S_, .i32⟩
  | 53 => ⟨S4096x4096, .i32⟩
  | 54 => ⟨S4096x4096, .i32⟩
  | 55 => ⟨S_, .i32⟩
  | 56 => ⟨S4096x4096, .i32⟩
  | 57 => ⟨S4096x4096, .i32⟩
  | 58 => ⟨S_, .i32⟩
  | 59 => ⟨S4096x4096, .i32⟩
  | 60 => ⟨S4096x4096, .i1⟩
  | 61 => ⟨S4096x4096, .i32⟩
  | 62 => ⟨S_, .i32⟩
  | 63 => ⟨S4096x4096, .i32⟩
  | 64 => ⟨S4096x4096, .i1⟩
  | 65 => ⟨S_, .i32⟩
  | 66 => ⟨S4096x4096, .i32⟩
  | 67 => ⟨S4096x4096, .i32⟩
  | 68 => ⟨S4096x4096, .i32⟩
  | 69 => ⟨S4096x4096x1, .i32⟩
  | 70 => ⟨S_, .i32⟩
  | 71 => ⟨S4096x4096x1, .i32⟩
  | 72 => ⟨S4096x4096x2, .i32⟩
  | 73 => ⟨S4096x4096x4, .f32⟩
  | 74 => ⟨S4x4096x4096, .f32⟩
  | 75 => ⟨S16x4x2x4096x4096, .f32⟩
  | 76 => ⟨S_, .f32⟩
  | 77 => ⟨S16x4x2x4096x4096, .f32⟩
  | 78 => ⟨S16x4x2x4096x4096, .f32⟩
  | 79 => ⟨S1x4x1x4096x4096, .f32⟩
  | 80 => ⟨S16x4x2x4096x4096, .f32⟩
  | 81 => ⟨S16x4x2x4096x4096, .f32⟩
  | 82 => ⟨S_, .i32⟩
  | 83 => ⟨S4096x4096, .i32⟩
  | 84 => ⟨S4096x4096, .i1⟩
  | 85 => ⟨S_, .f32⟩
  | 86 => ⟨S_, .f32⟩
  | 87 => ⟨S16x4x2x4096x4096, .i1⟩
  | 88 => ⟨S16x4x2x4096x4096, .f32⟩
  | 89 => ⟨S16x4x2x4096x4096, .f32⟩
  | 90 => ⟨S_, .f32⟩
  | 91 => ⟨S16x4x2x4096, .f32⟩
  | 92 => ⟨S_, .f32⟩
  | 93 => ⟨S16x4x2x4096, .f32⟩
  | 94 => ⟨S16x4x2x4096, .f32⟩
  | 95 => ⟨S16x4x2x4096x1, .f32⟩
  | 96 => ⟨S16x4x2x4096x4096, .f32⟩
  | 97 => ⟨S16x4x2x4096x4096, .f32⟩
  | 98 => ⟨S16x4x2x4096x4096, .f32⟩
  | 99 => ⟨S_, .f32⟩
  | 100 => ⟨S16x4x2x4096, .f32⟩
  | 101 => ⟨S16x4x2x4096x1, .f32⟩
  | 102 => ⟨S16x4x2x4096x4096, .f32⟩
  | 103 => ⟨S16x4x2x4096x4096, .f32⟩
  | 104 => ⟨S16x4x1x4096x4096, .f32⟩
  | 105 => ⟨S16x4x4096x4096, .f32⟩
  | 106 => ⟨S16x4x1x4096x4096, .f32⟩
  | 107 => ⟨S16x4x4096x4096, .f32⟩
  | 108 => ⟨S16x4x4096x4096, .f32⟩
  | 109 => ⟨S16x4x4096x4096, .f32⟩
  | 110 => ⟨S16x4x4096x4096, .f32⟩
  | 111 => ⟨S16x4x128x4096, .f32⟩
  | 112 => ⟨S16x4096x4x128, .f32⟩
  | 113 => ⟨S16x4096x4x128, .f32⟩
  | 114 => ⟨S_, .f32⟩
  | 115 => ⟨S16x4096x4, .f32⟩
  | 116 => ⟨S16x4096x4x1, .f32⟩
  | 117 => ⟨S_, .f32⟩
  | 118 => ⟨S16x4096x4x1, .f32⟩
  | 119 => ⟨S16x4096x4x1, .f32⟩
  | 120 => ⟨S_, .f32⟩
  | 121 => ⟨S16x4096x4x1, .f32⟩
  | 122 => ⟨S16x4096x4x1, .f32⟩
  | 123 => ⟨S16x4096x4x1, .f32⟩
  | 124 => ⟨S16x4096x4x128, .f32⟩
  | 125 => ⟨S16x4096x4x128, .f32⟩
  | 126 => ⟨S1x1x1x128, .f32⟩
  | 127 => ⟨S16x4096x4x128, .f32⟩
  | _ => ⟨S16x4096x512, .f32⟩

abbrev hbmTy0_1 (i : Nat) : BufTy := match i % 128 with
  | 0 => ⟨S16x4096x4x128, .f32⟩
  | 1 => ⟨S_, .f32⟩
  | 2 => ⟨S16x4096x4x128, .f32⟩
  | 3 => ⟨S16x4096x4x128, .f32⟩
  | 4 => ⟨S16x4096x512, .f32⟩
  | 5 => ⟨S16x4096x512, .bf16⟩
  | _ => ⟨S16x4096x512, .f32⟩

abbrev hbmTy (i : Nat) : BufTy := match i / 128 with
  | 0 => hbmTy0_0 i
  | 1 => hbmTy0_1 i
  | _ => ⟨S16x4096x512, .f32⟩

abbrev bufTy : (tb : Table) → Fin (tcTables nBuf tb) → BufTy
  | .hbm, ⟨i, _⟩ => hbmTy i
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_c_7 : Ref sig .tc := ⟨.hbm, 55, rfl⟩
abbrev main_v40 : Ref sig .tc := ⟨.hbm, 56, rfl⟩
abbrev main_v41 : Ref sig .tc := ⟨.hbm, 57, rfl⟩
abbrev main_c_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_13 : Ref sig .tc := ⟨.hbm, 82, rfl⟩
abbrev main_v61 : Ref sig .tc := ⟨.hbm, 83, rfl⟩
abbrev main_v62 : Ref sig .tc := ⟨.hbm, 84, rfl⟩
abbrev main_cst_14 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v63 : Ref sig .tc := ⟨.hbm, 89, rfl⟩
abbrev main_cst_15 : Ref sig .tc := ⟨.hbm, 90, rfl⟩
abbrev main_v64 : Ref sig .tc := ⟨.hbm, 91, rfl⟩
abbrev main_cst_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_18 : Ref sig .tc := ⟨.hbm, 114, rfl⟩
abbrev main_v85 : Ref sig .tc := ⟨.hbm, 115, rfl⟩
abbrev main_v86 : Ref sig .tc := ⟨.hbm, 116, rfl⟩
abbrev main_cst_19 : Ref sig .tc := ⟨.hbm, 117, rfl⟩
abbrev main_v87 : Ref sig .tc := ⟨.hbm, 118, rfl⟩
abbrev main_v88 : Ref sig .tc := ⟨.hbm, 119, rfl⟩
abbrev main_cst_20 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_21 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩

abbrev nD : Nat := 1
abbrev τ : Topo := Topo.v7x

variable {F : FTy → Type} [FloatOps F]
-- ==== Kernel4.lean ====
abbrev S16x4096x1024 : Shape := ⟨3, ![16, 4096, 1024]⟩
abbrev S16x4096x512 : Shape := ⟨3, ![16, 4096, 512]⟩
abbrev S1024x1024 : Shape := ⟨2, ![1024, 1024]⟩
abbrev S1x512x1024 : Shape := ⟨3, ![1, 512, 1024]⟩
abbrev S1x512x512 : Shape := ⟨3, ![1, 512, 512]⟩
abbrev S512x1024 : Shape := ⟨2, ![512, 1024]⟩
abbrev S512x512 : Shape := ⟨2, ![512, 512]⟩

abbrev nBuf : Space → Nat
  | .hbm => 8
  | .vmem => 9
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S1024x1024, .f32⟩
  | .hbm, ⟨4, _⟩ => ⟨S16x4096x512, .bf16⟩
  | .hbm, ⟨5, _⟩ => ⟨S16x4096x512, .bf16⟩
  | .hbm, ⟨6, _⟩ => ⟨S1024x1024, .bf16⟩
  | .hbm, ⟨7, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1024x1024, .bf16⟩
  | .local _ .vmem, ⟨7, _⟩ => ⟨S1x512x1024, .f32⟩
  | .local _ .vmem, ⟨8, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16x4096x1024 : Shape := ⟨3, ![16, 4096, 1024]⟩
abbrev S16x4096x512 : Shape := ⟨3, ![16, 4096, 512]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S1024x1024, .f32⟩
  | .hbm, ⟨4, _⟩ => ⟨S16x4096x1024, .f32⟩
  | .hbm, ⟨5, _⟩ => ⟨S16x4096x1024, .f32⟩
  | .hbm, ⟨6, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel5.lean ====
abbrev S16x4096x512 : Shape := ⟨3, ![16, 4096, 512]⟩
abbrev S4x64 : Shape := ⟨2, ![4, 64]⟩
abbrev S32x20 : Shape := ⟨2, ![32, 20]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S16 : Shape := ⟨1, ![16]⟩
abbrev S16x1x1 : Shape := ⟨3, ![16, 1, 1]⟩
abbrev S_ : Shape := ⟨0, ![]⟩
abbrev S1x128x128 : Shape := ⟨3, ![1, 128, 128]⟩
abbrev S16x128x128 : Shape := ⟨3, ![16, 128, 128]⟩
abbrev S16x128x128x1 : Shape := ⟨4, ![16, 128, 128, 1]⟩
abbrev S32 : Shape := ⟨1, ![32]⟩
abbrev S1x1x1x32 : Shape := ⟨4, ![1, 1, 1, 32]⟩
abbrev S16x128x128x32 : Shape := ⟨4, ![16, 128, 128, 32]⟩
abbrev S32x4 : Shape := ⟨2, ![32, 4]⟩
abbrev S4x16x128x128 : Shape := ⟨4, ![4, 16, 128, 128]⟩
abbrev S1x16x128x128 : Shape := ⟨4, ![1, 16, 128, 128]⟩
abbrev S1x512x512 : Shape := ⟨3, ![1, 512, 512]⟩
abbrev S1x4096x512 : Shape := ⟨3, ![1, 4096, 512]⟩
abbrev S4x1024x256 : Shape := ⟨3, ![4, 1024, 256]⟩
abbrev S1x64 : Shape := ⟨2, ![1, 64]⟩
abbrev S1 : Shape := ⟨1, ![1]⟩
abbrev S1x1 : Shape := ⟨2, ![1, 1]⟩
abbrev S1024x128 : Shape := ⟨2, ![1024, 128]⟩
abbrev S512x128 : Shape := ⟨2, ![512, 128]⟩
abbrev S1024x1 : Shape := ⟨2, ![1024, 1]⟩
abbrev S1x512x128 : Shape := ⟨3, ![1, 512, 128]⟩
abbrev S1024x512 : Shape := ⟨2, ![1024, 512]⟩
abbrev S1x1x128x128 : Shape := ⟨4, ![1, 1, 128, 128]⟩
abbrev S128x512 : Shape := ⟨2, ![128, 512]⟩
abbrev S1024 : Shape := ⟨1, ![1024]⟩
abbrev S512x256 : Shape := ⟨2, ![512, 256]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩
abbrev S256x128 : Shape := ⟨2, ![256, 128]⟩
abbrev S256x1 : Shape := ⟨2, ![256, 1]⟩
abbrev S1x128x512 : Shape := ⟨3, ![1, 128, 512]⟩

abbrev nBuf : Space → Nat
  | .hbm => 87
  | .vmem => 12
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4096x512, .f32⟩
  | .hbm, ⟨3, _⟩ => ⟨S4x64, .f32⟩
  | .hbm, ⟨4, _⟩ => ⟨S32x20, .f32⟩
  | .hbm, ⟨5, _⟩ => ⟨S128, .f32⟩
  | .hbm, ⟨6, _⟩ => ⟨S128, .i32⟩
  | .hbm, ⟨7, _⟩ => ⟨S128x1, .i32⟩
  | .hbm, ⟨8, _⟩ => ⟨S128, .i32⟩
  | .hbm, ⟨9, _⟩ => ⟨S1x128, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S16, .i32⟩
  | .hbm, ⟨14, _⟩ => ⟨S16x1x1, .i32⟩
  | .hbm, ⟨15, _⟩ => ⟨S_, .i32⟩
  | .hbm, ⟨16, _⟩ => ⟨S16x1x1, .i32⟩
  | .hbm, ⟨17, _⟩ => ⟨S16x1x1, .i1⟩
  | .hbm, ⟨18, _⟩ => ⟨S_, .i32⟩
  | .hbm, ⟨19, _⟩ => ⟨S16x1x1, .i32⟩
  | .hbm, ⟨20, _⟩ => ⟨S16x1x1, .i32⟩
  | .hbm, ⟨21, _⟩ => ⟨S_, .i32⟩
  | .hbm, ⟨22, _⟩ => ⟨S16x1x1, .i32⟩
  | .hbm, ⟨23, _⟩ => ⟨S16x1x1, .i32⟩
  | .hbm, ⟨24, _⟩ => ⟨S1x128x128, .i32⟩
  | .hbm, ⟨25, _⟩ => ⟨S16x128x128, .i32⟩
  | .hbm, ⟨26, _⟩ => ⟨S16x128x128, .i32⟩
  | .hbm, ⟨27, _⟩ => ⟨S16x128x128, .i32⟩
  | .hbm, ⟨28, _⟩ => ⟨S_, .i32⟩
  | .hbm, ⟨29, _⟩ => ⟨S_, .i32⟩
  | .hbm, ⟨30, _⟩ => ⟨S16x128x128, .i1⟩
  | .hbm, ⟨31, _⟩ => ⟨S16x128x128, .i32⟩
  | .hbm, ⟨32, _⟩ => ⟨S16x128x128, .i32⟩
  | .hbm, ⟨33, _⟩ => ⟨S_, .i32⟩
  | .hbm, ⟨34, _⟩ => ⟨S16x128x128, .i32⟩
  | .hbm, ⟨35, _⟩ => ⟨S16x128x128, .i1⟩
  | .hbm, ⟨36, _⟩ => ⟨S_, .i32⟩
  | .hbm, ⟨37, _⟩ => ⟨S16x128x128, .i32⟩
  | .hbm, ⟨38, _⟩ => ⟨S16x128x128, .i32⟩
  | .hbm, ⟨39, _⟩ => ⟨S_, .i32⟩
  | .hbm, ⟨40, _⟩ => ⟨S16x128x128, .i32⟩
  | .hbm, ⟨41, _⟩ => ⟨S16x128x128, .i32⟩
  | .hbm, ⟨42, _⟩ => ⟨S16x128x128, .f32⟩
  | .hbm, ⟨43, _⟩ => ⟨S_, .f32⟩
  | .hbm, ⟨44, _⟩ => ⟨S16x128x128, .f32⟩
  | .hbm, ⟨45, _⟩ => ⟨S16x128x128, .f32⟩
  | .hbm, ⟨46, _⟩ => ⟨S16x128x128, .f32⟩
  | .hbm, ⟨47, _⟩ => ⟨S_, .f32⟩
  | .hbm, ⟨48, _⟩ => ⟨S16x128x128, .f32⟩
  | .hbm, ⟨49, _⟩ => ⟨S16x128x128, .f32⟩
  | .hbm, ⟨50, _⟩ => ⟨S_, .f32⟩
  | .hbm, ⟨51, _⟩ => ⟨S16x128x128, .f32⟩
  | .hbm, ⟨52, _⟩ => ⟨S16x128x128, .f32⟩
  | .hbm, ⟨53, _⟩ => ⟨S16x128x128, .i32⟩
  | .hbm, ⟨54, _⟩ => ⟨S_, .i32⟩
  | .hbm, ⟨55, _⟩ => ⟨S16x128x128, .i32⟩
  | .hbm, ⟨56, _⟩ => ⟨S16x128x128, .i32⟩
  | .hbm, ⟨57, _⟩ => ⟨S_, .i32⟩
  | .hbm, ⟨58, _⟩ => ⟨S16x128x128, .i32⟩
  | .hbm, ⟨59, _⟩ => ⟨S16x128x128, .i32⟩
  | .hbm, ⟨60, _⟩ => ⟨S_, .i32⟩
  | .hbm, ⟨61, _⟩ => ⟨S16x128x128, .i32⟩
  | .hbm, ⟨62, _⟩ => ⟨S16x128x128, .i1⟩
  | .hbm, ⟨63, _⟩ => ⟨S16x128x128, .i32⟩
  | .hbm, ⟨64, _⟩ => ⟨S16x128x128x1, .i32⟩
  | .hbm, ⟨65, _⟩ => ⟨S32, .i32⟩
  | .hbm, ⟨66, _⟩ => ⟨S1x1x1x32, .i32⟩
  | .hbm, ⟨67, _⟩ => ⟨S16x128x128x32, .i32⟩
  | .hbm, ⟨68, _⟩ => ⟨S16x128x128x32, .i32⟩
  | .hbm, ⟨69, _⟩ => ⟨S16x128x128x32, .i1⟩
  | .hbm, ⟨70, _⟩ => ⟨S16x128x128x32, .f32⟩
  | .hbm, ⟨71, _⟩ => ⟨S32x4, .f32⟩
  | .hbm, ⟨72, _⟩ => ⟨S4x16x128x128, .f32⟩
  | .hbm, ⟨73, _⟩ => ⟨S1x16x128x128, .i1⟩
  | .hbm, ⟨74, _⟩ => ⟨S_, .f32⟩
  | .hbm, ⟨75, _⟩ => ⟨S_, .f32⟩
  | .hbm, ⟨76, _⟩ => ⟨S4x16x128x128, .i1⟩
  | .hbm, ⟨77, _⟩ => ⟨S4x16x128x128, .f32⟩
  | .hbm, ⟨78, _⟩ => ⟨S4x16x128x128, .f32⟩
  | .hbm, ⟨79, _⟩ => ⟨S_, .f32⟩
  | .hbm, ⟨80, _⟩ => ⟨S16x4096x512, .f32⟩
  | .hbm, ⟨81, _⟩ => ⟨S16x4096x512, .f32⟩
  | .hbm, ⟨82, _⟩ => ⟨S16x4096x512, .bf16⟩
  | .hbm, ⟨83, _⟩ => ⟨S16x4096x512, .bf16⟩
  | .hbm, ⟨84, _⟩ => ⟨S16x4096x512, .bf16⟩
  | .hbm, ⟨85, _⟩ => ⟨S1x128, .f32⟩
  | .hbm, ⟨86, _⟩ => ⟨S16x4096x512, .bf16⟩
  | .local _ .vmem, ⟨0, _⟩ => ⟨S4x64, .f32⟩
  | .local _ .vmem, ⟨1, _⟩ => ⟨S1x512x512, .bf16⟩
  | .local _ .vmem, ⟨2, _⟩ => ⟨S1x512x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x4096x512, .bf16⟩
  | .local _ .vmem, ⟨7, _⟩ => ⟨S4x16x128x128, .f32⟩
  | .local _ .vmem, ⟨8, _⟩ => ⟨S1x128, .f32⟩
  | .local _ .vmem, ⟨9, _⟩ => ⟨S1x512x512, .bf16⟩
  | .local _ .vmem, ⟨10, _⟩ => ⟨S1x512x512, .bf16⟩
  | .local _ .vmem, ⟨11, _⟩ => ⟨S4x1024x256, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_c_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_111 : BitVec 32 := 0#32
  let arg1 : BitVec 32 := BitVec.ofNat 32 (i 1).val
  let c4_i32 : BitVec 32 := 4#32
  let v0 : BitVec 32 := Scalar.muli arg1 c4_i32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let c1_i32_113 : BitVec 32 := 1#32
  ⟨c0_i32_111, v202, c1_i32_113⟩
def k0_mult1 (i : grid0.Coords) (k0_t1 : Fin (k0_t1_loop i).trips) : BitVec 32 :=
  let c0_i32_111 : BitVec 32 := 0#32
  let c1_i32_113 : BitVec 32 := 1#32
  let arg10 : BitVec 32 := Scf.iv c0_i32_111 c1_i32_113 k0_t1
  let c512_i32 : BitVec 32 := 512#32
  let v669 : BitVec 32 := Scalar.muli arg10 c512_i32
  v669
def k0_off1 (i : grid0.Coords) (k0_t1 : Fin (k0_t1_loop i).trips) : Fin 3 → Nat :=
  let c0_266 : Index := 0#32
  let c0_i32_111 : BitVec 32 := 0#32
  let c1_i32_113 : BitVec 32 := 1#32
  let arg10 : BitVec 32 := Scf.iv c0_i32_111 c1_i32_113 k0_t1
  let c512_i32 : BitVec 32 := 512#32
  let v669 : BitVec 32 := Scalar.muli arg10 c512_i32
  let v670 : BitVec 32 := v669
  let v671 : Index := Scalar.indexCast v670
  let c0_267 : Index := 0#32
  ![0, v671.toNat, 0]
def k0_off2 (i : grid0.Coords) (k0_t1 : Fin (k0_t1_loop i).trips) (c0_i32_269 : BitVec 32) (c0_i32_271 : BitVec 32) : Fin 4 → Nat :=
  let c0_274 : Index := 0#32
  let arg1 : BitVec 32 := BitVec.ofNat 32 (i 1).val
  let c4_i32 : BitVec 32 := 4#32
  let v0 : BitVec 32 := Scalar.muli arg1 c4_i32
  let v675 : BitVec 32 := Scalar.addi v0 c0_i32_269
  let c0_i32_111 : BitVec 32 := 0#32
  let c1_i32_113 : BitVec 32 := 1#32
  let arg10 : BitVec 32 := Scf.iv c0_i32_111 c1_i32_113 k0_t1
  let c4_i32_270 : BitVec 32 := 4#32
  let v676 : BitVec 32 := Scalar.muli arg10 c4_i32_270
  let v677 : BitVec 32 := Scalar.addi v676 c0_i32_271
  let v678 : BitVec 32 := Scalar.subi v675 v677
  let c1_i32_272 : BitVec 32 := 1#32
  let v679 : BitVec 32 := Scalar.addi v678 c1_i32_272
  let c0_i32_273 : BitVec 32 := 0#32
  let v680 : BitVec 32 := Scalar.maxsi v679 c0_i32_273
  let c15_i32 : BitVec 32 := 15#32
  let v681 : BitVec 32 := Scalar.minsi v680 c15_i32
  let v682 : Index := Scalar.indexCast v681
  let c0_275 : Index := 0#32
  let c0_276 : Index := 0#32
  ![0, v682.toNat, 0, 0]
def k0_off3 (i : grid0.Coords) (k0_t1 : Fin (k0_t1_loop i).trips) : Fin 3 → Nat :=
  let c0_421 : Index := 0#32
  let c0_i32_111 : BitVec 32 := 0#32
  let c1_i32_113 : BitVec 32 := 1#32
  let arg10 : BitVec 32 := Scf.iv c0_i32_111 c1_i32_113 k0_t1
  let c512_i32 : BitVec 32 := 512#32
  let v669 : BitVec 32 := Scalar.muli arg10 c512_i32
  let v670 : BitVec 32 := v669
  let v865 : Index := Scalar.indexCast v670
  let c128_422 : Index := 128#32
  ![0, v865.toNat, 128]
def k0_off4 (i : grid0.Coords) (k0_t1 : Fin (k0_t1_loop i).trips) (c0_i32_424 : BitVec 32) (c0_i32_426 : BitVec 32) : Fin 4 → Nat :=
  let c1_430 : Index := 1#32
  let arg1 : BitVec 32 := BitVec.ofNat 32 (i 1).val
  let c4_i32 : BitVec 32 := 4#32
  let v0 : BitVec 32 := Scalar.muli arg1 c4_i32
  let v869 : BitVec 32 := Scalar.addi v0 c0_i32_424
  let c0_i32_111 : BitVec 32 := 0#32
  let c1_i32_113 : BitVec 32 := 1#32
  let arg10 : BitVec 32 := Scf.iv c0_i32_111 c1_i32_113 k0_t1
  let c4_i32_425 : BitVec 32 := 4#32
  let v870 : BitVec 32 := Scalar.muli arg10 c4_i32_425
  let v871 : BitVec 32 := Scalar.addi v870 c0_i32_426
  let v872 : BitVec 32 := Scalar.subi v869 v871
  let c1_i32_427 : BitVec 32 := 1#32
  let v873 : BitVec 32 := Scalar.addi v872 c1_i32_427
  let c0_i32_428 : BitVec 32 := 0#32
  let v874 : BitVec 32 := Scalar.maxsi v873 c0_i32_428
  let c15_i32_429 : BitVec 32 := 15#32
  let v875 : BitVec 32 := Scalar.minsi v874 c15_i32_429
  let v876 : Index := Scalar.indexCast v875
  let c0_431 : Index := 0#32
  let c0_432 : Index := 0#32
  ![1, v876.toNat, 0, 0]
def k0_off5 (i : grid0.Coords) (k0_t1 : Fin (k0_t1_loop i).trips) : Fin 3 → Nat :=
  let c0_579 : Index := 0#32
  let c0_i32_111 : BitVec 32 := 0#32
  let c1_i32_113 : BitVec 32 := 1#32
  let arg10 : BitVec 32 := Scf.iv c0_i32_111 c1_i32_113 k0_t1
  let c512_i32 : BitVec 32 := 512#32
  let v669 : BitVec 32 := Scalar.muli arg10 c512_i32
  let v670 : BitVec 32 := v669
  let v1059 : Index := Scalar.indexCast v670
  let c256_580 : Index := 256#32
  ![0, v1059.toNat, 256]
def k0_off6 (i : grid0.Coords) (k0_t1 : Fin (k0_t1_loop i).trips) (c0_i32_582 : BitVec 32) (c0_i32_584 : BitVec 32) : Fin 4 → Nat :=
  let c2_588 : Index := 2#32
  let arg1 : BitVec 32 := BitVec.ofNat 32 (i 1).val
  let c4_i32 : BitVec 32 := 4#32
  let v0 : BitVec 32 := Scalar.muli arg1 c4_i32
  let v1063 : BitVec 32 := Scalar.addi v0 c0_i32_582
  let c0_i32_111 : BitVec 32 := 0#32
  let c1_i32_113 : BitVec 32 := 1#32
  let arg10 : BitVec 32 := Scf.iv c0_i32_111 c1_i32_113 k0_t1
  let c4_i32_583 : BitVec 32 := 4#32
  let v1064 : BitVec 32 := Scalar.muli arg10 c4_i32_583
  let v1065 : BitVec 32 := Scalar.addi v1064 c0_i32_584
  let v1066 : BitVec 32 := Scalar.subi v1063 v1065
  let c1_i32_585 : BitVec 32 := 1#32
  let v1067 : BitVec 32 := Scalar.addi v1066 c1_i32_585
  let c0_i32_586 : BitVec 32 := 0#32
  let v1068 : BitVec 32 := Scalar.maxsi v1067 c0_i32_586
  let c15_i32_587 : BitVec 32 := 15#32
  let v1069 : BitVec 32 := Scalar.minsi v1068 c15_i32_587
  let v1070 : Index := Scalar.indexCast v1069
  let c0_589 : Index := 0#32
  let c0_590 : Index := 0#32
  ![2, v1070.toNat, 0, 0]
def k0_off7 (i : grid0.Coords) (k0_t1 : Fin (k0_t1_loop i).trips) : Fin 3 → Nat :=
  let c0_737 : Index := 0#32
  let c0_i32_111 : BitVec 32 := 0#32
  let c1_i32_113 : BitVec 32 := 1#32
  let arg10 : BitVec 32 := Scf.iv c0_i32_111 c1_i32_113 k0_t1
  let c512_i32 : BitVec 32 := 512#32
  let v669 : BitVec 32 := Scalar.muli arg10 c512_i32
  let v670 : BitVec 32 := v669
  let v1253 : Index := Scalar.indexCast v670
  let c384_738 : Index := 384#32
  ![0, v1253.toNat, 384]
def k0_off8 (i : grid0.Coords) (k0_t1 : Fin (k0_t1_loop i).trips) (c0_i32_740 : BitVec 32) (c0_i32_742 : BitVec 32) : Fin 4 → Nat :=
  let c3_746 : Index := 3#32
  let arg1 : BitVec 32 := BitVec.ofNat 32 (i 1).val
  let c4_i32 : BitVec 32 := 4#32
  let v0 : BitVec 32 := Scalar.muli arg1 c4_i32
  let v1257 : BitVec 32 := Scalar.addi v0 c0_i32_740
  let c0_i32_111 : BitVec 32 := 0#32
  let c1_i32_113 : BitVec 32 := 1#32
  let arg10 : BitVec 32 := Scf.iv c0_i32_111 c1_i32_113 k0_t1
  let c4_i32_741 : BitVec 32 := 4#32
  let v1258 : BitVec 32 := Scalar.muli arg10 c4_i32_741
  let v1259 : BitVec 32 := Scalar.addi v1258 c0_i32_742
  let v1260 : BitVec 32 := Scalar.subi v1257 v1259
  let c1_i32_743 : BitVec 32 := 1#32
  let v1261 : BitVec 32 := Scalar.addi v1260 c1_i32_743
  let c0_i32_744 : BitVec 32 := 0#32
  let v1262 : BitVec 32 := Scalar.maxsi v1261 c0_i32_744
  let c15_i32_745 : BitVec 32 := 15#32
  let v1263 : BitVec 32 := Scalar.minsi v1262 c15_i32_745
  let v1264 : Index := Scalar.indexCast v1263
  let c0_747 : Index := 0#32
  let c0_748 : Index := 0#32
  ![3, v1264.toNat, 0, 0]
@[reducible] def k0_t2_loop (i : grid0.Coords) : Scf.Loop 32 :=
  let c0_i32_111 : BitVec 32 := 0#32
  let arg1 : BitVec 32 := BitVec.ofNat 32 (i 1).val
  let c4_i32 : BitVec 32 := 4#32
  let v0 : BitVec 32 := Scalar.muli arg1 c4_i32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let v199 : BitVec 32 := Scalar.addi c0_i32_111 v198
  let c1_i32_114 : BitVec 32 := 1#32
  ⟨v202, v199, c1_i32_114⟩
def k0_mult2 (i : grid0.Coords) (k0_t2 : Fin (k0_t2_loop i).trips) : BitVec 32 :=
  let c0_i32_111 : BitVec 32 := 0#32
  let arg1 : BitVec 32 := BitVec.ofNat 32 (i 1).val
  let c4_i32 : BitVec 32 := 4#32
  let v0 : BitVec 32 := Scalar.muli arg1 c4_i32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let c1_i32_114 : BitVec 32 := 1#32
  let arg10 : BitVec 32 := Scf.iv v202 c1_i32_114 k0_t2
  let c512_i32 : BitVec 32 := 512#32
  let v669 : BitVec 32 := Scalar.muli arg10 c512_i32
  v669
def k0_off9 (i : grid0.Coords) (k0_t2 : Fin (k0_t2_loop i).trips) : Fin 3 → Nat :=
  let c0_266 : Index := 0#32
  let c0_i32_111 : BitVec 32 := 0#32
  let arg1 : BitVec 32 := BitVec.ofNat 32 (i 1).val
  let c4_i32 : BitVec 32 := 4#32
  let v0 : BitVec 32 := Scalar.muli arg1 c4_i32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let c1_i32_114 : BitVec 32 := 1#32
  let arg10 : BitVec 32 := Scf.iv v202 c1_i32_114 k0_t2
  let c512_i32 : BitVec 32 := 512#32
  let v669 : BitVec 32 := Scalar.muli arg10 c512_i32
  let v670 : BitVec 32 := v669
  let v671 : Index := Scalar.indexCast v670
  let c0_267 : Index := 0#32
  ![0, v671.toNat, 0]
def k0_off10 (i : grid0.Coords) (k0_t2 : Fin (k0_t2_loop i).trips) (c0_i32_269 : BitVec 32) (c0_i32_271 : BitVec 32) : Fin 4 → Nat :=
  let c0_274 : Index := 0#32
  let arg1 : BitVec 32 := BitVec.ofNat 32 (i 1).val
  let c4_i32 : BitVec 32 := 4#32
  let v0 : BitVec 32 := Scalar.muli arg1 c4_i32
  let v675 : BitVec 32 := Scalar.addi v0 c0_i32_269
  let c0_i32_111 : BitVec 32 := 0#32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let c1_i32_114 : BitVec 32 := 1#32
  let arg10 : BitVec 32 := Scf.iv v202 c1_i32_114 k0_t2
  let c4_i32_270 : BitVec 32 := 4#32
  let v676 : BitVec 32 := Scalar.muli arg10 c4_i32_270
  let v677 : BitVec 32 := Scalar.addi v676 c0_i32_271
  let v678 : BitVec 32 := Scalar.subi v675 v677
  let c1_i32_272 : BitVec 32 := 1#32
  let v679 : BitVec 32 := Scalar.addi v678 c1_i32_272
  let c0_i32_273 : BitVec 32 := 0#32
  let v680 : BitVec 32 := Scalar.maxsi v679 c0_i32_273
  let c15_i32 : BitVec 32 := 15#32
  let v681 : BitVec 32 := Scalar.minsi v680 c15_i32
  let v682 : Index := Scalar.indexCast v681
  let c0_275 : Index := 0#32
  let c0_276 : Index := 0#32
  ![0, v682.toNat, 0, 0]
def k0_off11 (i : grid0.Coords) (k0_t2 : Fin (k0_t2_loop i).trips) : Fin 3 → Nat :=
  let c0_421 : Index := 0#32
  let c0_i32_111 : BitVec 32 := 0#32
  let arg1 : BitVec 32 := BitVec.ofNat 32 (i 1).val
  let c4_i32 : BitVec 32 := 4#32
  let v0 : BitVec 32 := Scalar.muli arg1 c4_i32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let c1_i32_114 : BitVec 32 := 1#32
  let arg10 : BitVec 32 := Scf.iv v202 c1_i32_114 k0_t2
  let c512_i32 : BitVec 32 := 512#32
  let v669 : BitVec 32 := Scalar.muli arg10 c512_i32
  let v670 : BitVec 32 := v669
  let v865 : Index := Scalar.indexCast v670
  let c128_422 : Index := 128#32
  ![0, v865.toNat, 128]
def k0_off12 (i : grid0.Coords) (k0_t2 : Fin (k0_t2_loop i).trips) (c0_i32_424 : BitVec 32) (c0_i32_426 : BitVec 32) : Fin 4 → Nat :=
  let c1_430 : Index := 1#32
  let arg1 : BitVec 32 := BitVec.ofNat 32 (i 1).val
  let c4_i32 : BitVec 32 := 4#32
  let v0 : BitVec 32 := Scalar.muli arg1 c4_i32
  let v869 : BitVec 32 := Scalar.addi v0 c0_i32_424
  let c0_i32_111 : BitVec 32 := 0#32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let c1_i32_114 : BitVec 32 := 1#32
  let arg10 : BitVec 32 := Scf.iv v202 c1_i32_114 k0_t2
  let c4_i32_425 : BitVec 32 := 4#32
  let v870 : BitVec 32 := Scalar.muli arg10 c4_i32_425
  let v871 : BitVec 32 := Scalar.addi v870 c0_i32_426
  let v872 : BitVec 32 := Scalar.subi v869 v871
  let c1_i32_427 : BitVec 32 := 1#32
  let v873 : BitVec 32 := Scalar.addi v872 c1_i32_427
  let c0_i32_428 : BitVec 32 := 0#32
  let v874 : BitVec 32 := Scalar.maxsi v873 c0_i32_428
  let c15_i32_429 : BitVec 32 := 15#32
  let v875 : BitVec 32 := Scalar.minsi v874 c15_i32_429
  let v876 : Index := Scalar.indexCast v875
  let c0_431 : Index := 0#32
  let c0_432 : Index := 0#32
  ![1, v876.toNat, 0, 0]
def k0_off13 (i : grid0.Coords) (k0_t2 : Fin (k0_t2_loop i).trips) : Fin 3 → Nat :=
  let c0_579 : Index := 0#32
  let c0_i32_111 : BitVec 32 := 0#32
  let arg1 : BitVec 32 := BitVec.ofNat 32 (i 1).val
  let c4_i32 : BitVec 32 := 4#32
  let v0 : BitVec 32 := Scalar.muli arg1 c4_i32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let c1_i32_114 : BitVec 32 := 1#32
  let arg10 : BitVec 32 := Scf.iv v202 c1_i32_114 k0_t2
  let c512_i32 : BitVec 32 := 512#32
  let v669 : BitVec 32 := Scalar.muli arg10 c512_i32
  let v670 : BitVec 32 := v669
  let v1059 : Index := Scalar.indexCast v670
  let c256_580 : Index := 256#32
  ![0, v1059.toNat, 256]
def k0_off14 (i : grid0.Coords) (k0_t2 : Fin (k0_t2_loop i).trips) (c0_i32_582 : BitVec 32) (c0_i32_584 : BitVec 32) : Fin 4 → Nat :=
  let c2_588 : Index := 2#32
  let arg1 : BitVec 32 := BitVec.ofNat 32 (i 1).val
  let c4_i32 : BitVec 32 := 4#32
  let v0 : BitVec 32 := Scalar.muli arg1 c4_i32
  let v1063 : BitVec 32 := Scalar.addi v0 c0_i32_582
  let c0_i32_111 : BitVec 32 := 0#32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let c1_i32_114 : BitVec 32 := 1#32
  let arg10 : BitVec 32 := Scf.iv v202 c1_i32_114 k0_t2
  let c4_i32_583 : BitVec 32 := 4#32
  let v1064 : BitVec 32 := Scalar.muli arg10 c4_i32_583
  let v1065 : BitVec 32 := Scalar.addi v1064 c0_i32_584
  let v1066 : BitVec 32 := Scalar.subi v1063 v1065
  let c1_i32_585 : BitVec 32 := 1#32
  let v1067 : BitVec 32 := Scalar.addi v1066 c1_i32_585
  let c0_i32_586 : BitVec 32 := 0#32
  let v1068 : BitVec 32 := Scalar.maxsi v1067 c0_i32_586
  let c15_i32_587 : BitVec 32 := 15#32
  let v1069 : BitVec 32 := Scalar.minsi v1068 c15_i32_587
  let v1070 : Index := Scalar.indexCast v1069
  let c0_589 : Index := 0#32
  let c0_590 : Index := 0#32
  ![2, v1070.toNat, 0, 0]
def k0_off15 (i : grid0.Coords) (k0_t2 : Fin (k0_t2_loop i).trips) : Fin 3 → Nat :=
  let c0_737 : Index := 0#32
  let c0_i32_111 : BitVec 32 := 0#32
  let arg1 : BitVec 32 := BitVec.ofNat 32 (i 1).val
  let c4_i32 : BitVec 32 := 4#32
  let v0 : BitVec 32 := Scalar.muli arg1 c4_i32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let c1_i32_114 : BitVec 32 := 1#32
  let arg10 : BitVec 32 := Scf.iv v202 c1_i32_114 k0_t2
  let c512_i32 : BitVec 32 := 512#32
  let v669 : BitVec 32 := Scalar.muli arg10 c512_i32
  let v670 : BitVec 32 := v669
  let v1253 : Index := Scalar.indexCast v670
  let c384_738 : Index := 384#32
  ![0, v1253.toNat, 384]
def k0_off16 (i : grid0.Coords) (k0_t2 : Fin (k0_t2_loop i).trips) (c0_i32_740 : BitVec 32) (c0_i32_742 : BitVec 32) : Fin 4 → Nat :=
  let c3_746 : Index := 3#32
  let arg1 : BitVec 32 := BitVec.ofNat 32 (i 1).val
  let c4_i32 : BitVec 32 := 4#32
  let v0 : BitVec 32 := Scalar.muli arg1 c4_i32
  let v1257 : BitVec 32 := Scalar.addi v0 c0_i32_740
  let c0_i32_111 : BitVec 32 := 0#32
  let c4_i32_101 : BitVec 32 := 4#32
  let v177 : BitVec 32 := Scalar.addi v0 c4_i32_101
  let c1_i32 : BitVec 32 := 1#32
  let v178 : BitVec 32 := Scalar.subi v177 c1_i32
  let c0_i32_103 : BitVec 32 := 0#32
  let v180 : BitVec 1 := Scalar.cmpi .sgt v178 c0_i32_103
  let v181 : BitVec 32 := Scalar.extui v180
  let c0_i32_104 : BitVec 32 := 0#32
  let v182 : BitVec 1 := Scalar.cmpi .slt v178 c0_i32_104
  let v183 : BitVec 32 := Scalar.extui v182
  let v184 : BitVec 32 := Scalar.subi v181 v183
  let c4_i32_102 : BitVec 32 := 4#32
  let c0_i32_105 : BitVec 32 := 0#32
  let v185 : BitVec 1 := Scalar.cmpi .sgt c4_i32_102 c0_i32_105
  let v186 : BitVec 32 := Scalar.extui v185
  let c0_i32_106 : BitVec 32 := 0#32
  let v187 : BitVec 1 := Scalar.cmpi .slt c4_i32_102 c0_i32_106
  let v188 : BitVec 32 := Scalar.extui v187
  let v189 : BitVec 32 := Scalar.subi v186 v188
  let v190 : BitVec 1 := Scalar.cmpi .ne v184 v189
  let v191 : BitVec 32 := Scalar.remsi v178 c4_i32_102
  let c0_i32_107 : BitVec 32 := 0#32
  let v192 : BitVec 1 := Scalar.cmpi .ne v191 c0_i32_107
  let v193 : BitVec 1 := Scalar.andi v190 v192
  let v179 : BitVec 32 := Scalar.divsi v178 c4_i32_102
  let c1_i32_108 : BitVec 32 := 1#32
  let v194 : BitVec 32 := Scalar.subi v179 c1_i32_108
  let v195 : BitVec 32 := Scalar.select v193 v194 v179
  let c1_i32_109 : BitVec 32 := 1#32
  let v196 : BitVec 32 := Scalar.addi v195 c1_i32_109
  let v198 : BitVec 32 := Scalar.subi v196 c0_i32_111
  let c1_i32_112 : BitVec 32 := 1#32
  let v200 : BitVec 32 := Scalar.divsi v198 c1_i32_112
  let v201 : BitVec 32 := Scalar.muli v200 c1_i32_112
  let v202 : BitVec 32 := Scalar.addi c0_i32_111 v201
  let c1_i32_114 : BitVec 32 := 1#32
  let arg10 : BitVec 32 := Scf.iv v202 c1_i32_114 k0_t2
  let c4_i32_741 : BitVec 32 := 4#32
  let v1258 : BitVec 32 := Scalar.muli arg10 c4_i32_741
  let v1259 : BitVec 32 := Scalar.addi v1258 c0_i32_742
  let v1260 : BitVec 32 := Scalar.subi v1257 v1259
  let c1_i32_743 : BitVec 32 := 1#32
  let v1261 : BitVec 32 := Scalar.addi v1260 c1_i32_743
  let c0_i32_744 : BitVec 32 := 0#32
  let v1262 : BitVec 32 := Scalar.maxsi v1261 c0_i32_744
  let c15_i32_745 : BitVec 32 := 15#32
  let v1263 : BitVec 32 := Scalar.minsi v1262 c15_i32_745
  let v1264 : Index := Scalar.indexCast v1263
  let c0_747 : Index := 0#32
  let c0_748 : Index := 0#32
  ![3, v1264.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel5Ideal.lean ====
variable {F : FTy → Type} [FloatOps F] [Named F]
def κ : String → Option EReal := fun
  | "log2e" => some (((Real.log 2)⁻¹ : ℝ) : EReal)
  | "mask" => some ⊥
  | _ => none
-- ==== Reference5Ideal.lean ====
abbrev S16x4096x512 : Shape := ⟨3, ![16, 4096, 512]⟩
abbrev S4x64 : Shape := ⟨2, ![4, 64]⟩
abbrev S32x20 : Shape := ⟨2, ![32, 20]⟩
abbrev S128 : Shape := ⟨1, ![128]⟩
abbrev S16x4096x4x2x64 : Shape := ⟨5, ![16, 4096, 4, 2, 64]⟩
abbrev S16x4096x4x128 : Shape := ⟨4, ![16, 4096, 4, 128]⟩
abbrev S1x64 : Shape := ⟨2, ![1, 64]⟩
abbrev S64 : Shape := ⟨1, ![64]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S4096x4096x2 : Shape := ⟨3, ![4096, 4096, 2]⟩
abbrev S4096x4096x4 : Shape := ⟨3, ![4096, 4096, 4]⟩
abbrev S4x4096x4096 : Shape := ⟨3, ![4, 4096, 4096]⟩
abbrev S16x4x2x4096x4096 : Shape := ⟨5, ![16, 4, 2, 4096, 4096]⟩
abbrev S1x4x1x4096x4096 : Shape := ⟨5, ![1, 4, 1, 4096, 4096]⟩
abbrev S16x4x2x4096 : Shape := ⟨4, ![16, 4, 2, 4096]⟩
abbrev S16x4x2x4096x1 : Shape := ⟨5, ![16, 4, 2, 4096, 1]⟩
abbrev S16x4x1x4096x4096 : Shape := ⟨5, ![16, 4, 1, 4096, 4096]⟩
abbrev S16x4x4096x4096 : Shape := ⟨4, ![16, 4, 4096, 4096]⟩
abbrev S16x4x128x4096 : Shape := ⟨4, ![16, 4, 128, 4096]⟩
abbrev S16x4096x4 : Shape := ⟨3, ![16, 4096, 4]⟩
abbrev S16x4096x4x1 : Shape := ⟨4, ![16, 4096, 4, 1]⟩
abbrev S1x1x1x128 : Shape := ⟨4, ![1, 1, 1, 128]⟩

abbrev nBuf : Space → Nat
  | .hbm => 134
  | .vmem => 0
  | .smem => 0
  | _ => 0

abbrev hbmTy0_0 (i : Nat) : BufTy := match i % 128 with
  | 0 => ⟨S16x4096x512, .f32⟩
  | 1 => ⟨S16x4096x512, .f32⟩
  | 2 => ⟨S16x4096x512, .f32⟩
  | 3 => ⟨S4x64, .f32⟩
  | 4 => ⟨S32x20, .f32⟩
  | 5 => ⟨S128, .f32⟩
  | 6 => ⟨S16x4096x4x2x64, .f32⟩
  | 7 => ⟨S16x4096x4x2x64, .f32⟩
  | 8 => ⟨S16x4096x4x128, .f32⟩
  | 9 => ⟨S1x64, .f32⟩
  | 10 => ⟨S64, .f32⟩
  | 11 => ⟨S1x64, .f32⟩
  | 12 => ⟨S64, .f32⟩
  | 13 => ⟨S64, .f32⟩
  | 14 => ⟨S_, .f32⟩
  | 15 => ⟨S_, .f32⟩
  | 16 => ⟨S_, .f32⟩
  | 17 => ⟨S1x64, .f32⟩
  | 18 => ⟨S64, .f32⟩
  | 19 => ⟨S1x64, .f32⟩
  | 20 => ⟨S64, .f32⟩
  | 21 => ⟨S64, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S4096, .i32⟩
  | 29 => ⟨S4096x1, .i32⟩
  | 30 => ⟨S1x4096, .i32⟩
  | 31 => ⟨S4096x4096, .i32⟩
  | 32 => ⟨S4096x4096, .i32⟩
  | 33 => ⟨S4096x4096, .i32⟩
  | 34 => ⟨S_, .i32⟩
  | 35 => ⟨S4096x4096, .i32⟩
  | 36 => ⟨S4096x4096, .i32⟩
  | 37 => ⟨S_, .i32⟩
  | 38 => ⟨S4096x4096, .i32⟩
  | 39 => ⟨S4096x4096, .i32⟩
  | 40 => ⟨S4096x4096, .f32⟩
  | 41 => ⟨S_, .f32⟩
  | 42 => ⟨S4096x4096, .f32⟩
  | 43 => ⟨S4096x4096, .f32⟩
  | 44 => ⟨S4096x4096, .f32⟩
  | 45 => ⟨S_, .f32⟩
  | 46 => ⟨S4096x4096, .f32⟩
  | 47 => ⟨S4096x4096, .f32⟩
  | 48 => ⟨S_, .f32⟩
  | 49 => ⟨S4096x4096, .f32⟩
  | 50 => ⟨S4096x4096, .f32⟩
  | 51 => ⟨S4096x4096, .i32⟩
  | 52 => ⟨S_, .i32⟩
  | 53 => ⟨S4096x4096, .i32⟩
  | 54 => ⟨S4096x4096, .i32⟩
  | 55 => ⟨S_, .i32⟩
  | 56 => ⟨S4096x4096, .i32⟩
  | 57 => ⟨S4096x4096, .i32⟩
  | 58 => ⟨S_, .i32⟩
  | 59 => ⟨S4096x4096, .i32⟩
  | 60 => ⟨S4096x4096, .i1⟩
  | 61 => ⟨S4096x4096, .i32⟩
  | 62 => ⟨S_, .i32⟩
  | 63 => ⟨S4096x4096, .i32⟩
  | 64 => ⟨S4096x4096, .i1⟩
  | 65 => ⟨S_, .i32⟩
  | 66 => ⟨S4096x4096, .i32⟩
  | 67 => ⟨S4096x4096, .i32⟩
  | 68 => ⟨S4096x4096, .i32⟩
  | 69 => ⟨S4096x4096x1, .i32⟩
  | 70 => ⟨S_, .i32⟩
  | 71 => ⟨S4096x4096x1, .i32⟩
  | 72 => ⟨S4096x4096x2, .i32⟩
  | 73 => ⟨S4096x4096x4, .f32⟩
  | 74 => ⟨S4x4096x4096, .f32⟩
  | 75 => ⟨S16x4x2x4096x4096, .f32⟩
  | 76 => ⟨S_, .f32⟩
  | 77 => ⟨S16x4x2x4096x4096, .f32⟩
  | 78 => ⟨S16x4x2x4096x4096, .f32⟩
  | 79 => ⟨S1x4x1x4096x4096, .f32⟩
  | 80 => ⟨S16x4x2x4096x4096, .f32⟩
  | 81 => ⟨S16x4x2x4096x4096, .f32⟩
  | 82 => ⟨S_, .i32⟩
  | 83 => ⟨S4096x4096, .i32⟩
  | 84 => ⟨S4096x4096, .i1⟩
  | 85 => ⟨S_, .f32⟩
  | 86 => ⟨S_, .f32⟩
  | 87 => ⟨S16x4x2x4096x4096, .i1⟩
  | 88 => ⟨S16x4x2x4096x4096, .f32⟩
  | 89 => ⟨S16x4x2x4096x4096, .f32⟩
  | 90 => ⟨S_, .f32⟩
  | 91 => ⟨S16x4x2x4096, .f32⟩
  | 92 => ⟨S_, .f32⟩
  | 93 => ⟨S16x4x2x4096, .f32⟩
  | 94 => ⟨S16x4x2x4096, .f32⟩
  | 95 => ⟨S16x4x2x4096x1, .f32⟩
  | 96 => ⟨S16x4x2x4096x4096, .f32⟩
  | 97 => ⟨S16x4x2x4096x4096, .f32⟩
  | 98 => ⟨S16x4x2x4096x4096, .f32⟩
  | 99 => ⟨S_, .f32⟩
  | 100 => ⟨S16x4x2x4096, .f32⟩
  | 101 => ⟨S16x4x2x4096x1, .f32⟩
  | 102 => ⟨S16x4x2x4096x4096, .f32⟩
  | 103 => ⟨S16x4x2x4096x4096, .f32⟩
  | 104 => ⟨S16x4x1x4096x4096, .f32⟩
  | 105 => ⟨S16x4x4096x4096, .f32⟩
  | 106 => ⟨S16x4x1x4096x4096, .f32⟩
  | 107 => ⟨S16x4x4096x4096, .f32⟩
  | 108 => ⟨S16x4x4096x4096, .f32⟩
  | 109 => ⟨S16x4x4096x4096, .f32⟩
  | 110 => ⟨S16x4x4096x4096, .f32⟩
  | 111 => ⟨S16x4x128x4096, .f32⟩
  | 112 => ⟨S16x4096x4x128, .f32⟩
  | 113 => ⟨S16x4096x4x128, .f32⟩
  | 114 => ⟨S_, .f32⟩
  | 115 => ⟨S16x4096x4, .f32⟩
  | 116 => ⟨S16x4096x4x1, .f32⟩
  | 117 => ⟨S_, .f32⟩
  | 118 => ⟨S16x4096x4x1, .f32⟩
  | 119 => ⟨S16x4096x4x1, .f32⟩
  | 120 => ⟨S_, .f32⟩
  | 121 => ⟨S16x4096x4x1, .f32⟩
  | 122 => ⟨S16x4096x4x1, .f32⟩
  | 123 => ⟨S16x4096x4x1, .f32⟩
  | 124 => ⟨S16x4096x4x128, .f32⟩
  | 125 => ⟨S16x4096x4x128, .f32⟩
  | 126 => ⟨S1x1x1x128, .f32⟩
  | 127 => ⟨S16x4096x4x128, .f32⟩
  | _ => ⟨S16x4096x512, .f32⟩

abbrev hbmTy0_1 (i : Nat) : BufTy := match i % 128 with
  | 0 => ⟨S16x4096x4x128, .f32⟩
  | 1 => ⟨S_, .f32⟩
  | 2 => ⟨S16x4096x4x128, .f32⟩
  | 3 => ⟨S16x4096x4x128, .f32⟩
  | 4 => ⟨S16x4096x512, .f32⟩
  | 5 => ⟨S16x4096x512, .bf16⟩
  | _ => ⟨S16x4096x512, .f32⟩

abbrev hbmTy (i : Nat) : BufTy := match i / 128 with
  | 0 => hbmTy0_0 i
  | 1 => hbmTy0_1 i
  | _ => ⟨S16x4096x512, .f32⟩

abbrev bufTy : (tb : Table) → Fin (tcTables nBuf tb) → BufTy
  | .hbm, ⟨i, _⟩ => hbmTy i
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_c_7 : Ref sig .tc := ⟨.hbm, 55, rfl⟩
abbrev main_v40 : Ref sig .tc := ⟨.hbm, 56, rfl⟩
abbrev main_v41 : Ref sig .tc := ⟨.hbm, 57, rfl⟩
abbrev main_c_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_13 : Ref sig .tc := ⟨.hbm, 82, rfl⟩
abbrev main_v61 : Ref sig .tc := ⟨.hbm, 83, rfl⟩
abbrev main_v62 : Ref sig .tc := ⟨.hbm, 84, rfl⟩
abbrev main_cst_14 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v63 : Ref sig .tc := ⟨.hbm, 89, rfl⟩
abbrev main_cst_15 : Ref sig .tc := ⟨.hbm, 90, rfl⟩
abbrev main_v64 : Ref sig .tc := ⟨.hbm, 91, rfl⟩
abbrev main_cst_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_18 : Ref sig .tc := ⟨.hbm, 114, rfl⟩
abbrev main_v85 : Ref sig .tc := ⟨.hbm, 115, rfl⟩
abbrev main_v86 : Ref sig .tc := ⟨.hbm, 116, rfl⟩
abbrev main_cst_19 : Ref sig .tc := ⟨.hbm, 117, rfl⟩
abbrev main_v87 : Ref sig .tc := ⟨.hbm, 118, rfl⟩
abbrev main_v88 : Ref sig .tc := ⟨.hbm, 119, rfl⟩
abbrev main_cst_20 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_21 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩

abbrev nD : Nat := 1
abbrev τ : Topo := Topo.v7x

variable {F : FTy → Type} [FloatOps F]
-- ==== Kernel6.lean ====
abbrev S16x4096x1024 : Shape := ⟨3, ![16, 4096, 1024]⟩
abbrev S1024 : Shape := ⟨1, ![1024]⟩
abbrev S1024x3072 : Shape := ⟨2, ![1024, 3072]⟩
abbrev S1x1024 : Shape := ⟨2, ![1, 1024]⟩
abbrev S16x4096x512 : Shape := ⟨3, ![16, 4096, 512]⟩
abbrev S16x1x4096x512 : Shape := ⟨4, ![16, 1, 4096, 512]⟩
abbrev S16x4x1024x512 : Shape := ⟨4, ![16, 4, 1024, 512]⟩
abbrev S16x16x256x512 : Shape := ⟨4, ![16, 16, 256, 512]⟩
abbrev S1x512x1024 : Shape := ⟨3, ![1, 512, 1024]⟩
abbrev S1x512x512 : Shape := ⟨3, ![1, 512, 512]⟩
abbrev S1x1x512x512 : Shape := ⟨4, ![1, 1, 512, 512]⟩
abbrev S1x4x128x512 : Shape := ⟨4, ![1, 4, 128, 512]⟩
abbrev S1x16x32x512 : Shape := ⟨4, ![1, 16, 32, 512]⟩
abbrev S4x512x128 : Shape := ⟨3, ![4, 512, 128]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S128x512 : Shape := ⟨2, ![128, 512]⟩
abbrev S1x1x128x512 : Shape := ⟨4, ![1, 1, 128, 512]⟩
abbrev S1x32x128 : Shape := ⟨3, ![1, 32, 128]⟩
abbrev S32x128 : Shape := ⟨2, ![32, 128]⟩
abbrev S32x512 : Shape := ⟨2, ![32, 512]⟩
abbrev S1x1x32x512 : Shape := ⟨4, ![1, 1, 32, 512]⟩

abbrev nBuf : Space → Nat
  | .hbm => 17
  | .vmem => 29
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S16x4096x512, .bf16⟩
  | .hbm, ⟨6, _⟩ => ⟨S16x4096x512, .bf16⟩
  | .hbm, ⟨7, _⟩ => ⟨S16x4096x512, .bf16⟩
  | .hbm, ⟨8, _⟩ => ⟨S16x1x4096x512, .bf16⟩
  | .hbm, ⟨9, _⟩ => ⟨S16x1x4096x512, .bf16⟩
  | .hbm, ⟨10, _⟩ => ⟨S16x1x4096x512, .bf16⟩
  | .hbm, ⟨11, _⟩ => ⟨S16x4x1024x512, .bf16⟩
  | .hbm, ⟨12, _⟩ => ⟨S16x4x1024x512, .bf16⟩
  | .hbm, ⟨13, _⟩ => ⟨S16x4x1024x512, .bf16⟩
  | .hbm, ⟨14, _⟩ => ⟨S16x16x256x512, .bf16⟩
  | .hbm, ⟨15, _⟩ => ⟨S16x16x256x512, .bf16⟩
  | .hbm, ⟨16, _⟩ => ⟨S16x16x256x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x1x512x512, .bf16⟩
  | .local _ .vmem, ⟨11, _⟩ => ⟨S1x1x512x512, .bf16⟩
  | .local _ .vmem, ⟨12, _⟩ => ⟨S1x1x512x512, .bf16⟩
  | .local _ .vmem, ⟨13, _⟩ => ⟨S1x1x512x512, .bf16⟩
  | .local _ .vmem, ⟨14, _⟩ => ⟨S1x1x512x512, .bf16⟩
  | .local _ .vmem, ⟨15, _⟩ => ⟨S1x1x512x512, .bf16⟩
  | .local _ .vmem, ⟨16, _⟩ => ⟨S1x4x128x512, .bf16⟩
  | .local _ .vmem, ⟨17, _⟩ => ⟨S1x4x128x512, .bf16⟩
  | .local _ .vmem, ⟨18, _⟩ => ⟨S1x4x128x512, .bf16⟩
  | .local _ .vmem, ⟨19, _⟩ => ⟨S1x4x128x512, .bf16⟩
  | .local _ .vmem, ⟨20, _⟩ => ⟨S1x4x128x512, .bf16⟩
  | .local _ .vmem, ⟨21, _⟩ => ⟨S1x4x128x512, .bf16⟩
  | .local _ .vmem, ⟨22, _⟩ => ⟨S1x16x32x512, .bf16⟩
  | .local _ .vmem, ⟨23, _⟩ => ⟨S1x16x32x512, .bf16⟩
  | .local _ .vmem, ⟨24, _⟩ => ⟨S1x16x32x512, .bf16⟩
  | .local _ .vmem, ⟨25, _⟩ => ⟨S1x16x32x512, .bf16⟩
  | .local _ .vmem, ⟨26, _⟩ => ⟨S1x16x32x512, .bf16⟩
  | .local _ .vmem, ⟨27, _⟩ => ⟨S1x16x32x512, .bf16⟩
  | .local _ .vmem, ⟨28, _⟩ => ⟨S4x512x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev main_v2_8 : Ref sig .tc := ⟨.hbm, 13, rfl⟩
abbrev main_v2_9 : Ref sig .tc := ⟨.hbm, 14, rfl⟩
abbrev main_v2_10 : Ref sig .tc := ⟨.hbm, 15, rfl⟩
abbrev main_v2_11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x32x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x32x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x32x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kernel6Ideal.lean ====
variable {F : FTy → Type} [FloatOps F] [Named F]
def κ : String → Option EReal := fun
  | "qscale" => some (((Real.log 256)⁻¹ : ℝ) : EReal)
  | _ => none
-- ==== Reference6Ideal.lean ====
abbrev S16x4096x1024 : Shape := ⟨3, ![16, 4096, 1024]⟩
abbrev S1024 : Shape := ⟨1, ![1024]⟩
abbrev S1024x3072 : Shape := ⟨2, ![1024, 3072]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x3072 : Shape := ⟨3, ![16, 4096, 3072]⟩
abbrev S16x4096x512 : Shape := ⟨3, ![16, 4096, 512]⟩
abbrev S16x4096x1x512 : Shape := ⟨4, ![16, 4096, 1, 512]⟩
abbrev S16x1x4096x512 : Shape := ⟨4, ![16, 1, 4096, 512]⟩
abbrev S16x1024x4x512 : Shape := ⟨4, ![16, 1024, 4, 512]⟩
abbrev S16x4x1024x512 : Shape := ⟨4, ![16, 4, 1024, 512]⟩
abbrev S16x256x16x512 : Shape := ⟨4, ![16, 256, 16, 512]⟩
abbrev S16x16x256x512 : Shape := ⟨4, ![16, 16, 256, 512]⟩

abbrev nBuf : Space → Nat
  | .hbm => 72
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x3072, .f32⟩
  | .hbm, ⟨3, _⟩ => ⟨S16x4096x1024, .f32⟩
  | .hbm, ⟨4, _⟩ => ⟨S_, .f32⟩
  | .hbm, ⟨5, _⟩ => ⟨S16x4096, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S16x4096x1, .f32⟩
  | .hbm, ⟨14, _⟩ => ⟨S16x4096x1024, .f32⟩
  | .hbm, ⟨15, _⟩ => ⟨S16x4096x1024, .f32⟩
  | .hbm, ⟨16, _⟩ => ⟨S1x1x1024, .f32⟩
  | .hbm, ⟨17, _⟩ => ⟨S16x4096x1024, .f32⟩
  | .hbm, ⟨18, _⟩ => ⟨S16x4096x1024, .f32⟩
  | .hbm, ⟨19, _⟩ => ⟨S16x4096x3072, .f32⟩
  | .hbm, ⟨20, _⟩ => ⟨S16x4096x512, .f32⟩
  | .hbm, ⟨21, _⟩ => ⟨S16x4096x512, .f32⟩
  | .hbm, ⟨22, _⟩ => ⟨S16x4096x512, .f32⟩
  | .hbm, ⟨23, _⟩ => ⟨S16x4096x512, .f32⟩
  | .hbm, ⟨24, _⟩ => ⟨S16x4096x512, .f32⟩
  | .hbm, ⟨25, _⟩ => ⟨S16x4096x512, .f32⟩
  | .hbm, ⟨26, _⟩ => ⟨S_, .f32⟩
  | .hbm, ⟨27, _⟩ => ⟨S16x4096x512, .f32⟩
  | .hbm, ⟨28, _⟩ => ⟨S16x4096x512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16x4096x512, .f32⟩
  | .hbm, ⟨33, _⟩ => ⟨S16x4096x512, .f32⟩
  | .hbm, ⟨34, _⟩ => ⟨S_, .f32⟩
  | .hbm, ⟨35, _⟩ => ⟨S16x4096x512, .f32⟩
  | .hbm, ⟨36, _⟩ => ⟨S16x4096x512, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16x4096x512, .f32⟩
  | .hbm, ⟨41, _⟩ => ⟨S16x4096x512, .f32⟩
  | .hbm, ⟨42, _⟩ => ⟨S16x4096x1x512, .f32⟩
  | .hbm, ⟨43, _⟩ => ⟨S16x1x4096x512, .f32⟩
  | .hbm, ⟨44, _⟩ => ⟨S16x4096x1x512, .f32⟩
  | .hbm, ⟨45, _⟩ => ⟨S16x1x4096x512, .f32⟩
  | .hbm, ⟨46, _⟩ => ⟨S16x4096x1x512, .f32⟩
  | .hbm, ⟨47, _⟩ => ⟨S16x1x4096x512, .f32⟩
  | .hbm, ⟨48, _⟩ => ⟨S16x1024x4x512, .f32⟩
  | .hbm, ⟨49, _⟩ => ⟨S16x4x1024x512, .f32⟩
  | .hbm, ⟨50, _⟩ => ⟨S16x1024x4x512, .f32⟩
  | .hbm, ⟨51, _⟩ => ⟨S16x4x1024x512, .f32⟩
  | .hbm, ⟨52, _⟩ => ⟨S16x1024x4x512, .f32⟩
  | .hbm, ⟨53, _⟩ => ⟨S16x4x1024x512, .f32⟩
  | .hbm, ⟨54, _⟩ => ⟨S16x256x16x512, .f32⟩
  | .hbm, ⟨55, _⟩ => ⟨S16x16x256x512, .f32⟩
  | .hbm, ⟨56, _⟩ => ⟨S16x256x16x512, .f32⟩
  | .hbm, ⟨57, _⟩ => ⟨S16x16x256x512, .f32⟩
  | .hbm, ⟨58, _⟩ => ⟨S16x256x16x512, .f32⟩
  | .hbm, ⟨59, _⟩ => ⟨S16x16x256x512, .f32⟩
  | .hbm, ⟨60, _⟩ => ⟨S16x4096x512, .bf16⟩
  | .hbm, ⟨61, _⟩ => ⟨S16x4096x512, .bf16⟩
  | .hbm, ⟨62, _⟩ => ⟨S16x4096x512, .bf16⟩
  | .hbm, ⟨63, _⟩ => ⟨S16x1x4096x512, .bf16⟩
  | .hbm, ⟨64, _⟩ => ⟨S16x1x4096x512, .bf16⟩
  | .hbm, ⟨65, _⟩ => ⟨S16x1x4096x512, .bf16⟩
  | .hbm, ⟨66, _⟩ => ⟨S16x4x1024x512, .bf16⟩
  | .hbm, ⟨67, _⟩ => ⟨S16x4x1024x512, .bf16⟩
  | .hbm, ⟨68, _⟩ => ⟨S16x4x1024x512, .bf16⟩
  | .hbm, ⟨69, _⟩ => ⟨S16x16x256x512, .bf16⟩
  | .hbm, ⟨70, _⟩ => ⟨S16x16x256x512, .bf16⟩
  | .hbm, ⟨71, _⟩ => ⟨S16x16x256x512, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩

abbrev nD : Nat := 1
abbrev τ : Topo := Topo.v7x

variable {F : FTy → Type} [FloatOps F]
-- ==== Kernel7.lean ====
abbrev S16x4096x1024 : Shape := ⟨3, ![16, 4096, 1024]⟩
abbrev S1024 : Shape := ⟨1, ![1024]⟩
abbrev S1024x2328 : Shape := ⟨2, ![1024, 2328]⟩
abbrev S1x1024 : Shape := ⟨2, ![1, 1024]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1024x1024 : Shape := ⟨2, ![1024, 1024]⟩
abbrev S1024x256 : Shape := ⟨2, ![1024, 256]⟩
abbrev S1024x128 : Shape := ⟨2, ![1024, 128]⟩
abbrev S1024x2x64 : Shape := ⟨3, ![1024, 2, 64]⟩
abbrev S1024x2x128 : Shape := ⟨3, ![1024, 2, 128]⟩
abbrev S1024x24 : Shape := ⟨2, ![1024, 24]⟩
abbrev S1024x2x12 : Shape := ⟨3, ![1024, 2, 12]⟩
abbrev S1024x3584 : Shape := ⟨2, ![1024, 3584]⟩
abbrev S16x4096x256 : Shape := ⟨3, ![16, 4096, 256]⟩
abbrev S16x4096x512 : Shape := ⟨3, ![16, 4096, 512]⟩
abbrev S1x512x1024 : Shape := ⟨3, ![1, 512, 1024]⟩
abbrev S1x512x256 : Shape := ⟨3, ![1, 512, 256]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S512x512 : Shape := ⟨2, ![512, 512]⟩

abbrev nBuf : Space → Nat
  | .hbm => 52
  | .vmem => 20
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2328, .f32⟩
  | .hbm, ⟨3, _⟩ => ⟨S1x1024, .f32⟩
  | .hbm, ⟨4, _⟩ => ⟨S1024x512, .f32⟩
  | .hbm, ⟨5, _⟩ => ⟨S1024x8x64, .f32⟩
  | .hbm, ⟨6, _⟩ => ⟨S_, .i32⟩
  | .hbm, ⟨7, _⟩ => ⟨S_, .f32⟩
  | .hbm, ⟨8, _⟩ => ⟨S1024x8x128, .f32⟩
  | .hbm, ⟨9, _⟩ => ⟨S1024x1024, .f32⟩
  | .hbm, ⟨10, _⟩ => ⟨S1024x256, .f32⟩
  | .hbm, ⟨11, _⟩ => ⟨S1024x128, .f32⟩
  | .hbm, ⟨12, _⟩ => ⟨S1024x2x64, .f32⟩
  | .hbm, ⟨13, _⟩ => ⟨S_, .i32⟩
  | .hbm, ⟨14, _⟩ => ⟨S_, .f32⟩
  | .hbm, ⟨15, _⟩ => ⟨S1024x2x128, .f32⟩
  | .hbm, ⟨16, _⟩ => ⟨S1024x256, .f32⟩
  | .hbm, ⟨17, _⟩ => ⟨S1024x128, .f32⟩
  | .hbm, ⟨18, _⟩ => ⟨S1024x2x64, .f32⟩
  | .hbm, ⟨19, _⟩ => ⟨S_, .i32⟩
  | .hbm, ⟨20, _⟩ => ⟨S_, .f32⟩
  | .hbm, ⟨21, _⟩ => ⟨S1024x2x128, .f32⟩
  | .hbm, ⟨22, _⟩ => ⟨S1024x256, .f32⟩
  | .hbm, ⟨23, _⟩ => ⟨S1024x128, .f32⟩
  | .hbm, ⟨24, _⟩ => ⟨S1024x2x64, .f32⟩
  | .hbm, ⟨25, _⟩ => ⟨S_, .i32⟩
  | .hbm, ⟨26, _⟩ => ⟨S_, .f32⟩
  | .hbm, ⟨27, _⟩ => ⟨S1024x2x128, .f32⟩
  | .hbm, ⟨28, _⟩ => ⟨S1024x256, .f32⟩
  | .hbm, ⟨29, _⟩ => ⟨S1024x128, .f32⟩
  | .hbm, ⟨30, _⟩ => ⟨S1024x2x64, .f32⟩
  | .hbm, ⟨31, _⟩ => ⟨S_, .i32⟩
  | .hbm, ⟨32, _⟩ => ⟨S_, .f32⟩
  | .hbm, ⟨33, _⟩ => ⟨S1024x2x128, .f32⟩
  | .hbm, ⟨34, _⟩ => ⟨S1024x256, .f32⟩
  | .hbm, ⟨35, _⟩ => ⟨S1024x24, .f32⟩
  | .hbm, ⟨36, _⟩ => ⟨S1024x2x12, .f32⟩
  | .hbm, ⟨37, _⟩ => ⟨S_, .i32⟩
  | .hbm, ⟨38, _⟩ => ⟨S_, .f32⟩
  | .hbm, ⟨39, _⟩ => ⟨S1024x2x128, .f32⟩
  | .hbm, ⟨40, _⟩ => ⟨S1024x256, .f32⟩
  | .hbm, ⟨41, _⟩ => ⟨S1024x1024, .f32⟩
  | .hbm, ⟨42, _⟩ => ⟨S1024x3584, .f32⟩
  | .hbm, ⟨43, _⟩ => ⟨S1024x3584, .bf16⟩
  | .hbm, ⟨44, _⟩ => ⟨S16x4096x1024, .bf16⟩
  | .hbm, ⟨45, _⟩ => ⟨S16x4096x256, .f32⟩
  | .hbm, ⟨46, _⟩ => ⟨S16x4096x256, .bf16⟩
  | .hbm, ⟨47, _⟩ => ⟨S16x4096x256, .bf16⟩
  | .hbm, ⟨48, _⟩ => ⟨S16x4096x256, .bf16⟩
  | .hbm, ⟨49, _⟩ => ⟨S16x4096x256, .bf16⟩
  | .hbm, ⟨50, _⟩ => ⟨S16x4096x256, .f32⟩
  | .hbm, ⟨51, _⟩ => ⟨S16x4096x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3584, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x256, .f32⟩
  | .local _ .vmem, ⟨7, _⟩ => ⟨S1x512x256, .f32⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | .local _ .vmem, ⟨13, _⟩ => ⟨S1x512x256, .bf16⟩
  | .local _ .vmem, ⟨14, _⟩ => ⟨S1x512x256, .bf16⟩
  | .local _ .vmem, ⟨15, _⟩ => ⟨S1x512x256, .bf16⟩
  | .local _ .vmem, ⟨16, _⟩ => ⟨S1x512x256, .f32⟩
  | .local _ .vmem, ⟨17, _⟩ => ⟨S1x512x256, .f32⟩
  | .local _ .vmem, ⟨18, _⟩ => ⟨S1x512x512, .f32⟩
  | .local _ .vmem, ⟨19, _⟩ => ⟨S1x512x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_call2_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_call3_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_call4_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_call5_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29_0 : Ref sig .tc := ⟨.hbm, 44, rfl⟩
abbrev main_v29_1 : Ref sig .tc := ⟨.hbm, 45, rfl⟩
abbrev main_v29_2 : Ref sig .tc := ⟨.hbm, 46, rfl⟩
abbrev main_v29_3 : Ref sig .tc := ⟨.hbm, 47, rfl⟩
abbrev main_v29_4 : Ref sig .tc := ⟨.hbm, 48, rfl⟩
abbrev main_v29_5 : Ref sig .tc := ⟨.hbm, 49, rfl⟩
abbrev main_v29_6 : Ref sig .tc := ⟨.hbm, 50, rfl⟩
abbrev main_v29_7 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel7Ideal.lean ====
variable {F : FTy → Type} [FloatOps F] [Named F]
def κ : String → Option EReal := fun
  | "qscale" => some (((Real.log 256)⁻¹ : ℝ) : EReal)
  | _ => none
-- ==== Reference7Ideal.lean ====
abbrev S16x4096x1024 : Shape := ⟨3, ![16, 4096, 1024]⟩
abbrev S1024 : Shape := ⟨1, ![1024]⟩
abbrev S1024x2328 : Shape := ⟨2, ![1024, 2328]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2328 : Shape := ⟨3, ![16, 4096, 2328]⟩
abbrev S16x4096x512 : Shape := ⟨3, ![16, 4096, 512]⟩
abbrev S16x4096x256 : Shape := ⟨3, ![16, 4096, 256]⟩
abbrev S16x4096x128 : Shape := ⟨3, ![16, 4096, 128]⟩
abbrev S16x4096x24 : Shape := ⟨3, ![16, 4096, 24]⟩
abbrev S16x4096x8x64 : Shape := ⟨4, ![16, 4096, 8, 64]⟩
abbrev S16x4096x8x128 : Shape := ⟨4, ![16, 4096, 8, 128]⟩
abbrev S16x4096x2x64 : Shape := ⟨4, ![16, 4096, 2, 64]⟩
abbrev S16x4096x2x128 : Shape := ⟨4, ![16, 4096, 2, 128]⟩
abbrev S16x4096x2x12 : Shape := ⟨4, ![16, 4096, 2, 12]⟩
abbrev S16x4096x2x1 : Shape := ⟨4, ![16, 4096, 2, 1]⟩
abbrev S16x4096x2x65 : Shape := ⟨4, ![16, 4096, 2, 65]⟩

abbrev nBuf : Space → Nat
  | .hbm => 87
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2328, .f32⟩
  | .hbm, ⟨3, _⟩ => ⟨S16x4096x1024, .f32⟩
  | .hbm, ⟨4, _⟩ => ⟨S_, .f32⟩
  | .hbm, ⟨5, _⟩ => ⟨S16x4096, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S16x4096x1, .f32⟩
  | .hbm, ⟨14, _⟩ => ⟨S16x4096x1024, .f32⟩
  | .hbm, ⟨15, _⟩ => ⟨S16x4096x1024, .f32⟩
  | .hbm, ⟨16, _⟩ => ⟨S1x1x1024, .f32⟩
  | .hbm, ⟨17, _⟩ => ⟨S16x4096x1024, .f32⟩
  | .hbm, ⟨18, _⟩ => ⟨S16x4096x1024, .f32⟩
  | .hbm, ⟨19, _⟩ => ⟨S16x4096x2328, .f32⟩
  | .hbm, ⟨20, _⟩ => ⟨S16x4096x512, .f32⟩
  | .hbm, ⟨21, _⟩ => ⟨S16x4096x256, .f32⟩
  | .hbm, ⟨22, _⟩ => ⟨S16x4096x128, .f32⟩
  | .hbm, ⟨23, _⟩ => ⟨S16x4096x128, .f32⟩
  | .hbm, ⟨24, _⟩ => ⟨S16x4096x128, .f32⟩
  | .hbm, ⟨25, _⟩ => ⟨S16x4096x128, .f32⟩
  | .hbm, ⟨26, _⟩ => ⟨S16x4096x24, .f32⟩
  | .hbm, ⟨27, _⟩ => ⟨S16x4096x512, .f32⟩
  | .hbm, ⟨28, _⟩ => ⟨S16x4096x512, .f32⟩
  | .hbm, ⟨29, _⟩ => ⟨S16x4096x512, .f32⟩
  | .hbm, ⟨30, _⟩ => ⟨S16x4096x512, .f32⟩
  | .hbm, ⟨31, _⟩ => ⟨S_, .f32⟩
  | .hbm, ⟨32, _⟩ => ⟨S16x4096x512, .f32⟩
  | .hbm, ⟨33, _⟩ => ⟨S16x4096x512, .f32⟩
  | .hbm, ⟨34, _⟩ => ⟨S_, .f32⟩
  | .hbm, ⟨35, _⟩ => ⟨S16x4096x512, .f32⟩
  | .hbm, ⟨36, _⟩ => ⟨S16x4096x512, .f32⟩
  | .hbm, ⟨37, _⟩ => ⟨S16x4096x512, .f32⟩
  | .hbm, ⟨38, _⟩ => ⟨S_, .f32⟩
  | .hbm, ⟨39, _⟩ => ⟨S16x4096x512, .f32⟩
  | .hbm, ⟨40, _⟩ => ⟨S16x4096x512, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S16x4096x512, .f32⟩
  | .hbm, ⟨45, _⟩ => ⟨S16x4096x512, .f32⟩
  | .hbm, ⟨46, _⟩ => ⟨S16x4096x8x64, .f32⟩
  | .hbm, ⟨47, _⟩ => ⟨S_, .i32⟩
  | .hbm, ⟨48, _⟩ => ⟨S_, .f32⟩
  | .hbm, ⟨49, _⟩ => ⟨S16x4096x8x128, .f32⟩
  | .hbm, ⟨50, _⟩ => ⟨S16x4096x1024, .f32⟩
  | .hbm, ⟨51, _⟩ => ⟨S16x4096x2x64, .f32⟩
  | .hbm, ⟨52, _⟩ => ⟨S_, .i32⟩
  | .hbm, ⟨53, _⟩ => ⟨S_, .f32⟩
  | .hbm, ⟨54, _⟩ => ⟨S16x4096x2x128, .f32⟩
  | .hbm, ⟨55, _⟩ => ⟨S16x4096x256, .f32⟩
  | .hbm, ⟨56, _⟩ => ⟨S16x4096x2x12, .f32⟩
  | .hbm, ⟨57, _⟩ => ⟨S_, .i32⟩
  | .hbm, ⟨58, _⟩ => ⟨S_, .f32⟩
  | .hbm, ⟨59, _⟩ => ⟨S16x4096x2x128, .f32⟩
  | .hbm, ⟨60, _⟩ => ⟨S16x4096x256, .f32⟩
  | .hbm, ⟨61, _⟩ => ⟨S16x4096x256, .f32⟩
  | .hbm, ⟨62, _⟩ => ⟨S16x4096x256, .f32⟩
  | .hbm, ⟨63, _⟩ => ⟨S_, .f32⟩
  | .hbm, ⟨64, _⟩ => ⟨S16x4096x256, .f32⟩
  | .hbm, ⟨65, _⟩ => ⟨S16x4096x256, .f32⟩
  | .hbm, ⟨66, _⟩ => ⟨S_, .f32⟩
  | .hbm, ⟨67, _⟩ => ⟨S16x4096x256, .f32⟩
  | .hbm, ⟨68, _⟩ => ⟨S16x4096x256, .f32⟩
  | .hbm, ⟨69, _⟩ => ⟨S_, .f32⟩
  | .hbm, ⟨70, _⟩ => ⟨S16x4096x2x1, .f32⟩
  | .hbm, ⟨71, _⟩ => ⟨S16x4096x2x64, .f32⟩
  | .hbm, ⟨72, _⟩ => ⟨S16x4096x2x65, .f32⟩
  | .hbm, ⟨73, _⟩ => ⟨S_, .i32⟩
  | .hbm, ⟨74, _⟩ => ⟨S_, .f32⟩
  | .hbm, ⟨75, _⟩ => ⟨S16x4096x2x128, .f32⟩
  | .hbm, ⟨76, _⟩ => ⟨S16x4096x256, .f32⟩
  | .hbm, ⟨77, _⟩ => ⟨S16x4096x2x64, .f32⟩
  | .hbm, ⟨78, _⟩ => ⟨S16x4096x2x65, .f32⟩
  | .hbm, ⟨79, _⟩ => ⟨S_, .i32⟩
  | .hbm, ⟨80, _⟩ => ⟨S_, .f32⟩
  | .hbm, ⟨81, _⟩ => ⟨S16x4096x2x128, .f32⟩
  | .hbm, ⟨82, _⟩ => ⟨S16x4096x256, .f32⟩
  | .hbm, ⟨83, _⟩ => ⟨S16x4096x1024, .bf16⟩
  | .hbm, ⟨84, _⟩ => ⟨S16x4096x256, .bf16⟩
  | .hbm, ⟨85, _⟩ => ⟨S16x4096x256, .bf16⟩
  | .hbm, ⟨86, _⟩ => ⟨S16x4096x256, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c : Ref sig .tc := ⟨.hbm, 47, rfl⟩
abbrev main_call0_v0 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_6 : Ref sig .tc := ⟨.hbm, 52, rfl⟩
abbrev main_call1_v0 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_7 : Ref sig .tc := ⟨.hbm, 57, rfl⟩
abbrev main_call2_v0 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_11 : Ref sig .tc := ⟨.hbm, 73, rfl⟩
abbrev main_call3_v0 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_12 : Ref sig .tc := ⟨.hbm, 79, rfl⟩
abbrev main_call4_v0 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Proof.Body.lean ====
/- What one grid point of the channel mixer writes, as terms over the blocks it reads: the block of the result, built up
   over the three blocks of hidden columns, and the last eight gate rows of each, kept for the point after it. -/
module

public import proofs.«01_k».proof.Proof.Gen.KernelIdeal.Value
public import Idealize.ShloMosaic.Lib.Tactic.ValueTie
public import Idealize.ShloMosaic.Lib.Pointwise
public import Idealize.ShloMosaic.Lib.Pipeline.ReadBack

@[expose] public section
set_option maxRecDepth 16384
noncomputable section
namespace Cert.KernelIdeal.FfnBody
open Cert.KernelIdeal Cert.KernelIdeal.Gen Idealize.ShloMosaic Idealize.ShloMosaic.TcCoe Idealize.SL.Sem

variable {F : FTy → Type} [FloatOps F] [Named F]

/-- 512 rows read `o` rows down a buffer of eight rows `P` followed by 512 rows `G`. -/
def shift {w : ℕ} (o : ℕ) (P : Vec F ⟨3, ![1, 8, w]⟩ .f32) (G : Vec F ⟨3, ![1, 512, w]⟩ .f32) : Vec F ⟨3, ![1, 512, w]⟩ .f32 :=
  fun x => if h : (x 1).val + o < 8 then P (ix3 0 ⟨(x 1).val + o, h⟩ (x 2))
    else if h' : (x 1).val + o - 8 < 512 then G (ix3 0 ⟨(x 1).val + o - 8, h'⟩ (x 2)) else G x

theorem readCov_shift {sig' : RefSig} {κ : Kind} {sp : Space} (v : View sig' κ sp S2x520x1024 .f32) (b w o : ℕ) (ho : o ≤ 8)
    (i1 : ∀ a, (![b, 8, 0] : Fin 3 → ℕ) a + (![1, 512, w] : Fin 3 → ℕ) a ≤ S2x520x1024.size a)
    (i2 : ∀ a, (![b, 0, 0] : Fin 3 → ℕ) a + (![1, 8, w] : Fin 3 → ℕ) a ≤ S2x520x1024.size a)
    (i3 : ∀ a, (![b, o, 0] : Fin 3 → ℕ) a + (![1, 512, w] : Fin 3 → ℕ) a ≤ S2x520x1024.size a)
    (G : Vec F ⟨3, ![1, 512, w]⟩ .f32) (P : Vec F ⟨3, ![1, 8, w]⟩ .f32) (L : List (View.Piece (Elt F) S2x520x1024 .f32)) :
    v.readCov ((⟨Rect.unit (s := S2x520x1024) ![b, 8, 0] ![1, 512, w] i1, G⟩ : View.Piece (Elt F) S2x520x1024 .f32)
      :: (⟨Rect.unit (s := S2x520x1024) ![b, 0, 0] ![1, 8, w] i2, P⟩ : View.Piece (Elt F) S2x520x1024 .f32) :: L)
      (Rect.unit (s := S2x520x1024) ![b, o, 0] ![1, 512, w] i3).toLoadRect = shift (F := F) o P G := by
  rw [View.readCov_eq_canon']
  funext x
  have hx0 : (x 0).val = 0 := by have := (x 0).isLt; change (x 0).val < 1 at this; omega
  have hx1 : (x 1).val < 512 := (x 1).isLt
  unfold shift
  split_ifs with h h'
  · rw [View.canon_cons_of_not_mem]
    · have e : (Rect.unit (s := S2x520x1024) ![b, o, 0] ![1, 512, w] i3).toLoadRect.idx x
          = (Rect.unit (s := S2x520x1024) ![b, 0, 0] ![1, 8, w] i2).emb (ix3 0 ⟨(x 1).val + o, h⟩ (x 2)) := by
        funext a; apply Fin.ext; fin_cases a
        · show b + 1 * (x 0).val = b + 1 * 0; omega
        · show o + 1 * (x 1).val = 0 + 1 * ((x 1).val + o); omega
        · show 0 + 1 * (x 2).val = 0 + 1 * (x 2).val; omega
      rw [e, View.canon_cons_emb]
    · intro hm
      rw [Rect.mem_set_unit] at hm
      have := (hm 1).1
      change 8 ≤ o + 1 * (x 1).val at this
      omega
  · have e : (Rect.unit (s := S2x520x1024) ![b, o, 0] ![1, 512, w] i3).toLoadRect.idx x
          = (Rect.unit (s := S2x520x1024) ![b, 8, 0] ![1, 512, w] i1).emb (ix3 0 ⟨(x 1).val + o - 8, h'⟩ (x 2)) := by
        funext a; apply Fin.ext; fin_cases a
        · show b + 1 * (x 0).val = b + 1 * 0; omega
        · show o + 1 * (x 1).val = 8 + 1 * ((x 1).val + o - 8); omega
        · show 0 + 1 * (x 2).val = 0 + 1 * (x 2).val; omega
    rw [e, View.canon_cons_emb]
  · omega

/-- The three gate products of a block, chunk by chunk. -/
def gate0 (x0 : Vec F S1x512x1024 .f32) (x1 : Vec F S1x1024 .f32) (x2 : Vec F S1024x2816 .bf16) : FVec F S512x1024 .f32 :=
  k0_pay6 x0 x1 (View.ld x2 (Rect.unit ![0, 0] ![1024, 1024] inb_S1024x2816_S1024x1024_0_0))
def gate1 (x0 : Vec F S1x512x1024 .f32) (x1 : Vec F S1x1024 .f32) (x2 : Vec F S1024x2816 .bf16) : FVec F S512x1024 .f32 :=
  k0_pay8 x0 x1 (View.ld x2 (Rect.unit ![0, 1024] ![1024, 1024] inb_S1024x2816_S1024x1024_0_1024))
def gate2 (x0 : Vec F S1x512x1024 .f32) (x1 : Vec F S1x1024 .f32) (x2 : Vec F S1024x2816 .bf16) : FVec F S512x768 .f32 :=
  k0_pay15 (k0_pay3 x0 x1) (View.ld x2 (Rect.unit ![0, 2048] ![1024, 768] inb_S1024x2816_S1024x768_0_2048))

/-- The block's rows with the first chunk's contribution added. -/
def acc0 (x0 : Vec F S1x512x1024 .f32) (x1 : Vec F S1x1024 .f32) (x2 : Vec F S1024x2816 .bf16) (x3 : Vec F S1024x2816 .bf16) (x4 : Vec F S3x2816 .f32) (x5 : Vec F S1x2816 .f32) (x6 : Vec F S2816x1024 .bf16) (P : Vec F S1x8x1024 .f32) : Vec F S1x512x1024 .f32 :=
  k0_pay14 (k0_pay7 x0 x1 (View.ld x3 (Rect.unit ![0, 0] ![1024, 1024] inb_S1024x2816_S1024x1024_0_0)))
    (k0_pay13 (gate0 x0 x1 x2) (View.ld x4 (Rect.unit ![0, 0] ![1, 1024] inb_S3x2816_S1x1024_0_0))
      (shift 6 (k0_pay10 P) (k0_pay11 (gate0 x0 x1 x2)))
      (View.ld x4 (Rect.unit ![1, 0] ![1, 1024] inb_S3x2816_S1x1024_1_0))
      (shift 7 (k0_pay10 P) (k0_pay11 (gate0 x0 x1 x2)))
      (View.ld x4 (Rect.unit ![2, 0] ![1, 1024] inb_S3x2816_S1x1024_2_0)))
    (View.ld x5 (Rect.unit ![0, 0] ![1, 1024] inb_S1x2816_S1x1024_0_0))
    (k0_pay5 x0)
    (View.ld x6 (Rect.unit ![0, 0] ![1024, 1024] inb_S2816x1024_S1024x1024_0_0))

/-- … the second chunk's. -/
def acc1 (x0 : Vec F S1x512x1024 .f32) (x1 : Vec F S1x1024 .f32) (x2 : Vec F S1024x2816 .bf16) (x3 : Vec F S1024x2816 .bf16) (x4 : Vec F S3x2816 .f32) (x5 : Vec F S1x2816 .f32) (x6 : Vec F S2816x1024 .bf16) (P : Vec F S1x8x1024 .f32) (a : Vec F S1x512x1024 .f32) : Vec F S1x512x1024 .f32 :=
  k0_pay21 (k0_pay20 (gate1 x0 x1 x2)
      (k0_pay9 (k0_pay3 x0 x1) (View.ld x3 (Rect.unit ![0, 1024] ![1024, 1024] inb_S1024x2816_S1024x1024_0_1024)))
      (View.ld x4 (Rect.unit ![0, 1024] ![1, 1024] inb_S3x2816_S1x1024_0_1024))
      (shift 6 (k0_pay17 P) (k0_pay18 (gate1 x0 x1 x2)))
      (View.ld x4 (Rect.unit ![1, 1024] ![1, 1024] inb_S3x2816_S1x1024_1_1024))
      (shift 7 (k0_pay17 P) (k0_pay18 (gate1 x0 x1 x2)))
      (View.ld x4 (Rect.unit ![2, 1024] ![1, 1024] inb_S3x2816_S1x1024_2_1024))
      (View.ld x5 (Rect.unit ![0, 1024] ![1, 1024] inb_S1x2816_S1x1024_0_1024)))
    a
    (View.ld x6 (Rect.unit ![1024, 0] ![1024, 1024] inb_S2816x1024_S1024x1024_1024_0))

/-- … the third chunk's. -/
def acc2 (x0 : Vec F S1x512x1024 .f32) (x1 : Vec F S1x1024 .f32) (x2 : Vec F S1024x2816 .bf16) (x3 : Vec F S1024x2816 .bf16) (x4 : Vec F S3x2816 .f32) (x5 : Vec F S1x2816 .f32) (x6 : Vec F S2816x1024 .bf16) (P : Vec F S1x8x768 .f32) (a : Vec F S1x512x1024 .f32) : Vec F S1x512x1024 .f32 :=
  k0_pay26 (gate2 x0 x1 x2)
    (k0_pay16 (k0_pay3 x0 x1) (View.ld x3 (Rect.unit ![0, 2048] ![1024, 768] inb_S1024x2816_S1024x768_0_2048)))
    (k0_pay25 (View.ld x4 (Rect.unit ![0, 2048] ![1, 768] inb_S3x2816_S1x768_0_2048))
      (shift 6 (k0_pay22 P) (k0_pay23 (gate2 x0 x1 x2))))
    (View.ld x4 (Rect.unit ![1, 2048] ![1, 768] inb_S3x2816_S1x768_1_2048))
    (shift 7 (k0_pay22 P) (k0_pay23 (gate2 x0 x1 x2)))
    (View.ld x4 (Rect.unit ![2, 2048] ![1, 768] inb_S3x2816_S1x768_2_2048))
    (View.ld x5 (Rect.unit ![0, 2048] ![1, 768] inb_S1x2816_S1x768_0_2048))
    a
    (View.ld x6 (Rect.unit ![2048, 0] ![768, 1024] inb_S2816x1024_S768x1024_2048_0))

/-- A block of rows with all three contributions, from the weights and the gate rows before it. -/
def sumBlock (x0 : Vec F S1x512x1024 .f32) (x1 : Vec F S1x1024 .f32) (x2 : Vec F S1024x2816 .bf16) (x3 : Vec F S1024x2816 .bf16) (x4 : Vec F S3x2816 .f32) (x5 : Vec F S1x2816 .f32) (x6 : Vec F S2816x1024 .bf16) (H : Vec F S3x8x1024 .f32) : Vec F S1x512x1024 .f32 :=
  acc2 x0 x1 x2 x3 x4 x5 x6 (View.ld H (Rect.unit ![2, 0, 0] ![1, 8, 768] inb_S3x8x1024_S1x8x768_2_0_0))
    (acc1 x0 x1 x2 x3 x4 x5 x6 (View.ld H (Rect.unit ![1, 0, 0] ![1, 8, 1024] inb_S3x8x1024_S1x8x1024_1_0_0))
      (acc0 x0 x1 x2 x3 x4 x5 x6 (View.ld H (Rect.unit ![0, 0, 0] ![1, 8, 1024] inb_S3x8x1024_S1x8x1024_0_0_0))))

/-- A block of the result: the norm of that. -/
def outBlock (x0 : Vec F S1x512x1024 .f32) (x1 : Vec F S1x1024 .f32) (x2 : Vec F S1024x2816 .bf16) (x3 : Vec F S1024x2816 .bf16) (x4 : Vec F S3x2816 .f32) (x5 : Vec F S1x2816 .f32) (x6 : Vec F S2816x1024 .bf16) (x7 : Vec F S1x1024 .f32) (H : Vec F S3x8x1024 .f32) : Vec F S1x512x1024 .f32 :=
  k0_pay1 (k0_pay27 (sumBlock x0 x1 x2 x3 x4 x5 x6 H)) (k0_pay28 (sumBlock x0 x1 x2 x3 x4 x5 x6 H)) x7

theorem z3 : (![0, 0, 0] : Fin 3 → ℕ) = fun _ => 0 := by funext a; fin_cases a <;> rfl
theorem z2 : (![0, 0] : Fin 2 → ℕ) = fun _ => 0 := by funext a; fin_cases a <;> rfl

theorem ld_row (X : Vec F S1x1024 .f32) : View.ld X (Rect.unit ![0, 0] ![1, 1024] inb_S1x1024_S1x1024_0_0) = X :=
  View.ld_unit_zero z2 _ X
theorem ld_blk (X : Vec F S1x512x1024 .f32) : View.ld X (Rect.unit ![0, 0, 0] ![1, 512, 1024] inb_S1x512x1024_S1x512x1024_0_0_0) = X :=
  View.ld_unit_zero z3 _ X
theorem canon_blk (w : Vec F S1x512x1024 .f32) (L : List (View.Piece (Elt F) S1x512x1024 .f32)) :
    View.canon ((⟨Rect.unit ![0, 0, 0] ![1, 512, 1024] inb_S1x512x1024_S1x512x1024_0_0_0, w⟩ : View.Piece (Elt F) S1x512x1024 .f32) :: L) = w :=
  View.canon_cons_unit_zero z3 _ w L

/-- A load of one plane of the carried rows passes over a store of another plane. -/
theorem readCov_plane {sig' : RefSig} {κ : Kind} {sp : Space} (v : View sig' κ sp S3x8x1024 .f32) (a b w w' : ℕ) (hab : a ≠ b)
    (i1 : ∀ d, (![a, 0, 0] : Fin 3 → ℕ) d + (![1, 8, w] : Fin 3 → ℕ) d ≤ S3x8x1024.size d)
    (i2 : ∀ d, (![b, 0, 0] : Fin 3 → ℕ) d + (![1, 8, w'] : Fin 3 → ℕ) d ≤ S3x8x1024.size d)
    (p : Vec F ⟨3, ![1, 8, w]⟩ .f32) (L : List (View.Piece (Elt F) S3x8x1024 .f32)) :
    v.readCov ((⟨Rect.unit (s := S3x8x1024) ![a, 0, 0] ![1, 8, w] i1, p⟩ : View.Piece (Elt F) S3x8x1024 .f32) :: L)
      (Rect.unit (s := S3x8x1024) ![b, 0, 0] ![1, 8, w'] i2).toLoadRect
      = v.readCov L (Rect.unit (s := S3x8x1024) ![b, 0, 0] ![1, 8, w'] i2).toLoadRect := by
  rw [View.readCov_eq_canon', View.readCov_eq_canon']
  funext x
  have hx : (x 0).val < 1 := (x 0).isLt
  apply View.canon_cons_of_not_mem
  intro hm
  rw [Rect.mem_set_unit] at hm
  have h1 := (hm 0).1
  have h2 := (hm 0).2
  change a ≤ b + 1 * (x 0).val at h1
  change b + 1 * (x 0).val < a + 1 at h2
  omega

/-- A load of one plane after the whole was filled. -/
theorem readCov_plane_fill {sig' : RefSig} {κ : Kind} {sp : Space} (v : View sig' κ sp S3x8x1024 .f32) (b w' : ℕ)
    (i2 : ∀ d, (![b, 0, 0] : Fin 3 → ℕ) d + (![1, 8, w'] : Fin 3 → ℕ) d ≤ S3x8x1024.size d) (Z : Vec F S3x8x1024 .f32) :
    v.readCov [(⟨Rect.unit ![0, 0, 0] ![3, 8, 1024] inb_S3x8x1024_S3x8x1024_0_0_0, Z⟩ : View.Piece (Elt F) S3x8x1024 .f32)]
      (Rect.unit (s := S3x8x1024) ![b, 0, 0] ![1, 8, w'] i2).toLoadRect
      = View.ld Z (Rect.unit (s := S3x8x1024) ![b, 0, 0] ![1, 8, w'] i2) := by
  rw [View.readCov_eq_canon', Idealize.ShloMosaic.View.canon_unit_zero z3]

/-- The rows a point leaves for the next: what the last stores of the three chunks put there, whatever lay below. -/
structure Kept (H : Vec F S3x8x1024 .f32) (x0 : Vec F S1x512x1024 .f32) (x1 : Vec F S1x1024 .f32) (x2 : Vec F S1024x2816 .bf16) : Prop where
  h0 : View.ld H (Rect.unit ![0, 0, 0] ![1, 8, 1024] inb_S3x8x1024_S1x8x1024_0_0_0) = k0_pay12 (gate0 x0 x1 x2)
  h1 : View.ld H (Rect.unit ![1, 0, 0] ![1, 8, 1024] inb_S3x8x1024_S1x8x1024_1_0_0) = k0_pay19 (gate1 x0 x1 x2)
  h2 : View.ld H (Rect.unit ![2, 0, 0] ![1, 8, 768] inb_S3x8x1024_S1x8x768_2_0_0) = k0_pay24 (gate2 x0 x1 x2)

theorem kept_of {sig' : RefSig} {κ : Kind} {sp : Space} (v : View sig' κ sp S3x8x1024 .f32) (f : v.ty.Contents (Elt F))
    (x0 : Vec F S1x512x1024 .f32) (x1 : Vec F S1x1024 .f32) (x2 : Vec F S1024x2816 .bf16) (L : List (View.Piece (Elt F) S3x8x1024 .f32)) :
    Kept (v.read (Elt F) (v.writes (Elt F) f
      ((⟨Rect.unit ![2, 0, 0] ![1, 8, 768] inb_S3x8x1024_S1x8x768_2_0_0, k0_pay24 (gate2 x0 x1 x2)⟩ : View.Piece (Elt F) S3x8x1024 .f32)
      :: (⟨Rect.unit ![1, 0, 0] ![1, 8, 1024] inb_S3x8x1024_S1x8x1024_1_0_0, k0_pay19 (gate1 x0 x1 x2)⟩ : View.Piece (Elt F) S3x8x1024 .f32)
      :: (⟨Rect.unit ![0, 0, 0] ![1, 8, 1024] inb_S3x8x1024_S1x8x1024_0_0_0, k0_pay12 (gate0 x0 x1 x2)⟩ : View.Piece (Elt F) S3x8x1024 .f32) :: L))) x0 x1 x2 := by
  refine ⟨?_, ?_, ?_⟩
  · funext x
    show v.read (Elt F) _ ((Rect.unit ![0, 0, 0] ![1, 8, 1024] inb_S3x8x1024_S1x8x1024_0_0_0).emb x) = _
    have hx : (x 0).val < 1 := (x 0).isLt
    rw [View.read_writes_cons_miss, View.read_writes_cons_miss, View.read_writes_cons_emb]
    · rw [Rect.mem_set_unit]; intro hm
      have := (hm 0).1
      change 1 ≤ 0 + 1 * (x 0).val at this
      omega
    · rw [Rect.mem_set_unit]; intro hm
      have := (hm 0).1
      change 2 ≤ 0 + 1 * (x 0).val at this
      omega
  · funext x
    show v.read (Elt F) _ ((Rect.unit ![1, 0, 0] ![1, 8, 1024] inb_S3x8x1024_S1x8x1024_1_0_0).emb x) = _
    have hx : (x 0).val < 1 := (x 0).isLt
    rw [View.read_writes_cons_miss, View.read_writes_cons_emb]
    rw [Rect.mem_set_unit]; intro hm
    have := (hm 0).1
    change 2 ≤ 1 + 1 * (x 0).val at this
    omega
  · funext x
    show v.read (Elt F) _ ((Rect.unit ![2, 0, 0] ![1, 8, 768] inb_S3x8x1024_S1x8x768_2_0_0).emb x) = _
    rw [View.read_writes_cons_emb]

theorem out_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S2x520x1024 .f32) (harg11 : arg11.IsWhole) (arg12 : Memref sig .tc .vmem S3x8x1024 .f32) (harg12 : arg12.IsWhole) (hc0 : ¬cond0_0 i)
    (x0 : Vec F S1x512x1024 .f32) (x1 : Vec F S1x1024 .f32) (x2 : Vec F S1024x2816 .bf16) (x3 : Vec F S1024x2816 .bf16) (x4 : Vec F S3x2816 .f32) (x5 : Vec F S1x2816 .f32) (x6 : Vec F S2816x1024 .bf16) (x7 : Vec F S1x1024 .f32) (xs1 : Vec F S3x8x1024 .f32) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs1 = outBlock x0 x1 x2 x3 x4 x5 x6 x7 xs1 := by
  unfold out0_B_8
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread, harg12.read_unread, View.readCov_cons_toLoadRect, canon_blk]
  rw [ld_row, ld_row, ld_blk]
  simp only [readCov_shift _ _ _ 6 (by decide), readCov_shift _ _ _ 7 (by decide)]
  rfl

theorem out_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S2x520x1024 .f32) (harg11 : arg11.IsWhole) (arg12 : Memref sig .tc .vmem S3x8x1024 .f32) (harg12 : arg12.IsWhole) (hc0 : cond0_0 i)
    (x0 : Vec F S1x512x1024 .f32) (x1 : Vec F S1x1024 .f32) (x2 : Vec F S1024x2816 .bf16) (x3 : Vec F S1024x2816 .bf16) (x4 : Vec F S3x2816 .f32) (x5 : Vec F S1x2816 .f32) (x6 : Vec F S2816x1024 .bf16) (x7 : Vec F S1x1024 .f32) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 x7 = outBlock x0 x1 x2 x3 x4 x5 x6 x7 k0_pay4 := by
  unfold out0_A_8
  rw [View.read_writes_junk_eq_canon]
  unfold kernelRun0_A
  dsimp only
  sl_unfold_words
  simp only [View.readAt_eq_ld, harg2.read_unread, harg3.read_unread, harg4.read_unread, harg5.read_unread, harg6.read_unread, harg7.read_unread, harg8.read_unread, harg9.read_unread, harg12.read_unread, View.readCov_cons_toLoadRect, canon_blk, readCov_plane _ 1 2 _ _ (by decide), readCov_plane _ 0 2 _ _ (by decide), readCov_plane _ 0 1 _ _ (by decide), readCov_plane_fill]
  rw [ld_row, ld_row, ld_blk]
  simp only [readCov_shift _ _ _ 6 (by decide), readCov_shift _ _ _ 7 (by decide)]
  rfl

theorem kept_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S2x520x1024 .f32) (harg11 : arg11.IsWhole) (arg12 : Memref sig .tc .vmem S3x8x1024 .f32) (harg12 : arg12.IsWhole) (hc0 : ¬cond0_0 i)
    (x0 : Vec F S1x512x1024 .f32) (x1 : Vec F S1x1024 .f32) (x2 : Vec F S1024x2816 .bf16) (x3 : Vec F S1024x2816 .bf16) (x4 : Vec F S3x2816 .f32) (x5 : Vec F S1x2816 .f32) (x6 : Vec F S2816x1024 .bf16) (x7 : Vec F S1x1024 .f32) (xs1 : Vec F S3x8x1024 .f32) :
    Kept (sout0_B_1 c i arg2 harg2 arg3 harg3 arg4 harg4 arg5 harg5 arg6 harg6 arg7 harg7 arg8 harg8 arg9 harg9 arg10 harg10 arg11 harg11 arg12 harg12 hc0 x0 x1 x2 x3 x4 x5 x6 x7 xs1) x0 x1 x2 := by
  unfold sout0_B_1
  unfold kernelRun0_B
  dsimp only
  sl_unfold_words
  simp only [View.readAt_eq_ld, harg2.read_unread, harg3.read_unread, harg4.read_unread]
  rw [ld_row, ld_blk]
  exact kept_of _ _ _ _ _ _

theorem kept_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S2x520x1024 .f32) (harg11 : arg11.IsWhole) (arg12 : Memref sig .tc .vmem S3x8x1024 .f32) (harg12 : arg12.IsWhole) (hc0 : cond0_0 i)
    (x0 : Vec F S1x512x1024 .f32) (x1 : Vec F S1x1024 .f32) (x2 : Vec F S1024x2816 .bf16) (x3 : Vec F S1024x2816 .bf16) (x4 : Vec F S3x2816 .f32) (x5 : Vec F S1x2816 .f32) (x6 : Vec F S2816x1024 .bf16) (x7 : Vec F S1x1024 .f32) :
    Kept (sout0_A_1 c i arg2 harg2 arg3 harg3 arg4 harg4 arg5 harg5 arg6 harg6 arg7 harg7 arg8 harg8 arg9 harg9 arg10 harg10 arg11 harg11 arg12 harg12 hc0 x0 x1 x2 x3 x4 x5 x6 x7) x0 x1 x2 := by
  unfold sout0_A_1
  unfold kernelRun0_A
  dsimp only
  sl_unfold_words
  simp only [View.readAt_eq_ld, harg2.read_unread, harg3.read_unread, harg4.read_unread]
  rw [ld_row, ld_blk]
  exact kept_of _ _ _ _ _ _

end Cert.KernelIdeal.FfnBody
end
end
-- ==== Proof.Spec.lean ====
/- The channel mixer as a formula over extended reals: a row normalised by its root mean square, the two projections, a
   causal convolution of three taps over the gate, the gated activation, the way back down, and the norm of the sum. -/
module

public import Idealize.ShloMosaic.PureOps.Ideal
public import Idealize.ShloMosaic.PureOps.Ideal.Laws

@[expose] public section
noncomputable section
namespace Cert.FfnSpec
open Idealize.ShloMosaic

/-- The width of a row, as a number of the program: 1024. -/
abbrev width : EReal := Ideal.ofBits .f32 0x44800000#32
/-- The small number added to a mean square. -/
abbrev eps : EReal := Ideal.ofBits .f32 0x358637BD#32
abbrev half : EReal := Ideal.ofBits .f32 0x3F000000#32
/-- One over the square root of two. -/
abbrev root : EReal := (((Real.sqrt 2)⁻¹ : ℝ) : EReal)

/-- A row over its root mean square, times a weight. -/
def rms (x g : Fin 1024 → EReal) (k : Fin 1024) : EReal :=
  x k * Ideal.rsqrt (Ideal.div (∑ j : Fin 1024, x j * x j) width + eps) * g k

/-- A row times a column of a matrix of 2816 columns. -/
def proj (h : Fin 1024 → EReal) (w : Fin 1024 → Fin 2816 → EReal) (j : Fin 2816) : EReal := ∑ k : Fin 1024, h k * w k j

/-- Three taps and a bias. -/
def conv (a b c w0 w1 w2 bias : EReal) : EReal := w0 * a + w1 * b + w2 * c + bias

/-- The gate through the Gaussian unit, times the up projection. -/
def act (v u : EReal) : EReal := half * v * (1 + Ideal.erf (v * root)) * u

/-- The sum of a row and what the mixer makes of it: `g2`, `g1` are the gate two rows and one row above, `g0` the row's own. -/
def mixed (x : Fin 1024 → EReal) (g2 g1 g0 up : Fin 2816 → EReal) (cw : Fin 3 → Fin 2816 → EReal) (cb : Fin 2816 → EReal)
    (wd : Fin 2816 → Fin 1024 → EReal) (n : Fin 1024) : EReal :=
  x n + ∑ j : Fin 2816, act (conv (g2 j) (g1 j) (g0 j) (cw 0 j) (cw 1 j) (cw 2 j) (cb j)) (up j) * wd j n

/-- A sum over 2816 columns by blocks of 1024, 1024 and 768. -/
theorem sum_blocks (f : Fin 2816 → EReal) :
    ∑ j : Fin 2816, f j = (∑ j : Fin 1024, f ⟨j.val, by omega⟩) + (∑ j : Fin 1024, f ⟨1024 + j.val, by omega⟩)
      + ∑ j : Fin 768, f ⟨2048 + j.val, by omega⟩ := by
  have e := Fin.sum_univ_add (a := 2048) (b := 768) f
  have e' := Fin.sum_univ_add (a := 1024) (b := 1024) (fun i : Fin 2048 => f (Fin.castAdd 768 i))
  refine e.trans (congrArg (· + _) e')

/-- A projected row of the whole input. -/
def row (X : Fin 16 → Fin 4096 → Fin 1024 → EReal) (g : Fin 1024 → EReal) (w : Fin 1024 → Fin 2816 → EReal) (b : Fin 16) (s : Fin 4096) :
    Fin 2816 → EReal :=
  proj (rms (X b s) g) w

/-- The projected row `d` places above, zero where there is none. -/
def above (d : ℕ) (X : Fin 16 → Fin 4096 → Fin 1024 → EReal) (g : Fin 1024 → EReal) (w : Fin 1024 → Fin 2816 → EReal) (b : Fin 16)
    (s : Fin 4096) (j : Fin 2816) : EReal :=
  if h : d ≤ s.val then row X g w b ⟨s.val - d, by omega⟩ j else 0

/-- The mixer over the whole input, before the last norm. -/
def mixAt (X : Fin 16 → Fin 4096 → Fin 1024 → EReal) (g : Fin 1024 → EReal) (wg wu : Fin 1024 → Fin 2816 → EReal)
    (cw : Fin 3 → Fin 2816 → EReal) (cb : Fin 2816 → EReal) (wd : Fin 2816 → Fin 1024 → EReal) (b : Fin 16) (s : Fin 4096) :
    Fin 1024 → EReal :=
  mixed (X b s) (above 2 X g wg b s) (above 1 X g wg b s) (row X g wg b s) (row X g wu b s) cw cb wd

end Cert.FfnSpec
end
end
-- ==== Proof.Payload.lean ====
/- The same terms over extended reals, at an index: each block of hidden columns adds its part of the sum over all the
   columns, and the block of the result is the channel mixer's formula on its rows. -/
module

public import proofs.«01_k».proof.Proof.Body
public import proofs.«01_k».proof.Proof.Spec

@[expose] public section
set_option maxRecDepth 16384
noncomputable section
namespace Cert.KernelIdeal.FfnBody
open Cert.KernelIdeal Cert.KernelIdeal.Gen Idealize.ShloMosaic Idealize.ShloMosaic.TcCoe Idealize.SL.Sem Cert.FfnSpec

theorem named_root : Named.named (F := Ideal) Cert.KernelIdeal.κ "rsqrt2" (φ := .f32) 0x3F3504F3#32 = root :=
  IdealRules.named_const.ideal_named_scalar _ _ _ _ rfl

/-- A row of the block, normalised. -/
def hrow (x0 : Vec Ideal S1x512x1024 .f32) (x1 : Vec Ideal S1x1024 .f32) (r : Fin 512) : Fin 1024 → EReal :=
  rms (fun j => x0 (ix3 0 r j)) (fun j => x1 (ix2 0 j))

/-- A projection of a row of the block. -/
def prow (x0 : Vec Ideal S1x512x1024 .f32) (x1 : Vec Ideal S1x1024 .f32) (w : Vec Ideal S1024x2816 .bf16) (r : Fin 512) : Fin 2816 → EReal :=
  proj (hrow x0 x1 r) (fun k j => w (ix2 k j))

/-- The gate `8 - o` rows above a row: in the rows kept from the block before where the block itself has none. -/
def tap (o : ℕ) (P : Fin 8 → Fin 2816 → EReal) (G : Fin 512 → Fin 2816 → EReal) (r : Fin 512) (j : Fin 2816) : EReal :=
  if h : r.val + o < 8 then P ⟨r.val + o, h⟩ j else G ⟨r.val + o - 8 - (r.val + o - 8 - r.val), by omega⟩ j

theorem norm_apply (x0 : Vec Ideal S1x512x1024 .f32) (x1 : Vec Ideal S1x1024 .f32) (r : Fin 512) (k : Fin 1024) :
    k0_pay3 (F := Ideal) x0 x1 (ix2 r k) = hrow x0 x1 r k := by
  pointwise [k0_pay3, k0_pay2]
  rfl

theorem gate0_apply (x0 : Vec Ideal S1x512x1024 .f32) (x1 : Vec Ideal S1x1024 .f32) (x2 : Vec Ideal S1024x2816 .bf16) (r : Fin 512) (j : Fin 1024) : gate0 (F := Ideal) x0 x1 x2 (ix2 r j) = prow x0 x1 x2 r ⟨j.val, by omega⟩ := by
  pointwise [gate0, k0_pay6, dot_S512x1024_S1024x1024_S512x1024_1_0_0_1_n_n, norm_apply]
  rfl
theorem gate1_apply (x0 : Vec Ideal S1x512x1024 .f32) (x1 : Vec Ideal S1x1024 .f32) (x2 : Vec Ideal S1024x2816 .bf16) (r : Fin 512) (j : Fin 1024) : gate1 (F := Ideal) x0 x1 x2 (ix2 r j) = prow x0 x1 x2 r ⟨1024 + j.val, by omega⟩ := by
  pointwise [gate1, k0_pay8, dot_S512x1024_S1024x1024_S512x1024_1_0_0_1_n_n, norm_apply]
  rfl
theorem gate2_apply (x0 : Vec Ideal S1x512x1024 .f32) (x1 : Vec Ideal S1x1024 .f32) (x2 : Vec Ideal S1024x2816 .bf16) (r : Fin 512) (j : Fin 768) : gate2 (F := Ideal) x0 x1 x2 (ix2 r j) = prow x0 x1 x2 r ⟨2048 + j.val, by omega⟩ := by
  pointwise [gate2, k0_pay15, dot_S512x1024_S1024x768_S512x768_1_0_0_1_n_n, norm_apply]
  rfl
theorem up0_apply (x0 : Vec Ideal S1x512x1024 .f32) (x1 : Vec Ideal S1x1024 .f32) (x2 : Vec Ideal S1024x2816 .bf16) (r : Fin 512) (j : Fin 1024) :
    k0_pay7 (F := Ideal) x0 x1 (View.ld x2 (Rect.unit ![0, 0] ![1024, 1024] inb_S1024x2816_S1024x1024_0_0)) (ix2 r j) = prow x0 x1 x2 r ⟨j.val, by omega⟩ := by
  pointwise [k0_pay7, dot_S512x1024_S1024x1024_S512x1024_1_0_0_1_n_n, norm_apply]
  rfl
theorem up1_apply (x0 : Vec Ideal S1x512x1024 .f32) (x1 : Vec Ideal S1x1024 .f32) (x2 : Vec Ideal S1024x2816 .bf16) (r : Fin 512) (j : Fin 1024) :
    k0_pay9 (F := Ideal) (k0_pay3 x0 x1) (View.ld x2 (Rect.unit ![0, 1024] ![1024, 1024] inb_S1024x2816_S1024x1024_0_1024)) (ix2 r j) = prow x0 x1 x2 r ⟨1024 + j.val, by omega⟩ := by
  pointwise [k0_pay9, dot_S512x1024_S1024x1024_S512x1024_1_0_0_1_n_n, norm_apply]
  rfl
theorem up2_apply (x0 : Vec Ideal S1x512x1024 .f32) (x1 : Vec Ideal S1x1024 .f32) (x2 : Vec Ideal S1024x2816 .bf16) (r : Fin 512) (j : Fin 768) :
    k0_pay16 (F := Ideal) (k0_pay3 x0 x1) (View.ld x2 (Rect.unit ![0, 2048] ![1024, 768] inb_S1024x2816_S1024x768_0_2048)) (ix2 r j) = prow x0 x1 x2 r ⟨2048 + j.val, by omega⟩ := by
  pointwise [k0_pay16, dot_S512x1024_S1024x768_S512x768_1_0_0_1_n_n, norm_apply]
  rfl

theorem shift_apply {w : ℕ} (o : ℕ) (ho : o ≤ 8) (P : Vec Ideal ⟨3, ![1, 8, w]⟩ .f32) (G : Vec Ideal ⟨3, ![1, 512, w]⟩ .f32) (r : Fin 512) (j : Fin w) :
    shift (F := Ideal) o P G (ix3 0 r j) = if h : r.val + o < 8 then P (ix3 0 ⟨r.val + o, h⟩ j)
      else G (ix3 0 ⟨r.val + o - 8 - (r.val + o - 8 - r.val), by omega⟩ j) := by
  unfold shift
  by_cases h : r.val + o < 8
  · rw [dif_pos h, dif_pos (show ((ix3 0 r j : (⟨3, ![1, 512, w]⟩ : Shape).Idx) 1).val + o < 8 from h)]; rfl
  · have h' : r.val + o - 8 < 512 := by omega
    rw [dif_neg h, dif_neg (show ¬((ix3 0 r j : (⟨3, ![1, 512, w]⟩ : Shape).Idx) 1).val + o < 8 from h),
      dif_pos (show ((ix3 0 r j : (⟨3, ![1, 512, w]⟩ : Shape).Idx) 1).val + o - 8 < 512 from h')]
    have e : (⟨r.val + o - 8, h'⟩ : Fin 512) = ⟨r.val + o - 8 - (r.val + o - 8 - r.val), by omega⟩ := Fin.ext (by show r.val + o - 8 = r.val + o - 8 - (r.val + o - 8 - r.val); omega)
    show G (ix3 0 ⟨r.val + o - 8, h'⟩ j) = _
    rw [e]

theorem shift0_apply (o : ℕ) (ho : o ≤ 8) (x0 : Vec Ideal S1x512x1024 .f32) (x1 : Vec Ideal S1x1024 .f32) (x2 : Vec Ideal S1024x2816 .bf16) (Q : Fin 8 → Fin 2816 → EReal) (P : Vec Ideal S1x8x1024 .f32)
    (hP : ∀ (r : Fin 8) (j : Fin 1024), P (ix3 0 r j) = Q r ⟨j.val, by omega⟩) (r : Fin 512) (j : Fin 1024) :
    shift (F := Ideal) (w := 1024) o (k0_pay10 P) (k0_pay11 (gate0 x0 x1 x2)) (ix3 0 r j) = tap o Q (prow x0 x1 x2) r ⟨j.val, by omega⟩ := by
  rw [shift_apply o ho]
  unfold tap
  split_ifs with h
  · pointwise [k0_pay10]; exact hP _ _
  · pointwise [k0_pay11]; exact gate0_apply x0 x1 x2 _ _

theorem shift1_apply (o : ℕ) (ho : o ≤ 8) (x0 : Vec Ideal S1x512x1024 .f32) (x1 : Vec Ideal S1x1024 .f32) (x2 : Vec Ideal S1024x2816 .bf16) (Q : Fin 8 → Fin 2816 → EReal) (P : Vec Ideal S1x8x1024 .f32)
    (hP : ∀ (r : Fin 8) (j : Fin 1024), P (ix3 0 r j) = Q r ⟨1024 + j.val, by omega⟩) (r : Fin 512) (j : Fin 1024) :
    shift (F := Ideal) (w := 1024) o (k0_pay17 P) (k0_pay18 (gate1 x0 x1 x2)) (ix3 0 r j) = tap o Q (prow x0 x1 x2) r ⟨1024 + j.val, by omega⟩ := by
  rw [shift_apply o ho]
  unfold tap
  split_ifs with h
  · pointwise [k0_pay17]; exact hP _ _
  · pointwise [k0_pay18]; exact gate1_apply x0 x1 x2 _ _

theorem shift2_apply (o : ℕ) (ho : o ≤ 8) (x0 : Vec Ideal S1x512x1024 .f32) (x1 : Vec Ideal S1x1024 .f32) (x2 : Vec Ideal S1024x2816 .bf16) (Q : Fin 8 → Fin 2816 → EReal) (P : Vec Ideal S1x8x768 .f32)
    (hP : ∀ (r : Fin 8) (j : Fin 768), P (ix3 0 r j) = Q r ⟨2048 + j.val, by omega⟩) (r : Fin 512) (j : Fin 768) :
    shift (F := Ideal) (w := 768) o (k0_pay22 P) (k0_pay23 (gate2 x0 x1 x2)) (ix3 0 r j) = tap o Q (prow x0 x1 x2) r ⟨2048 + j.val, by omega⟩ := by
  rw [shift_apply o ho]
  unfold tap
  split_ifs with h
  · pointwise [k0_pay22]; exact hP _ _
  · pointwise [k0_pay23]; exact gate2_apply x0 x1 x2 _ _

/-- What the channel `j` of row `r` carries into the way down. -/
def cell (x0 : Vec Ideal S1x512x1024 .f32) (x1 : Vec Ideal S1x1024 .f32) (x2 : Vec Ideal S1024x2816 .bf16) (x3 : Vec Ideal S1024x2816 .bf16) (x4 : Vec Ideal S3x2816 .f32) (x5 : Vec Ideal S1x2816 .f32) (x6 : Vec Ideal S2816x1024 .bf16) (Q : Fin 8 → Fin 2816 → EReal) (r : Fin 512) (j : Fin 2816) : EReal :=
  act (conv (tap 6 Q (prow x0 x1 x2) r j) (tap 7 Q (prow x0 x1 x2) r j) (prow x0 x1 x2 r j) (x4 (ix2 0 j)) (x4 (ix2 1 j)) (x4 (ix2 2 j)) (x5 (ix2 0 j)))
    (prow x0 x1 x3 r j)

theorem acc0_apply (x0 : Vec Ideal S1x512x1024 .f32) (x1 : Vec Ideal S1x1024 .f32) (x2 : Vec Ideal S1024x2816 .bf16) (x3 : Vec Ideal S1024x2816 .bf16) (x4 : Vec Ideal S3x2816 .f32) (x5 : Vec Ideal S1x2816 .f32) (x6 : Vec Ideal S2816x1024 .bf16) (Q : Fin 8 → Fin 2816 → EReal) (P : Vec Ideal S1x8x1024 .f32)
    (hP : ∀ (r : Fin 8) (j : Fin 1024), P (ix3 0 r j) = Q r ⟨j.val, by omega⟩) (r : Fin 512) (n : Fin 1024) :
    acc0 (F := Ideal) x0 x1 x2 x3 x4 x5 x6 P (ix3 0 r n) = x0 (ix3 0 r n)
      + ∑ j : Fin 1024, cell x0 x1 x2 x3 x4 x5 x6 Q r ⟨j.val, by omega⟩ * x6 (ix2 ⟨j.val, by omega⟩ n) := by
  pointwise [acc0, k0_pay14, k0_pay13, k0_pay5, k0_pay2, dot_S512x1024_S1024x1024_S512x1024_1_0_0_1_n_n, gate0_apply, up0_apply, shift0_apply 6 (by decide) x0 x1 x2 Q P hP, shift0_apply 7 (by decide) x0 x1 x2 Q P hP]
  simp only [named_root]
  rfl

theorem acc1_apply (x0 : Vec Ideal S1x512x1024 .f32) (x1 : Vec Ideal S1x1024 .f32) (x2 : Vec Ideal S1024x2816 .bf16) (x3 : Vec Ideal S1024x2816 .bf16) (x4 : Vec Ideal S3x2816 .f32) (x5 : Vec Ideal S1x2816 .f32) (x6 : Vec Ideal S2816x1024 .bf16) (Q : Fin 8 → Fin 2816 → EReal) (P : Vec Ideal S1x8x1024 .f32) (a : Vec Ideal S1x512x1024 .f32)
    (hP : ∀ (r : Fin 8) (j : Fin 1024), P (ix3 0 r j) = Q r ⟨1024 + j.val, by omega⟩) (r : Fin 512) (n : Fin 1024) :
    acc1 (F := Ideal) x0 x1 x2 x3 x4 x5 x6 P a (ix3 0 r n) = a (ix3 0 r n)
      + ∑ j : Fin 1024, cell x0 x1 x2 x3 x4 x5 x6 Q r ⟨1024 + j.val, by omega⟩ * x6 (ix2 ⟨1024 + j.val, by omega⟩ n) := by
  pointwise [acc1, k0_pay21, k0_pay20, dot_S512x1024_S1024x1024_S512x1024_1_0_0_1_n_n, gate1_apply, up1_apply, shift1_apply 6 (by decide) x0 x1 x2 Q P hP, shift1_apply 7 (by decide) x0 x1 x2 Q P hP]
  simp only [named_root]
  rfl

theorem acc2_apply (x0 : Vec Ideal S1x512x1024 .f32) (x1 : Vec Ideal S1x1024 .f32) (x2 : Vec Ideal S1024x2816 .bf16) (x3 : Vec Ideal S1024x2816 .bf16) (x4 : Vec Ideal S3x2816 .f32) (x5 : Vec Ideal S1x2816 .f32) (x6 : Vec Ideal S2816x1024 .bf16) (Q : Fin 8 → Fin 2816 → EReal) (P : Vec Ideal S1x8x768 .f32) (a : Vec Ideal S1x512x1024 .f32)
    (hP : ∀ (r : Fin 8) (j : Fin 768), P (ix3 0 r j) = Q r ⟨2048 + j.val, by omega⟩) (r : Fin 512) (n : Fin 1024) :
    acc2 (F := Ideal) x0 x1 x2 x3 x4 x5 x6 P a (ix3 0 r n) = a (ix3 0 r n)
      + ∑ j : Fin 768, cell x0 x1 x2 x3 x4 x5 x6 Q r ⟨2048 + j.val, by omega⟩ * x6 (ix2 ⟨2048 + j.val, by omega⟩ n) := by
  pointwise [acc2, k0_pay26, k0_pay25, dot_S512x768_S768x1024_S512x1024_1_0_0_1_n_n, gate2_apply, up2_apply, shift2_apply 6 (by decide) x0 x1 x2 Q P hP, shift2_apply 7 (by decide) x0 x1 x2 Q P hP]
  simp only [named_root]
  rfl

/-- The gate rows a carried buffer holds. -/
structure Holds (H : Vec Ideal S3x8x1024 .f32) (Q : Fin 8 → Fin 2816 → EReal) : Prop where
  h0 : ∀ (r : Fin 8) (j : Fin 1024), View.ld H (Rect.unit ![0, 0, 0] ![1, 8, 1024] inb_S3x8x1024_S1x8x1024_0_0_0) (ix3 0 r j) = Q r ⟨j.val, by omega⟩
  h1 : ∀ (r : Fin 8) (j : Fin 1024), View.ld H (Rect.unit ![1, 0, 0] ![1, 8, 1024] inb_S3x8x1024_S1x8x1024_1_0_0) (ix3 0 r j) = Q r ⟨1024 + j.val, by omega⟩
  h2 : ∀ (r : Fin 8) (j : Fin 768), View.ld H (Rect.unit ![2, 0, 0] ![1, 8, 768] inb_S3x8x1024_S1x8x768_2_0_0) (ix3 0 r j) = Q r ⟨2048 + j.val, by omega⟩

/-- The three contributions together, at an index. -/
theorem sumBlock_apply (x0 : Vec Ideal S1x512x1024 .f32) (x1 : Vec Ideal S1x1024 .f32) (x2 : Vec Ideal S1024x2816 .bf16) (x3 : Vec Ideal S1024x2816 .bf16) (x4 : Vec Ideal S3x2816 .f32) (x5 : Vec Ideal S1x2816 .f32) (x6 : Vec Ideal S2816x1024 .bf16) (H : Vec Ideal S3x8x1024 .f32) (Q : Fin 8 → Fin 2816 → EReal) (hH : Holds H Q)
    (r : Fin 512) (n : Fin 1024) :
    sumBlock (F := Ideal) x0 x1 x2 x3 x4 x5 x6 H (ix3 0 r n)
      = mixed (fun j => x0 (ix3 0 r j)) (tap 6 Q (prow x0 x1 x2) r) (tap 7 Q (prow x0 x1 x2) r) (prow x0 x1 x2 r) (prow x0 x1 x3 r)
          (fun a j => x4 (ix2 a j)) (fun j => x5 (ix2 0 j)) (fun j n => x6 (ix2 j n)) n := by
  unfold sumBlock
  rw [acc2_apply x0 x1 x2 x3 x4 x5 x6 Q _ _ hH.h2, acc1_apply x0 x1 x2 x3 x4 x5 x6 Q _ _ hH.h1, acc0_apply x0 x1 x2 x3 x4 x5 x6 Q _ hH.h0]
  unfold mixed
  rw [sum_blocks, ← add_assoc, ← add_assoc]
  rfl

/-- A block of the result is the norm of that, row by row. -/
theorem outBlock_apply (x0 : Vec Ideal S1x512x1024 .f32) (x1 : Vec Ideal S1x1024 .f32) (x2 : Vec Ideal S1024x2816 .bf16) (x3 : Vec Ideal S1024x2816 .bf16) (x4 : Vec Ideal S3x2816 .f32) (x5 : Vec Ideal S1x2816 .f32) (x6 : Vec Ideal S2816x1024 .bf16) (x7 : Vec Ideal S1x1024 .f32) (H : Vec Ideal S3x8x1024 .f32)
    (r : Fin 512) (n : Fin 1024) :
    outBlock (F := Ideal) x0 x1 x2 x3 x4 x5 x6 x7 H (ix3 0 r n)
      = rms (fun n => sumBlock (F := Ideal) x0 x1 x2 x3 x4 x5 x6 H (ix3 0 r n)) (fun j => x7 (ix2 0 j)) n := by
  unfold rms outBlock
  pointwise [k0_pay1, k0_pay27, k0_pay28]

/-- The rows a point leaves are the last eight gate rows of its block. -/
theorem Kept.holds {H : Vec Ideal S3x8x1024 .f32} {x0 : Vec Ideal S1x512x1024 .f32} {x1 : Vec Ideal S1x1024 .f32} {x2 : Vec Ideal S1024x2816 .bf16} (h : Kept (F := Ideal) H x0 x1 x2) :
    Holds H (fun r j => prow x0 x1 x2 ⟨504 + r.val, by omega⟩ j) where
  h0 r j := by rw [h.h0]; pointwise [k0_pay12]; exact gate0_apply x0 x1 x2 _ _
  h1 r j := by rw [h.h1]; pointwise [k0_pay19]; exact gate1_apply x0 x1 x2 _ _
  h2 r j := by rw [h.h2]; pointwise [k0_pay24]; exact gate2_apply x0 x1 x2 _ _

theorem zero_holds : Holds (k0_pay4 (F := Ideal)) (fun _ _ => 0) where
  h0 r j := by pointwise [k0_pay4]
  h1 r j := by pointwise [k0_pay4]
  h2 r j := by pointwise [k0_pay4]

end Cert.KernelIdeal.FfnBody
end
end
-- ==== Proof.Point.lean ====
/- What the kernel leaves in its result, at an index: the blocks a grid point reads, the rows the point before it kept, and
   from both the channel mixer's formula at a place of the whole array. -/
module

public import proofs.«01_k».proof.Proof.Payload
public import Idealize.ShloMosaic.Lib.StableHlo.ReadAt

@[expose] public section
set_option maxRecDepth 16384
noncomputable section
namespace Cert.KernelIdeal.FfnBody
open Cert.KernelIdeal Cert.KernelIdeal.Gen Idealize.ShloMosaic Idealize.ShloMosaic.TcCoe Idealize.SL.Sem Cert.FfnSpec

variable (m : (l : Loc nD τ sig) → Buf (Elt Ideal) l)

/-- The arguments of the kernel as functions of plain indices. -/
def aX (c : Dev nD) (b : Fin 16) (s : Fin 4096) (k : Fin 1024) : EReal := m ((c : Thread nD τ).loc main_arg0) (ix3 b s k)
def aG (c : Dev nD) (k : Fin 1024) : EReal := m ((c : Thread nD τ).loc main_arg1) (ix1 k)
def aWg (c : Dev nD) (k : Fin 1024) (j : Fin 2816) : EReal := m ((c : Thread nD τ).loc main_arg2) (ix2 k j)
def aWu (c : Dev nD) (k : Fin 1024) (j : Fin 2816) : EReal := m ((c : Thread nD τ).loc main_arg3) (ix2 k j)
def aCw (c : Dev nD) (a : Fin 3) (j : Fin 2816) : EReal := m ((c : Thread nD τ).loc main_arg4) (ix2 a j)
def aCb (c : Dev nD) (j : Fin 2816) : EReal := m ((c : Thread nD τ).loc main_arg5) (ix1 j)
def aWd (c : Dev nD) (j : Fin 2816) (n : Fin 1024) : EReal := m ((c : Thread nD τ).loc main_arg6) (ix2 j n)
def aFg (c : Dev nD) (n : Fin 1024) : EReal := m ((c : Thread nD τ).loc main_arg7) (ix1 n)

theorem lt128 (t : Fin cfg0.N) : t.val < 128 := lt_of_lt_of_eq t.isLt N_0

/-- The block indices of the input window: the batch and the block of rows. -/
theorem idx0 : ∀ t : Fin grid0.N, win0_0.index t (0 : Fin 3) = t.val / 8 ∧ win0_0.index t (1 : Fin 3) = t.val % 8 ∧ win0_0.index t (2 : Fin 3) = 0 := by
  decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = 0 ∧ win0_4.index t (1 : Fin 2) = 0 := by decide +kernel
theorem idx5 : ∀ t : Fin grid0.N, win0_5.index t (0 : Fin 2) = 0 ∧ win0_5.index t (1 : Fin 2) = 0 := by decide +kernel
theorem idx6 : ∀ t : Fin grid0.N, win0_6.index t (0 : Fin 2) = 0 ∧ win0_6.index t (1 : Fin 2) = 0 := by decide +kernel
theorem idx7 : ∀ t : Fin grid0.N, win0_7.index t (0 : Fin 2) = 0 ∧ win0_7.index t (1 : Fin 2) = 0 := by decide +kernel

theorem V0_at (c : Dev nD) (i : S1x1024.Idx) : V m c main_v0 i = m ((c : Thread nD τ).loc main_arg1) (ix1 (i 1)) := by
  unfold V; after_reads_at
theorem V1_at (c : Dev nD) (i : S1024x2816.Idx) : V m c main_v1 i = m ((c : Thread nD τ).loc main_arg2) i := by
  unfold V; after_reads_at
theorem V2_at (c : Dev nD) (i : S1024x2816.Idx) : V m c main_v2 i = m ((c : Thread nD τ).loc main_arg3) i := by
  unfold V; after_reads_at
theorem V3_at (c : Dev nD) (i : S1x2816.Idx) : V m c main_v3 i = m ((c : Thread nD τ).loc main_arg5) (ix1 (i 1)) := by
  unfold V; after_reads_at
theorem V4_at (c : Dev nD) (i : S2816x1024.Idx) : V m c main_v4 i = m ((c : Thread nD τ).loc main_arg6) i := by
  unfold V; after_reads_at
theorem V5_at (c : Dev nD) (i : S1x1024.Idx) : V m c main_v5 i = m ((c : Thread nD τ).loc main_arg7) (ix1 (i 1)) := by
  unfold V; after_reads_at

/-- A row of the block that a point reads is a row of the input. -/
theorem blk0 (c : Dev nD) (t : Fin cfg0.N) (r : Fin 512) (k : Fin 1024) :
    iblk m c 0 t (ix3 0 r k) = aX m c ⟨t.val / 8, by have := lt128 t; omega⟩ ⟨512 * (t.val % 8) + r.val, by omega⟩ k := by
  unfold iblk aX
  rw [View.read_apply]
  show V m c main_arg0 _ = _
  rw [V_main_arg0]
  congr 1
  funext a
  apply Fin.ext
  match a with
  | ⟨0, _⟩ => show win0_0.index t 0 * 1 + 1 * 0 = t.val / 8; rw [(idx0 t).1]; omega
  | ⟨1, _⟩ => show win0_0.index t 1 * 512 + 1 * r.val = 512 * (t.val % 8) + r.val; rw [(idx0 t).2.1]; omega
  | ⟨2, _⟩ => show win0_0.index t 2 * 1024 + 1 * k.val = k.val; rw [(idx0 t).2.2]; omega

theorem blk1 (c : Dev nD) (t : Fin cfg0.N) (k : Fin 1024) : iblk m c 1 t (ix2 0 k) = aG m c k := by
  unfold iblk aG
  rw [View.read_apply]
  refine (V0_at m c _).trans ?_
  congr 1
  funext a
  apply Fin.ext
  match a with
  | ⟨0, _⟩ => show win0_1.index t 1 * 1024 + 1 * k.val = k.val; rw [(idx1 t).2]; omega

theorem blk2 (c : Dev nD) (t : Fin cfg0.N) (k : Fin 1024) (j : Fin 2816) : iblk m c 2 t (ix2 k j) = aWg m c k j := by
  unfold iblk aWg
  rw [View.read_apply]
  refine (V1_at m c _).trans ?_
  congr 1
  funext a
  apply Fin.ext
  match a with
  | ⟨0, _⟩ => show win0_2.index t 0 * 1024 + 1 * k.val = k.val; rw [(idx2 t).1]; omega
  | ⟨1, _⟩ => show win0_2.index t 1 * 2816 + 1 * j.val = j.val; rw [(idx2 t).2]; omega

theorem blk3 (c : Dev nD) (t : Fin cfg0.N) (k : Fin 1024) (j : Fin 2816) : iblk m c 3 t (ix2 k j) = aWu m c k j := by
  unfold iblk aWu
  rw [View.read_apply]
  refine (V2_at m c _).trans ?_
  congr 1
  funext a
  apply Fin.ext
  match a with
  | ⟨0, _⟩ => show win0_3.index t 0 * 1024 + 1 * k.val = k.val; rw [(idx3 t).1]; omega
  | ⟨1, _⟩ => show win0_3.index t 1 * 2816 + 1 * j.val = j.val; rw [(idx3 t).2]; omega

theorem blk4 (c : Dev nD) (t : Fin cfg0.N) (k : Fin 3) (j : Fin 2816) : iblk m c 4 t (ix2 k j) = aCw m c k j := by
  unfold iblk aCw
  rw [View.read_apply]
  show V m c main_arg4 _ = _
  rw [V_main_arg4]
  congr 1
  funext a
  apply Fin.ext
  match a with
  | ⟨0, _⟩ => show win0_4.index t 0 * 3 + 1 * k.val = k.val; rw [(idx4 t).1]; omega
  | ⟨1, _⟩ => show win0_4.index t 1 * 2816 + 1 * j.val = j.val; rw [(idx4 t).2]; omega

theorem blk5 (c : Dev nD) (t : Fin cfg0.N) (j : Fin 2816) : iblk m c 5 t (ix2 0 j) = aCb m c j := by
  unfold iblk aCb
  rw [View.read_apply]
  refine (V3_at m c _).trans ?_
  congr 1
  funext a
  apply Fin.ext
  match a with
  | ⟨0, _⟩ => show win0_5.index t 1 * 2816 + 1 * j.val = j.val; rw [(idx5 t).2]; omega

theorem blk6 (c : Dev nD) (t : Fin cfg0.N) (j : Fin 2816) (n : Fin 1024) : iblk m c 6 t (ix2 j n) = aWd m c j n := by
  unfold iblk aWd
  rw [View.read_apply]
  refine (V4_at m c _).trans ?_
  congr 1
  funext a
  apply Fin.ext
  match a with
  | ⟨0, _⟩ => show win0_6.index t 0 * 2816 + 1 * j.val = j.val; rw [(idx6 t).1]; omega
  | ⟨1, _⟩ => show win0_6.index t 1 * 1024 + 1 * n.val = n.val; rw [(idx6 t).2]; omega

theorem blk7 (c : Dev nD) (t : Fin cfg0.N) (k : Fin 1024) : iblk m c 7 t (ix2 0 k) = aFg m c k := by
  unfold iblk aFg
  rw [View.read_apply]
  refine (V5_at m c _).trans ?_
  congr 1
  funext a
  apply Fin.ext
  match a with
  | ⟨0, _⟩ => show win0_7.index t 1 * 1024 + 1 * k.val = k.val; rw [(idx7 t).2]; omega

theorem fst_of {α β : Type} {p : α × β} {a : α} {b : β} (h : p = (a, b)) : p.1 = a := by rw [h]
theorem snd_of {α β : Type} {p : α × β} {a : α} {b : β} (h : p = (a, b)) : p.2 = b := by rw [h]

/-- The first block of a batch: what the point leaves in its result block and in the rows it keeps. -/
theorem outs_first (c : Dev nD) (t : Fin cfg0.N) (h0 : t.val % 8 = 0) :
    (outsAt0 m c t.val t.isLt).1 = outBlock (F := Ideal) (iblk m c 0 t) (iblk m c 1 t) (iblk m c 2 t) (iblk m c 3 t) (iblk m c 4 t) (iblk m c 5 t) (iblk m c 6 t) (iblk m c 7 t) (k0_pay4 (F := Ideal)) ∧ Kept (F := Ideal) (outsAt0 m c t.val t.isLt).2 (iblk m c 0 t) (iblk m c 1 t) (iblk m c 2 t) := by
  have e := outsAt0_A m c t h0
  have e0 := out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)
  have e1 := (fst_of e).trans e0
  have e2 := snd_of e
  exact ⟨e1, by rw [e2]; exact kept_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)⟩

/-- A later block: the same, over the rows the point before it kept. -/
theorem outs_later (c : Dev nD) (t : Fin cfg0.N) (h0 : ¬ t.val % 8 = 0) :
    (outsAt0 m c t.val t.isLt).1 = outBlock (F := Ideal) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2
      ∧ Kept (F := Ideal) (outsAt0 m c t.val t.isLt).2 (iblk m c 0 t) (iblk m c 1 t) (iblk m c 2 t) := by
  have e := outsAt0_B m c t h0
  have e0 := out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2
  have e1 := (fst_of e).trans e0
  have e2 := snd_of e
  exact ⟨e1, by rw [e2]; exact kept_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2⟩

/-- The rows a point leaves for the next one. -/
theorem keptAt (c : Dev nD) (t : Fin cfg0.N) :
    Kept (F := Ideal) (outsAt0 m c t.val t.isLt).2 (iblk m c 0 t) (iblk m c 1 t) (iblk m c 2 t) := by
  by_cases h0 : t.val % 8 = 0
  · exact (outs_first m c t h0).2
  · exact (outs_later m c t h0).2

/-- The projected rows of a point's block are rows of the whole input's projection. -/
theorem prow_at (c : Dev nD) (t : Fin cfg0.N) (w : Vec Ideal S1024x2816 .bf16) (W : Fin 1024 → Fin 2816 → EReal)
    (hW : ∀ k j, w (ix2 k j) = W k j) (r : Fin 512) :
    prow (iblk m c 0 t) (iblk m c 1 t) w r
      = row (aX m c) (aG m c) W ⟨t.val / 8, by have := lt128 t; omega⟩ ⟨512 * (t.val % 8) + r.val, by omega⟩ := by
  unfold prow hrow row
  simp only [blk0, blk1, hW]

theorem row_congr (X : Fin 16 → Fin 4096 → Fin 1024 → EReal) (g : Fin 1024 → EReal) (w : Fin 1024 → Fin 2816 → EReal) {b b' : Fin 16} {s s' : Fin 4096}
    (hb : b.val = b'.val) (hs : s.val = s'.val) : row X g w b s = row X g w b' s' := by
  obtain rfl := Fin.ext hb; obtain rfl := Fin.ext hs; rfl

/-- The taps of the first block of a batch. -/
theorem tap_first (c : Dev nD) (t : Fin cfg0.N) (h0 : t.val % 8 = 0) (o : ℕ) (d : ℕ) (ho : o + d = 8) (hd : 0 < d) (r : Fin 512) :
    tap o (fun _ _ => 0) (prow (iblk m c 0 t) (iblk m c 1 t) (iblk m c 2 t)) r
      = above d (aX m c) (aG m c) (aWg m c) ⟨t.val / 8, by have := lt128 t; omega⟩ ⟨512 * (t.val % 8) + r.val, by omega⟩ := by
  funext j
  unfold tap above
  by_cases h : r.val + o < 8
  · rw [dif_pos h, dif_neg (by show ¬ d ≤ 512 * (t.val % 8) + r.val; omega)]
  · rw [dif_neg h, dif_pos (by show d ≤ 512 * (t.val % 8) + r.val; omega), prow_at m c t _ (aWg m c) (blk2 m c t)]
    exact congrFun (row_congr _ _ _ rfl (by show 512 * (t.val % 8) + (r.val + o - 8 - (r.val + o - 8 - r.val)) = 512 * (t.val % 8) + r.val - d; omega)) j

/-- The taps of a later block: the block before kept its last eight rows. -/
theorem tap_later (c : Dev nD) (t t' : Fin cfg0.N) (h0 : ¬ t.val % 8 = 0) (ht : t'.val = t.val - 1) (o : ℕ) (d : ℕ) (ho : o + d = 8) (hd : 0 < d) (r : Fin 512) :
    tap o (fun r j => prow (iblk m c 0 t') (iblk m c 1 t') (iblk m c 2 t') ⟨504 + r.val, by omega⟩ j) (prow (iblk m c 0 t) (iblk m c 1 t) (iblk m c 2 t)) r
      = above d (aX m c) (aG m c) (aWg m c) ⟨t.val / 8, by have := lt128 t; omega⟩ ⟨512 * (t.val % 8) + r.val, by omega⟩ := by
  have hN := lt128 t
  funext j
  unfold tap above
  have hd' : d ≤ 512 * (t.val % 8) + r.val := by omega
  by_cases h : r.val + o < 8
  · rw [dif_pos h, dif_pos hd']
    show prow (iblk m c 0 t') (iblk m c 1 t') (iblk m c 2 t') ⟨504 + (r.val + o), _⟩ j = _
    rw [prow_at m c t' _ (aWg m c) (blk2 m c t')]
    exact congrFun (row_congr _ _ _ (by show t'.val / 8 = t.val / 8; omega) (by show 512 * (t'.val % 8) + (504 + (r.val + o)) = 512 * (t.val % 8) + r.val - d; omega)) j
  · rw [dif_neg h, dif_pos hd', prow_at m c t _ (aWg m c) (blk2 m c t)]
    exact congrFun (row_congr _ _ _ rfl (by show 512 * (t.val % 8) + (r.val + o - 8 - (r.val + o - 8 - r.val)) = 512 * (t.val % 8) + r.val - d; omega)) j

/-- What lies in the kept rows when a point starts: nothing before the first block of a batch, else what the point
   before it left. -/
def Before (c : Dev nD) (t : Fin cfg0.N) (H : Vec Ideal S3x8x1024 .f32) : Prop :=
  (t.val % 8 = 0 ∧ H = k0_pay4 (F := Ideal)) ∨ (¬ t.val % 8 = 0 ∧ ∃ t' : Fin cfg0.N, t'.val = t.val - 1 ∧ Kept (F := Ideal) H (iblk m c 0 t') (iblk m c 1 t') (iblk m c 2 t'))

/-- The sum a point builds up, at an index. -/
theorem sum_at (c : Dev nD) (t : Fin cfg0.N) (H : Vec Ideal S3x8x1024 .f32) (hH : Before m c t H) (r : Fin 512) (n : Fin 1024) :
    sumBlock (F := Ideal) (iblk m c 0 t) (iblk m c 1 t) (iblk m c 2 t) (iblk m c 3 t) (iblk m c 4 t) (iblk m c 5 t) (iblk m c 6 t) H (ix3 0 r n)
      = mixAt (aX m c) (aG m c) (aWg m c) (aWu m c) (aCw m c) (aCb m c) (aWd m c)
          ⟨t.val / 8, by have := lt128 t; omega⟩ ⟨512 * (t.val % 8) + r.val, by omega⟩ n := by
  unfold mixAt
  rcases hH with ⟨h0, rfl⟩ | ⟨h0, t', ht, hk⟩
  · rw [sumBlock_apply _ _ _ _ _ _ _ _ _ zero_holds, tap_first m c t h0 6 2 rfl (by omega), tap_first m c t h0 7 1 rfl (by omega),
      prow_at m c t _ (aWg m c) (blk2 m c t), prow_at m c t _ (aWu m c) (blk3 m c t)]
    simp only [blk0, blk4, blk5, blk6]
  · rw [sumBlock_apply _ _ _ _ _ _ _ _ _ hk.holds,
      tap_later m c t t' h0 ht 6 2 rfl (by omega), tap_later m c t t' h0 ht 7 1 rfl (by omega),
      prow_at m c t _ (aWg m c) (blk2 m c t), prow_at m c t _ (aWu m c) (blk3 m c t)]
    simp only [blk0, blk4, blk5, blk6]

/-- A point's block of the result, at an index. -/
theorem out_at (c : Dev nD) (t : Fin cfg0.N) (r : Fin 512) (n : Fin 1024) :
    (outsAt0 m c t.val t.isLt).1 (ix3 0 r n)
      = rms (mixAt (aX m c) (aG m c) (aWg m c) (aWu m c) (aCw m c) (aCb m c) (aWd m c)
          ⟨t.val / 8, by have := lt128 t; omega⟩ ⟨512 * (t.val % 8) + r.val, by omega⟩) (aFg m c) n := by
  by_cases h0 : t.val % 8 = 0
  · rw [(outs_first m c t h0).1, outBlock_apply]
    simp only [sum_at m c t _ (Or.inl ⟨h0, rfl⟩), blk7]
  · rw [(outs_later m c t h0).1, outBlock_apply]
    simp only [sum_at m c t _ (Or.inr ⟨h0, ⟨t.val - 1, Nat.lt_of_le_of_lt (Nat.sub_le _ _) t.isLt⟩, rfl, keptAt m c _⟩), blk7]

/-- The grid point that writes a place of the result, and the place within its block. -/
theorem place (b : Fin 16) (s : Fin 4096) (n : Fin 1024) :
    Cert.KernelIdeal.Value.pt8Of (ix3 b s n) = 8 * b.val + s.val / 512 ∧ Cert.KernelIdeal.Value.loc8Of (ix3 b s n) = ix3 0 ⟨s.val % 512, by omega⟩ n := by
  constructor
  · show 8 * (b.val / 1 - 0) + 1 * (s.val / 512 - 0) + 1 * (n.val / 1024 - 0) = _
    omega
  · funext a
    apply Fin.ext
    match a with
    | ⟨0, _⟩ => show b.val % 1 = 0; omega
    | ⟨1, _⟩ => rfl
    | ⟨2, _⟩ => show n.val % 1024 = n.val; omega

/-- A function of a grid point and a row of its block, read at the place of a row of the whole. -/
theorem at_place {α : Type} (f : Fin 16 → Fin 4096 → α) (b : Fin 16) (s : Fin 4096) (t : ℕ) (ht : t = 8 * b.val + s.val / 512) (h : t / 8 < 16) :
    f ⟨t / 8, h⟩ ⟨512 * (t % 8) + s.val % 512, by omega⟩ = f b s :=
  congrArg₂ f (Fin.ext (by show t / 8 = _; omega)) (Fin.ext (by show 512 * (t % 8) + _ = _; omega))

/-- The result array, at an index. -/
theorem result_at (c : Dev nD) (b : Fin 16) (s : Fin 4096) (n : Fin 1024) :
    Cert.KernelIdeal.Value.G8 m c (ix3 b s n)
      = rms (mixAt (aX m c) (aG m c) (aWg m c) (aWu m c) (aCw m c) (aCb m c) (aWd m c) b s) (aFg m c) n := by
  obtain ⟨hp, hl⟩ := place b s n
  have hlt : Cert.KernelIdeal.Value.pt8Of (ix3 b s n) < cfg0.N := by rw [hp]; show _ < grid0.N; rw [N_0]; omega
  unfold Cert.KernelIdeal.Value.G8
  rw [dif_pos hlt, ← Cert.KernelIdeal.Value.outsAt0_sweep m c _ hlt, hl]
  exact (out_at m c ⟨_, hlt⟩ ⟨s.val % 512, by omega⟩ n).trans
    (at_place (fun b s => rms (mixAt (aX m c) (aG m c) (aWg m c) (aWu m c) (aCw m c) (aCb m c) (aWd m c) b s) (aFg m c) n) b s _ hp _)

end Cert.KernelIdeal.FfnBody
end
end
-- ==== Proof.Sum.lean ====
/- The call without the last norm: its points build the same sums over the same blocks, so each writes the channel mixer's
   formula before the norm. -/
module

public import proofs.«01_k».proof.Proof.Point
public import proofs.«01_k».proof.Proof.Gen.Kernel2Ideal.Value

@[expose] public section
set_option maxRecDepth 16384
noncomputable section
namespace Cert.Kernel2Ideal.FfnBody
open Cert.Kernel2Ideal Cert.Kernel2Ideal.Gen Idealize.ShloMosaic Idealize.ShloMosaic.TcCoe Idealize.SL.Sem Cert.FfnSpec
open Cert.KernelIdeal.FfnBody (sumBlock Kept kept_of canon_blk ld_row ld_blk readCov_shift readCov_plane readCov_plane_fill
  fst_of snd_of Before sum_at place at_place aX aG aWg aWu aCw aCb aWd lt128)

section
variable {F : FTy → Type} [FloatOps F] [Named F]

theorem out_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S2x520x1024 .f32) (harg11 : arg11.IsWhole) (arg12 : Memref sig .tc .vmem S3x8x1024 .f32) (harg12 : arg12.IsWhole) (hc0 : ¬cond0_0 i)
    (x0 : Vec F S1x512x1024 .f32) (x1 : Vec F S1x1024 .f32) (x2 : Vec F S1024x2816 .bf16) (x3 : Vec F S1024x2816 .bf16) (x4 : Vec F S3x2816 .f32) (x5 : Vec F S1x2816 .f32) (x6 : Vec F S2816x1024 .bf16) (x7 : Vec F S1x1024 .f32) (xs1 : Vec F S3x8x1024 .f32) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs1 = sumBlock x0 x1 x2 x3 x4 x5 x6 xs1 := by
  unfold out0_B_8
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread, harg12.read_unread, View.readCov_cons_toLoadRect, canon_blk]
  rw [ld_row, ld_blk]
  simp only [readCov_shift _ _ _ 6 (by decide), readCov_shift _ _ _ 7 (by decide)]
  rfl

theorem out_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S2x520x1024 .f32) (harg11 : arg11.IsWhole) (arg12 : Memref sig .tc .vmem S3x8x1024 .f32) (harg12 : arg12.IsWhole) (hc0 : cond0_0 i)
    (x0 : Vec F S1x512x1024 .f32) (x1 : Vec F S1x1024 .f32) (x2 : Vec F S1024x2816 .bf16) (x3 : Vec F S1024x2816 .bf16) (x4 : Vec F S3x2816 .f32) (x5 : Vec F S1x2816 .f32) (x6 : Vec F S2816x1024 .bf16) (x7 : Vec F S1x1024 .f32) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 x7 = sumBlock x0 x1 x2 x3 x4 x5 x6 k0_pay4 := by
  unfold out0_A_8
  rw [View.read_writes_junk_eq_canon]
  unfold kernelRun0_A
  dsimp only
  sl_unfold_words
  simp only [View.readAt_eq_ld, harg2.read_unread, harg3.read_unread, harg4.read_unread, harg5.read_unread, harg6.read_unread, harg7.read_unread, harg8.read_unread, harg9.read_unread, harg12.read_unread, View.readCov_cons_toLoadRect, canon_blk, readCov_plane _ 1 2 _ _ (by decide), readCov_plane _ 0 2 _ _ (by decide), readCov_plane _ 0 1 _ _ (by decide), readCov_plane_fill]
  rw [ld_row, ld_blk]
  simp only [readCov_shift _ _ _ 6 (by decide), readCov_shift _ _ _ 7 (by decide)]
  rfl

theorem kept_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S2x520x1024 .f32) (harg11 : arg11.IsWhole) (arg12 : Memref sig .tc .vmem S3x8x1024 .f32) (harg12 : arg12.IsWhole) (hc0 : ¬cond0_0 i)
    (x0 : Vec F S1x512x1024 .f32) (x1 : Vec F S1x1024 .f32) (x2 : Vec F S1024x2816 .bf16) (x3 : Vec F S1024x2816 .bf16) (x4 : Vec F S3x2816 .f32) (x5 : Vec F S1x2816 .f32) (x6 : Vec F S2816x1024 .bf16) (x7 : Vec F S1x1024 .f32) (xs1 : Vec F S3x8x1024 .f32) :
    Kept (sout0_B_1 c i arg2 harg2 arg3 harg3 arg4 harg4 arg5 harg5 arg6 harg6 arg7 harg7 arg8 harg8 arg9 harg9 arg10 harg10 arg11 harg11 arg12 harg12 hc0 x0 x1 x2 x3 x4 x5 x6 x7 xs1) x0 x1 x2 := by
  unfold sout0_B_1
  unfold kernelRun0_B
  dsimp only
  sl_unfold_words
  simp only [View.readAt_eq_ld, harg2.read_unread, harg3.read_unread, harg4.read_unread]
  rw [ld_row, ld_blk]
  exact kept_of _ _ _ _ _ _

theorem kept_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S2x520x1024 .f32) (harg11 : arg11.IsWhole) (arg12 : Memref sig .tc .vmem S3x8x1024 .f32) (harg12 : arg12.IsWhole) (hc0 : cond0_0 i)
    (x0 : Vec F S1x512x1024 .f32) (x1 : Vec F S1x1024 .f32) (x2 : Vec F S1024x2816 .bf16) (x3 : Vec F S1024x2816 .bf16) (x4 : Vec F S3x2816 .f32) (x5 : Vec F S1x2816 .f32) (x6 : Vec F S2816x1024 .bf16) (x7 : Vec F S1x1024 .f32) :
    Kept (sout0_A_1 c i arg2 harg2 arg3 harg3 arg4 harg4 arg5 harg5 arg6 harg6 arg7 harg7 arg8 harg8 arg9 harg9 arg10 harg10 arg11 harg11 arg12 harg12 hc0 x0 x1 x2 x3 x4 x5 x6 x7) x0 x1 x2 := by
  unfold sout0_A_1
  unfold kernelRun0_A
  dsimp only
  sl_unfold_words
  simp only [View.readAt_eq_ld, harg2.read_unread, harg3.read_unread, harg4.read_unread]
  rw [ld_row, ld_blk]
  exact kept_of _ _ _ _ _ _

end

variable (m : (l : Loc nD τ sig) → Buf (Elt Ideal) l)

/-- The first block of a batch. -/
theorem outs_first (c : Dev nD) (t : Fin cfg0.N) (h0 : t.val % 8 = 0) :
    (outsAt0 m c t.val t.isLt).1 = sumBlock (F := Ideal) (iblk m c 0 t) (iblk m c 1 t) (iblk m c 2 t) (iblk m c 3 t) (iblk m c 4 t) (iblk m c 5 t) (iblk m c 6 t) (k0_pay4 (F := Ideal)) ∧ Kept (F := Ideal) (outsAt0 m c t.val t.isLt).2 (iblk m c 0 t) (iblk m c 1 t) (iblk m c 2 t) := by
  have e := outsAt0_A m c t h0
  have e0 := out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)
  have e1 := (fst_of e).trans e0
  have e2 := snd_of e
  exact ⟨e1, by rw [e2]; exact kept_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)⟩

/-- A later block, over the rows the point before it kept. -/
theorem outs_later (c : Dev nD) (t : Fin cfg0.N) (h0 : ¬ t.val % 8 = 0) :
    (outsAt0 m c t.val t.isLt).1 = sumBlock (F := Ideal) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2
      ∧ Kept (F := Ideal) (outsAt0 m c t.val t.isLt).2 (iblk m c 0 t) (iblk m c 1 t) (iblk m c 2 t) := by
  have e := outsAt0_B m c t h0
  have e0 := out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2
  have e1 := (fst_of e).trans e0
  have e2 := snd_of e
  exact ⟨e1, by rw [e2]; exact kept_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2⟩

/-- What a point finds in the kept rows, and what it writes. -/
theorem out_at (c : Dev nD) (t : Fin cfg0.N) (r : Fin 512) (n : Fin 1024) :
    (outsAt0 m c t.val t.isLt).1 (ix3 0 r n)
      = mixAt (aX m c) (aG m c) (aWg m c) (aWu m c) (aCw m c) (aCb m c) (aWd m c)
          ⟨t.val / 8, by have := lt128 t; omega⟩ ⟨512 * (t.val % 8) + r.val, by omega⟩ n := by
  by_cases h0 : t.val % 8 = 0
  · rw [(outs_first m c t h0).1]
    exact sum_at m c t _ (Or.inl ⟨h0, rfl⟩) r n
  · rw [(outs_later m c t h0).1]
    refine sum_at m c t _ (Or.inr ⟨h0, ⟨t.val - 1, Nat.lt_of_le_of_lt (Nat.sub_le _ _) t.isLt⟩, rfl, ?_⟩) r n
    by_cases h1 : (t.val - 1) % 8 = 0
    · exact (outs_first m c ⟨t.val - 1, Nat.lt_of_le_of_lt (Nat.sub_le _ _) t.isLt⟩ h1).2
    · exact (outs_later m c ⟨t.val - 1, Nat.lt_of_le_of_lt (Nat.sub_le _ _) t.isLt⟩ h1).2

/-- The result array, at an index. -/
theorem result_at (c : Dev nD) (b : Fin 16) (s : Fin 4096) (n : Fin 1024) :
    Cert.Kernel2Ideal.Value.G8 m c (ix3 b s n) = mixAt (aX m c) (aG m c) (aWg m c) (aWu m c) (aCw m c) (aCb m c) (aWd m c) b s n := by
  obtain ⟨hp, hl⟩ : Cert.Kernel2Ideal.Value.pt8Of (ix3 b s n) = _ ∧ Cert.Kernel2Ideal.Value.loc8Of (ix3 b s n) = _ := place b s n
  have hlt : Cert.Kernel2Ideal.Value.pt8Of (ix3 b s n) < cfg0.N := by rw [hp]; show _ < grid0.N; rw [N_0]; omega
  unfold Cert.Kernel2Ideal.Value.G8
  rw [dif_pos hlt, ← Cert.Kernel2Ideal.Value.outsAt0_sweep m c _ hlt, hl]
  exact (out_at m c ⟨_, hlt⟩ ⟨s.val % 512, by omega⟩ n).trans
    (at_place (fun b s => mixAt (aX m c) (aG m c) (aWg m c) (aWu m c) (aCw m c) (aCb m c) (aWd m c) b s n) b s _ hp _)

end Cert.Kernel2Ideal.FfnBody
end
end
-- ==== Proof.RefValue.lean ====
/- The reference's result, at an index: the channel mixer's formula at a place of the whole array. -/
module

public import proofs.«01_k».proof.Proof.Spec
public import proofs.«01_k».proof.Proof.Gen.ReferenceIdeal.Read
public import Idealize.ShloMosaic.Lib.Pointwise
public import Idealize.ShloMosaic.Lib.KernelVsHost

@[expose] public section
set_option maxRecDepth 16384
noncomputable section
namespace Cert.ReferenceIdeal.FfnRef
open Cert.ReferenceIdeal Cert.ReferenceIdeal.Gen Cert.ReferenceIdeal.Read Idealize.ShloMosaic Idealize.ShloMosaic.TcCoe Idealize.SL.Sem Cert.FfnSpec

theorem two_eq : Ideal.ofBits .f32 0x40000000#32 = ((2 : ℝ) : EReal) := by
  simp [Ideal.ofBits, Ideal.ieee, -EReal.coe_mul]; norm_num

/-- Over the square root of two is times one over it. -/
theorem div_sqrt (v : EReal) : Ideal.div v (Ideal.sqrt (Ideal.ofBits .f32 0x40000000#32)) = v * root := by
  rw [two_eq, Ideal.sqrt_coe, if_neg (by norm_num), Ideal.div_coe (Real.sqrt_pos.mpr (by norm_num : (0:ℝ) < 2)).ne', one_div]

theorem norm_at (x0 : (⟨S16x4096x1024, .f32⟩ : BufTy).Contents (Elt Ideal)) (x1 : (⟨S1024, .f32⟩ : BufTy).Contents (Elt Ideal)) (b : Fin 16) (s : Fin 4096) (k : Fin 1024) :
    val_main_v12 (F := Ideal) x0 x1 (ix3 b s k) = rms (fun k => x0 (ix3 b s k)) (fun k => x1 (ix1 k)) k := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  unfold rms
  rfl

theorem gate_at (x0 : (⟨S16x4096x1024, .f32⟩ : BufTy).Contents (Elt Ideal)) (x1 : (⟨S1024, .f32⟩ : BufTy).Contents (Elt Ideal)) (x2 : (⟨S1024x2816, .f32⟩ : BufTy).Contents (Elt Ideal)) (b : Fin 16) (s : Fin 4096) (j : Fin 2816) :
    val_main_v13 (F := Ideal) x0 x1 x2 (ix3 b s j) = row (fun b s k => x0 (ix3 b s k)) (fun k => x1 (ix1 k)) (fun k j => x2 (ix2 k j)) b s j := by
  rw [val_main_v13_apply]
  unfold row proj
  refine Finset.sum_congr rfl fun k _ => ?_
  have e : lidx_main_v13 (ix3 b s j) k = ix3 b s k := by funext a; match a with | ⟨0, _⟩ => rfl | ⟨1, _⟩ => rfl | ⟨2, _⟩ => rfl
  have e' : ridx_main_v13 (ix3 b s j) k = ix2 k j := by funext a; match a with | ⟨0, _⟩ => rfl | ⟨1, _⟩ => rfl
  rw [e, e', norm_at]

theorem up_at (x0 : (⟨S16x4096x1024, .f32⟩ : BufTy).Contents (Elt Ideal)) (x1 : (⟨S1024, .f32⟩ : BufTy).Contents (Elt Ideal)) (x3 : (⟨S1024x2816, .f32⟩ : BufTy).Contents (Elt Ideal)) (b : Fin 16) (s : Fin 4096) (j : Fin 2816) :
    val_main_v49 (F := Ideal) x0 x1 x3 (ix3 b s j) = row (fun b s k => x0 (ix3 b s k)) (fun k => x1 (ix1 k)) (fun k j => x3 (ix2 k j)) b s j := by
  rw [val_main_v49_apply]
  unfold row proj
  refine Finset.sum_congr rfl fun k _ => ?_
  have e : lidx_main_v49 (ix3 b s j) k = ix3 b s k := by funext a; match a with | ⟨0, _⟩ => rfl | ⟨1, _⟩ => rfl | ⟨2, _⟩ => rfl
  have e' : ridx_main_v49 (ix3 b s j) k = ix2 k j := by funext a; match a with | ⟨0, _⟩ => rfl | ⟨1, _⟩ => rfl
  rw [e, e', norm_at]

/-- The padded projection: the row two places above, zero in the first two rows. -/
theorem pad_at (x0 : (⟨S16x4096x1024, .f32⟩ : BufTy).Contents (Elt Ideal)) (x1 : (⟨S1024, .f32⟩ : BufTy).Contents (Elt Ideal)) (x2 : (⟨S1024x2816, .f32⟩ : BufTy).Contents (Elt Ideal)) (b : Fin 16) (s : Fin 4096) (d : ℕ) (i : Fin 4098) (hi : i.val + d = s.val + 2) (hd : d ≤ 2) (j : Fin 2816) :
    val_main_v14 (F := Ideal) x0 x1 x2 (ix3 b i j) = above d (fun b s k => x0 (ix3 b s k)) (fun k => x1 (ix1 k)) (fun k j => x2 (ix2 k j)) b s j := by
  unfold val_main_v14 above
  by_cases h : d ≤ s.val
  · rw [dif_pos h, ← gate_at]
    refine pad_apply_of_inside _ _ _ _ _ _ _ _ _ fun a => ?_
    match a with
    | ⟨0, _⟩ => show b.val = 0 + b.val * 1; omega
    | ⟨1, _⟩ => show i.val = 2 + (s.val - d) * 1; omega
    | ⟨2, _⟩ => show j.val = 0 + j.val * 1; omega
  · rw [dif_neg h]
    refine (pad_apply_of_not_inside _ _ _ _ _ _ _ _ ⟨1, by decide⟩ fun hh => ?_).trans ?_
    · have h1 : 2 ≤ i.val := hh.1
      omega
    · pointwise [val_main_call0_v0, val_main_c]
      show (((0#32 : BitVec 32).toInt : ℝ) : EReal) = 0
      simp

theorem conv_at (x0 : (⟨S16x4096x1024, .f32⟩ : BufTy).Contents (Elt Ideal)) (x1 : (⟨S1024, .f32⟩ : BufTy).Contents (Elt Ideal)) (x2 : (⟨S1024x2816, .f32⟩ : BufTy).Contents (Elt Ideal)) (x4 : (⟨S3x2816, .f32⟩ : BufTy).Contents (Elt Ideal)) (x5 : (⟨S2816, .f32⟩ : BufTy).Contents (Elt Ideal)) (b : Fin 16) (s : Fin 4096) (j : Fin 2816) :
    val_main_v39 (F := Ideal) x0 x1 x2 x4 x5 (ix3 b s j)
      = conv (above 2 (fun b s k => x0 (ix3 b s k)) (fun k => x1 (ix1 k)) (fun k j => x2 (ix2 k j)) b s j) (above 1 (fun b s k => x0 (ix3 b s k)) (fun k => x1 (ix1 k)) (fun k j => x2 (ix2 k j)) b s j) (row (fun b s k => x0 (ix3 b s k)) (fun k => x1 (ix1 k)) (fun k j => x2 (ix2 k j)) b s j) (x4 (ix2 0 j)) (x4 (ix2 1 j)) (x4 (ix2 2 j)) (x5 (ix1 j)) := by
  have e0 : above 0 (fun b s k => x0 (ix3 b s k)) (fun k => x1 (ix1 k)) (fun k j => x2 (ix2 k j)) b s j = row (fun b s k => x0 (ix3 b s k)) (fun k => x1 (ix1 k)) (fun k j => x2 (ix2 k j)) b s j := by unfold above; rw [dif_pos (Nat.zero_le _)]; rfl
  rw [← e0, ← pad_at x0 x1 x2 b s 2 ⟨s.val, by omega⟩ rfl (by omega), ← pad_at x0 x1 x2 b s 1 ⟨1 + s.val, by omega⟩ (by show 1 + s.val + 1 = s.val + 2; omega) (by omega), ← pad_at x0 x1 x2 b s 0 ⟨2 + s.val, by omega⟩ (by show 2 + s.val + 0 = s.val + 2; omega) (by omega)]
  pointwise [val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_cst_2]
  unfold conv
  rw [mul_comm (x4 (ix2 0 j)), mul_comm (x4 (ix2 1 j)), mul_comm (x4 (ix2 2 j))]

theorem act_at (x0 : (⟨S16x4096x1024, .f32⟩ : BufTy).Contents (Elt Ideal)) (x1 : (⟨S1024, .f32⟩ : BufTy).Contents (Elt Ideal)) (x2 : (⟨S1024x2816, .f32⟩ : BufTy).Contents (Elt Ideal)) (x3 : (⟨S1024x2816, .f32⟩ : BufTy).Contents (Elt Ideal)) (x4 : (⟨S3x2816, .f32⟩ : BufTy).Contents (Elt Ideal)) (x5 : (⟨S2816, .f32⟩ : BufTy).Contents (Elt Ideal)) (b : Fin 16) (s : Fin 4096) (j : Fin 2816) :
    val_main_v50 (F := Ideal) x0 x1 x2 x3 x4 x5 (ix3 b s j) = act (val_main_v39 (F := Ideal) x0 x1 x2 x4 x5 (ix3 b s j)) (val_main_v49 (F := Ideal) x0 x1 x3 (ix3 b s j)) := by
  unfold act
  pointwise [val_main_v50, val_main_v40, val_main_v41, val_main_v42, val_main_v43, val_main_v44, val_main_v45, val_main_v46, val_main_v47, val_main_v48, val_main_cst_3, val_main_cst_4, val_main_cst_5]
  simp only [div_sqrt]

theorem mix_at (x0 : (⟨S16x4096x1024, .f32⟩ : BufTy).Contents (Elt Ideal)) (x1 : (⟨S1024, .f32⟩ : BufTy).Contents (Elt Ideal)) (x2 : (⟨S1024x2816, .f32⟩ : BufTy).Contents (Elt Ideal)) (x3 : (⟨S1024x2816, .f32⟩ : BufTy).Contents (Elt Ideal)) (x4 : (⟨S3x2816, .f32⟩ : BufTy).Contents (Elt Ideal)) (x5 : (⟨S2816, .f32⟩ : BufTy).Contents (Elt Ideal)) (x6 : (⟨S2816x1024, .f32⟩ : BufTy).Contents (Elt Ideal)) (b : Fin 16) (s : Fin 4096) (n : Fin 1024) :
    val_main_v52 (F := Ideal) x0 x1 x2 x3 x4 x5 x6 (ix3 b s n) = mixAt (fun b s k => x0 (ix3 b s k)) (fun k => x1 (ix1 k)) (fun k j => x2 (ix2 k j)) (fun k j => x3 (ix2 k j)) (fun a j => x4 (ix2 a j)) (fun j => x5 (ix1 j)) (fun j n => x6 (ix2 j n)) b s n := by
  rw [val_main_v52_apply, val_main_v51_apply]
  unfold mixAt mixed
  refine congrArg (x0 (ix3 b s n) + ·) (Finset.sum_congr rfl fun j _ => ?_)
  have e : lidx_main_v51 (ix3 b s n) j = ix3 b s j := by funext a; match a with | ⟨0, _⟩ => rfl | ⟨1, _⟩ => rfl | ⟨2, _⟩ => rfl
  have e' : ridx_main_v51 (ix3 b s n) j = ix2 j n := by funext a; match a with | ⟨0, _⟩ => rfl | ⟨1, _⟩ => rfl
  rw [e, e', act_at, conv_at, up_at]

theorem result_at (x0 : (⟨S16x4096x1024, .f32⟩ : BufTy).Contents (Elt Ideal)) (x1 : (⟨S1024, .f32⟩ : BufTy).Contents (Elt Ideal)) (x2 : (⟨S1024x2816, .f32⟩ : BufTy).Contents (Elt Ideal)) (x3 : (⟨S1024x2816, .f32⟩ : BufTy).Contents (Elt Ideal)) (x4 : (⟨S3x2816, .f32⟩ : BufTy).Contents (Elt Ideal)) (x5 : (⟨S2816, .f32⟩ : BufTy).Contents (Elt Ideal)) (x6 : (⟨S2816x1024, .f32⟩ : BufTy).Contents (Elt Ideal)) (x7 : (⟨S1024, .f32⟩ : BufTy).Contents (Elt Ideal)) (b : Fin 16) (s : Fin 4096) (n : Fin 1024) :
    val_main_v65 (F := Ideal) x0 x1 x2 x3 x4 x5 x6 x7 (ix3 b s n) = rms (mixAt (fun b s k => x0 (ix3 b s k)) (fun k => x1 (ix1 k)) (fun k j => x2 (ix2 k j)) (fun k j => x3 (ix2 k j)) (fun a j => x4 (ix2 a j)) (fun j => x5 (ix1 j)) (fun j n => x6 (ix2 j n)) b s) (fun n => x7 (ix1 n)) n := by
  have e : ∀ n, mixAt (fun b s k => x0 (ix3 b s k)) (fun k => x1 (ix1 k)) (fun k j => x2 (ix2 k j)) (fun k j => x3 (ix2 k j)) (fun a j => x4 (ix2 a j)) (fun j => x5 (ix1 j)) (fun j n => x6 (ix2 j n)) b s n = val_main_v52 (F := Ideal) x0 x1 x2 x3 x4 x5 x6 (ix3 b s n) := fun n => (mix_at x0 x1 x2 x3 x4 x5 x6 b s n).symm
  unfold rms
  simp only [e]
  pointwise [val_main_v53, val_main_v54, val_main_v55, val_main_v56, val_main_v57, val_main_v58, val_main_v59, val_main_v60, val_main_v61, val_main_v62, val_main_v63, val_main_v64, val_main_v65, val_main_cst_6, val_main_cst_7, val_main_cst_8]

end Cert.ReferenceIdeal.FfnRef
end
end
-- ==== Proof.DiffTrip.lean ====
/- One trip of the differential attention's loop over blocks of 512 keys, as terms over the blocks it reads: per head, a
   maximum per row and the weighted sums relative to it. -/
module

public import proofs.«01_k».proof.Proof.Gen.Kernel3Ideal.Value
public import Idealize.ShloMosaic.Lib.Tactic.ValueTie
public import Idealize.ShloMosaic.Lib.Pointwise
public import Idealize.ShloMosaic.Lib.Pipeline.ReadBack

@[expose] public section
set_option maxRecDepth 16384
noncomputable section
namespace Cert.Kernel3Ideal.DiffBody
open Cert.Kernel3Ideal Cert.Kernel3Ideal.Gen Idealize.ShloMosaic Idealize.ShloMosaic.TcCoe Idealize.SL.Sem

variable {F : FTy → Type} [FloatOps F] [Named F]

/-- Four bias tiles side by side. -/
def tileRow (a b c d : Vec F S1x1x128x128 .f32) : FVec F S128x512 .f32 :=
  concatenate S128x512 1 [⟨S128x128, shapeCast S128x128 a shapeCasts_S1x1x128x128_S128x128⟩, ⟨S128x128, shapeCast S128x128 b shapeCasts_S1x1x128x128_S128x128⟩,
    ⟨S128x128, shapeCast S128x128 c shapeCasts_S1x1x128x128_S128x128⟩, ⟨S128x128, shapeCast S128x128 d shapeCasts_S1x1x128x128_S128x128⟩] concatenates_S128x128_S128x128_S128x128_S128x128_S128x512_d1

/-- The bias of a block: each row of tiles under both maps. -/
def biasRows (r : Fin 4 → FVec F S128x512 .f32) : FVec F S1024x512 .f32 :=
  concatenate S1024x512 0 [⟨S128x512, r 0⟩, ⟨S128x512, r 0⟩, ⟨S128x512, r 1⟩, ⟨S128x512, r 1⟩, ⟨S128x512, r 2⟩, ⟨S128x512, r 2⟩, ⟨S128x512, r 3⟩, ⟨S128x512, r 3⟩]
    concatenates_S128x512_S128x512_S128x512_S128x512_S128x512_S128x512_S128x512_S128x512_S1024x512_d0

/-- A block of scores: the products and the bias. -/
def scores (q : FVec F S1024x128 .bf16) (kk : Vec F S1x512x128 .bf16) (T : Fin 4 → Fin 4 → Vec F S1x1x128x128 .f32) : FVec F S1024x512 .f32 :=
  addf (k0_pay2 q kk) (biasRows fun u => tileRow (T u 0) (T u 1) (T u 2) (T u 3))

/-- The maximum so far, to the base two. -/
def newMax (m : FVec F S1024x1 .f32) (s : FVec F S1024x512 .f32) : FVec F S1024x1 .f32 := k0_pay161 m s

/-- The sums so far, relative to it. -/
def newAcc (ones : FVec F S512x128 .bf16) (m : FVec F S1024x1 .f32) (s : FVec F S1024x512 .f32) (vv : Vec F S1x512x128 .bf16) (a : Vec F S1x1024x256 .f32) :
    FVec F S1x1024x256 .f32 := k0_pay162 ones m s vv a

/-- Block `k` of the keys or values of head `h`. -/
def kblk (X : Vec F S1x4096x512 .bf16) (h : Fin 4) (k : ℕ) : Vec F S1x512x128 .bf16 :=
  fun x => X (ix3 0 ⟨(512 * k + (x 1).val) % 4096, Nat.mod_lt _ (by decide)⟩ ⟨128 * h.val + (x 2).val, by have h1 := h.isLt; have h2 : (x 2).val < 128 := (x 2).isLt; omega⟩)

/-- The bias tiles of head `h` for query block `i` and key block `k`. -/
def tiles (X : Vec F S4x16x128x128 .f32) (h : Fin 4) (i k : ℕ) (u c : Fin 4) : Vec F S1x1x128x128 .f32 :=
  fun x => X (ix4 h ⟨min (4 * i + u.val + 1 - (4 * k + c.val)) 15, by omega⟩ (x 2) (x 3))

theorem off1 : ∀ (i : grid0.Coords) (k : Fin (k0_t1_loop i).trips), k0_off1 i k = ![0, 512 * k.val, 0] := by decide +kernel
theorem off2 : ∀ (i : grid0.Coords) (k : Fin (k0_t1_loop i).trips) (u c : Fin 4), k0_off2 i k (BitVec.ofNat 32 u.val) (BitVec.ofNat 32 c.val)
    = ![0, min (4 * (i 1).val + u.val + 1 - (4 * k.val + c.val)) 15, 0, 0] := by decide +kernel
theorem trips1 (i : grid0.Coords) : (k0_t1_loop i).trips = (i 1).val + 1 := by revert i; decide +kernel
theorem trips2 (i : grid0.Coords) : (k0_t2_loop i).trips = 0 := by revert i; decide +kernel
theorem trip_lt (i : grid0.Coords) (k : Fin (k0_t1_loop i).trips) : k.val < 8 := by
  have h1 := k.isLt.trans_eq (trips1 i)
  have h2 : (i 1).val < 8 := (i 1).isLt
  omega

theorem ld_kblk (X : Vec F S1x4096x512 .bf16) (h : Fin 4) (k o : ℕ) (hk : k < 8) (off : Fin 3 → ℕ) (e : off = ![0, o, 128 * h.val]) (eo : o = 512 * k)
    (i : ∀ a, off a + S1x512x128.size a ≤ S1x4096x512.size a) : View.ld X (Rect.unit off S1x512x128.size i) = kblk X h k := by
  subst e eo
  funext x
  have h0 : (x 0).val < 1 := (x 0).isLt
  have h1 : (x 1).val < 512 := (x 1).isLt
  show X _ = X _
  congr 1
  funext a; apply Fin.ext; fin_cases a
  · show 0 + 1 * (x 0).val = 0; omega
  · show 512 * k + 1 * (x 1).val = (512 * k + (x 1).val) % 4096; omega
  · show 128 * h.val + 1 * (x 2).val = 128 * h.val + (x 2).val; omega

theorem ld_tile (X : Vec F S4x16x128x128 .f32) (h : Fin 4) (i k w : ℕ) (u c : Fin 4) (off : Fin 4 → ℕ) (e : off = ![h.val, w, 0, 0])
    (ew : w = min (4 * i + u.val + 1 - (4 * k + c.val)) 15)
    (inb : ∀ a, off a + S1x1x128x128.size a ≤ S4x16x128x128.size a) : View.ld X (Rect.unit off S1x1x128x128.size inb) = tiles X h i k u c := by
  subst e ew
  funext x
  have h0 : (x 0).val < 1 := (x 0).isLt
  have h1 : (x 1).val < 1 := (x 1).isLt
  show X _ = X _
  congr 1
  funext a; apply Fin.ext; fin_cases a
  · show h.val + 1 * (x 0).val = h.val; omega
  · show min (4 * i + u.val + 1 - (4 * k + c.val)) 15 + 1 * (x 1).val = min (4 * i + u.val + 1 - (4 * k + c.val)) 15; omega
  · show 0 + 1 * (x 2).val = (x 2).val; omega
  · show 0 + 1 * (x 3).val = (x 3).val; omega

/-- The loads of a trip. -/
structure Loads (i : grid0.Coords) (k : Fin (k0_t1_loop i).trips) (x : Vec F S1x4096x512 .bf16) (x4 : Vec F S4x16x128x128 .f32) : Prop where
  k0 : kblk x 0 k.val = View.ld x (Rect.unit _ S1x512x128.size (k0_off1_inb i k))
  k1 : kblk x 1 k.val = View.ld x (Rect.unit _ S1x512x128.size (k0_off3_inb i k))
  k2 : kblk x 2 k.val = View.ld x (Rect.unit _ S1x512x128.size (k0_off5_inb i k))
  k3 : kblk x 3 k.val = View.ld x (Rect.unit _ S1x512x128.size (k0_off7_inb i k))
  t0 : tiles x4 0 (i 1).val k.val = fun u c => View.ld x4 (Rect.unit _ S1x1x128x128.size (k0_off2_inb i k u c))
  t1 : tiles x4 1 (i 1).val k.val = fun u c => View.ld x4 (Rect.unit _ S1x1x128x128.size (k0_off4_inb i k u c))
  t2 : tiles x4 2 (i 1).val k.val = fun u c => View.ld x4 (Rect.unit _ S1x1x128x128.size (k0_off6_inb i k u c))
  t3 : tiles x4 3 (i 1).val k.val = fun u c => View.ld x4 (Rect.unit _ S1x1x128x128.size (k0_off8_inb i k u c))

theorem loads (i : grid0.Coords) (k : Fin (k0_t1_loop i).trips) (x : Vec F S1x4096x512 .bf16) (x4 : Vec F S4x16x128x128 .f32) : Loads i k x x4 where
  k0 := (ld_kblk x 0 k.val _ (trip_lt i k) (k0_off1 i k) (off1 i k) rfl _).symm
  k1 := (ld_kblk x 1 k.val _ (trip_lt i k) (k0_off3 i k) rfl (congrFun (off1 i k) 1) _).symm
  k2 := (ld_kblk x 2 k.val _ (trip_lt i k) (k0_off5 i k) rfl (congrFun (off1 i k) 1) _).symm
  k3 := (ld_kblk x 3 k.val _ (trip_lt i k) (k0_off7 i k) rfl (congrFun (off1 i k) 1) _).symm
  t0 := by funext u c; exact (ld_tile x4 0 _ _ _ u c _ (off2 i k u c) rfl _).symm
  t1 := by funext u c; exact (ld_tile x4 1 _ _ _ u c (k0_off4 i k (BitVec.ofNat 32 u.val) (BitVec.ofNat 32 c.val)) rfl (congrFun (off2 i k u c) 1) _).symm
  t2 := by funext u c; exact (ld_tile x4 2 _ _ _ u c (k0_off6 i k (BitVec.ofNat 32 u.val) (BitVec.ofNat 32 c.val)) rfl (congrFun (off2 i k u c) 1) _).symm
  t3 := by funext u c; exact (ld_tile x4 3 _ _ _ u c (k0_off8 i k (BitVec.ofNat 32 u.val) (BitVec.ofNat 32 c.val)) rfl (congrFun (off2 i k u c) 1) _).symm

/-- The maxima after a trip. -/
theorem trip_max (i : grid0.Coords) (c : Dev nD) (arg2 : Memref sig .tc .vmem S4x64 .f32) (harg2 : arg2.IsWhole) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x16x128x128 .f32) (harg6 : arg6.IsWhole) (arg7 : Memref sig .tc .vmem S1x128 .f32) (harg7 : arg7.IsWhole) (arg8 : Memref sig .tc .vmem S1x512x512 .bf16) (harg8 : arg8.IsWhole) (arg9 : Memref sig .tc .vmem S4x1024x256 .f32) (harg9 : arg9.IsWhole)
    v0 v16 v54 v91 v128 v165 v172 v178 c4 v179 v181 v182 (x2 : Vec F S1x4096x512 .bf16) (x3 : Vec F S1x4096x512 .bf16) (x4 : Vec F S4x16x128x128 .f32) (k : Fin (k0_t1_loop i).trips) acc f :
    tripR_k0_t1 (F := F) Variants.none c none i arg2 harg2 arg3 harg3 arg4 harg4 arg5 harg5 arg6 harg6 arg7 harg7 arg8 harg8 arg9 harg9 v0 v16 v54 v91 v128 v165 v172 v178 c4 v179 v181 v182 (harg4.unread x2) (harg5.unread x3) (harg6.unread x4) k acc f
      = (newMax acc.1 (scores v54 (kblk x2 0 k.val) (tiles x4 0 (i 1).val k.val)), newMax acc.2.1 (scores v91 (kblk x2 1 k.val) (tiles x4 1 (i 1).val k.val)),
          newMax acc.2.2.1 (scores v128 (kblk x2 2 k.val) (tiles x4 2 (i 1).val k.val)), newMax acc.2.2.2 (scores v165 (kblk x2 3 k.val) (tiles x4 3 (i 1).val k.val))) := by
  have L := loads i k x2 x4
  rw [L.k0, L.k1, L.k2, L.k3, L.t0, L.t1, L.t2, L.t3]
  have r4 : ∀ r, View.ld x2 r = View.readAt (Elt F) arg4.view r.toLoadRect (harg4.unread x2) := fun r => by rw [View.readAt_eq_ld, harg4.read_unread]
  have r6 : ∀ r, View.ld x4 r = View.readAt (Elt F) arg6.view r.toLoadRect (harg6.unread x4) := fun r => by rw [View.readAt_eq_ld, harg6.read_unread]
  simp only [r4, r6]
  unfold tripR_k0_t1 trip_k0_t1
  rfl

/-- The pieces a trip writes: each head's plane. -/
theorem trip_acc (i : grid0.Coords) (c : Dev nD) (arg2 : Memref sig .tc .vmem S4x64 .f32) (harg2 : arg2.IsWhole) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x16x128x128 .f32) (harg6 : arg6.IsWhole) (arg7 : Memref sig .tc .vmem S1x128 .f32) (harg7 : arg7.IsWhole) (arg8 : Memref sig .tc .vmem S1x512x512 .bf16) (harg8 : arg8.IsWhole) (arg9 : Memref sig .tc .vmem S4x1024x256 .f32) (harg9 : arg9.IsWhole)
    v0 v16 v54 v91 v128 v165 v172 v178 c4 v179 v181 v182 (x2 : Vec F S1x4096x512 .bf16) (x3 : Vec F S1x4096x512 .bf16) (x4 : Vec F S4x16x128x128 .f32) (k : Fin (k0_t1_loop i).trips) acc f :
    tripL_k0_t1 (F := F) Variants.none c none i arg2 harg2 arg3 harg3 arg4 harg4 arg5 harg5 arg6 harg6 arg7 harg7 arg8 harg8 arg9 harg9 v0 v16 v54 v91 v128 v165 v172 v178 c4 v179 v181 v182 (harg4.unread x2) (harg5.unread x3) (harg6.unread x4) k acc f
      = [⟨Rect.unit ![3, 0, 0] ![1, 1024, 256] inb_S4x1024x256_S1x1024x256_3_0_0, newAcc v172 acc.2.2.2 (scores v165 (kblk x2 3 k.val) (tiles x4 3 (i 1).val k.val)) (kblk x3 3 k.val)
            (View.ld (arg9.view.read (Elt F) f) (Rect.unit ![3, 0, 0] ![1, 1024, 256] inb_S4x1024x256_S1x1024x256_3_0_0))⟩,
        ⟨Rect.unit ![2, 0, 0] ![1, 1024, 256] inb_S4x1024x256_S1x1024x256_2_0_0, newAcc v172 acc.2.2.1 (scores v128 (kblk x2 2 k.val) (tiles x4 2 (i 1).val k.val)) (kblk x3 2 k.val)
            (View.ld (arg9.view.read (Elt F) f) (Rect.unit ![2, 0, 0] ![1, 1024, 256] inb_S4x1024x256_S1x1024x256_2_0_0))⟩,
        ⟨Rect.unit ![1, 0, 0] ![1, 1024, 256] inb_S4x1024x256_S1x1024x256_1_0_0, newAcc v172 acc.2.1 (scores v91 (kblk x2 1 k.val) (tiles x4 1 (i 1).val k.val)) (kblk x3 1 k.val)
            (View.ld (arg9.view.read (Elt F) f) (Rect.unit ![1, 0, 0] ![1, 1024, 256] inb_S4x1024x256_S1x1024x256_1_0_0))⟩,
        ⟨Rect.unit ![0, 0, 0] ![1, 1024, 256] inb_S4x1024x256_S1x1024x256_0_0_0, newAcc v172 acc.1 (scores v54 (kblk x2 0 k.val) (tiles x4 0 (i 1).val k.val)) (kblk x3 0 k.val)
            (View.ld (arg9.view.read (Elt F) f) (Rect.unit ![0, 0, 0] ![1, 1024, 256] inb_S4x1024x256_S1x1024x256_0_0_0))⟩] := by
  have L := loads i k x2 x4
  have L' := loads i k x3 x4
  rw [L.k0, L.k1, L.k2, L.k3, L.t0, L.t1, L.t2, L.t3, L'.k0, L'.k1, L'.k2, L'.k3]
  have r4 : ∀ r, View.ld x2 r = View.readAt (Elt F) arg4.view r.toLoadRect (harg4.unread x2) := fun r => by rw [View.readAt_eq_ld, harg4.read_unread]
  have r5 : ∀ r, View.ld x3 r = View.readAt (Elt F) arg5.view r.toLoadRect (harg5.unread x3) := fun r => by rw [View.readAt_eq_ld, harg5.read_unread]
  have r6 : ∀ r, View.ld x4 r = View.readAt (Elt F) arg6.view r.toLoadRect (harg6.unread x4) := fun r => by rw [View.readAt_eq_ld, harg6.read_unread]
  have r9 : ∀ r, View.ld (arg9.view.read (Elt F) f) r = View.readAt (Elt F) arg9.view r.toLoadRect f := fun r => (View.readAt_eq_ld _ _ _).symm
  simp only [r4, r5, r6, r9]
  unfold tripL_k0_t1 trip_k0_t1
  rfl

end Cert.Kernel3Ideal.DiffBody
end
end
-- ==== Proof.DiffBody.lean ====
/- What one grid point of the differential attention writes: per head the state after the loop over the blocks of keys
   reached, and from it the norm of the difference of the two maps. -/
module

public import proofs.«01_k».proof.Proof.DiffTrip

@[expose] public section
set_option maxRecDepth 16384
noncomputable section
namespace Cert.Kernel3Ideal.DiffBody
open Cert.Kernel3Ideal Cert.Kernel3Ideal.Gen Idealize.ShloMosaic Idealize.ShloMosaic.TcCoe Idealize.SL.Sem

variable {F : FTy → Type} [FloatOps F] [Named F]

/-- A head's maximum and sums after so many blocks. -/
def headLoop (q : FVec F S1024x128 .bf16) (ones : FVec F S512x128 .bf16) (kb vb : ℕ → Vec F S1x512x128 .bf16)
    (T : ℕ → Fin 4 → Fin 4 → Vec F S1x1x128x128 .f32) (a0 : Vec F S1x1024x256 .f32) : ℕ → FVec F S1024x1 .f32 × Vec F S1x1024x256 .f32
  | 0 => (k0_pay159, a0)
  | k + 1 => (newMax (headLoop q ones kb vb T a0 k).1 (scores q (kb k) (T k)),
      newAcc ones (headLoop q ones kb vb T a0 k).1 (scores q (kb k) (T k)) (vb k) (headLoop q ones kb vb T a0 k).2)

/-- One head's plane of the sums. -/
def plane (A : Vec F S4x1024x256 .f32) (h : Fin 4) : Vec F S1x1024x256 .f32 := fun x => A (ix3 h (x 1) (x 2))

/-- Head `h` of a grid point. -/
def head (q : FVec F S1024x128 .bf16) (x2 x3 : Vec F S1x4096x512 .bf16) (x4 : Vec F S4x16x128x128 .f32) (i1 : ℕ) (h : Fin 4) :
    ℕ → FVec F S1024x1 .f32 × Vec F S1x1024x256 .f32 :=
  headLoop q k0_pay157 (kblk x2 h) (kblk x3 h) (tiles x4 h i1) (plane k0_pay158 h)

theorem z3 : (![0, 0, 0] : Fin 3 → ℕ) = fun _ => 0 := by funext a; fin_cases a <;> rfl

theorem z2 : (![0, 0] : Fin 2 → ℕ) = fun _ => 0 := by funext a; fin_cases a <;> rfl

theorem ld_plane (A : Vec F S4x1024x256 .f32) (n : ℕ) (h : Fin 4) (e : n = h.val) (i : ∀ a, (![n, 0, 0] : Fin 3 → ℕ) a + S1x1024x256.size a ≤ S4x1024x256.size a) :
    View.ld A (Rect.unit ![n, 0, 0] S1x1024x256.size i) = plane A h := by
  subst e
  funext x
  have h0 : (x 0).val < 1 := (x 0).isLt
  show A _ = A _
  congr 1
  funext a; apply Fin.ext; fin_cases a
  · show h.val + 1 * (x 0).val = h.val; omega
  · show 0 + 1 * (x 1).val = (x 1).val; omega
  · show 0 + 1 * (x 2).val = (x 2).val; omega

theorem plane_hit (n : ℕ) (h : Fin 4) (e : n = h.val) (i : ∀ a, (![n, 0, 0] : Fin 3 → ℕ) a + S1x1024x256.size a ≤ S4x1024x256.size a)
    (p : Vec F S1x1024x256 .f32) (L : List (View.Piece (Elt F) S4x1024x256 .f32)) :
    plane (View.canon ((⟨Rect.unit (s := S4x1024x256) ![n, 0, 0] S1x1024x256.size i, p⟩ : View.Piece (Elt F) S4x1024x256 .f32) :: L)) h = p := by
  subst e
  funext x
  have h0 : (x 0).val < 1 := (x 0).isLt
  unfold plane
  have e : (ix3 h (x 1) (x 2) : S4x1024x256.Idx) = (Rect.unit (s := S4x1024x256) ![h.val, 0, 0] S1x1024x256.size i).emb x := by
    funext a; apply Fin.ext; fin_cases a
    · show h.val = h.val + 1 * (x 0).val; omega
    · show (x 1).val = 0 + 1 * (x 1).val; omega
    · show (x 2).val = 0 + 1 * (x 2).val; omega
  rw [e, View.canon_cons_emb]

theorem plane_miss (n : ℕ) (h : Fin 4) (e : n ≠ h.val) (i : ∀ a, (![n, 0, 0] : Fin 3 → ℕ) a + S1x1024x256.size a ≤ S4x1024x256.size a)
    (p : Vec F S1x1024x256 .f32) (L : List (View.Piece (Elt F) S4x1024x256 .f32)) :
    plane (View.canon ((⟨Rect.unit (s := S4x1024x256) ![n, 0, 0] S1x1024x256.size i, p⟩ : View.Piece (Elt F) S4x1024x256 .f32) :: L)) h = plane (View.canon L) h := by
  funext x
  unfold plane
  apply View.canon_cons_of_not_mem
  intro hm
  rw [Rect.mem_set_unit] at hm
  have h1 : n ≤ h.val := (hm 0).1
  have h2 : h.val < n + 1 := (hm 0).2
  omega

/-- The zeros the loop starts from. -/
abbrev fill : List (View.Piece (Elt F) S4x1024x256 .f32) := [⟨Rect.unit ![0, 0, 0] S4x1024x256.size inb_S4x1024x256_S4x1024x256_0_0_0, k0_pay158⟩]

/-- The state before trip `k`, head by head. -/
theorem loop_at (i : grid0.Coords) (c : Dev nD) (arg2 : Memref sig .tc .vmem S4x64 .f32) (harg2 : arg2.IsWhole) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x16x128x128 .f32) (harg6 : arg6.IsWhole) (arg7 : Memref sig .tc .vmem S1x128 .f32) (harg7 : arg7.IsWhole) (arg8 : Memref sig .tc .vmem S1x512x512 .bf16) (harg8 : arg8.IsWhole) (arg9 : Memref sig .tc .vmem S4x1024x256 .f32) (harg9 : arg9.IsWhole)
    v0 v16 v54 v91 v128 v165 v178 c4 v179 v181 v182 (x2 : Vec F S1x4096x512 .bf16) (x3 : Vec F S1x4096x512 .bf16) (x4 : Vec F S4x16x128x128 .f32) (k : ℕ) (hk : k ≤ (k0_t1_loop i).trips) :
    (st_k0_t1 (F := F) Variants.none c none i arg2 harg2 arg3 harg3 arg4 harg4 arg5 harg5 arg6 harg6 arg7 harg7 arg8 harg8 arg9 harg9 v0 v16 v54 v91 v128 v165 k0_pay157 v178 c4 v179 v181 v182 (harg4.unread x2) (harg5.unread x3) (harg6.unread x4)
        (arg9.view.writes (Elt F) arg9.view.junk fill) (k0_pay159, k0_pay159, k0_pay159, k0_pay159) k).1
      = ((head v54 x2 x3 x4 (i 1).val 0 k).1, (head v91 x2 x3 x4 (i 1).val 1 k).1, (head v128 x2 x3 x4 (i 1).val 2 k).1, (head v165 x2 x3 x4 (i 1).val 3 k).1)
    ∧ ∀ h : Fin 4, plane (View.canon ((st_k0_t1 (F := F) Variants.none c none i arg2 harg2 arg3 harg3 arg4 harg4 arg5 harg5 arg6 harg6 arg7 harg7 arg8 harg8 arg9 harg9 v0 v16 v54 v91 v128 v165 k0_pay157 v178 c4 v179 v181 v182 (harg4.unread x2) (harg5.unread x3) (harg6.unread x4)
        (arg9.view.writes (Elt F) arg9.view.junk fill) (k0_pay159, k0_pay159, k0_pay159, k0_pay159) k).2 ++ fill)) h
      = (head (![v54, v91, v128, v165] h) x2 x3 x4 (i 1).val h k).2 := by
  induction k with
  | zero =>
    refine ⟨rfl, fun h => ?_⟩
    show plane (View.canon fill) h = plane k0_pay158 h
    rw [View.canon_unit_zero z3]
  | succ k ih =>
    obtain ⟨ih1, ih2⟩ := ih (by omega)
    have hs := st_k0_t1_succ (F := F) Variants.none c none i arg2 harg2 arg3 harg3 arg4 harg4 arg5 harg5 arg6 harg6 arg7 harg7 arg8 harg8 arg9 harg9 v0 v16 v54 v91 v128 v165 k0_pay157 v178 c4 v179 v181 v182 (harg4.unread x2) (harg5.unread x3) (harg6.unread x4)
        (arg9.view.writes (Elt F) arg9.view.junk fill) (k0_pay159, k0_pay159, k0_pay159, k0_pay159) ⟨k, hk⟩
    rw [hs]
    dsimp only
    rw [trip_max, ← View.writes_append, trip_acc, View.read_writes_junk_eq_canon]
    rw [ih1]
    refine ⟨rfl, fun h => ?_⟩
    dsimp only
    rw [ld_plane _ 0 0 rfl, ld_plane _ 1 1 rfl, ld_plane _ 2 2 rfl, ld_plane _ 3 3 rfl, ih2, ih2, ih2, ih2]
    fin_cases h
    · show plane _ (0 : Fin 4) = _
      simp only [List.cons_append]
      rw [plane_miss 3 0 (by decide), plane_miss 2 0 (by decide), plane_miss 1 0 (by decide), plane_hit 0 0 rfl]; rfl
    · show plane _ (1 : Fin 4) = _
      simp only [List.cons_append]
      rw [plane_miss 3 1 (by decide), plane_miss 2 1 (by decide), plane_hit 1 1 rfl]; rfl
    · show plane _ (2 : Fin 4) = _
      simp only [List.cons_append]
      rw [plane_miss 3 2 (by decide), plane_hit 2 2 rfl]; rfl
    · show plane _ (3 : Fin 4) = _
      simp only [List.cons_append]
      rw [plane_hit 3 3 rfl]; rfl

/-- The queries of head `h`, block of 128 rows `u`. -/
def qsub (X : Vec F S1x512x512 .bf16) (h u : Fin 4) : Vec F S1x128x128 .bf16 :=
  fun x => X (ix3 0 ⟨128 * u.val + (x 1).val, by have h1 := u.isLt; have h2 : (x 1).val < 128 := (x 1).isLt; omega⟩ ⟨128 * h.val + (x 2).val, by have h1 := h.isLt; have h2 : (x 2).val < 128 := (x 2).isLt; omega⟩)

/-- The two maps' queries of a head, the other map's half of the lanes at zero, per block of 128 rows. -/
def headQ (q : Fin 4 → Vec F S1x128x128 .bf16) : FVec F S1024x128 .bf16 :=
  k0_pay129 (iota .tc S128x128 32 [1] iota_S128x128_d1_w32) (k0_pay123 (q 0)) (k0_pay124 (q 0)) (k0_pay127 (q 1)) (k0_pay128 (q 1)) (q 2) (q 3)

/-- 256 rows of a head's sums. -/
def half (A : Vec F S1x1024x256 .f32) (u : Fin 4) : Vec F S1x256x256 .f32 :=
  fun x => A (ix3 0 ⟨256 * u.val + (x 1).val, by have h1 := u.isLt; have h2 : (x 1).val < 256 := (x 1).isLt; omega⟩ (x 2))

/-- 128 rows of the result, from what becomes of each of the four heads' sums. -/
def rowBlk (fin : Vec F S1x256x256 .f32 → FVec F S128x128 .bf16) (a : Fin 4 → Vec F S1x256x256 .f32) : FVec F S1x128x512 .bf16 :=
  k0_pay172 (fin (a 0)) (fin (a 1)) (fin (a 2)) (fin (a 3))

/-- A block of the result. -/
def outBlock (fin : Vec F S1x256x256 .f32 → FVec F S128x128 .bf16) (x1 : Vec F S1x512x512 .bf16) (x2 : Vec F S1x4096x512 .bf16) (x3 : Vec F S1x4096x512 .bf16) (x4 : Vec F S4x16x128x128 .f32)
    (i1 : ℕ) : Vec F S1x512x512 .bf16 :=
  fun x => rowBlk fin (fun h => half (head (headQ (qsub x1 h)) x2 x3 x4 i1 h (i1 + 1)).2 ⟨(x 1).val / 128, by have h2 : (x 1).val < 512 := (x 1).isLt; omega⟩)
    (ix3 0 ⟨(x 1).val % 128, Nat.mod_lt _ (by decide)⟩ (x 2))

theorem inbQ (h u : Fin 4) : ∀ a, (![0, 128 * u.val, 128 * h.val] : Fin 3 → ℕ) a + S1x128x128.size a ≤ S1x512x512.size a := by revert h u; decide
theorem inbA (h u : Fin 4) : ∀ a, (![h.val, 256 * u.val, 0] : Fin 3 → ℕ) a + S1x256x256.size a ≤ S4x1024x256.size a := by revert h u; decide
theorem inbO (u : Fin 4) : ∀ a, (![0, 128 * u.val, 0] : Fin 3 → ℕ) a + S1x128x512.size a ≤ S1x512x512.size a := by revert u; decide

theorem ld_qsub (X : Vec F S1x512x512 .bf16) (h u : Fin 4) : View.ld X (Rect.unit ![0, 128 * u.val, 128 * h.val] S1x128x128.size (inbQ h u)) = qsub X h u := by
  funext x
  have h0 : (x 0).val < 1 := (x 0).isLt
  show X _ = X _
  congr 1
  funext a; apply Fin.ext; fin_cases a
  · show 0 + 1 * (x 0).val = 0; omega
  · show 128 * u.val + 1 * (x 1).val = 128 * u.val + (x 1).val; omega
  · show 128 * h.val + 1 * (x 2).val = 128 * h.val + (x 2).val; omega

theorem readCov_half {sig' : RefSig} {κ : Kind} {sp : Space} (v : View sig' κ sp S4x1024x256 .f32) (L : List (View.Piece (Elt F) S4x1024x256 .f32)) (h u : Fin 4) :
    v.readCov L (Rect.unit (s := S4x1024x256) ![h.val, 256 * u.val, 0] S1x256x256.size (inbA h u)).toLoadRect = half (plane (View.canon L) h) u := by
  rw [View.readCov_eq_canon']
  funext x
  have h0 : (x 0).val < 1 := (x 0).isLt
  show View.canon L _ = View.canon L _
  congr 1
  funext a; apply Fin.ext; fin_cases a
  · show h.val + 1 * (x 0).val = h.val; omega
  · show 256 * u.val + 1 * (x 1).val = 256 * u.val + (x 1).val; omega
  · show 0 + 1 * (x 2).val = (x 2).val; omega

theorem canon_rows (V : Fin 4 → FVec F S1x128x512 .bf16) :
    View.canon [(⟨Rect.unit (s := S1x512x512) ![0, 384, 0] S1x128x512.size (inbO 3), V 3⟩ : View.Piece (Elt F) S1x512x512 .bf16),
        ⟨Rect.unit (s := S1x512x512) ![0, 256, 0] S1x128x512.size (inbO 2), V 2⟩, ⟨Rect.unit (s := S1x512x512) ![0, 128, 0] S1x128x512.size (inbO 1), V 1⟩,
        ⟨Rect.unit (s := S1x512x512) ![0, 0, 0] S1x128x512.size (inbO 0), V 0⟩]
      = fun x => V ⟨(x 1).val / 128, by have h2 : (x 1).val < 512 := (x 1).isLt; omega⟩ (ix3 0 ⟨(x 1).val % 128, Nat.mod_lt _ (by decide)⟩ (x 2)) := by
  funext x
  have h0 : (x 0).val < 1 := (x 0).isLt
  have h1 : (x 1).val < 512 := (x 1).isLt
  have hit : ∀ (u : Fin 4) (p : FVec F S1x128x512 .bf16) (L : List (View.Piece (Elt F) S1x512x512 .bf16)), (x 1).val / 128 = u.val →
      View.canon ((⟨Rect.unit (s := S1x512x512) ![0, 128 * u.val, 0] S1x128x512.size (inbO u), p⟩ : View.Piece (Elt F) S1x512x512 .bf16) :: L) x
        = p (ix3 0 ⟨(x 1).val % 128, Nat.mod_lt _ (by decide)⟩ (x 2)) := fun u p L hu => by
    have e : x = (Rect.unit (s := S1x512x512) ![0, 128 * u.val, 0] S1x128x512.size (inbO u)).emb (ix3 0 ⟨(x 1).val % 128, Nat.mod_lt _ (by decide)⟩ (x 2)) := by
      funext a; apply Fin.ext; fin_cases a
      · show (x 0).val = 0 + 1 * 0; omega
      · show (x 1).val = 128 * u.val + 1 * ((x 1).val % 128); omega
      · show (x 2).val = 0 + 1 * (x 2).val; omega
    conv_lhs => rw [e]
    rw [View.canon_cons_emb]
  have miss : ∀ (u : Fin 4) (p : FVec F S1x128x512 .bf16) (L : List (View.Piece (Elt F) S1x512x512 .bf16)), (x 1).val / 128 ≠ u.val →
      View.canon ((⟨Rect.unit (s := S1x512x512) ![0, 128 * u.val, 0] S1x128x512.size (inbO u), p⟩ : View.Piece (Elt F) S1x512x512 .bf16) :: L) x = View.canon L x := fun u p L hu => by
    apply View.canon_cons_of_not_mem
    intro hm
    rw [Rect.mem_set_unit] at hm
    have h2 : 128 * u.val ≤ (x 1).val := (hm 1).1
    have h3 : (x 1).val < 128 * u.val + 128 := (hm 1).2
    omega
  have val : ∀ u : Fin 4, (x 1).val / 128 = u.val → (⟨(x 1).val / 128, by omega⟩ : Fin 4) = u := fun u hu => Fin.ext hu
  by_cases c3 : (x 1).val / 128 = 3
  · rw [val 3 c3]; exact hit 3 _ _ c3
  refine (miss 3 (V 3) _ c3).trans ?_
  by_cases c2 : (x 1).val / 128 = 2
  · rw [val 2 c2]; exact hit 2 _ _ c2
  refine (miss 2 (V 2) _ c2).trans ?_
  by_cases c1 : (x 1).val / 128 = 1
  · rw [val 1 c1]; exact hit 1 _ _ c1
  refine (miss 1 (V 1) _ c1).trans ?_
  have c0 : (x 1).val / 128 = 0 := by omega
  rw [val 0 c0]; exact hit 0 _ _ c0

/-- The rows of the result over the pieces that the loops have written to the sums. -/
theorem rows_A (c : Dev nD) (i : grid0.Coords) (arg2 : Memref sig .tc .vmem S4x64 .f32) (harg2 : arg2.IsWhole) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x16x128x128 .f32) (harg6 : arg6.IsWhole) (arg7 : Memref sig .tc .vmem S1x128 .f32) (harg7 : arg7.IsWhole) (arg8 : Memref sig .tc .vmem S1x512x512 .bf16) (harg8 : arg8.IsWhole) (arg9 : Memref sig .tc .vmem S4x1024x256 .f32) (harg9 : arg9.IsWhole)
    (v16 : FVec F S1x1 .f32) (fin : Vec F S1x256x256 .f32 → FVec F S128x128 .bf16) (x1 : Vec F S1x512x512 .bf16) (x2 : Vec F S1x4096x512 .bf16) (x3 : Vec F S1x4096x512 .bf16) (x4 : Vec F S4x16x128x128 .f32)
    (s1 : (FVec F S1024x1 .f32 × FVec F S1024x1 .f32 × FVec F S1024x1 .f32 × FVec F S1024x1 .f32) × List (View.Piece (Elt F) S4x1024x256 .f32))
    (hs1 : s1 = st_k0_t1 (F := F) Variants.none c none i arg2 harg2 arg3 harg3 arg4 harg4 arg5 harg5 arg6 harg6 arg7 harg7 arg8 harg8 arg9 harg9 (kernelRun0_A.sl.v0 i) v16 (kernelRun0_A.sl.v54 c arg3 harg3 x1) (kernelRun0_A.sl.v91 c arg3 harg3 x1)
    (kernelRun0_A.sl.v128 c arg3 harg3 x1) (kernelRun0_A.sl.v165 c arg3 harg3 x1) k0_pay157 (kernelRun0_A.sl.v178 i) 4#32 (kernelRun0_A.sl.v179 i) (kernelRun0_A.sl.v181 i) (kernelRun0_A.sl.v182 i)
    (harg4.unread x2) (harg5.unread x3) (harg6.unread x4) (arg9.view.writes (Elt F) arg9.view.junk fill) (k0_pay159, k0_pay159, k0_pay159, k0_pay159) (k0_t1_loop i).trips)
    (L : List (View.Piece (Elt F) S4x1024x256 .f32)) (hL : L = s1.2 ++ fill)
    (V : Fin 4 → FVec F S1x128x512 .bf16) (hV : V = fun u => rowBlk fin fun h => arg9.view.readCov L (Rect.unit (s := S4x1024x256) ![h.val, 256 * u.val, 0] S1x256x256.size (inbA h u)).toLoadRect) :
    View.canon [(⟨Rect.unit (s := S1x512x512) ![0, 384, 0] S1x128x512.size (inbO 3), V 3⟩ : View.Piece (Elt F) S1x512x512 .bf16),
        ⟨Rect.unit (s := S1x512x512) ![0, 256, 0] S1x128x512.size (inbO 2), V 2⟩, ⟨Rect.unit (s := S1x512x512) ![0, 128, 0] S1x128x512.size (inbO 1), V 1⟩,
        ⟨Rect.unit (s := S1x512x512) ![0, 0, 0] S1x128x512.size (inbO 0), V 0⟩] = outBlock fin x1 x2 x3 x4 (i 1).val := by
  have rq : ∀ h u, qsub x1 h u = View.readAt (Elt F) arg3.view (Rect.unit (s := S1x512x512) ![0, 128 * u.val, 128 * h.val] S1x128x128.size (inbQ h u)).toLoadRect (harg3.unread x1) := fun h u => by
    rw [View.readAt_eq_ld, harg3.read_unread, ld_qsub]
  have q0 : kernelRun0_A.sl.v54 c arg3 harg3 x1 = headQ (qsub x1 0) := by
    rw [show qsub x1 0 = _ from funext (rq 0)]; rfl
  have q1 : kernelRun0_A.sl.v91 c arg3 harg3 x1 = headQ (qsub x1 1) := by
    rw [show qsub x1 1 = _ from funext (rq 1)]; rfl
  have q2 : kernelRun0_A.sl.v128 c arg3 harg3 x1 = headQ (qsub x1 2) := by
    rw [show qsub x1 2 = _ from funext (rq 2)]; rfl
  have q3 : kernelRun0_A.sl.v165 c arg3 harg3 x1 = headQ (qsub x1 3) := by
    rw [show qsub x1 3 = _ from funext (rq 3)]; rfl
  have hl := (loop_at i c arg2 harg2 arg3 harg3 arg4 harg4 arg5 harg5 arg6 harg6 arg7 harg7 arg8 harg8 arg9 harg9 (kernelRun0_A.sl.v0 i) v16 (kernelRun0_A.sl.v54 c arg3 harg3 x1) (kernelRun0_A.sl.v91 c arg3 harg3 x1)
      (kernelRun0_A.sl.v128 c arg3 harg3 x1) (kernelRun0_A.sl.v165 c arg3 harg3 x1) (kernelRun0_A.sl.v178 i) 4#32 (kernelRun0_A.sl.v179 i) (kernelRun0_A.sl.v181 i) (kernelRun0_A.sl.v182 i) x2 x3 x4
      (k0_t1_loop i).trips le_rfl).2
  rw [← hs1, q0, q1, q2, q3, trips1] at hl
  have hv : ∀ h u : Fin 4, arg9.view.readCov L (Rect.unit (s := S4x1024x256) ![h.val, 256 * u.val, 0] S1x256x256.size (inbA h u)).toLoadRect
      = half (head (headQ (qsub x1 h)) x2 x3 x4 (i 1).val h ((i 1).val + 1)).2 u := fun h u => by
    rw [readCov_half, hL, hl h]
    fin_cases h <;> rfl
  have hr : ∀ u, V u = rowBlk fin fun h => half (head (headQ (qsub x1 h)) x2 x3 x4 (i 1).val h ((i 1).val + 1)).2 u := fun u => by
    rw [hV]; simp only [hv]
  rw [canon_rows V]
  funext x
  exact congrFun (hr _) _

/-- The mixing vectors' and the gain's loads. -/
theorem v16_eq (c : Dev nD) (arg2 : Memref sig .tc .vmem S4x64 .f32) (harg2 : arg2.IsWhole) (x0 : Vec F S4x64 .f32) : kernelRun0_A.sl.v16 c arg2 harg2 x0 = k0_pay120 x0 := by
  show k0_pay120 (View.readAt (Elt F) arg2.view (Rect.unit (s := S4x64) ![0, 0] S4x64.size inb_S4x64_S4x64_0_0).toLoadRect (harg2.unread x0)) = _
  rw [View.readAt_eq_ld, harg2.read_unread, View.ld_unit_zero z2]
theorem row_eq (arg7 : Memref sig .tc .vmem S1x128 .f32) (harg7 : arg7.IsWhole) (x5 : Vec F S1x128 .f32) :
    View.readAt (Elt F) arg7.view (Rect.unit (s := S1x128) ![0, 0] S1x128.size inb_S1x128_S1x128_0_0).toLoadRect (harg7.unread x5) = x5 := by
  rw [View.readAt_eq_ld, harg7.read_unread, View.ld_unit_zero z2]

/-- What a point writes. -/
theorem out_A (c : Dev nD) (i : grid0.Coords) (arg2 : Memref sig .tc .vmem S4x64 .f32) (harg2 : arg2.IsWhole) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x16x128x128 .f32) (harg6 : arg6.IsWhole) (arg7 : Memref sig .tc .vmem S1x128 .f32) (harg7 : arg7.IsWhole) (arg8 : Memref sig .tc .vmem S1x512x512 .bf16) (harg8 : arg8.IsWhole) (arg9 : Memref sig .tc .vmem S4x1024x256 .f32) (harg9 : arg9.IsWhole)
    (x0 : Vec F S4x64 .f32) (x1 : Vec F S1x512x512 .bf16) (x2 : Vec F S1x4096x512 .bf16) (x3 : Vec F S1x4096x512 .bf16) (x4 : Vec F S4x16x128x128 .f32) (x5 : Vec F S1x128 .f32) :
    out0_A_6 c i arg2 harg2 arg3 harg3 arg4 harg4 arg5 harg5 arg6 harg6 arg7 harg7 arg8 harg8 arg9 harg9 x0 x1 x2 x3 x4 x5 = outBlock (fun A => k0_pay168 (k0_pay120 x0) A x5) x1 x2 x3 x4 (i 1).val := by
  have hf : (fun A => k0_pay168 (k0_pay120 x0) A x5) = fun A => k0_pay168 (kernelRun0_A.sl.v16 c arg2 harg2 x0) A
      (View.readAt (Elt F) arg7.view (Rect.unit (s := S1x128) ![0, 0] S1x128.size inb_S1x128_S1x128_0_0).toLoadRect (harg7.unread x5)) := by
    rw [v16_eq, row_eq]
  obtain ⟨s1, hs1⟩ : ∃ s1, s1 = st_k0_t1 (F := F) Variants.none c none i arg2 harg2 arg3 harg3 arg4 harg4 arg5 harg5 arg6 harg6 arg7 harg7 arg8 harg8 arg9 harg9 (kernelRun0_A.sl.v0 i) (kernelRun0_A.sl.v16 c arg2 harg2 x0) (kernelRun0_A.sl.v54 c arg3 harg3 x1) (kernelRun0_A.sl.v91 c arg3 harg3 x1)
    (kernelRun0_A.sl.v128 c arg3 harg3 x1) (kernelRun0_A.sl.v165 c arg3 harg3 x1) k0_pay157 (kernelRun0_A.sl.v178 i) 4#32 (kernelRun0_A.sl.v179 i) (kernelRun0_A.sl.v181 i) (kernelRun0_A.sl.v182 i)
    (harg4.unread x2) (harg5.unread x3) (harg6.unread x4) (arg9.view.writes (Elt F) arg9.view.junk fill) (k0_pay159, k0_pay159, k0_pay159, k0_pay159) (k0_t1_loop i).trips := ⟨_, rfl⟩
  obtain ⟨L, hL⟩ : ∃ L, L = (st_k0_t2 (F := F) Variants.none c none i arg2 harg2 arg3 harg3 arg4 harg4 arg5 harg5 arg6 harg6 arg7 harg7 arg8 harg8 arg9 harg9 (kernelRun0_A.sl.v0 i) (kernelRun0_A.sl.v16 c arg2 harg2 x0) (kernelRun0_A.sl.v54 c arg3 harg3 x1) (kernelRun0_A.sl.v91 c arg3 harg3 x1)
    (kernelRun0_A.sl.v128 c arg3 harg3 x1) (kernelRun0_A.sl.v165 c arg3 harg3 x1) k0_pay157 (kernelRun0_A.sl.v178 i) 4#32 (kernelRun0_A.sl.v179 i) (kernelRun0_A.sl.v181 i) (kernelRun0_A.sl.v182 i) (kernelRun0_A.sl.v202 i)
    (harg4.unread x2) (harg5.unread x3) (harg6.unread x4) (arg9.view.writes (Elt F) arg9.view.junk (s1.2 ++ fill)) (s1.1.1, s1.1.2.1, s1.1.2.2.1, s1.1.2.2.2) (k0_t2_loop i).trips).2 ++ (s1.2 ++ fill) := ⟨_, rfl⟩
  have key := rows_A c i arg2 harg2 arg3 harg3 arg4 harg4 arg5 harg5 arg6 harg6 arg7 harg7 arg8 harg8 arg9 harg9 (kernelRun0_A.sl.v16 c arg2 harg2 x0) (fun A => k0_pay168 (kernelRun0_A.sl.v16 c arg2 harg2 x0) A
      (View.readAt (Elt F) arg7.view (Rect.unit (s := S1x128) ![0, 0] S1x128.size inb_S1x128_S1x128_0_0).toLoadRect (harg7.unread x5))) x1 x2 x3 x4 s1 hs1 L (by rw [hL, trips2]; rfl) _ rfl
  rw [hf]
  unfold out0_A_6; rw [View.read_writes_junk_eq_canon]; unfold kernelRun0_A; dsimp only
  subst hL; subst hs1
  refine Eq.trans ?_ key
  rfl

end Cert.Kernel3Ideal.DiffBody
end
end
-- ==== Proof.DiffSpec.lean ====
/- Differential attention as a formula, and the arithmetic behind its blocked softmax: a row keeps a running maximum and,
   relative to it, the weighted sum of the values seen so far; in the end the maximum cancels. -/
module

public import Idealize.ShloMosaic.PureOps.Ideal
public import Idealize.ShloMosaic.PureOps.Ideal.Laws

@[expose] public section
noncomputable section
namespace Cert.DiffSpec
open Idealize.ShloMosaic

/-- One over the logarithm of two. -/
abbrev log2e : EReal := (((Real.log 2)⁻¹ : ℝ) : EReal)
/-- The weight of a score: its exponential, and nothing for a masked key. -/
def wt (x : EReal) : ℝ := (Ideal.exp x).toReal

@[simp] theorem wt_bot : wt ⊥ = 0 := by simp [wt]
@[simp] theorem wt_coe (r : ℝ) : wt (r : EReal) = Real.exp r := by simp [wt]

theorem wt_nonneg (x : EReal) : 0 ≤ wt x := by
  induction x with
  | bot => simp
  | top => simp [wt]
  | coe r => rw [wt_coe]; exact (Real.exp_pos r).le

theorem log2_pos : 0 < Real.log 2 := Real.log_pos (by norm_num)

theorem scaled_bot : (⊥ : EReal) * log2e = ⊥ := EReal.bot_mul_coe_of_pos (inv_pos.mpr log2_pos)

theorem scaled_ne_top {x : EReal} (hx : x ≠ ⊤) : x * log2e ≠ ⊤ := by
  induction x with
  | bot => rw [scaled_bot]; exact bot_ne_top
  | top => exact absurd rfl hx
  | coe r => rw [← EReal.coe_mul]; exact EReal.coe_ne_top _

theorem scaled_ne_bot {x : EReal} (hx : x ≠ ⊥) : x * log2e ≠ ⊥ := by
  induction x with
  | bot => exact absurd rfl hx
  | top => rw [EReal.top_mul_coe_of_pos (inv_pos.mpr log2_pos)]; exact top_ne_bot
  | coe r => rw [← EReal.coe_mul]; exact EReal.coe_ne_bot _

theorem two_rpow (r : ℝ) : (2 : ℝ) ^ (r * (Real.log 2)⁻¹) = Real.exp r := by
  rw [Real.rpow_def_of_pos (by norm_num)]
  congr 1
  field_simp [log2_pos.ne']

/-- A scaled score against a maximum, to the base two. -/
theorem exp2_scaled {x : EReal} (hx : x ≠ ⊤) (M : ℝ) : Ideal.exp2 (x * log2e - (M : EReal)) = (((2 : ℝ) ^ (-M) * wt x : ℝ) : EReal) := by
  induction x with
  | bot => rw [scaled_bot, EReal.bot_sub]; simp
  | top => exact absurd rfl hx
  | coe r =>
    rw [← EReal.coe_mul, ← EReal.coe_sub, Ideal.exp2_coe, wt_coe]
    congr 1
    show (2 : ℝ) ^ (r * (Real.log 2)⁻¹ - M) = _
    rw [sub_eq_add_neg, Real.rpow_add (by norm_num), two_rpow, mul_comm]

/-- The same to the base of the reference. -/
theorem exp_shifted {x : EReal} (hx : x ≠ ⊤) (M : ℝ) : Ideal.exp (x - (M : EReal)) = ((Real.exp (-M) * wt x : ℝ) : EReal) := by
  induction x with
  | bot => rw [EReal.bot_sub]; simp
  | top => exact absurd rfl hx
  | coe r =>
    rw [← EReal.coe_sub, Ideal.exp_coe, wt_coe]
    congr 1
    rw [sub_eq_add_neg, Real.exp_add, mul_comm]

theorem coe_sum {n : ℕ} (f : Fin n → ℝ) : ((∑ i, f i : ℝ) : EReal) = ∑ i, (f i : EReal) := by
  induction n with
  | zero => simp
  | succ n ih => rw [Fin.sum_univ_castSucc, Fin.sum_univ_castSucc, EReal.coe_add, ih]

theorem fold_max_ne_top {n : ℕ} {f : Fin n → EReal} (h : ∀ i, f i ≠ ⊤) : Finset.univ.fold max ⊥ f ≠ ⊤ :=
  ((Finset.fold_max_lt (b := (⊥ : EReal)) (c := ⊤)).mpr ⟨bot_lt_top, fun i _ => lt_top_iff_ne_top.mpr (h i)⟩).ne

theorem fold_max_ne_bot {n : ℕ} {f : Fin n → EReal} (i : Fin n) (h : f i ≠ ⊥) : Finset.univ.fold max ⊥ f ≠ ⊥ :=
  (lt_of_lt_of_le (bot_lt_iff_ne_bot.mpr h) ((Finset.le_fold_max _).mpr (Or.inr ⟨i, Finset.mem_univ i, le_rfl⟩))).ne'

theorem real_of {x : EReal} (h1 : x ≠ ⊤) (h2 : x ≠ ⊥) : ∃ M : ℝ, x = M := ⟨x.toReal, (EReal.coe_toReal h1 h2).symm⟩

/-- What a row holds after `k` blocks of 512 keys: nothing before the first, then a maximum and the sums relative to it. -/
def Held (s : ℕ → EReal) (V : ℕ → Fin 256 → ℝ) (k : ℕ) (m : EReal) (a : Fin 256 → EReal) : Prop :=
  (k = 0 ∧ m = ⊥ ∧ ∀ e, a e = 0) ∨
    ∃ M : ℝ, m = M ∧ ∀ e, a e = (((2 : ℝ) ^ (-M) * ∑ j ∈ Finset.range (512 * k), wt (s j) * V j e : ℝ) : EReal)

/-- One block of keys more. -/
theorem Held.step {s : ℕ → EReal} {V : ℕ → Fin 256 → ℝ} {k : ℕ} {m : EReal} {a : Fin 256 → EReal} (h : Held s V k m a)
    (ht : ∀ j, s j ≠ ⊤) (h0 : s 0 ≠ ⊥) (x : Fin 512 → EReal) (hx : ∀ c : Fin 512, x c = s (512 * k + c.val) * log2e)
    (v : Fin 512 → Fin 256 → EReal) (hv : ∀ c e, v c e = ((V (512 * k + c.val) e : ℝ) : EReal))
    (m' : EReal) (hm : m' = max m (Finset.univ.fold max ⊥ x))
    (a' : Fin 256 → EReal) (ha : ∀ e, a' e = a e * Ideal.exp2 (m - m') + ∑ c : Fin 512, Ideal.exp2 (x c - m') * v c e) :
    Held s V (k + 1) m' a' := by
  have hxt : ∀ c, x c ≠ ⊤ := fun c => by rw [hx]; exact scaled_ne_top (ht _)
  have hmt : m ≠ ⊤ := by
    rcases h with ⟨_, h, _⟩ | ⟨M, h, _⟩
    · rw [h]; exact bot_ne_top
    · rw [h]; exact EReal.coe_ne_top _
  have ht' : m' ≠ ⊤ := by
    rw [hm]
    exact (max_lt (lt_top_iff_ne_top.mpr hmt) (lt_top_iff_ne_top.mpr (fold_max_ne_top hxt))).ne
  have hb' : m' ≠ ⊥ := by
    rw [hm]
    rcases h with ⟨hk, _, _⟩ | ⟨M, h, _⟩
    · have : x 0 ≠ ⊥ := by rw [hx, hk]; exact scaled_ne_bot h0
      exact (lt_of_lt_of_le (bot_lt_iff_ne_bot.mpr (fold_max_ne_bot 0 this)) (le_max_right _ _)).ne'
    · exact (lt_of_lt_of_le (by rw [h]; exact EReal.bot_lt_coe M) (le_max_left _ _)).ne'
  obtain ⟨M', hM'⟩ := real_of ht' hb'
  refine Or.inr ⟨M', hM', fun e => ?_⟩
  have hs : ∑ c : Fin 512, Ideal.exp2 (x c - m') * v c e
      = (((2 : ℝ) ^ (-M') * ∑ c : Fin 512, wt (s (512 * k + c.val)) * V (512 * k + c.val) e : ℝ) : EReal) := by
    rw [Finset.mul_sum, coe_sum]
    refine Finset.sum_congr rfl fun c _ => ?_
    rw [hx, hM', exp2_scaled (ht _), hv, ← EReal.coe_mul, mul_assoc]
  have hsplit : ∑ j ∈ Finset.range (512 * (k + 1)), wt (s j) * V j e
      = (∑ j ∈ Finset.range (512 * k), wt (s j) * V j e) + ∑ c : Fin 512, wt (s (512 * k + c.val)) * V (512 * k + c.val) e := by
    rw [show 512 * (k + 1) = 512 * k + 512 from by ring, Finset.sum_range_add, Finset.sum_range (n := 512)]
  rw [ha, hs, hsplit, mul_add, EReal.coe_add]
  congr 1
  rcases h with ⟨hk, hmb, h⟩ | ⟨M, hMm, h⟩
  · rw [h, hk]; simp
  · rw [h, hMm, hM', ← EReal.coe_sub, Ideal.exp2_coe, ← EReal.coe_mul]
    congr 1
    show _ * (2 : ℝ) ^ (M - M') = _
    rw [mul_right_comm, ← Real.rpow_add (by norm_num)]
    congr 2
    ring

/-- In the end the maximum cancels. -/
theorem Held.quot {s : ℕ → EReal} {V : ℕ → Fin 256 → ℝ} {k : ℕ} {m : EReal} {a : Fin 256 → EReal} (h : Held s V k m a) (hk : 0 < k)
    (hl : 0 < ∑ j ∈ Finset.range (512 * k), wt (s j) * V j 128) (e : Fin 256) :
    Ideal.div (a e) (a 128) = (((∑ j ∈ Finset.range (512 * k), wt (s j) * V j e) / ∑ j ∈ Finset.range (512 * k), wt (s j) * V j 128 : ℝ) : EReal) := by
  rcases h with ⟨h, _⟩ | ⟨M, _, h⟩
  · omega
  · have hp : (0 : ℝ) < 2 ^ (-M) := Real.rpow_pos_of_pos (by norm_num) _
    rw [h, h, Ideal.div_coe (mul_pos hp hl).ne', ← EReal.coe_mul, mul_one_div]
    congr 1
    exact mul_div_mul_left _ _ hp.ne'

/-- The difference of two softmaxes, applied to the values. -/
def attn (s0 s1 : Fin 4096 → EReal) (lam : ℝ) (v : Fin 4096 → ℝ) : ℝ :=
  (∑ j, wt (s0 j) * v j) / (∑ j, wt (s0 j)) - lam * ((∑ j, wt (s1 j) * v j) / ∑ j, wt (s1 j))

/-- A softmax entry. -/
theorem softmax_at {s : Fin 4096 → EReal} (ht : ∀ j, s j ≠ ⊤) (i : Fin 4096) (h0 : s i ≠ ⊥) (j : Fin 4096) :
    Ideal.div (Ideal.exp (s j - Finset.univ.fold max ⊥ s)) (∑ j, Ideal.exp (s j - Finset.univ.fold max ⊥ s))
      = ((wt (s j) / ∑ j, wt (s j) : ℝ) : EReal) := by
  obtain ⟨M, hM⟩ := real_of (fold_max_ne_top ht) (fold_max_ne_bot i h0)
  rw [hM]
  have hp : 0 < ∑ j, wt (s j) := by
    obtain ⟨r, hr⟩ := real_of (ht i) h0
    refine Finset.sum_pos' (fun j _ => wt_nonneg _) ⟨i, Finset.mem_univ i, ?_⟩
    rw [hr, wt_coe]; exact Real.exp_pos r
  have hs : ∑ j, Ideal.exp (s j - (M : EReal)) = ((Real.exp (-M) * ∑ j, wt (s j) : ℝ) : EReal) := by
    rw [Finset.mul_sum, coe_sum]
    exact Finset.sum_congr rfl fun c _ => exp_shifted (ht c) M
  rw [hs, exp_shifted (ht j), Ideal.div_coe (mul_pos (Real.exp_pos _) hp).ne', ← EReal.coe_mul, mul_one_div]
  congr 1
  exact mul_div_mul_left _ _ (Real.exp_pos _).ne'

/-- The reference's order: the two maps are subtracted first. -/
theorem attn_eq (s0 s1 : Fin 4096 → EReal) (lam : ℝ) (v : Fin 4096 → ℝ) :
    ∑ j, (v j : EReal) * (((wt (s0 j) / ∑ j, wt (s0 j) : ℝ) : EReal) - (lam : EReal) * ((wt (s1 j) / ∑ j, wt (s1 j) : ℝ) : EReal))
      = ((attn s0 s1 lam v : ℝ) : EReal) := by
  have : ∀ j, (v j : EReal) * (((wt (s0 j) / ∑ j, wt (s0 j) : ℝ) : EReal) - (lam : EReal) * ((wt (s1 j) / ∑ j, wt (s1 j) : ℝ) : EReal))
      = ((v j * (wt (s0 j) / (∑ j, wt (s0 j)) - lam * (wt (s1 j) / ∑ j, wt (s1 j))) : ℝ) : EReal) := fun j => by
    rw [← EReal.coe_mul, ← EReal.coe_sub, ← EReal.coe_mul]
  rw [Finset.sum_congr rfl fun j _ => this j, ← coe_sum]
  congr 1
  unfold attn
  rw [Finset.sum_div, Finset.sum_div, Finset.mul_sum, ← Finset.sum_sub_distrib]
  exact Finset.sum_congr rfl fun j _ => by ring

/-- A row over its root mean square, times a weight and the factor of the layer. -/
def norm (f : EReal) (o g : Fin 128 → EReal) (e : Fin 128) : EReal :=
  o e * Ideal.rsqrt (Ideal.div (∑ j : Fin 128, o j * o j) (Ideal.ofBits .f32 0x43000000#32) + Ideal.ofBits .f32 0x358637BD#32) * g e * f

end Cert.DiffSpec
end
end
-- ==== Proof.DiffIdeal.lean ====
/- The stages of a grid point of the differential attention over extended reals, at an index. -/
module

public import proofs.«01_k».proof.Proof.DiffBody
public import proofs.«01_k».proof.Proof.DiffSpec
public import Idealize.ShloMosaic.Lib.StableHlo.ReadAt

@[expose] public section
set_option maxRecDepth 16384
noncomputable section
namespace Cert.Kernel3Ideal.DiffBody
open Cert.Kernel3Ideal Cert.Kernel3Ideal.Gen Idealize.ShloMosaic Idealize.ShloMosaic.TcCoe Idealize.SL.Sem Cert.DiffSpec

theorem named_mask : Named.named (F := Ideal) Cert.Kernel3Ideal.κ "mask" (φ := .f32) 0xF149F2CA#32 = ⊥ :=
  IdealRules.named_const.ideal_named_scalar _ _ _ _ rfl
theorem named_log2e : Named.named (F := Ideal) Cert.Kernel3Ideal.κ "log2e" (φ := .f32) 0x3FB8AA3B#32 = log2e :=
  IdealRules.named_const.ideal_named_scalar _ _ _ _ rfl

theorem one_f32 : Ideal.ofBits .f32 0x3F800000#32 = 1 := by simp [Ideal.ofBits, Ideal.ieee, -EReal.coe_mul]; norm_num
theorem zero_f32 : Ideal.ofBits .f32 0x00000000#32 = 0 := by simp [Ideal.ofBits, Ideal.ieee, -EReal.coe_mul]
theorem zero_bf16 : Ideal.ofBits .bf16 0x0000#16 = 0 := by simp [Ideal.ofBits, Ideal.ieee, -EReal.coe_mul]
theorem ninf_f32 : Ideal.ofBits .f32 0xFF800000#32 = ⊥ := by simp [Ideal.ofBits, Ideal.ieee, -EReal.coe_mul]

/-- The row of map `p` for query `r` of block `u`. -/
abbrev rowIx (u : Fin 4) (p : Fin 2) (r : Fin 128) : Fin 1024 := ⟨256 * u.val + 128 * p.val + r.val, by omega⟩

/-- The lanes of the two maps. -/
def lanes (p : Fin 2) (x : FVec Ideal S128x128 .bf16) : FVec Ideal S128x128 .bf16 := fun i => if (i 1).val / 64 = p.val then x i else 0

theorem lane_lt : ∀ l : Fin 128, IntOp.cmpi .slt (BitVec.ofNat 32 l.val) 64#32 = if l.val / 64 = (0 : Fin 2).val then 1#1 else 0#1 := by decide +kernel
theorem lane_ge : ∀ l : Fin 128, IntOp.cmpi .sge (BitVec.ofNat 32 l.val) 64#32 = if l.val / 64 = (1 : Fin 2).val then 1#1 else 0#1 := by decide +kernel

theorem sel0 (x : FVec Ideal S128x128 .bf16) :
    select (cmpi .slt (iota .tc S128x128 32 [1] iota_S128x128_d1_w32) (broadcast S128x128 64#32)) x (broadcast S128x128 (Scalar.ofBits (F := Ideal) .bf16 0x0000#16)) = lanes 0 x := by
  funext i
  idx_vars i
  pointwise [lanes]
  rw [lane_lt]
  split_ifs <;> simp_all [Scalar.select]

theorem sel1 (x : FVec Ideal S128x128 .bf16) :
    select (cmpi .sge (iota .tc S128x128 32 [1] iota_S128x128_d1_w32) (broadcast S128x128 64#32)) x (broadcast S128x128 (Scalar.ofBits (F := Ideal) .bf16 0x0000#16)) = lanes 1 x := by
  funext i
  idx_vars i
  pointwise [lanes]
  rw [lane_ge]
  split_ifs <;> simp_all [Scalar.select]

theorem headQ_apply (q : Fin 4 → Vec Ideal S1x128x128 .bf16) (u : Fin 4) (p : Fin 2) (r l : Fin 128) :
    headQ (F := Ideal) q (ix2 (rowIx u p r) l) = if l.val / 64 = p.val then q u (ix3 0 r l) else 0 := by
  have e : headQ (F := Ideal) q = concatenate S1024x128 0 (List.ofFn fun n : Fin 8 => (⟨S128x128, lanes ⟨n.val % 2, by omega⟩ (shapeCast S128x128 (q ⟨n.val / 2, by omega⟩) shapeCasts_S1x128x128_S128x128)⟩ : (s : Shape) × (s.Idx → Ideal .bf16)))
      concatenates_S128x128_S128x128_S128x128_S128x128_S128x128_S128x128_S128x128_S128x128_S1024x128_d0 := by
    unfold headQ k0_pay129 k0_pay123 k0_pay124 k0_pay127 k0_pay128 k0_pay122 k0_pay126 k0_pay121 k0_pay125
    dsimp only
    rw [sel0, sel0, sel0, sel0, sel1, sel1, sel1, sel1]
    rfl
  refine (congrFun e _).trans ?_
  refine (concatenate_ofFn_apply (s₁ := S128x128) (t := S1024x128) 0 (fun n : Fin 8 => lanes ⟨n.val % 2, by omega⟩ (shapeCast S128x128 (q ⟨n.val / 2, by omega⟩) shapeCasts_S1x128x128_S128x128)) _ rfl 128 rfl
    (ix2 (rowIx u p r) l) ⟨2 * u.val + p.val, by omega⟩ (by show (256 * u.val + 128 * p.val + r.val) / 128 = 2 * u.val + p.val; omega)
    (ix2 r l) (by show r.val = (256 * u.val + 128 * p.val + r.val) % 128; omega)
    (by intro b hb; fin_cases b; · exact absurd rfl hb
        · rfl)).trans ?_
  have e1 : (⟨(2 * u.val + p.val) / 2, by omega⟩ : Fin 4) = u := Fin.ext (by show (2 * u.val + p.val) / 2 = u.val; omega)
  have e2 : (⟨(2 * u.val + p.val) % 2, by omega⟩ : Fin 2) = p := Fin.ext (by show (2 * u.val + p.val) % 2 = p.val; omega)
  show lanes ⟨(2 * u.val + p.val) % 2, _⟩ (shapeCast S128x128 (q ⟨(2 * u.val + p.val) / 2, _⟩) _) (ix2 r l) = _
  rw [e1, e2]
  unfold lanes
  pointwise

theorem tileRow_apply (t : Fin 4 → Vec Ideal S1x1x128x128 .f32) (r cc : Fin 128) (cb : Fin 4) (c : Fin 512) (hc : c.val = 128 * cb.val + cc.val) :
    tileRow (F := Ideal) (t 0) (t 1) (t 2) (t 3) (ix2 r c) = t cb (ix4 0 0 r cc) := by
  have e : tileRow (F := Ideal) (t 0) (t 1) (t 2) (t 3) = concatenate S128x512 1 (List.ofFn fun n : Fin 4 => (⟨S128x128, shapeCast S128x128 (t n) shapeCasts_S1x1x128x128_S128x128⟩ : (s : Shape) × (s.Idx → Ideal .f32)))
      concatenates_S128x128_S128x128_S128x128_S128x128_S128x512_d1 := rfl
  refine (congrFun e _).trans ?_
  refine (concatenate_ofFn_apply (s₁ := S128x128) (t := S128x512) 1 (fun n : Fin 4 => shapeCast S128x128 (t n) shapeCasts_S1x1x128x128_S128x128) concatenates_S128x128_S128x128_S128x128_S128x128_S128x512_d1 rfl 128 rfl
    (ix2 r c) cb (by show c.val / 128 = cb.val; omega) (ix2 r cc) (by show cc.val = c.val % 128; omega)
    (by intro b hb; fin_cases b; · rfl
        · exact absurd rfl hb)).trans ?_
  pointwise

theorem biasRows_apply (t : Fin 4 → FVec Ideal S128x512 .f32) (u : Fin 4) (p : Fin 2) (r : Fin 128) (c : Fin 512) :
    biasRows (F := Ideal) t (ix2 (rowIx u p r) c) = t u (ix2 r c) := by
  have e : biasRows (F := Ideal) t = concatenate S1024x512 0 (List.ofFn fun n : Fin 8 => (⟨S128x512, t ⟨n.val / 2, by omega⟩⟩ : (s : Shape) × (s.Idx → Ideal .f32)))
      concatenates_S128x512_S128x512_S128x512_S128x512_S128x512_S128x512_S128x512_S128x512_S1024x512_d0 := rfl
  refine (congrFun e _).trans ?_
  refine (concatenate_ofFn_apply (s₁ := S128x512) (t := S1024x512) 0 (fun n : Fin 8 => t ⟨n.val / 2, by omega⟩) concatenates_S128x512_S128x512_S128x512_S128x512_S128x512_S128x512_S128x512_S128x512_S1024x512_d0 rfl 128 rfl
    (ix2 (rowIx u p r) c) ⟨2 * u.val + p.val, by omega⟩ (by show (256 * u.val + 128 * p.val + r.val) / 128 = 2 * u.val + p.val; omega)
    (ix2 r c) (by show r.val = (256 * u.val + 128 * p.val + r.val) % 128; omega)
    (by intro b hb; fin_cases b; · exact absurd rfl hb
        · rfl)).trans ?_
  have e1 : (⟨(2 * u.val + p.val) / 2, by omega⟩ : Fin 4) = u := Fin.ext (by show (2 * u.val + p.val) / 2 = u.val; omega)
  show t ⟨(2 * u.val + p.val) / 2, _⟩ (ix2 r c) = _
  rw [e1]

theorem scores_apply (q : FVec Ideal S1024x128 .bf16) (kk : Vec Ideal S1x512x128 .bf16) (T : Fin 4 → Fin 4 → Vec Ideal S1x1x128x128 .f32)
    (u : Fin 4) (p : Fin 2) (r cc : Fin 128) (cb : Fin 4) (c : Fin 512) (hc : c.val = 128 * cb.val + cc.val) :
    scores (F := Ideal) q kk T (ix2 (rowIx u p r) c) = (∑ l : Fin 128, q (ix2 (rowIx u p r) l) * kk (ix3 0 c l)) + T u cb (ix4 0 0 r cc) := by
  unfold scores
  have e1 := (biasRows_apply (fun u => tileRow (T u 0) (T u 1) (T u 2) (T u 3)) u p r c).trans (tileRow_apply (T u) r cc cb c hc)
  have e2 : k0_pay2 (F := Ideal) q kk (ix2 (rowIx u p r) c) = ∑ l : Fin 128, q (ix2 (rowIx u p r) l) * kk (ix3 0 c l) := by
    pointwise [k0_pay2, dot_S1024x128_S512x128_S1024x512_1_1_0_0_n_n]
  show k0_pay2 (F := Ideal) q kk (ix2 (rowIx u p r) c) + biasRows _ (ix2 (rowIx u p r) c) = _
  rw [e1, e2]

theorem newMax_apply (m : FVec Ideal S1024x1 .f32) (s : FVec Ideal S1024x512 .f32) (ρ : Fin 1024) :
    newMax (F := Ideal) m s (ix2 ρ 0) = max (m (ix2 ρ 0)) (Finset.univ.fold max ⊥ fun c : Fin 512 => s (ix2 ρ c) * log2e) := by
  unfold newMax
  pointwise [k0_pay161, k0_pay160, named_log2e]
  rw [ninf_f32]

/-- A value row with its column of ones. -/
def vcat (vv : Vec Ideal S1x512x128 .bf16) (c : Fin 512) (e : Fin 256) : EReal :=
  if h : e.val < 128 then vv (ix3 0 c ⟨e.val, h⟩) else if e.val = 128 then 1 else 0

theorem one_at : ∀ l : Fin 128, l.val ≠ 0 → IntOp.cmpi .eq (BitVec.ofNat 32 l.val) 0#32 = 0#1 := by decide +kernel
theorem one_col (l : Fin 128) (hl : l.val ≠ 0) : Scalar.select (IntOp.cmpi .eq (BitVec.ofNat 32 l.val) 0#32) (1 : EReal) 0 = 0 := by
  rw [one_at l hl]; rfl

theorem newAcc_apply (m : FVec Ideal S1024x1 .f32) (s : FVec Ideal S1024x512 .f32) (vv : Vec Ideal S1x512x128 .bf16) (a : Vec Ideal S1x1024x256 .f32) (ρ : Fin 1024) (e : Fin 256) :
    newAcc (F := Ideal) k0_pay157 m s vv a (ix3 0 ρ e) = a (ix3 0 ρ e) * Ideal.exp2 (m (ix2 ρ 0) - newMax m s (ix2 ρ 0))
      + ∑ c : Fin 512, Ideal.exp2 (s (ix2 ρ c) * log2e - newMax m s (ix2 ρ 0)) * vcat vv c e := by
  unfold newAcc newMax
  pointwise [k0_pay162, k0_pay160, named_log2e, dot_S1024x512_S512x256_S1024x256_1_0_0_1_n_n, k0_pay157]
  congr 1
  refine Finset.sum_congr rfl fun c _ => congrArg _ ?_
  unfold vcat
  split_ifs with h1 h2
  · rfl
  · rw [show e.val - 128 = 0 from by omega]; rfl
  · exact one_col ⟨e.val - 128, by omega⟩ (by show e.val - 128 ≠ 0; omega)

/-- The norm of the difference of the two maps' averages, from the sums of 256 rows. -/
def normed (f lam : EReal) (A : Vec Ideal S1x256x256 .f32) (g : Fin 128 → EReal) (r e : Fin 128) : EReal :=
  norm f (fun e => Ideal.div (A (ix3 0 ⟨r.val, by omega⟩ ⟨e.val, by omega⟩)) (A (ix3 0 ⟨r.val, by omega⟩ 128))
    - lam * Ideal.div (A (ix3 0 ⟨128 + r.val, by omega⟩ ⟨e.val, by omega⟩)) (A (ix3 0 ⟨128 + r.val, by omega⟩ 128))) g e

theorem pay168_apply (lam : FVec Ideal S1x1 .f32) (A : Vec Ideal S1x256x256 .f32) (g : Vec Ideal S1x128 .f32) (r e : Fin 128) :
    k0_pay168 (F := Ideal) lam A g (ix2 r e) = normed (Ideal.ofBits .f32 0x3F24FD5C#32) (lam (ix2 0 0)) A (fun e => g (ix2 0 e)) r e := by
  pointwise [k0_pay168]
  rfl

theorem pay172_apply (t : Fin 4 → FVec Ideal S128x128 .bf16) (r e : Fin 128) (h : Fin 4) (c : Fin 512) (hc : c.val = 128 * h.val + e.val) :
    k0_pay172 (F := Ideal) (t 0) (t 1) (t 2) (t 3) (ix3 0 r c) = t h (ix2 r e) := by
  have e0 : k0_pay172 (F := Ideal) (t 0) (t 1) (t 2) (t 3) = shapeCast S1x128x512 (concatenate S128x512 1 (List.ofFn fun n : Fin 4 => (⟨S128x128, t n⟩ : (s : Shape) × (s.Idx → Ideal .bf16)))
      concatenates_S128x128_S128x128_S128x128_S128x128_S128x512_d1) shapeCasts_S128x512_S1x128x512 := rfl
  have e1 := concatenate_ofFn_apply (s₁ := S128x128) (t := S128x512) 1 t concatenates_S128x128_S128x128_S128x128_S128x128_S128x512_d1 rfl 128 rfl
    (ix2 r c) h (by show c.val / 128 = h.val; omega) (ix2 r e) (by show e.val = c.val % 128; omega)
    (by intro b hb; fin_cases b; · rfl
        · exact absurd rfl hb)
  rw [e0, ← e1]
  generalize concatenate S128x512 1 _ _ = X
  pointwise

end Cert.Kernel3Ideal.DiffBody
end
end
-- ==== Proof.DiffPoint.lean ====
/- A grid point of the differential attention over extended reals: the loop over the blocks of keys holds the sums of the
   softmax of the keys seen, and what is written is the norm of the difference of the two maps' averages. -/
module

public import proofs.«01_k».proof.Proof.DiffIdeal

@[expose] public section
set_option maxRecDepth 16384
noncomputable section
namespace Cert.Kernel3Ideal.DiffBody
open Cert.Kernel3Ideal Cert.Kernel3Ideal.Gen Idealize.ShloMosaic Idealize.ShloMosaic.TcCoe Idealize.SL.Sem Cert.DiffSpec

/-- The score of a row against a key. -/
def sc (x1 : Vec Ideal S1x512x512 .bf16) (x2 : Vec Ideal S1x4096x512 .bf16) (x4 : Vec Ideal S4x16x128x128 .f32) (i1 : ℕ) (h u : Fin 4) (p : Fin 2) (r : Fin 128) (j : ℕ) : EReal :=
  (∑ l : Fin 64, x1 (ix3 0 ⟨128 * u.val + r.val, by omega⟩ ⟨128 * h.val + (64 * p.val + l.val), by omega⟩)
      * x2 (ix3 0 ⟨j % 4096, Nat.mod_lt _ (by decide)⟩ ⟨128 * h.val + (64 * p.val + l.val), by omega⟩))
    + x4 (ix4 h ⟨min (4 * i1 + u.val + 1 - j / 128) 15, by omega⟩ r ⟨j % 128, Nat.mod_lt _ (by decide)⟩)

/-- The value of a key in a column: the values, and the column of ones behind them. -/
def vr (x3 : Vec Ideal S1x4096x512 .bf16) (h : Fin 4) (j : ℕ) (e : Fin 256) : ℝ :=
  if he : e.val < 128 then (x3 (ix3 0 ⟨j % 4096, Nat.mod_lt _ (by decide)⟩ ⟨128 * h.val + e.val, by omega⟩) : EReal).toReal else if e.val = 128 then 1 else 0

theorem sum_lanes (f g : Fin 128 → EReal) (p : Fin 2) :
    ∑ l : Fin 128, (if l.val / 64 = p.val then f l else 0) * g l = ∑ l : Fin 64, f ⟨64 * p.val + l.val, by omega⟩ * g ⟨64 * p.val + l.val, by omega⟩ := by
  rw [Fin.sum_univ_add (a := 64) (b := 64) (fun l : Fin 128 => (if l.val / 64 = p.val then f l else 0) * g l)]
  have hp : p.val = 0 ∨ p.val = 1 := by omega
  rcases hp with hp | hp
  · have e1 : ∀ l : Fin 64, (Fin.castAdd 64 l : Fin 128) = ⟨64 * p.val + l.val, by omega⟩ := fun l => Fin.ext (by show l.val = 64 * p.val + l.val; omega)
    have z : ∑ l : Fin 64, (if (Fin.natAdd 64 l : Fin 128).val / 64 = p.val then f (Fin.natAdd 64 l) else 0) * g (Fin.natAdd 64 l) = 0 :=
      Finset.sum_eq_zero fun l _ => by rw [if_neg (by show ¬ (64 + l.val) / 64 = p.val; omega), zero_mul]
    rw [z, add_zero]
    refine Finset.sum_congr rfl fun l _ => ?_
    rw [if_pos (by show l.val / 64 = p.val; omega), e1]
  · have e1 : ∀ l : Fin 64, (Fin.natAdd 64 l : Fin 128) = ⟨64 * p.val + l.val, by omega⟩ := fun l => Fin.ext (by show 64 + l.val = 64 * p.val + l.val; omega)
    have z : ∑ l : Fin 64, (if (Fin.castAdd 64 l : Fin 128).val / 64 = p.val then f (Fin.castAdd 64 l) else 0) * g (Fin.castAdd 64 l) = 0 :=
      Finset.sum_eq_zero fun l _ => by rw [if_neg (by show ¬ l.val / 64 = p.val; omega), zero_mul]
    rw [z, zero_add]
    refine Finset.sum_congr rfl fun l _ => ?_
    rw [if_pos (by show (64 + l.val) / 64 = p.val; omega), e1]

theorem scores_sc (x1 : Vec Ideal S1x512x512 .bf16) (x2 : Vec Ideal S1x4096x512 .bf16) (x4 : Vec Ideal S4x16x128x128 .f32) (i1 k : ℕ) (h u : Fin 4) (p : Fin 2) (r : Fin 128) (c : Fin 512) :
    scores (F := Ideal) (headQ (qsub x1 h)) (kblk x2 h k) (tiles x4 h i1 k) (ix2 (rowIx u p r) c) = sc x1 x2 x4 i1 h u p r (512 * k + c.val) := by
  rw [scores_apply _ _ _ u p r ⟨c.val % 128, by omega⟩ ⟨c.val / 128, by omega⟩ c (by show c.val = 128 * (c.val / 128) + c.val % 128; omega)]
  unfold sc
  congr 1
  · simp only [headQ_apply]
    rw [sum_lanes (fun l => qsub x1 h u (ix3 0 r l)) (fun l => kblk x2 h k (ix3 0 c l)) p]
    rfl
  · unfold tiles
    have e1 : (⟨min (4 * i1 + u.val + 1 - (4 * k + c.val / 128)) 15, by omega⟩ : Fin 16) = ⟨min (4 * i1 + u.val + 1 - (512 * k + c.val) / 128) 15, by omega⟩ :=
      Fin.ext (by show min (4 * i1 + u.val + 1 - (4 * k + c.val / 128)) 15 = min (4 * i1 + u.val + 1 - (512 * k + c.val) / 128) 15; omega)
    have e2 : (⟨c.val % 128, by omega⟩ : Fin 128) = ⟨(512 * k + c.val) % 128, by omega⟩ := Fin.ext (by show c.val % 128 = (512 * k + c.val) % 128; omega)
    show x4 (ix4 h ⟨min (4 * i1 + u.val + 1 - (4 * k + c.val / 128)) 15, _⟩ r ⟨c.val % 128, _⟩) = _
    rw [e1, e2]

section
variable (x1 : Vec Ideal S1x512x512 .bf16) (x2 x3 : Vec Ideal S1x4096x512 .bf16) (x4 : Vec Ideal S4x16x128x128 .f32) (i1 : ℕ) (h : Fin 4)

theorem head_held (u : Fin 4) (p : Fin 2) (r : Fin 128) (hv : ∀ i, x3 i = (((x3 i : EReal).toReal : ℝ) : EReal))
    (ht : ∀ j, sc x1 x2 x4 i1 h u p r j ≠ ⊤) (h0 : sc x1 x2 x4 i1 h u p r 0 ≠ ⊥) (k : ℕ) :
    Held (sc x1 x2 x4 i1 h u p r) (vr x3 h) k ((head (F := Ideal) (headQ (qsub x1 h)) x2 x3 x4 i1 h k).1 (ix2 (rowIx u p r) 0))
      (fun e => (head (F := Ideal) (headQ (qsub x1 h)) x2 x3 x4 i1 h k).2 (ix3 0 (rowIx u p r) e)) := by
  induction k with
  | zero =>
    refine Or.inl ⟨rfl, ?_, fun e => ?_⟩
    · show k0_pay159 (F := Ideal) (ix2 (rowIx u p r) 0) = ⊥
      pointwise [k0_pay159, named_mask]
    · show plane (F := Ideal) (k0_pay158 (F := Ideal)) h (ix3 0 (rowIx u p r) e) = 0
      unfold plane
      pointwise [k0_pay158]
  | succ k ih =>
    refine Held.step ih ht h0 (fun c => scores (F := Ideal) (headQ (qsub x1 h)) (kblk x2 h k) (tiles x4 h i1 k) (ix2 (rowIx u p r) c) * log2e)
      (fun c => by rw [scores_sc]) (fun c e => vcat (kblk x3 h k) c e) (fun c e => ?_) _ (newMax_apply _ _ _) _ (fun e => newAcc_apply _ _ _ _ _ e)
    unfold vcat vr
    split_ifs with h1 h2
    · exact hv _
    · rfl
    · rfl

variable {i1}

theorem wt_pos {x : EReal} (h1 : x ≠ ⊤) (h2 : x ≠ ⊥) : 0 < wt x := by
  obtain ⟨M, rfl⟩ := real_of h1 h2
  rw [wt_coe]; exact Real.exp_pos M

/-- A sum over the keys of the blocks reached is the sum over all keys: the rest is masked. -/
theorem sum_reached (hi : i1 < 8) (u : Fin 4) (p : Fin 2) (r : Fin 128) (hb : ∀ r c, x4 (ix4 h 0 r c) = ⊥) (w : ℕ → ℝ) :
    ∑ j ∈ Finset.range (512 * (i1 + 1)), wt (sc x1 x2 x4 i1 h u p r j) * w j = ∑ j : Fin 4096, wt (sc x1 x2 x4 i1 h u p r j.val) * w j.val := by
  rw [← Finset.sum_range (n := 4096) fun j => wt (sc x1 x2 x4 i1 h u p r j) * w j]
  refine Finset.sum_subset (fun j hj => by rw [Finset.mem_range] at *; omega) fun j hj hn => ?_
  rw [Finset.mem_range] at hn
  have e1 : (⟨min (4 * i1 + u.val + 1 - j / 128) 15, by omega⟩ : Fin 16) = 0 := Fin.ext (by show min (4 * i1 + u.val + 1 - j / 128) 15 = 0; omega)
  have : sc x1 x2 x4 i1 h u p r j = ⊥ := by
    unfold sc
    rw [e1, hb, EReal.add_bot]
  rw [this, wt_bot, zero_mul]

theorem head_quot (hi : i1 < 8) (u : Fin 4) (p : Fin 2) (r e : Fin 128) (hv : ∀ i, x3 i = (((x3 i : EReal).toReal : ℝ) : EReal)) (hb : ∀ r c, x4 (ix4 h 0 r c) = ⊥)
    (ht : ∀ j, sc x1 x2 x4 i1 h u p r j ≠ ⊤) (h0 : sc x1 x2 x4 i1 h u p r 0 ≠ ⊥) :
    Ideal.div ((head (F := Ideal) (headQ (qsub x1 h)) x2 x3 x4 i1 h (i1 + 1)).2 (ix3 0 (rowIx u p r) ⟨e.val, by omega⟩))
        ((head (F := Ideal) (headQ (qsub x1 h)) x2 x3 x4 i1 h (i1 + 1)).2 (ix3 0 (rowIx u p r) 128))
      = (((∑ j : Fin 4096, wt (sc x1 x2 x4 i1 h u p r j.val) * (x3 (ix3 0 j ⟨128 * h.val + e.val, by omega⟩) : EReal).toReal) / ∑ j : Fin 4096, wt (sc x1 x2 x4 i1 h u p r j.val) : ℝ) : EReal) := by
  have hd : ∑ j ∈ Finset.range (512 * (i1 + 1)), wt (sc x1 x2 x4 i1 h u p r j) * vr x3 h j 128 = ∑ j : Fin 4096, wt (sc x1 x2 x4 i1 h u p r j.val) := by
    rw [sum_reached x1 x2 x4 h hi u p r hb]
    refine Finset.sum_congr rfl fun j _ => ?_
    rw [show vr x3 h j.val 128 = 1 from rfl, mul_one]
  have hn : ∑ j ∈ Finset.range (512 * (i1 + 1)), wt (sc x1 x2 x4 i1 h u p r j) * vr x3 h j ⟨e.val, by omega⟩
      = ∑ j : Fin 4096, wt (sc x1 x2 x4 i1 h u p r j.val) * (x3 (ix3 0 j ⟨128 * h.val + e.val, by omega⟩) : EReal).toReal := by
    rw [sum_reached x1 x2 x4 h hi u p r hb]
    refine Finset.sum_congr rfl fun j _ => ?_
    unfold vr
    rw [dif_pos (show e.val < 128 from e.isLt)]
    have ej : (⟨j.val % 4096, Nat.mod_lt _ (by decide)⟩ : Fin 4096) = j := Fin.ext (Nat.mod_eq_of_lt j.isLt)
    rw [ej]
  have hp : 0 < ∑ j ∈ Finset.range (512 * (i1 + 1)), wt (sc x1 x2 x4 i1 h u p r j) * vr x3 h j 128 := by
    rw [hd]
    exact Finset.sum_pos' (fun j _ => wt_nonneg _) ⟨0, Finset.mem_univ _, wt_pos (ht _) h0⟩
  have := Held.quot (head_held x1 x2 x3 x4 i1 h u p r hv ht h0 (i1 + 1)) (Nat.succ_pos _) hp ⟨e.val, by omega⟩
  rw [hd, hn] at this
  exact this

/-- What a point writes, at an index. -/
theorem out_apply (fin : Vec Ideal S1x256x256 .f32 → FVec Ideal S128x128 .bf16) (f : EReal) (lam : ℝ) (g : Fin 128 → EReal) (hf : ∀ A r e, fin A (ix2 r e) = normed f lam A g r e)
    (hi : i1 < 8) (u : Fin 4) (r e : Fin 128)
    (hv : ∀ i, x3 i = (((x3 i : EReal).toReal : ℝ) : EReal)) (hb : ∀ r c, x4 (ix4 h 0 r c) = ⊥)
    (ht : ∀ p j, sc x1 x2 x4 i1 h u p r j ≠ ⊤) (h0 : ∀ p, sc x1 x2 x4 i1 h u p r 0 ≠ ⊥) :
    outBlock (F := Ideal) fin x1 x2 x3 x4 i1 (ix3 0 ⟨128 * u.val + r.val, by omega⟩ ⟨128 * h.val + e.val, by omega⟩)
      = norm f (fun e => ((attn (fun j => sc x1 x2 x4 i1 h u 0 r j.val) (fun j => sc x1 x2 x4 i1 h u 1 r j.val) lam
          (fun j => (x3 (ix3 0 j ⟨128 * h.val + e.val, by omega⟩) : EReal).toReal) : ℝ) : EReal)) g e := by
  have eu : (⟨(128 * u.val + r.val) / 128, by omega⟩ : Fin 4) = u := Fin.ext (by show (128 * u.val + r.val) / 128 = u.val; omega)
  have er : (⟨(128 * u.val + r.val) % 128, by omega⟩ : Fin 128) = r := Fin.ext (by show (128 * u.val + r.val) % 128 = r.val; omega)
  show rowBlk fin (fun h => half (head (headQ (qsub x1 h)) x2 x3 x4 i1 h (i1 + 1)).2 ⟨(128 * u.val + r.val) / 128, _⟩)
    (ix3 0 ⟨(128 * u.val + r.val) % 128, _⟩ ⟨128 * h.val + e.val, _⟩) = _
  rw [eu, er]
  unfold rowBlk
  rw [pay172_apply (fun h => fin (half (head (headQ (qsub x1 h)) x2 x3 x4 i1 h (i1 + 1)).2 u)) r e h _ rfl]
  rw [hf]
  unfold normed
  congr 1
  funext e
  have e0 : (⟨256 * u.val + r.val, by omega⟩ : Fin 1024) = rowIx u 0 r := Fin.ext (by show 256 * u.val + r.val = 256 * u.val + 128 * 0 + r.val; omega)
  have e1 : (⟨256 * u.val + (128 + r.val), by omega⟩ : Fin 1024) = rowIx u 1 r := Fin.ext (by show 256 * u.val + (128 + r.val) = 256 * u.val + 128 * 1 + r.val; omega)
  have q0 := head_quot x1 x2 x3 x4 h hi u 0 r e hv hb (ht 0) (h0 0)
  have q1 := head_quot x1 x2 x3 x4 h hi u 1 r e hv hb (ht 1) (h0 1)
  rw [← e0] at q0
  rw [← e1] at q1
  unfold attn
  rw [EReal.coe_sub, EReal.coe_mul, ← q0, ← q1]
  rfl

end
end Cert.Kernel3Ideal.DiffBody
end
end
-- ==== Proof.DiffBucket.lean ====
/- The relative-position bucket of a distance: small distances keep their own, larger ones share buckets spaced by the
   logarithm, and from 1665 on all share the last. -/
module

public import proofs.«01_k».proof.Proof.DiffSpec
public import Idealize.ShloMosaic.Lib.Pointwise

@[expose] public section
noncomputable section
namespace Cert.DiffSpec
open Idealize.ShloMosaic

/-- The bucket of a distance of sixteen or more, on words. -/
def large (n : BitVec 32) : BitVec 32 :=
  IntOp.minsi (IntOp.addi 16#32 (FloatOps.fptosi (F := Ideal) (φ := .f32) 32
    (Ideal.div (Ideal.log (Ideal.div (FloatOps.sitofp (F := Ideal) .f32 (IntOp.maxsi n 1#32)) (Ideal.ofBits .f32 0x41800000#32))) (Ideal.ofBits .f32 0x409B43D5#32)
      * Ideal.ofBits .f32 0x41800000#32))) 31#32

/-- The bucket of a distance, on words. -/
def bucket (n : BitVec 32) : BitVec 32 := Scalar.select (IntOp.cmpi .slt n 16#32) n (large n)

/-- The bucket as a number. -/
def bk (n : ℕ) : ℕ := (bucket (BitVec.ofNat 32 n)).toNat

/-- A head's bias at a distance. -/
def bias (T : Fin 32 → EReal) (n : ℕ) : EReal := T ⟨bk n % 32, Nat.mod_lt _ (by decide)⟩

theorem sixteen : Ideal.ofBits .f32 0x41800000#32 = ((16 : ℝ) : EReal) := by
  simp [Ideal.ofBits, Ideal.ieee, -EReal.coe_mul]; norm_num
theorem ratio : Ideal.ofBits .f32 0x409B43D5#32 = ((10175445 / 2097152 : ℝ) : EReal) := by
  simp [Ideal.ofBits, Ideal.ieee, -EReal.coe_mul]; norm_num

theorem toInt_small {n : ℕ} (h : n < 2147483648) : (BitVec.ofNat 32 n).toInt = n := by
  rw [BitVec.toInt_ofNat', Int.bmod_def]
  split_ifs <;> omega

theorem min31 : ∀ t : Fin 32, IntOp.minsi (IntOp.addi 16#32 (BitVec.ofNat 32 t.val)) 31#32 = BitVec.ofNat 32 (16 + min t.val 15) := by decide +kernel

/-- The logarithm's range. -/
theorem log_hi {n : ℕ} (h0 : 16 ≤ n) (h1 : n ≤ 4095) : Real.log (n / 16) / (10175445 / 2097152) * 16 < 31 := by
  have h : Real.log ((n : ℝ) / 16) ≤ 8 * Real.log 2 := by
    rw [show 8 * Real.log 2 = Real.log ((2 : ℝ) ^ 8) from by rw [Real.log_pow]; norm_num]
    refine Real.log_le_log (by have : (16 : ℝ) ≤ n := by exact_mod_cast h0
                               linarith) ?_
    have : (n : ℝ) ≤ 4095 := by exact_mod_cast h1
    linarith
  have := Real.log_le_sub_one_of_pos (show (0 : ℝ) < 2 by norm_num)
  rw [div_mul_eq_mul_div, div_lt_iff₀ (by norm_num)]
  linarith

theorem log_lo {n : ℕ} (h0 : 16 ≤ n) : 0 ≤ Real.log (n / 16) / (10175445 / 2097152) * 16 := by
  have : (16 : ℝ) ≤ n := by exact_mod_cast h0
  have := Real.log_nonneg (show (1 : ℝ) ≤ n / 16 by linarith)
  positivity

theorem log_far {n : ℕ} (h0 : 1665 ≤ n) : 15 ≤ Real.log (n / 16) / (10175445 / 2097152) * 16 := by
  have hn : (1665 : ℝ) ≤ n := by exact_mod_cast h0
  have h1 : Real.log 104 ≤ Real.log ((n : ℝ) / 16) := Real.log_le_log (by norm_num) (by linarith)
  have h2 : 234 * Real.log (51 / 50) ≤ Real.log 104 := by
    rw [show 234 * Real.log (51 / 50) = Real.log ((51 / 50 : ℝ) ^ 234) from by rw [Real.log_pow]; norm_num]
    exact Real.log_le_log (by norm_num) (by norm_num)
  have h3 : 1 / 51 ≤ Real.log (51 / 50) := by
    have := Real.log_le_sub_one_of_pos (show (0 : ℝ) < 50 / 51 by norm_num)
    rw [show (50 / 51 : ℝ) = (51 / 50)⁻¹ by norm_num, Real.log_inv] at this
    linarith
  rw [div_mul_eq_mul_div, le_div_iff₀ (by norm_num)]
  linarith

theorem large_val {n : ℕ} (h0 : 16 ≤ n) (h1 : n ≤ 4095) : ∃ t : ℕ, large (BitVec.ofNat 32 n) = BitVec.ofNat 32 (16 + min t 15) ∧ (1665 ≤ n → 15 ≤ t) := by
  have e1 : IntOp.maxsi (BitVec.ofNat 32 n) 1#32 = BitVec.ofNat 32 n := by
    unfold IntOp.maxsi
    rw [if_pos]
    rw [BitVec.slt_eq_decide, toInt_small (by omega), toInt_small (by omega)]
    simp; omega
  have e2 : FloatOps.sitofp (F := Ideal) .f32 (BitVec.ofNat 32 n) = ((n : ℝ) : EReal) := by
    show ((((BitVec.ofNat 32 n).toInt : ℤ) : ℝ) : EReal) = _
    rw [toInt_small (by omega)]; simp
  have hp : (0 : ℝ) < n / 16 := by
    have : (16 : ℝ) ≤ n := by exact_mod_cast h0
    positivity
  obtain ⟨y, hy⟩ : ∃ y : ℝ, y = Real.log (n / 16) / (10175445 / 2097152) * 16 := ⟨_, rfl⟩
  have e3 : Ideal.div (Ideal.log (Ideal.div ((n : ℝ) : EReal) ((16 : ℝ) : EReal))) ((10175445 / 2097152 : ℝ) : EReal) * ((16 : ℝ) : EReal) = (y : EReal) := by
    rw [Ideal.div_coe (by norm_num) ((n : ℝ) : EReal), ← EReal.coe_mul, mul_one_div, Ideal.log_coe, if_neg (not_le.mpr hp), Ideal.div_coe (by norm_num), ← EReal.coe_mul, mul_one_div, ← EReal.coe_mul, hy]
  have y0 : 0 ≤ y := hy ▸ log_lo h0
  have y1 : y < 31 := hy ▸ log_hi h0 h1
  have f0 : 0 ≤ ⌊y⌋ := Int.floor_nonneg.mpr y0
  have f1 : ⌊y⌋ < 31 := Int.floor_lt.mpr (by exact_mod_cast y1)
  refine ⟨⌊y⌋.toNat, ?_, fun h => ?_⟩
  · unfold large
    rw [e1, e2, sixteen, ratio, e3]
    have e4 : FloatOps.fptosi (F := Ideal) (φ := .f32) 32 (y : EReal) = BitVec.ofNat 32 ⌊y⌋.toNat := by
      show BitVec.ofInt 32 (max _ (min _ (if 0 ≤ y then ⌊y⌋ else ⌈y⌉))) = _
      rw [if_pos y0, min_eq_right (by push_cast; omega), max_eq_right (by push_cast; omega)]
      conv_lhs => rw [← Int.toNat_of_nonneg f0]
      exact BitVec.ofInt_natCast 32 _
    rw [e4]
    exact min31 ⟨⌊y⌋.toNat, by omega⟩
  · have : 15 ≤ ⌊y⌋ := Int.le_floor.mpr (by rw [hy]; exact_mod_cast log_far h)
    omega

theorem slt16 {n : ℕ} (h : n ≤ 4095) : IntOp.cmpi .slt (BitVec.ofNat 32 n) 16#32 = if n < 16 then 1#1 else 0#1 := by
  unfold IntOp.cmpi
  have : (16#32 : BitVec 32).toInt = 16 := by decide
  rw [BitVec.slt_eq_decide, toInt_small (by omega), this]
  split_ifs with h1
  · rw [decide_eq_true (by omega)]; rfl
  · rw [decide_eq_false (by omega)]; rfl

theorem bk_far {n : ℕ} (h0 : 1665 ≤ n) (h1 : n ≤ 4095) : bk n = 31 := by
  obtain ⟨t, e, h⟩ := large_val (by omega : 16 ≤ n) h1
  unfold bk bucket
  rw [slt16 h1, if_neg (by omega)]
  show (large (BitVec.ofNat 32 n)).toNat = 31
  rw [e, min_eq_right (h h0)]; rfl

theorem bk_lt {n : ℕ} (h1 : n ≤ 4095) : bk n < 32 := by
  unfold bk bucket
  rw [slt16 h1]
  split_ifs with h
  · show (BitVec.ofNat 32 n).toNat < 32
    rw [BitVec.toNat_ofNat]; omega
  · obtain ⟨t, e, _⟩ := large_val (by omega : 16 ≤ n) h1
    show (large (BitVec.ofNat 32 n)).toNat < 32
    rw [e, BitVec.toNat_ofNat]; omega

theorem bucket_eq (n : ℕ) : bucket (BitVec.ofNat 32 n) = BitVec.ofNat 32 (bk n) := by
  unfold bk; rw [BitVec.ofNat_toNat, BitVec.setWidth_eq]

theorem bias_far (T : Fin 32 → EReal) {n n' : ℕ} (h0 : 1665 ≤ n) (h1 : n ≤ 4095) (h0' : 1665 ≤ n') (h1' : n' ≤ 4095) : bias T n = bias T n' := by
  unfold bias; simp only [bk_far h0 h1, bk_far h0' h1']

theorem hot_bit : ∀ b x : Fin 32, IntOp.cmpi .eq (BitVec.ofNat 32 b.val) (BitVec.ofNat 32 x.val) = if x = b then 1#1 else 0#1 := by decide +kernel

/-- A product with the one-hot row of a bucket takes the bucket's entry. -/
theorem one_hot (T : Fin 32 → EReal) {n : ℕ} (h : n ≤ 4095) :
    ∑ x : Fin 32, T x * FloatOps.uitofp (F := Ideal) .f32 (IntOp.cmpi .eq (bucket (BitVec.ofNat 32 n)) (BitVec.ofNat 32 x.val)) = bias T n := by
  have hb := bk_lt h
  rw [bucket_eq]
  rw [Finset.sum_eq_single (⟨bk n, hb⟩ : Fin 32)]
  · rw [hot_bit ⟨bk n, hb⟩, if_pos rfl]
    show T _ * ((((1#1 : BitVec 1).toNat : ℕ) : ℝ) : EReal) = _
    unfold bias
    simp only [Nat.mod_eq_of_lt hb]
    simp
  · intro x _ hx
    rw [hot_bit ⟨bk n, hb⟩ x, if_neg hx]
    show T _ * ((((0#1 : BitVec 1).toNat : ℕ) : ℝ) : EReal) = _
    simp
  · intro hx; exact absurd (Finset.mem_univ _) hx

theorem sub_toInt {a b : ℕ} (ha : a < 4096) (hb : b < 4096) : (IntOp.subi (BitVec.ofNat 32 a) (BitVec.ofNat 32 b)).toInt = (a : ℤ) - b := by
  unfold IntOp.subi
  rw [BitVec.toInt_sub, toInt_small (by omega), toInt_small (by omega), Int.bmod_def]
  split_ifs <;> omega

/-- A key is kept from the query's own position back. -/
theorem sge_sub {a b : ℕ} (ha : a < 4096) (hb : b < 4096) : IntOp.cmpi .sge (IntOp.subi (BitVec.ofNat 32 a) (BitVec.ofNat 32 b)) 0#32 = if b ≤ a then 1#1 else 0#1 := by
  unfold IntOp.cmpi
  show BitVec.ofBool (BitVec.sle 0#32 _) = _
  have : (0#32 : BitVec 32).toInt = 0 := by decide
  rw [BitVec.sle_eq_decide, sub_toInt ha hb, this]
  split_ifs with h1
  · rw [decide_eq_true (by omega)]; rfl
  · rw [decide_eq_false (by omega)]; rfl

theorem max_sub {a b : ℕ} (ha : a < 4096) (hb : b < 4096) : IntOp.maxsi (IntOp.subi (BitVec.ofNat 32 a) (BitVec.ofNat 32 b)) 0#32 = BitVec.ofNat 32 (a - b) := by
  unfold IntOp.maxsi
  have h0 : (0#32 : BitVec 32).toInt = 0 := by decide
  apply BitVec.eq_of_toInt_eq
  rw [BitVec.slt_eq_decide, sub_toInt ha hb, h0, toInt_small (by omega)]
  split_ifs with h1
  · rw [decide_eq_true_eq] at h1
    rw [sub_toInt ha hb]; omega
  · rw [decide_eq_true_eq] at h1
    rw [h0]; omega

end Cert.DiffSpec
end
end
-- ==== Proof.DiffLayer.lean ====
/- Differential attention as a formula at a place of the result, which both the kernel and the reference compute. -/
module

public import proofs.«01_k».proof.Proof.DiffBucket

@[expose] public section
noncomputable section
namespace Cert.DiffSpec
open Idealize.ShloMosaic

/-- A query's score against a key: their scaled product with the bias of the distance, on the key's being no later. -/
def score (q k : Fin 16 → Fin 4096 → Fin 512 → EReal) (T : Fin 4 → Fin 32 → EReal) (b : Fin 16) (h : Fin 4) (p : Fin 2) (t : Fin 4096) (j : Fin 4096) : EReal :=
  if j.val ≤ t.val then (∑ l : Fin 64, q b t ⟨128 * h.val + (64 * p.val + l.val), by omega⟩ * k b j ⟨128 * h.val + (64 * p.val + l.val), by omega⟩)
    * Ideal.ofBits .f32 0x3E000000#32 + bias (T h) (t.val - j.val) else ⊥

theorem eighth : Ideal.ofBits .f32 0x3E000000#32 = ((1 / 8 : ℝ) : EReal) := by
  simp [Ideal.ofBits, Ideal.ieee, -EReal.coe_mul]; norm_num

/-- The layer at a place of the result. -/
def diffAt (q k v : Fin 16 → Fin 4096 → Fin 512 → EReal) (T : Fin 4 → Fin 32 → EReal) (lam : ℝ) (f : EReal) (g : Fin 128 → EReal) (b : Fin 16) (t : Fin 4096) (h : Fin 4) (e : Fin 128) : EReal :=
  norm f (fun e => ((attn (score q k T b h 0 t) (score q k T b h 1 t) lam (fun j => (v b j ⟨128 * h.val + e.val, by omega⟩).toReal) : ℝ) : EReal)) g e

section
variable {q k : Fin 16 → Fin 4096 → Fin 512 → EReal} {T : Fin 4 → Fin 32 → EReal}
variable (hq : ∀ b t n, ∃ r : ℝ, q b t n = r) (hk : ∀ b t n, ∃ r : ℝ, k b t n = r) (hT : ∀ h x, ∃ r : ℝ, T h x = r)
include hq hk hT

theorem score_real (b : Fin 16) (h : Fin 4) (p : Fin 2) (t j : Fin 4096) : score q k T b h p t j = ⊥ ∨ ∃ r : ℝ, score q k T b h p t j = r := by
  choose q' hq' using hq
  choose k' hk' using hk
  choose T' hT' using hT
  unfold score
  split_ifs
  · right
    unfold bias
    rw [hT', eighth]
    simp only [hq', hk', ← EReal.coe_mul, ← coe_sum, ← EReal.coe_add]
    exact ⟨_, rfl⟩
  · exact Or.inl rfl

theorem score_ne_top (b : Fin 16) (h : Fin 4) (p : Fin 2) (t j : Fin 4096) : score q k T b h p t j ≠ ⊤ := by
  rcases score_real hq hk hT b h p t j with e | ⟨r, e⟩ <;> rw [e] <;> simp

theorem score_first (b : Fin 16) (h : Fin 4) (p : Fin 2) (t : Fin 4096) : score q k T b h p t 0 ≠ ⊥ := by
  choose q' hq' using hq
  choose k' hk' using hk
  choose T' hT' using hT
  unfold score bias
  rw [if_pos (show (0 : Fin 4096).val ≤ t.val from Nat.zero_le _), hT', eighth]
  simp only [hq', hk', ← EReal.coe_mul, ← coe_sum, ← EReal.coe_add]
  exact EReal.coe_ne_bot _

end

/-- What the weight of the second map starts from, and the factor after the norm: in the second layer and in the fourth. -/
abbrev init2 : EReal := Ideal.ofBits .f32 0x3EB60549#32
abbrev init4 : EReal := Ideal.ofBits .f32 0x3F0E59D5#32
abbrev rest2 : EReal := Ideal.ofBits .f32 0x3F24FD5C#32
abbrev rest4 : EReal := Ideal.ofBits .f32 0x3EE34C57#32

theorem init2_real : ∃ r : ℝ, init2 = r := ⟨11928905 / 33554432, by simp [Ideal.ofBits, Ideal.ieee, -EReal.coe_mul]; norm_num⟩
theorem init4_real : ∃ r : ℝ, init4 = r := ⟨9329109 / 16777216, by simp [Ideal.ofBits, Ideal.ieee, -EReal.coe_mul]; norm_num⟩

/-- The weight of the second map. -/
def mixW (init : EReal) (l : Fin 4 → Fin 64 → EReal) : EReal :=
  Ideal.exp (∑ i : Fin 64, l 0 i * l 1 i) - Ideal.exp (∑ i : Fin 64, l 2 i * l 3 i) + init

theorem mixW_real {init : EReal} (hi : ∃ r : ℝ, init = r) {l : Fin 4 → Fin 64 → EReal} (hl : ∀ i j, ∃ r : ℝ, l i j = r) :
    mixW init l = (((mixW init l).toReal : ℝ) : EReal) := by
  choose l' hl' using hl
  obtain ⟨c, hc⟩ := hi
  unfold mixW
  simp only [hl', hc, ← EReal.coe_mul, ← coe_sum, Ideal.exp_coe, ← EReal.coe_sub, ← EReal.coe_add]
  rfl

end Cert.DiffSpec
end
end
-- ==== Proof.DiffHost.lean ====
/- What the kernel's host code hands to the grid: the bias tiles and the scaled queries. -/
module

public import proofs.«01_k».proof.Proof.DiffPoint
public import proofs.«01_k».proof.Proof.DiffLayer

@[expose] public section
set_option maxRecDepth 16384
noncomputable section
namespace Cert.Kernel3Ideal.DiffBody
open Cert.Kernel3Ideal Cert.Kernel3Ideal.Gen Idealize.ShloMosaic Idealize.ShloMosaic.TcCoe Idealize.SL.Sem Cert.DiffSpec

/-- The distance of a tile's entry, on words: tile 0 lies wholly in the future. -/
def dist (d r k : ℕ) : BitVec 32 :=
  Scalar.select (IntOp.cmpi .eq (BitVec.ofNat 32 d) 0#32) 4294967295#32
    (IntOp.addi (IntOp.muli 128#32 (IntOp.subi (BitVec.ofNat 32 d) 1#32)) (IntOp.subi (BitVec.ofNat 32 r) (BitVec.ofNat 32 k)))

theorem dist_zero (r k : ℕ) : dist 0 r k = 4294967295#32 := rfl

theorem tile_word : ∀ d : Fin 15, IntOp.cmpi .eq (BitVec.ofNat 32 (d.val + 1)) 0#32 = 0#1
    ∧ IntOp.muli 128#32 (IntOp.subi (BitVec.ofNat 32 (d.val + 1)) 1#32) = BitVec.ofNat 32 (128 * d.val) := by decide +kernel

theorem dist_succ (d : Fin 15) (r k : ℕ) : dist (d.val + 1) r k = IntOp.subi (BitVec.ofNat 32 (128 * d.val + r)) (BitVec.ofNat 32 k) := by
  unfold dist
  rw [(tile_word d).1, (tile_word d).2]
  show BitVec.ofNat 32 (128 * d.val) + (BitVec.ofNat 32 r - BitVec.ofNat 32 k) = BitVec.ofNat 32 (128 * d.val + r) - BitVec.ofNat 32 k
  rw [BitVec.ofNat_add]
  rw [BitVec.sub_eq_add_neg, BitVec.sub_eq_add_neg, BitVec.add_assoc]

variable (m : (l : Loc nD τ sig) → Buf (Elt Ideal) l)

/-- The queries, the keys, the values, the mix parameters, the layer's part of the bias table and the gain. -/
def aQ (c : Dev nD) (b : Fin 16) (s : Fin 4096) (n : Fin 512) : EReal := m (c, Proc.tc.devRef main_arg0) (ix3 b s n)
def aK (c : Dev nD) (b : Fin 16) (s : Fin 4096) (n : Fin 512) : EReal := m (c, Proc.tc.devRef main_arg1) (ix3 b s n)
def aV (c : Dev nD) (b : Fin 16) (s : Fin 4096) (n : Fin 512) : EReal := m (c, Proc.tc.devRef main_arg2) (ix3 b s n)
def aL (c : Dev nD) (i : Fin 4) (l : Fin 64) : EReal := m (c, Proc.tc.devRef main_arg3) (ix2 i l)
def aT (c : Dev nD) (h : Fin 4) (x : Fin 32) : EReal := m (c, Proc.tc.devRef main_arg4) (ix2 x ⟨8 + h.val, by omega⟩)
def aG (c : Dev nD) (e : Fin 128) : EReal := m (c, Proc.tc.devRef main_arg5) (ix1 e)

theorem V55_at (c : Dev nD) (b : Fin 16) (s : Fin 4096) (n : Fin 512) : V m c main_v55 (ix3 b s n) = aQ m c b s n * Ideal.ofBits .f32 0x3E000000#32 := by
  unfold V; after_reads_at
  rfl
theorem V56_at (c : Dev nD) (b : Fin 16) (s : Fin 4096) (n : Fin 512) : V m c main_v56 (ix3 b s n) = aK m c b s n := by
  unfold V; after_reads_at
  rfl
theorem V57_at (c : Dev nD) (b : Fin 16) (s : Fin 4096) (n : Fin 512) : V m c main_v57 (ix3 b s n) = aV m c b s n := by
  unfold V; after_reads_at
  rfl
theorem V58_at (c : Dev nD) (e : Fin 128) : V m c main_v58 (ix2 0 e) = aG m c e := by
  unfold V; after_reads_at
  rfl
theorem V52_word (c : Dev nD) (h : Fin 4) (d : Fin 16) (r k : Fin 128) : V m c main_v52 (ix4 h d r k)
    = Scalar.select (IntOp.cmpi .sge (dist d.val r.val k.val) 0#32)
        (∑ x : Fin 32, aT m c h x * FloatOps.uitofp (F := Ideal) .f32 (IntOp.cmpi .eq (bucket (IntOp.maxsi (dist d.val r.val k.val) 0#32)) (BitVec.ofNat 32 x.val)))
        (Ideal.ofBits .f32 0xFF800000#32) := by
  unfold V; after_reads_at
  rfl

/-- A tile's entry: the bias of the distance, and −∞ where the key lies in the future. -/
theorem V52_at (c : Dev nD) (h : Fin 4) (d : Fin 16) (r k : Fin 128) : V m c main_v52 (ix4 h d r k)
    = if d.val = 0 then ⊥ else if k.val ≤ 128 * (d.val - 1) + r.val then bias (aT m c h) (128 * (d.val - 1) + r.val - k.val) else ⊥ := by
  rw [V52_word, ninf_f32]
  rcases d with ⟨d, hd⟩
  rcases d with _ | d
  · rw [if_pos rfl]
    show Scalar.select (IntOp.cmpi .sge (dist 0 r.val k.val) 0#32) _ _ = _
    rw [dist_zero]; rfl
  · rw [if_neg (by show ¬ d + 1 = 0; omega)]
    have e := dist_succ ⟨d, by omega⟩ r.val k.val
    simp only at e
    show Scalar.select (IntOp.cmpi .sge (dist (d + 1) r.val k.val) 0#32) (∑ x : Fin 32, aT m c h x * FloatOps.uitofp (F := Ideal) .f32 (IntOp.cmpi .eq (bucket (IntOp.maxsi (dist (d + 1) r.val k.val) 0#32)) (BitVec.ofNat 32 x.val))) _ = _
    rw [e, sge_sub (by omega) (by omega), max_sub (by omega) (by omega), one_hot _ (by omega)]
    show _ = if k.val ≤ 128 * d + r.val then bias (aT m c h) (128 * d + r.val - k.val) else ⊥
    split_ifs <;> rfl

end Cert.Kernel3Ideal.DiffBody
end
end
-- ==== Proof.DiffWhole.lean ====
/- The kernel's result at an index: the blocks that a grid point reads, and the layer's formula at the place it writes. -/
module

public import proofs.«01_k».proof.Proof.DiffHost
public import proofs.«01_k».proof.Proof.Gen.Kernel3Ideal.Value

@[expose] public section
set_option maxRecDepth 16384
noncomputable section
namespace Cert.Kernel3Ideal.DiffBody
open Cert.Kernel3Ideal Cert.Kernel3Ideal.Gen Idealize.ShloMosaic Idealize.ShloMosaic.TcCoe Idealize.SL.Sem Cert.DiffSpec

variable (m : (l : Loc nD τ sig) → Buf (Elt Ideal) l)

theorem lt128 (t : Fin cfg0.N) : t.val < 128 := lt_of_lt_of_eq t.isLt N_0

theorem idx0 : ∀ t : Fin grid0.N, win0_0.index t (0 : Fin 2) = 0 ∧ win0_0.index t (1 : Fin 2) = 0 := by decide +kernel
theorem idx1 : ∀ t : Fin grid0.N, win0_1.index t (0 : Fin 3) = t.val / 8 ∧ win0_1.index t (1 : Fin 3) = t.val % 8 ∧ win0_1.index t (2 : Fin 3) = 0 := by decide +kernel
theorem idx2 : ∀ t : Fin grid0.N, win0_2.index t (0 : Fin 3) = t.val / 8 ∧ win0_2.index t (1 : Fin 3) = 0 ∧ win0_2.index t (2 : Fin 3) = 0 := by decide +kernel
theorem idx3 : ∀ t : Fin grid0.N, win0_3.index t (0 : Fin 3) = t.val / 8 ∧ win0_3.index t (1 : Fin 3) = 0 ∧ win0_3.index t (2 : Fin 3) = 0 := by decide +kernel
theorem idx4 : ∀ t : Fin grid0.N, win0_4.index t (0 : Fin 4) = 0 ∧ win0_4.index t (1 : Fin 4) = 0 ∧ win0_4.index t (2 : Fin 4) = 0 ∧ win0_4.index t (3 : Fin 4) = 0 := by decide +kernel
theorem idx5 : ∀ t : Fin grid0.N, win0_5.index t (0 : Fin 2) = 0 ∧ win0_5.index t (1 : Fin 2) = 0 := by decide +kernel
theorem idx6 : ∀ t : Fin grid0.N, win0_6.index t (0 : Fin 3) = t.val / 8 ∧ win0_6.index t (1 : Fin 3) = t.val % 8 ∧ win0_6.index t (2 : Fin 3) = 0 := by decide +kernel
theorem coord1 : ∀ t : Fin grid0.N, (grid0.coords t 1).val = t.val % 8 := by decide +kernel
theorem flush6 : ∀ t : Fin cfg0.N, (cfg0.win 6).flush t = true := by decide +kernel

theorem blk0 (c : Dev nD) (t : Fin cfg0.N) (i : Fin 4) (l : Fin 64) : iblk m c 0 t (ix2 i l) = aL m c i l := by
  unfold iblk aL
  rw [View.read_apply]
  show V m c main_arg3 _ = _
  rw [V_main_arg3]
  congr 1
  funext a
  apply Fin.ext
  match a with
  | ⟨0, _⟩ => show win0_0.index t 0 * 4 + 1 * i.val = i.val; rw [(idx0 t).1]; omega
  | ⟨1, _⟩ => show win0_0.index t 1 * 64 + 1 * l.val = l.val; rw [(idx0 t).2]; omega

theorem blk1 (c : Dev nD) (t : Fin cfg0.N) (r n : Fin 512) :
    iblk m c 1 t (ix3 0 r n) = aQ m c ⟨t.val / 8, by have := lt128 t; omega⟩ ⟨512 * (t.val % 8) + r.val, by omega⟩ n * Ideal.ofBits .f32 0x3E000000#32 := by
  rw [← V55_at]
  unfold iblk
  rw [View.read_apply]
  show V m c main_v55 _ = _
  congr 1
  funext a
  apply Fin.ext
  match a with
  | ⟨0, _⟩ => show win0_1.index t 0 * 1 + 1 * 0 = t.val / 8; rw [(idx1 t).1]; omega
  | ⟨1, _⟩ => show win0_1.index t 1 * 512 + 1 * r.val = 512 * (t.val % 8) + r.val; rw [(idx1 t).2.1]; omega
  | ⟨2, _⟩ => show win0_1.index t 2 * 512 + 1 * n.val = n.val; rw [(idx1 t).2.2]; omega

theorem blk2 (c : Dev nD) (t : Fin cfg0.N) (j : Fin 4096) (n : Fin 512) :
    iblk m c 2 t (ix3 0 j n) = aK m c ⟨t.val / 8, by have := lt128 t; omega⟩ j n := by
  rw [← V56_at]
  unfold iblk
  rw [View.read_apply]
  show V m c main_v56 _ = _
  congr 1
  funext a
  apply Fin.ext
  match a with
  | ⟨0, _⟩ => show win0_2.index t 0 * 1 + 1 * 0 = t.val / 8; rw [(idx2 t).1]; omega
  | ⟨1, _⟩ => show win0_2.index t 1 * 4096 + 1 * j.val = j.val; rw [(idx2 t).2.1]; omega
  | ⟨2, _⟩ => show win0_2.index t 2 * 512 + 1 * n.val = n.val; rw [(idx2 t).2.2]; omega

theorem blk3 (c : Dev nD) (t : Fin cfg0.N) (j : Fin 4096) (n : Fin 512) :
    iblk m c 3 t (ix3 0 j n) = aV m c ⟨t.val / 8, by have := lt128 t; omega⟩ j n := by
  rw [← V57_at]
  unfold iblk
  rw [View.read_apply]
  show V m c main_v57 _ = _
  congr 1
  funext a
  apply Fin.ext
  match a with
  | ⟨0, _⟩ => show win0_3.index t 0 * 1 + 1 * 0 = t.val / 8; rw [(idx3 t).1]; omega
  | ⟨1, _⟩ => show win0_3.index t 1 * 4096 + 1 * j.val = j.val; rw [(idx3 t).2.1]; omega
  | ⟨2, _⟩ => show win0_3.index t 2 * 512 + 1 * n.val = n.val; rw [(idx3 t).2.2]; omega

theorem blk4 (c : Dev nD) (t : Fin cfg0.N) (h : Fin 4) (d : Fin 16) (r k : Fin 128) :
    iblk m c 4 t (ix4 h d r k) = V m c main_v52 (ix4 h d r k) := by
  unfold iblk
  rw [View.read_apply]
  show V m c main_v52 _ = _
  congr 1
  funext a
  apply Fin.ext
  match a with
  | ⟨0, _⟩ => show win0_4.index t 0 * 4 + 1 * h.val = h.val; rw [(idx4 t).1]; omega
  | ⟨1, _⟩ => show win0_4.index t 1 * 16 + 1 * d.val = d.val; rw [(idx4 t).2.1]; omega
  | ⟨2, _⟩ => show win0_4.index t 2 * 128 + 1 * r.val = r.val; rw [(idx4 t).2.2.1]; omega
  | ⟨3, _⟩ => show win0_4.index t 3 * 128 + 1 * k.val = k.val; rw [(idx4 t).2.2.2]; omega

theorem blk5 (c : Dev nD) (t : Fin cfg0.N) (e : Fin 128) : iblk m c 5 t (ix2 0 e) = aG m c e := by
  rw [← V58_at]
  unfold iblk
  rw [View.read_apply]
  show V m c main_v58 _ = _
  congr 1
  funext a
  apply Fin.ext
  match a with
  | ⟨0, _⟩ => show win0_5.index t 0 * 1 + 1 * 0 = 0; rw [(idx5 t).1]
  | ⟨1, _⟩ => show win0_5.index t 1 * 128 + 1 * e.val = e.val; rw [(idx5 t).2]; omega

/-- The weight of the second map, as the kernel computes it. -/
theorem pay120_apply (x0 : Vec Ideal S4x64 .f32) : k0_pay120 (F := Ideal) x0 (ix2 0 0) = mixW init2 (fun i l => x0 (ix2 i l)) := by
  unfold mixW
  pointwise [k0_pay120]

section
variable {m} {c : Dev nD}
variable (hq : ∀ b t n, ∃ r : ℝ, aQ m c b t n = r) (hk : ∀ b t n, ∃ r : ℝ, aK m c b t n = r) (hv : ∀ b t n, ∃ r : ℝ, aV m c b t n = r)
  (hl : ∀ i l, ∃ r : ℝ, aL m c i l = r) (hT : ∀ h x, ∃ r : ℝ, aT m c h x = r)

include hq hk in
/-- A point's score of a row against a key is the layer's. -/
theorem sc_at (t : Fin cfg0.N) (h u : Fin 4) (p : Fin 2) (r : Fin 128) (j : Fin 4096) :
    sc (iblk m c 1 t) (iblk m c 2 t) (iblk m c 4 t) (t.val % 8) h u p r j.val
      = score (aQ m c) (aK m c) (aT m c) ⟨t.val / 8, by have := lt128 t; omega⟩ h p ⟨512 * (t.val % 8) + (128 * u.val + r.val), by omega⟩ j := by
  have ej : (⟨j.val % 4096, Nat.mod_lt _ (by decide)⟩ : Fin 4096) = j := Fin.ext (Nat.mod_eq_of_lt j.isLt)
  choose q' hq' using hq
  choose k' hk' using hk
  unfold sc
  rw [ej, blk4, V52_at]
  simp only [blk1, blk2]
  have hs : (∑ l : Fin 64, aQ m c ⟨t.val / 8, by have := lt128 t; omega⟩ ⟨512 * (t.val % 8) + (128 * u.val + r.val), by omega⟩ ⟨128 * h.val + (64 * p.val + l.val), by omega⟩ * Ideal.ofBits .f32 0x3E000000#32
        * aK m c ⟨t.val / 8, by have := lt128 t; omega⟩ j ⟨128 * h.val + (64 * p.val + l.val), by omega⟩)
      = (∑ l : Fin 64, aQ m c ⟨t.val / 8, by have := lt128 t; omega⟩ ⟨512 * (t.val % 8) + (128 * u.val + r.val), by omega⟩ ⟨128 * h.val + (64 * p.val + l.val), by omega⟩
        * aK m c ⟨t.val / 8, by have := lt128 t; omega⟩ j ⟨128 * h.val + (64 * p.val + l.val), by omega⟩) * Ideal.ofBits .f32 0x3E000000#32 := by
    simp only [hq', hk', eighth, ← EReal.coe_mul, ← coe_sum]
    rw [Finset.sum_mul]
    exact congrArg _ (Finset.sum_congr rfl fun l _ => by ring)
  rw [hs]
  unfold score
  have hj := j.isLt
  have hr := r.isLt
  by_cases hd : 4 * (t.val % 8) + u.val + 1 - j.val / 128 = 0
  · rw [if_pos (by show min (4 * (t.val % 8) + u.val + 1 - j.val / 128) 15 = 0; omega),
      if_neg (by show ¬ j.val ≤ 512 * (t.val % 8) + (128 * u.val + r.val); omega), EReal.add_bot]
  rw [if_neg (by show ¬ min (4 * (t.val % 8) + u.val + 1 - j.val / 128) 15 = 0; omega)]
  show _ + (if j.val % 128 ≤ 128 * (min (4 * (t.val % 8) + u.val + 1 - j.val / 128) 15 - 1) + r.val
    then bias (aT m c h) (128 * (min (4 * (t.val % 8) + u.val + 1 - j.val / 128) 15 - 1) + r.val - j.val % 128) else ⊥)
    = if j.val ≤ 512 * (t.val % 8) + (128 * u.val + r.val) then _ + bias (aT m c h) (512 * (t.val % 8) + (128 * u.val + r.val) - j.val) else ⊥
  by_cases h15 : 4 * (t.val % 8) + u.val + 1 - j.val / 128 ≤ 15
  · rw [min_eq_left h15]
    by_cases hle : j.val ≤ 512 * (t.val % 8) + (128 * u.val + r.val)
    · rw [if_pos hle, if_pos (by omega), show 128 * (4 * (t.val % 8) + u.val + 1 - j.val / 128 - 1) + r.val - j.val % 128 = 512 * (t.val % 8) + (128 * u.val + r.val) - j.val by omega]
    · rw [if_neg hle, if_neg (by omega), EReal.add_bot]
  · rw [min_eq_right (by omega), if_pos (by omega), if_pos (by omega), bias_far (n' := 512 * (t.val % 8) + (128 * u.val + r.val) - j.val) _ (by omega) (by omega) (by omega) (by omega)]

include hq hk hv hT in
/-- A point's block of the result, at an index, where what becomes of a head's sums is the norm of the difference. -/
theorem block_at {fin : Vec Ideal S1x256x256 .f32 → FVec Ideal S128x128 .bf16} {f : EReal} {lam : ℝ} (hf : ∀ A r e, fin A (ix2 r e) = normed f lam A (aG m c) r e) (t : Fin cfg0.N) (u h : Fin 4) (r e : Fin 128) :
    outBlock (F := Ideal) fin (iblk m c 1 t) (iblk m c 2 t) (iblk m c 3 t) (iblk m c 4 t) (t.val % 8) (ix3 0 ⟨128 * u.val + r.val, by omega⟩ ⟨128 * h.val + e.val, by omega⟩)
      = diffAt (aQ m c) (aK m c) (aV m c) (aT m c) lam f (aG m c) ⟨t.val / 8, by have := lt128 t; omega⟩ ⟨512 * (t.val % 8) + (128 * u.val + r.val), by omega⟩ h e := by
  have hs := fun p => sc_at hq hk t h u p r
  have hm : ∀ j : ℕ, ∀ p, sc (iblk m c 1 t) (iblk m c 2 t) (iblk m c 4 t) (t.val % 8) h u p r j ≠ ⊤ := fun j p => by
    by_cases hj : j < 4096
    · rw [hs p ⟨j, hj⟩]; exact score_ne_top hq hk hT _ _ _ _ _
    · unfold sc
      rw [blk4, V52_at, if_pos (by show min (4 * (t.val % 8) + u.val + 1 - j / 128) 15 = 0; omega), EReal.add_bot]
      exact bot_ne_top
  have hv' : ∀ i : S1x4096x512.Idx, (iblk m c 3 t : Vec Ideal S1x4096x512 .bf16) i = ((((iblk m c 3 t : Vec Ideal S1x4096x512 .bf16) i : EReal).toReal : ℝ) : EReal) := fun i => by
    idx_vars i
    obtain rfl : i0 = 0 := Subsingleton.elim _ _
    obtain ⟨w, hw⟩ := hv ⟨t.val / 8, by have := lt128 t; omega⟩ i1 i2
    rw [blk3, hw]; rfl
  have hb : ∀ a b, iblk m c 4 t (ix4 h 0 a b) = (⊥ : EReal) := fun a b => by rw [blk4, V52_at]; rfl
  rw [out_apply (iblk m c 1 t) (iblk m c 2 t) (iblk m c 3 t) (iblk m c 4 t) h fin f lam (aG m c) hf (by omega) u r e hv' hb (fun p j => hm j p)
    (fun p => by
      have := hs p 0
      rw [show ((0 : Fin 4096).val) = 0 from rfl] at this
      rw [this]; exact score_first hq hk hT _ _ _ _)]
  unfold diffAt
  simp only [hs, blk3]

include hq hk hv hT in
/-- An array whose every block is such a block, at an index. -/
theorem array_at {G : Vec Ideal S16x4096x512 .bf16} {fin : Fin cfg0.N → Vec Ideal S1x256x256 .f32 → FVec Ideal S128x128 .bf16} {f : EReal} {lam : ℝ}
    (hf : ∀ t A r e, fin t A (ix2 r e) = normed f lam A (aG m c) r e)
    (hG : ∀ t, ((cfg0.win 6).blk t).view.read (Elt Ideal) G = outBlock (F := Ideal) (fin t) (iblk m c 1 t) (iblk m c 2 t) (iblk m c 3 t) (iblk m c 4 t) (grid0.coords t 1).val)
    (b : Fin 16) (s : Fin 4096) (h : Fin 4) (e : Fin 128) :
    G (ix3 b s ⟨128 * h.val + e.val, by omega⟩) = diffAt (aQ m c) (aK m c) (aV m c) (aT m c) lam f (aG m c) b s h e := by
  have hlt : 8 * b.val + s.val / 512 < cfg0.N := by show _ < grid0.N; rw [N_0]; omega
  obtain ⟨t, ht⟩ : ∃ t : Fin cfg0.N, t.val = 8 * b.val + s.val / 512 := ⟨⟨_, hlt⟩, rfl⟩
  have e1 := congrFun (hG t) (ix3 0 ⟨s.val % 512, by omega⟩ ⟨128 * h.val + e.val, by omega⟩)
  rw [View.read_apply] at e1
  have e2 := block_at hq hk hv hT (hf t) t ⟨s.val % 512 / 128, by omega⟩ h ⟨s.val % 128, by omega⟩ e
  have es : (⟨128 * (s.val % 512 / 128) + s.val % 128, by omega⟩ : Fin 512) = ⟨s.val % 512, by omega⟩ := Fin.ext (by show 128 * (s.val % 512 / 128) + s.val % 128 = s.val % 512; omega)
  have eb : (⟨t.val / 8, by have := lt128 t; omega⟩ : Fin 16) = b := Fin.ext (by show t.val / 8 = b.val; omega)
  have ew : (⟨512 * (t.val % 8) + (128 * (s.val % 512 / 128) + s.val % 128), by omega⟩ : Fin 4096) = s :=
    Fin.ext (by show 512 * (t.val % 8) + (128 * (s.val % 512 / 128) + s.val % 128) = s.val; omega)
  rw [es, eb, ew] at e2
  rw [← e2]
  have ec : (grid0.coords t 1).val = t.val % 8 := coord1 t
  rw [ec] at e1
  refine Eq.trans (congrArg G (funext fun a => Fin.ext ?_)) e1
  match a with
  | ⟨0, _⟩ => show b.val = win0_6.index t 0 * 1 + 1 * 0; rw [(idx6 t).1]; omega
  | ⟨1, _⟩ => show s.val = win0_6.index t 1 * 512 + 1 * (s.val % 512); rw [(idx6 t).2.1]; omega
  | ⟨2, _⟩ => show 128 * h.val + e.val = win0_6.index t 2 * 512 + 1 * (128 * h.val + e.val); rw [(idx6 t).2.2]; omega

include hq hk hv hl hT in
/-- The result array, at an index. -/
theorem result_at (b : Fin 16) (s : Fin 4096) (h : Fin 4) (e : Fin 128) :
    (dats m 0 c).arrAt 6 cfg0.N (ix3 b s ⟨128 * h.val + e.val, by omega⟩)
      = diffAt (aQ m c) (aK m c) (aV m c) (aT m c) (mixW init2 (aL m c)).toReal rest2 (aG m c) b s h e := by
  refine array_at hq hk hv hT (fin := fun t A => k0_pay168 (k0_pay120 (iblk m c 0 t)) A (iblk m c 5 t)) (fun t A r e => ?_) (fun t => ?_) b s h e
  · rw [pay168_apply, pay120_apply, ← mixW_real init2_real hl]
    simp only [blk0, blk5]
  · rw [Cert.Kernel3Ideal.Value.blocks6 m c t (flush6 t), Cert.Kernel3Ideal.Value.flushed6_A, out_A]
    rfl

end
end Cert.Kernel3Ideal.DiffBody
end
end
-- ==== Proof.DiffFour.lean ====
/- The fourth layer's differential attention: the second layer's program with two other numbers, so the second layer's facts are about it too. -/
module

public import proofs.«01_k».proof.Proof.DiffWhole
public import proofs.«01_k».proof.Proof.Gen.Kernel5Ideal.Value

@[expose] public section
set_option maxRecDepth 16384
noncomputable section
namespace Cert.Kernel5Ideal.DiffFour
open Cert.Kernel5Ideal Cert.Kernel5Ideal.Gen Idealize.ShloMosaic Idealize.ShloMosaic.TcCoe Idealize.SL.Sem Cert.DiffSpec
open Cert.Kernel3Ideal.DiffBody (outBlock rows_A row_eq z2 normed array_at blk0 blk5 aQ aK aV aT aL aG)

section
variable {F : FTy → Type} [FloatOps F] [Named F]

theorem v16_eq (c : Dev nD) (arg2 : Memref sig .tc .vmem S4x64 .f32) (harg2 : arg2.IsWhole) (x0 : Vec F S4x64 .f32) : kernelRun0_A.sl.v16 c arg2 harg2 x0 = k0_pay120 x0 := by
  show k0_pay120 (View.readAt (Elt F) arg2.view (Rect.unit (s := S4x64) ![0, 0] S4x64.size inb_S4x64_S4x64_0_0).toLoadRect (harg2.unread x0)) = _
  rw [View.readAt_eq_ld, harg2.read_unread, View.ld_unit_zero z2]

abbrev fill : List (View.Piece (Elt F) S4x1024x256 .f32) := [⟨Rect.unit ![0, 0, 0] S4x1024x256.size inb_S4x1024x256_S4x1024x256_0_0_0, k0_pay158⟩]

/-- The loop over blocks of keys is the second layer's. -/
theorem st_eq (c : Dev nD) (i : grid0.Coords) (arg2 : Memref sig .tc .vmem S4x64 .f32) (harg2 : arg2.IsWhole) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x16x128x128 .f32) (harg6 : arg6.IsWhole) (arg7 : Memref sig .tc .vmem S1x128 .f32) (harg7 : arg7.IsWhole) (arg8 : Memref sig .tc .vmem S1x512x512 .bf16) (harg8 : arg8.IsWhole) (arg9 : Memref sig .tc .vmem S4x1024x256 .f32) (harg9 : arg9.IsWhole)
    v0 v16 v54 v91 v128 v165 v172 v178 c4 v179 v181 v182 (x2 : Vec F S1x4096x512 .bf16) (x3 : Vec F S1x4096x512 .bf16) (x4 : Vec F S4x16x128x128 .f32) G init (k : ℕ) :
    st_k0_t1 (F := F) Variants.none c none i arg2 harg2 arg3 harg3 arg4 harg4 arg5 harg5 arg6 harg6 arg7 harg7 arg8 harg8 arg9 harg9 v0 v16 v54 v91 v128 v165 v172 v178 c4 v179 v181 v182 (harg4.unread x2) (harg5.unread x3) (harg6.unread x4) G init k
      = Cert.Kernel3Ideal.Gen.st_k0_t1 (F := F) Variants.none c none i arg2 harg2 arg3 harg3 arg4 harg4 arg5 harg5 arg6 harg6 arg7 harg7 arg8 harg8 arg9 harg9 v0 v16 v54 v91 v128 v165 v172 v178 c4 v179 v181 v182 (harg4.unread x2) (harg5.unread x3) (harg6.unread x4) G init k := by
  induction k with
  | zero => rfl
  | succ k ih =>
    rw [st_k0_t1.eq_2, Cert.Kernel3Ideal.Gen.st_k0_t1.eq_2, ih]
    unfold st_k0_t1Step Cert.Kernel3Ideal.Gen.st_k0_t1Step
    unfold tripR_k0_t1 tripL_k0_t1 Cert.Kernel3Ideal.Gen.tripR_k0_t1 Cert.Kernel3Ideal.Gen.tripL_k0_t1 trip_k0_t1 Cert.Kernel3Ideal.Gen.trip_k0_t1
    rfl

/-- 128 rows of the result, from what becomes of each of the four heads' sums. -/
def rowBlk (fin : Vec F S1x256x256 .f32 → FVec F S128x128 .bf16) (a : Fin 4 → Vec F S1x256x256 .f32) : FVec F S1x128x512 .bf16 :=
  k0_pay172 (fin (a 0)) (fin (a 1)) (fin (a 2)) (fin (a 3))

theorem rowBlk_eq (fin : Vec F S1x256x256 .f32 → FVec F S128x128 .bf16) (a : Fin 4 → Vec F S1x256x256 .f32) : rowBlk fin a = Cert.Kernel3Ideal.DiffBody.rowBlk fin a := rfl

theorem inbO (u : Fin 4) : ∀ a, (![0, 128 * u.val, 0] : Fin 3 → ℕ) a + S1x128x512.size a ≤ S1x512x512.size a := Cert.Kernel3Ideal.DiffBody.inbO u
theorem inbA (h u : Fin 4) : ∀ a, (![h.val, 256 * u.val, 0] : Fin 3 → ℕ) a + S1x256x256.size a ≤ S4x1024x256.size a := Cert.Kernel3Ideal.DiffBody.inbA h u

set_option maxHeartbeats 2000000 in
/-- What a point writes. -/
theorem out_A (c : Dev nD) (i : grid0.Coords) (arg2 : Memref sig .tc .vmem S4x64 .f32) (harg2 : arg2.IsWhole) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x16x128x128 .f32) (harg6 : arg6.IsWhole) (arg7 : Memref sig .tc .vmem S1x128 .f32) (harg7 : arg7.IsWhole) (arg8 : Memref sig .tc .vmem S1x512x512 .bf16) (harg8 : arg8.IsWhole) (arg9 : Memref sig .tc .vmem S4x1024x256 .f32) (harg9 : arg9.IsWhole)
    (x0 : Vec F S4x64 .f32) (x1 : Vec F S1x512x512 .bf16) (x2 : Vec F S1x4096x512 .bf16) (x3 : Vec F S1x4096x512 .bf16) (x4 : Vec F S4x16x128x128 .f32) (x5 : Vec F S1x128 .f32) :
    out0_A_6 c i arg2 harg2 arg3 harg3 arg4 harg4 arg5 harg5 arg6 harg6 arg7 harg7 arg8 harg8 arg9 harg9 x0 x1 x2 x3 x4 x5 = outBlock (fun A => k0_pay168 (k0_pay120 x0) A x5) x1 x2 x3 x4 (i 1).val := by
  have hf : (fun A => k0_pay168 (k0_pay120 x0) A x5) = fun A => k0_pay168 (kernelRun0_A.sl.v16 c arg2 harg2 x0) A
      (View.readAt (Elt F) arg7.view (Rect.unit (s := S1x128) ![0, 0] S1x128.size inb_S1x128_S1x128_0_0).toLoadRect (harg7.unread x5)) := by
    rw [v16_eq, row_eq arg7 harg7 x5]
  obtain ⟨s1, hs1⟩ : ∃ s1, s1 = st_k0_t1 (F := F) Variants.none c none i arg2 harg2 arg3 harg3 arg4 harg4 arg5 harg5 arg6 harg6 arg7 harg7 arg8 harg8 arg9 harg9 (kernelRun0_A.sl.v0 i) (kernelRun0_A.sl.v16 c arg2 harg2 x0) (kernelRun0_A.sl.v54 c arg3 harg3 x1) (kernelRun0_A.sl.v91 c arg3 harg3 x1)
    (kernelRun0_A.sl.v128 c arg3 harg3 x1) (kernelRun0_A.sl.v165 c arg3 harg3 x1) k0_pay157 (kernelRun0_A.sl.v178 i) 4#32 (kernelRun0_A.sl.v179 i) (kernelRun0_A.sl.v181 i) (kernelRun0_A.sl.v182 i)
    (harg4.unread x2) (harg5.unread x3) (harg6.unread x4) (arg9.view.writes (Elt F) arg9.view.junk fill) (k0_pay159, k0_pay159, k0_pay159, k0_pay159) (k0_t1_loop i).trips := ⟨_, rfl⟩
  obtain ⟨L, hL⟩ : ∃ L, L = (st_k0_t2 (F := F) Variants.none c none i arg2 harg2 arg3 harg3 arg4 harg4 arg5 harg5 arg6 harg6 arg7 harg7 arg8 harg8 arg9 harg9 (kernelRun0_A.sl.v0 i) (kernelRun0_A.sl.v16 c arg2 harg2 x0) (kernelRun0_A.sl.v54 c arg3 harg3 x1) (kernelRun0_A.sl.v91 c arg3 harg3 x1)
    (kernelRun0_A.sl.v128 c arg3 harg3 x1) (kernelRun0_A.sl.v165 c arg3 harg3 x1) k0_pay157 (kernelRun0_A.sl.v178 i) 4#32 (kernelRun0_A.sl.v179 i) (kernelRun0_A.sl.v181 i) (kernelRun0_A.sl.v182 i) (kernelRun0_A.sl.v202 i)
    (harg4.unread x2) (harg5.unread x3) (harg6.unread x4) (arg9.view.writes (Elt F) arg9.view.junk (s1.2 ++ fill)) (s1.1.1, s1.1.2.1, s1.1.2.2.1, s1.1.2.2.2) (k0_t2_loop i).trips).2 ++ (s1.2 ++ fill) := ⟨_, rfl⟩
  obtain ⟨V, hV⟩ : ∃ V : Fin 4 → FVec F S1x128x512 .bf16, V = fun u => rowBlk (fun A => k0_pay168 (kernelRun0_A.sl.v16 c arg2 harg2 x0) A
      (View.readAt (Elt F) arg7.view (Rect.unit (s := S1x128) ![0, 0] S1x128.size inb_S1x128_S1x128_0_0).toLoadRect (harg7.unread x5)))
      fun h => arg9.view.readCov L (Rect.unit (s := S4x1024x256) ![h.val, 256 * u.val, 0] S1x256x256.size (inbA h u)).toLoadRect := ⟨_, rfl⟩
  have key : View.canon [(⟨Rect.unit (s := S1x512x512) ![0, 384, 0] S1x128x512.size (inbO 3), V 3⟩ : View.Piece (Elt F) S1x512x512 .bf16),
        ⟨Rect.unit (s := S1x512x512) ![0, 256, 0] S1x128x512.size (inbO 2), V 2⟩, ⟨Rect.unit (s := S1x512x512) ![0, 128, 0] S1x128x512.size (inbO 1), V 1⟩,
        ⟨Rect.unit (s := S1x512x512) ![0, 0, 0] S1x128x512.size (inbO 0), V 0⟩] = outBlock _ x1 x2 x3 x4 (i 1).val :=
    rows_A c i arg2 harg2 arg3 harg3 arg4 harg4 arg5 harg5 arg6 harg6 arg7 harg7 arg8 harg8 arg9 harg9 (kernelRun0_A.sl.v16 c arg2 harg2 x0) (fun A => k0_pay168 (kernelRun0_A.sl.v16 c arg2 harg2 x0) A
      (View.readAt (Elt F) arg7.view (Rect.unit (s := S1x128) ![0, 0] S1x128.size inb_S1x128_S1x128_0_0).toLoadRect (harg7.unread x5))) x1 x2 x3 x4 s1
      (hs1.trans (st_eq _ _ _ _ _ _ _ _ _ _ _ _ _ _ _ _ _ _ _ _ _ _ _ _ _ _ _ _ _ _ _ _ _ _ _ _)) L (by rw [hL, Cert.Kernel3Ideal.DiffBody.trips2]; rfl) V (hV.trans (funext fun u => rowBlk_eq _ _))
  rw [hf]
  unfold out0_A_6; rw [View.read_writes_junk_eq_canon]; unfold kernelRun0_A; dsimp only
  subst hV; subst hL; subst hs1
  refine Eq.trans ?_ key
  rfl

end

theorem pay120_apply (x0 : Vec Ideal S4x64 .f32) : k0_pay120 (F := Ideal) x0 (ix2 0 0) = mixW init4 (fun i l => x0 (ix2 i l)) := by
  unfold mixW
  pointwise [k0_pay120]

theorem pay168_apply (lam : FVec Ideal S1x1 .f32) (A : Vec Ideal S1x256x256 .f32) (g : Vec Ideal S1x128 .f32) (r e : Fin 128) :
    k0_pay168 (F := Ideal) lam A g (ix2 r e) = normed rest4 (lam (ix2 0 0)) A (fun e => g (ix2 0 e)) r e := by
  pointwise [k0_pay168]
  rfl

theorem flush6 : ∀ t : Fin cfg0.N, (cfg0.win 6).flush t = true := by decide +kernel

/-- The result array, at an index. -/
theorem result_at {m : (l : Loc nD τ sig) → Buf (Elt Ideal) l} {c : Dev nD} (hq : ∀ b t n, ∃ r : ℝ, aQ m c b t n = r) (hk : ∀ b t n, ∃ r : ℝ, aK m c b t n = r) (hv : ∀ b t n, ∃ r : ℝ, aV m c b t n = r)
    (hl : ∀ i l, ∃ r : ℝ, aL m c i l = r) (hT : ∀ h x, ∃ r : ℝ, aT m c h x = r) (b : Fin 16) (s : Fin 4096) (h : Fin 4) (e : Fin 128) :
    (dats m 0 c).arrAt 6 cfg0.N (ix3 b s ⟨128 * h.val + e.val, by omega⟩)
      = diffAt (aQ m c) (aK m c) (aV m c) (aT m c) (mixW init4 (aL m c)).toReal rest4 (aG m c) b s h e := by
  have b0 : ∀ (t : Fin cfg0.N) (i : Fin 4) (l : Fin 64), iblk m c 0 t (ix2 i l) = aL m c i l := blk0 m c
  have b5 : ∀ (t : Fin cfg0.N) (e : Fin 128), iblk m c 5 t (ix2 0 e) = aG m c e := blk5 m c
  refine array_at (m := m) hq hk hv hT (fin := fun t A => k0_pay168 (k0_pay120 (iblk m c 0 t)) A (iblk m c 5 t)) (fun t A r e => ?_) (fun t => ?_) b s h e
  · rw [pay168_apply, pay120_apply, ← mixW_real init4_real hl]
    simp only [b0, b5]
  · refine (Cert.Kernel5Ideal.Value.blocks6 m c t (flush6 t)).trans ?_
    rw [Cert.Kernel5Ideal.Value.flushed6_A, out_A]
    rfl

end Cert.Kernel5Ideal.DiffFour
end
end
-- ==== Proof.DiffRef.lean ====
/- The reference's result, at an index: differential attention's formula at a place of the whole array. -/
module

public import proofs.«01_k».proof.Proof.DiffLayer
public import proofs.«01_k».proof.Proof.Gen.Reference3Ideal.Read
public import Idealize.ShloMosaic.Lib.KernelVsHost

@[expose] public section
set_option maxRecDepth 16384
noncomputable section
namespace Cert.Reference3Ideal.DiffRef
open Cert.Reference3Ideal Cert.Reference3Ideal.Gen Cert.Reference3Ideal.Read Idealize.ShloMosaic Idealize.ShloMosaic.TcCoe Idealize.SL.Sem Cert.DiffSpec

theorem dist_at (t j : Fin 4096) : val_main_v24 (F := Ideal) (ix2 t j) = IntOp.subi (BitVec.ofNat 32 t.val) (BitVec.ofNat 32 j.val) := by
  pointwise [val_main_v24, val_main_v23, val_main_v22, val_main_v21, val_main_v20, val_main_v19]

theorem bucket_at (t j : Fin 4096) : val_main_v44 (F := Ideal) (ix2 t j) = BitVec.ofNat 32 (bk (t.val - j.val)) := by
  have e : val_main_v44 (F := Ideal) (ix2 t j) = bucket (IntOp.maxsi (val_main_v24 (F := Ideal) (ix2 t j)) 0#32) := rfl
  rw [e, dist_at, max_sub (by omega) (by omega), bucket_eq]

theorem wrap : ∀ b : Fin 32, IntOp.cmpi .slt (BitVec.ofNat 32 b.val) 0#32 = 0#1 ∧ min (BitVec.ofNat 32 b.val).toInt.toNat 31 = b.val := by decide +kernel

theorem row_at (t j : Fin 4096) : val_main_v49 (F := Ideal) (ix2 t j) = BitVec.ofNat 32 (bk (t.val - j.val)) := by
  have e : val_main_v49 (F := Ideal) (ix2 t j) = Scalar.select (IntOp.cmpi .slt (val_main_v44 (F := Ideal) (ix2 t j)) 0#32) (val_main_v48 (F := Ideal) (ix2 t j)) (val_main_v44 (F := Ideal) (ix2 t j)) := rfl
  rw [e, bucket_at, (wrap ⟨bk (t.val - j.val), bk_lt (by omega)⟩).1]
  rfl

theorem start0 (t j : Fin 4096) : val_main_v52 (F := Ideal) (ix3 t j 0) = BitVec.ofNat 32 (bk (t.val - j.val)) := by
  rw [← row_at]
  pointwise [val_main_v52, val_main_v50]

theorem start1 (t j : Fin 4096) : val_main_v52 (F := Ideal) (ix3 t j 1) = 8#32 := by
  pointwise [val_main_v52, val_main_v51, val_main_c_11]

abbrev takes := gather_S32x20_S4096x4096x2_S4096x4096x4_2_0_n_n_01_2_14

/-- The gather at an index: a row and the first of four columns are looked up, both kept inside the table. -/
theorem gather_at (x : S32x20.Idx → EReal) (i : IVec S4096x4096x2 32) (t j : Fin 4096) (h : Fin 4) :
    Host.gather takes x i (ix3 t j h) = x (ix2 ⟨min (i (ix3 t j 0)).toInt.toNat 31, by omega⟩ ⟨min (i (ix3 t j 1)).toInt.toNat 16 + h.val, by omega⟩) := by
  unfold Host.gather
  congr 1
  funext a
  refine Fin.ext ?_
  show takes.start (ix3 t j h) i a + takes.batchCoord (ix3 t j h) a + takes.offCoord (ix3 t j h) a = _
  rw [GatherDims.batchCoord_eq_zero _ _ _ (List.not_mem_nil)]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin S32x20.rank) ∈ takes.startIndexMap by decide)]
    have hsi : takes.siIdx (ix3 t j h) ⟨List.idxOf (⟨0, by decide⟩ : Fin S32x20.rank) takes.startIndexMap, List.idxOf_lt_length_iff.2 (by decide)⟩ = ix3 t j 0 := by
      funext b; refine Fin.ext ?_
      match b with
      | ⟨0, _⟩ => rfl
      | ⟨1, _⟩ => rfl
      | ⟨2, _⟩ => rfl
    rw [hsi]
    rfl
  | ⟨1, _⟩ =>
    unfold GatherDims.start
    rw [dif_pos (show (⟨1, by decide⟩ : Fin S32x20.rank) ∈ takes.startIndexMap by decide)]
    have hsi : takes.siIdx (ix3 t j h) ⟨List.idxOf (⟨1, by decide⟩ : Fin S32x20.rank) takes.startIndexMap, List.idxOf_lt_length_iff.2 (by decide)⟩ = ix3 t j 1 := by
      funext b; refine Fin.ext ?_
      match b with
      | ⟨0, _⟩ => rfl
      | ⟨1, _⟩ => rfl
      | ⟨2, _⟩ => rfl
    rw [hsi]
    rfl

/-- The gather at an index whose looked-up row and column are known. -/
theorem gather_row {x : S32x20.Idx → EReal} {i : IVec S4096x4096x2 32} {t j : Fin 4096} {r : Fin 32}
    (h0 : i (ix3 t j 0) = BitVec.ofNat 32 r.val) (h1 : i (ix3 t j 1) = 8#32) (h : Fin 4) :
    Host.gather takes x i (ix3 t j h) = x (ix2 r ⟨8 + h.val, by omega⟩) := by
  rw [gather_at]
  congr 1
  funext a
  apply Fin.ext
  match a with
  | ⟨0, _⟩ => show min (i (ix3 t j 0)).toInt.toNat 31 = r.val; rw [h0]; exact (wrap r).2
  | ⟨1, _⟩ => show min (i (ix3 t j 1)).toInt.toNat 16 + h.val = 8 + h.val; rw [h1]; rfl

theorem ninf : Ideal.ofBits .f32 0xFF800000#32 = ⊥ := by
  simp [Ideal.ofBits, Ideal.ieee]

theorem zero : Ideal.ofBits .f32 0x00000000#32 = 0 := by
  simp [Ideal.ofBits, Ideal.ieee]

/-- The greatest entry of a row. -/
theorem rowmax (x : S16x4x2x4096x4096.Idx → EReal) (b : Fin 16) (h : Fin 4) (p : Fin 2) (t : Fin 4096) :
    Host.reduce (FloatOps.maximumf (F := Ideal) (φ := .f32)) x (constant S_ .f32 0xFF800000#32) reducesTo_S16x4x2x4096x4096_S16x4x2x4096_d4 h_S_ (ix4 b h p t)
      = Finset.univ.fold max ⊥ fun j : Fin 4096 => x (ix5 b h p t j) := by
  have hr : S16x4x2x4096x4096.Reduces [4] S16x4x2x4096 := by decide
  rw [Host.reduce_eq_fold_single (FloatOps.maximumf (F := Ideal) (φ := .f32)) x _ _ hr _, ← ninf]
  have hf : x ∘ hr.lift (ix4 b h p t) = fun j : Fin 4096 => x (ix5 b h p t j) := funext fun j => congrArg x (by
    funext a
    apply Fin.ext
    match a with
    | ⟨0, _⟩ => rfl
    | ⟨1, _⟩ => rfl
    | ⟨2, _⟩ => rfl
    | ⟨3, _⟩ => rfl
    | ⟨4, _⟩ => rfl)
  exact congrArg (fun f => Finset.fold max (Ideal.ofBits .f32 0xFF800000#32) f (Finset.univ : Finset (Fin 4096))) hf

variable (x0 x1 x2 : (⟨S16x4096x512, .f32⟩ : BufTy).Contents (Elt Ideal)) (x3 : (⟨S4x64, .f32⟩ : BufTy).Contents (Elt Ideal)) (x4 : (⟨S32x20, .f32⟩ : BufTy).Contents (Elt Ideal)) (x5 : (⟨S128, .f32⟩ : BufTy).Contents (Elt Ideal))

/-- The arguments as functions of plain indices. -/
abbrev rX (x : (⟨S16x4096x512, .f32⟩ : BufTy).Contents (Elt Ideal)) (b : Fin 16) (s : Fin 4096) (n : Fin 512) : EReal := x (ix3 b s n)
abbrev rL (i : Fin 4) (l : Fin 64) : EReal := x3 (ix2 i l)
abbrev rT (h : Fin 4) (x : Fin 32) : EReal := x4 (ix2 x ⟨8 + h.val, by omega⟩)

theorem bias_at (t j : Fin 4096) (h : Fin 4) : val_main_v54 (F := Ideal) x4 (ix3 h t j) = bias (rT x4 h) (t.val - j.val) := by
  rw [val_main_v54_apply]
  have e : idx_main_v54 (ix3 h t j) = ix3 t j h := by funext a; match a with | ⟨0, _⟩ => rfl | ⟨1, _⟩ => rfl | ⟨2, _⟩ => rfl
  rw [e]
  have hb := bk_lt (n := t.val - j.val) (by omega)
  refine gather_row (r := ⟨bk (t.val - j.val) % 32, Nat.mod_lt _ (by decide)⟩) ?_ (start1 t j) h
  rw [start0]
  exact congrArg (BitVec.ofNat 32) (Nat.mod_eq_of_lt hb).symm

theorem dot_at (b : Fin 16) (h : Fin 4) (p : Fin 2) (t j : Fin 4096) :
    val_main_v55 (F := Ideal) x0 x1 (ix5 b h p t j) = ∑ l : Fin 64, rX x0 b t ⟨128 * h.val + (64 * p.val + l.val), by omega⟩ * rX x1 b j ⟨128 * h.val + (64 * p.val + l.val), by omega⟩ := by
  rw [val_main_v55_apply]
  refine Finset.sum_congr rfl fun l _ => ?_
  rw [val_main_v0_apply, val_main_v1_apply]
  congr 2
  · funext a
    apply Fin.ext
    match a with
    | ⟨0, _⟩ => show ((((b.val * 4096 + t.val) * 4 + h.val) * 2 + p.val) * 64 + l.val) / 2097152 = b.val; omega
    | ⟨1, _⟩ => show ((((b.val * 4096 + t.val) * 4 + h.val) * 2 + p.val) * 64 + l.val) / 512 % 4096 = t.val; omega
    | ⟨2, _⟩ => show ((((b.val * 4096 + t.val) * 4 + h.val) * 2 + p.val) * 64 + l.val) % 512 = 128 * h.val + (64 * p.val + l.val); omega
  · funext a
    apply Fin.ext
    match a with
    | ⟨0, _⟩ => show ((((b.val * 4096 + j.val) * 4 + h.val) * 2 + p.val) * 64 + l.val) / 2097152 = b.val; omega
    | ⟨1, _⟩ => show ((((b.val * 4096 + j.val) * 4 + h.val) * 2 + p.val) * 64 + l.val) / 512 % 4096 = j.val; omega
    | ⟨2, _⟩ => show ((((b.val * 4096 + j.val) * 4 + h.val) * 2 + p.val) * 64 + l.val) % 512 = 128 * h.val + (64 * p.val + l.val); omega

theorem score_at (b : Fin 16) (h : Fin 4) (p : Fin 2) (t j : Fin 4096) :
    val_main_v63 (F := Ideal) x0 x1 x4 (ix5 b h p t j) = score (rX x0) (rX x1) (rT x4) b h p t j := by
  have e : val_main_v63 (F := Ideal) x0 x1 x4 (ix5 b h p t j)
      = Scalar.select (IntOp.cmpi .sge (val_main_v24 (F := Ideal) (ix2 t j)) 0#32)
          (val_main_v55 (F := Ideal) x0 x1 (ix5 b h p t j) * Ideal.ofBits .f32 0x3E000000#32 + val_main_v54 (F := Ideal) x4 (ix3 h t j)) (Ideal.ofBits .f32 0xFF800000#32) := by
    pointwise [val_main_v63, val_main_call1_v1, val_main_call1_v2, val_main_call1_v0, val_main_cst_14, val_main_v62, val_main_v61, val_main_c_13, val_main_v60, val_main_v59, val_main_v58, val_main_v57, val_main_v56, val_main_cst_12]
    rfl
  rw [e, dist_at, sge_sub (by omega) (by omega), dot_at, bias_at, ninf]
  unfold score
  split_ifs <;> rfl

section
variable {x0 x1 x2 x3 x4 x5}
variable (hq : ∀ b t n, ∃ r : ℝ, rX x0 b t n = r) (hk : ∀ b t n, ∃ r : ℝ, rX x1 b t n = r) (hv : ∀ b t n, ∃ r : ℝ, rX x2 b t n = r)
  (hl : ∀ i l, ∃ r : ℝ, rL x3 i l = r) (hT : ∀ h x, ∃ r : ℝ, rT x4 h x = r)

theorem max_at (b : Fin 16) (h : Fin 4) (p : Fin 2) (t : Fin 4096) :
    val_main_v66 (F := Ideal) x0 x1 x4 (ix4 b h p t) = Finset.univ.fold max ⊥ fun j => score (rX x0) (rX x1) (rT x4) b h p t j := by
  have e65 : val_main_v65 (F := Ideal) (ix4 b h p t) = (⊥ : EReal) := by
    rw [val_main_v65_apply, val_main_cst_16_apply]
    exact ninf
  have e64 : val_main_v64 (F := Ideal) x0 x1 x4 (ix4 b h p t) = Finset.univ.fold max ⊥ fun j => score (rX x0) (rX x1) (rT x4) b h p t j := by
    have hs : ∀ j, val_main_v63 (F := Ideal) x0 x1 x4 (ix5 b h p t j) = score (rX x0) (rX x1) (rT x4) b h p t j := fun j => score_at x0 x1 x4 b h p t j
    unfold val_main_v64 val_main_cst_15
    generalize val_main_v63 (F := Ideal) x0 x1 x4 = y at hs
    rw [rowmax]
    simp only [hs]
  rw [val_main_v66_apply, e65, e64]
  generalize Finset.fold max ⊥ (fun j => score (rX x0) (rX x1) (rT x4) b h p t j) Finset.univ = z
  exact max_eq_right bot_le

include hq hk hT in
/-- A map's weight, at an index. -/
theorem prob_at (b : Fin 16) (h : Fin 4) (p : Fin 2) (t j : Fin 4096) :
    val_main_v74 (F := Ideal) x0 x1 x4 (ix5 b h p t j)
      = ((wt (score (rX x0) (rX x1) (rT x4) b h p t j) / ∑ j, wt (score (rX x0) (rX x1) (rT x4) b h p t j) : ℝ) : EReal) := by
  have e : ∀ j, val_main_v70 (F := Ideal) x0 x1 x4 (ix5 b h p t j)
      = Ideal.exp (score (rX x0) (rX x1) (rT x4) b h p t j - Finset.univ.fold max ⊥ fun j => score (rX x0) (rX x1) (rT x4) b h p t j) := fun j => by
    rw [← max_at, ← score_at]
    pointwise [val_main_v70, val_main_v69, val_main_v68, val_main_v67]
  rw [← softmax_at (fun j => score_ne_top hq hk hT b h p t j) 0 (score_first hq hk hT b h p t) j]
  simp only [← e]
  pointwise [val_main_v74, val_main_v73, val_main_v72, val_main_v71, val_main_cst_17]

theorem lam_at : val_main_v18 (F := Ideal) x3 ix0 = mixW init2 (rL x3) := by
  unfold mixW
  pointwise [val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1]

theorem part_at {i : S16x4x1x4096x4096.Idx} {b : Fin 16} {h : Fin 4} {t j : Fin 4096}
    (h0 : (i 0).val = (((b.val * 4 + h.val) * 4096 + t.val) * 4096 + j.val) / 67108864)
    (h1 : (i 1).val = (((b.val * 4 + h.val) * 4096 + t.val) * 4096 + j.val) / 16777216 % 4)
    (h2 : (i 2).val = 0)
    (h3 : (i 3).val = (((b.val * 4 + h.val) * 4096 + t.val) * 4096 + j.val) / 4096 % 4096)
    (h4 : (i 4).val = (((b.val * 4 + h.val) * 4096 + t.val) * 4096 + j.val) % 4096) : i = ix5 b h 0 t j := by
  funext a
  apply Fin.ext
  match a with
  | ⟨0, _⟩ => exact h0.trans (show _ = b.val by omega)
  | ⟨1, _⟩ => exact h1.trans (show _ = h.val by omega)
  | ⟨2, _⟩ => exact h2
  | ⟨3, _⟩ => exact h3.trans (show _ = t.val by omega)
  | ⟨4, _⟩ => exact h4.trans (show _ = j.val by omega)

theorem first_at (b : Fin 16) (h : Fin 4) (t j : Fin 4096) : idx_main_v76 (ix4 b h t j) = ix5 b h 0 t j := part_at rfl rfl rfl rfl rfl

theorem second_at (b : Fin 16) (h : Fin 4) (t j : Fin 4096) : idx_main_v78 (ix4 b h t j) = ix5 b h 0 t j := part_at rfl rfl rfl rfl rfl

theorem minus (L : FVec Ideal S_ .f32) (y z : FVec Ideal S16x4x4096x4096 .f32) (i : S16x4x4096x4096.Idx) :
    subf y (mulf (broadcastInDim S16x4x4096x4096 ![] bcast_S_S16x4x4096x4096 L) z) i = y i - L ix0 * z i := by
  have e : ∀ i : S_.Idx, L i = L ix0 := fun i => congrArg L (funext fun a => a.elim0)
  show y i - L _ * z i = _
  rw [e]

/-- The difference of the two maps with a weight. -/
theorem maps_of (L : FVec Ideal S_ .f32) (b : Fin 16) (h : Fin 4) (t j : Fin 4096) :
    subf (val_main_v76 (F := Ideal) x0 x1 x4) (mulf (broadcastInDim S16x4x4096x4096 ![] bcast_S_S16x4x4096x4096 L) (val_main_v78 (F := Ideal) x0 x1 x4)) (ix4 b h t j)
      = val_main_v74 (F := Ideal) x0 x1 x4 (ix5 b h 0 t j) - L ix0 * val_main_v74 (F := Ideal) x0 x1 x4 (ix5 b h 1 t j) := by
  have e2 : idx_main_v75 (ix5 b h 0 t j) = ix5 b h 0 t j := by funext a; match a with | ⟨0, _⟩ => rfl | ⟨1, _⟩ => rfl | ⟨2, _⟩ => rfl | ⟨3, _⟩ => rfl | ⟨4, _⟩ => rfl
  have e3 : idx_main_v77 (ix5 b h 0 t j) = ix5 b h 1 t j := by funext a; match a with | ⟨0, _⟩ => rfl | ⟨1, _⟩ => rfl | ⟨2, _⟩ => rfl | ⟨3, _⟩ => rfl | ⟨4, _⟩ => rfl
  rw [minus, val_main_v76_apply, val_main_v75_apply, val_main_v78_apply, val_main_v77_apply, second_at, first_at, e2, e3]

include hv in
theorem value_at (b : Fin 16) (j : Fin 4096) (h : Fin 4) (e : Fin 128) :
    val_main_v2 (F := Ideal) x2 (ix4 b j h e) = (((rX x2 b j ⟨128 * h.val + e.val, by omega⟩).toReal : ℝ) : EReal) := by
  have e1 : val_main_v2 (F := Ideal) x2 (ix4 b j h e) = rX x2 b j ⟨128 * h.val + e.val, by omega⟩ := by
    rw [val_main_v2_apply]
    congr 1
    funext a
    apply Fin.ext
    match a with
    | ⟨0, _⟩ => show (((b.val * 4096 + j.val) * 4 + h.val) * 128 + e.val) / 2097152 = b.val; omega
    | ⟨1, _⟩ => show (((b.val * 4096 + j.val) * 4 + h.val) * 128 + e.val) / 512 % 4096 = j.val; omega
    | ⟨2, _⟩ => show (((b.val * 4096 + j.val) * 4 + h.val) * 128 + e.val) % 512 = 128 * h.val + e.val; omega
  obtain ⟨w, hw⟩ := hv b j ⟨128 * h.val + e.val, by omega⟩
  rw [e1, hw]; rfl

include hq hk hv hT in
/-- The average of the values with the difference of the two maps. -/
theorem avg_of {y : S16x4x4096x4096.Idx → EReal} {lam : ℝ} {b : Fin 16} {t : Fin 4096} {h : Fin 4}
    (hy : ∀ j, y (ix4 b h t j) = val_main_v74 (F := Ideal) x0 x1 x4 (ix5 b h 0 t j) - lam * val_main_v74 (F := Ideal) x0 x1 x4 (ix5 b h 1 t j)) (e : Fin 128) :
    ∑ j : Fin 4096, val_main_v2 (F := Ideal) x2 (lidx_main_v82 (idx_main_v83 (ix4 b t h e)) j) * y (ridx_main_v82 (idx_main_v83 (ix4 b t h e)) j)
      = ((attn (score (rX x0) (rX x1) (rT x4) b h 0 t) (score (rX x0) (rX x1) (rT x4) b h 1 t) lam (fun j => (rX x2 b j ⟨128 * h.val + e.val, by omega⟩).toReal) : ℝ) : EReal) := by
  rw [← attn_eq]
  refine Finset.sum_congr rfl fun j _ => ?_
  have el : lidx_main_v82 (idx_main_v83 (ix4 b t h e)) j = ix4 b j h e := by funext a; match a with | ⟨0, _⟩ => rfl | ⟨1, _⟩ => rfl | ⟨2, _⟩ => rfl | ⟨3, _⟩ => rfl
  have er : ridx_main_v82 (idx_main_v83 (ix4 b t h e)) j = ix4 b h t j := by funext a; match a with | ⟨0, _⟩ => rfl | ⟨1, _⟩ => rfl | ⟨2, _⟩ => rfl | ⟨3, _⟩ => rfl
  rw [el, er, value_at hv, hy, prob_at hq hk hT, prob_at hq hk hT]

include hq hk hv hl hT in
theorem avg_at (b : Fin 16) (t : Fin 4096) (h : Fin 4) (e : Fin 128) :
    val_main_v83 (F := Ideal) x0 x1 x2 x3 x4 (ix4 b t h e)
      = ((attn (score (rX x0) (rX x1) (rT x4) b h 0 t) (score (rX x0) (rX x1) (rT x4) b h 1 t) (mixW init2 (rL x3)).toReal (fun j => (rX x2 b j ⟨128 * h.val + e.val, by omega⟩).toReal) : ℝ) : EReal) := by
  rw [val_main_v83_apply, val_main_v82_apply]
  refine avg_of hq hk hv hT (fun j => ?_) e
  rw [← mixW_real init2_real hl, ← lam_at]
  exact maps_of _ b h t j

/-- The heads side by side. -/
theorem heads_at (b : Fin 16) (t : Fin 4096) (h : Fin 4) (e : Fin 128) : idx_main_v99 (ix3 b t ⟨128 * h.val + e.val, by omega⟩) = ix4 b t h e := by
  funext a
  apply Fin.ext
  match a with
  | ⟨0, _⟩ => show ((b.val * 4096 + t.val) * 512 + (128 * h.val + e.val)) / 2097152 = b.val; omega
  | ⟨1, _⟩ => show ((b.val * 4096 + t.val) * 512 + (128 * h.val + e.val)) / 512 % 4096 = t.val; omega
  | ⟨2, _⟩ => show ((b.val * 4096 + t.val) * 512 + (128 * h.val + e.val)) / 128 % 4 = h.val; omega
  | ⟨3, _⟩ => show ((b.val * 4096 + t.val) * 512 + (128 * h.val + e.val)) % 128 = e.val; omega

include hq hk hv hl hT in
/-- The reference's result, at an index. -/
theorem result_at (b : Fin 16) (t : Fin 4096) (h : Fin 4) (e : Fin 128) :
    val_main_v100 (F := Ideal) x0 x1 x2 x3 x4 x5 (ix3 b t ⟨128 * h.val + e.val, by omega⟩)
      = diffAt (rX x0) (rX x1) (rX x2) (rT x4) (mixW init2 (rL x3)).toReal rest2 (fun e => x5 (ix1 e)) b t h e := by
  rw [val_main_v100_apply, val_main_v99_apply, heads_at]
  unfold diffAt DiffSpec.norm
  simp only [← avg_at hq hk hv hl hT]
  pointwise [val_main_v98, val_main_v97, val_main_cst_21, val_main_v96, val_main_v95, val_main_v94, val_main_v93, val_main_v92, val_main_v91, val_main_v90, val_main_v89, val_main_cst_20, val_main_v88, val_main_v87, val_main_cst_19, val_main_v86, val_main_v85, val_main_cst_18, val_main_v84]

end
end Cert.Reference3Ideal.DiffRef
end
end
-- ==== Proof.DiffFourRef.lean ====
/- The fourth layer's reference, at an index: the second layer's with two other numbers. -/
module

public import proofs.«01_k».proof.Proof.DiffRef
public import proofs.«01_k».proof.Proof.Gen.Reference5Ideal.Read

@[expose] public section
set_option maxRecDepth 16384
noncomputable section
namespace Cert.Reference5Ideal.DiffFourRef
open Cert.Reference5Ideal Cert.Reference5Ideal.Gen Cert.Reference5Ideal.Read Idealize.ShloMosaic Idealize.ShloMosaic.TcCoe Idealize.SL.Sem Cert.DiffSpec
open Cert.Reference3Ideal.DiffRef (rX rL rT maps_of avg_of heads_at)

variable {x0 x1 x2 : (⟨S16x4096x512, .f32⟩ : BufTy).Contents (Elt Ideal)} {x3 : (⟨S4x64, .f32⟩ : BufTy).Contents (Elt Ideal)} {x4 : (⟨S32x20, .f32⟩ : BufTy).Contents (Elt Ideal)} {x5 : (⟨S128, .f32⟩ : BufTy).Contents (Elt Ideal)}
variable (hq : ∀ b t n, ∃ r : ℝ, rX x0 b t n = r) (hk : ∀ b t n, ∃ r : ℝ, rX x1 b t n = r) (hv : ∀ b t n, ∃ r : ℝ, rX x2 b t n = r)
  (hl : ∀ i l, ∃ r : ℝ, rL x3 i l = r) (hT : ∀ h x, ∃ r : ℝ, rT x4 h x = r)

theorem lam_at : val_main_v18 (F := Ideal) x3 ix0 = mixW init4 (rL x3) := by
  unfold mixW
  pointwise [val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1]

/-- The two maps are the second layer's. -/
theorem maps_eq : val_main_v81 (F := Ideal) x0 x1 x3 x4
    = (subf (Cert.Reference3Ideal.Read.val_main_v76 (F := Ideal) x0 x1 x4) (mulf (broadcastInDim S16x4x4096x4096 ![] bcast_S_S16x4x4096x4096 (val_main_v18 (F := Ideal) x3)) (Cert.Reference3Ideal.Read.val_main_v78 (F := Ideal) x0 x1 x4)) : FVec Ideal S16x4x4096x4096 .f32) := rfl

include hq hk hv hl hT in
theorem avg_at (b : Fin 16) (t : Fin 4096) (h : Fin 4) (e : Fin 128) :
    val_main_v83 (F := Ideal) x0 x1 x2 x3 x4 (ix4 b t h e)
      = ((attn (score (rX x0) (rX x1) (rT x4) b h 0 t) (score (rX x0) (rX x1) (rT x4) b h 1 t) (mixW init4 (rL x3)).toReal (fun j => (rX x2 b j ⟨128 * h.val + e.val, by omega⟩).toReal) : ℝ) : EReal) := by
  rw [val_main_v83_apply, val_main_v82_apply, maps_eq]
  refine avg_of hq hk hv hT (fun j => ?_) e
  rw [← mixW_real init4_real hl, ← lam_at]
  exact maps_of _ b h t j

include hq hk hv hl hT in
/-- The reference's result, at an index. -/
theorem result_at (b : Fin 16) (t : Fin 4096) (h : Fin 4) (e : Fin 128) :
    val_main_v100 (F := Ideal) x0 x1 x2 x3 x4 x5 (ix3 b t ⟨128 * h.val + e.val, by omega⟩)
      = diffAt (rX x0) (rX x1) (rX x2) (rT x4) (mixW init4 (rL x3)).toReal rest4 (fun e => x5 (ix1 e)) b t h e := by
  have eh : idx_main_v99 (ix3 b t ⟨128 * h.val + e.val, by omega⟩) = ix4 b t h e := heads_at b t h e
  rw [val_main_v100_apply, val_main_v99_apply, eh]
  unfold diffAt DiffSpec.norm
  simp only [← avg_at hq hk hv hl hT]
  pointwise [val_main_v98, val_main_v97, val_main_cst_21, val_main_v96, val_main_v95, val_main_v94, val_main_v93, val_main_v92, val_main_v91, val_main_v90, val_main_v89, val_main_cst_20, val_main_v88, val_main_v87, val_main_cst_19, val_main_v86, val_main_v85, val_main_cst_18, val_main_v84]

end Cert.Reference5Ideal.DiffFourRef
end
end
-- ==== Proof.DiffPre.lean ====
/- What the precondition says of the arguments: every entry it names is a real number. -/
module

public import proofs.«01_k».proof.Pre_finite
public import Idealize.ShloMosaic.Lib.KernelVsHost

@[expose] public section
noncomputable section
namespace Cert.Pre_finite
open Idealize.ShloMosaic

instance facts : Facts where
  bcast_S_S16x4096x512 := by decide
  reducesTo_S16x4096x512_S_d0_1_2 := by decide
  h_S_ := by decide
  bcast_S_S4x64 := by decide
  reducesTo_S4x64_S_d0_1 := by decide
  bcast_S_S32x20 := by decide
  reducesTo_S32x20_S_d0_1 := by decide

theorem andi_one : ∀ a b : BitVec 1, IntOp.andi a b = 1#1 ↔ a = 1#1 ∧ b = 1#1 := by decide

/-- A conjunction over a set is true only if each member is. -/
theorem fold_andi {ι : Type} [DecidableEq ι] (f : ι → BitVec 1) (b : BitVec 1) (s : Finset ι) (h : s.fold IntOp.andi b f = 1#1) : ∀ i ∈ s, f i = 1#1 := by
  induction s using Finset.induction with
  | empty => exact fun i hi => absurd hi (Finset.notMem_empty i)
  | insert a s ha ih =>
    rw [Finset.fold_insert ha, andi_one] at h
    intro i hi
    rcases Finset.mem_insert.mp hi with e | e
    · rw [e]; exact h.1
    · exact ih h.2 i e

/-- A value below +∞ in size is a real number. -/
theorem real_of_lt {x : EReal} (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

/-- The array's conjunct, read at an index. -/
theorem all_real {s : Shape} {axes : List (Fin s.rank)} (x : FVec Ideal s .f32) (hb : S_.BroadcastsInDim s (![] : Fin 0 → Fin s.rank))
    (h : s.ReducesTo axes S_) (hu : 0 < S_.numel)
    (H : Host.reduce IntOp.andi (cmpf .olt (Host.absf x) (broadcastInDim s ![] hb (constant S_ .f32 0x7F800000#32))) (constantI S_ 1 1#1) h hu (fun a => a.elim0) = 1#1)
    (i : s.Idx) : ∃ r : ℝ, (x i : EReal) = r := by
  classical
  rw [Host.reduce_eq_fold] at H
  exact real_of_lt (fold_andi _ _ _ H i (Finset.mem_filter.mpr ⟨Finset.mem_univ _, funext fun a => a.elim0⟩))

/-- Queries, keys, values, the mixing vectors and the bias table are real. -/
theorem reals {q k v : FVec Ideal S16x4096x512 .f32} {l : FVec Ideal S4x64 .f32} {T : FVec Ideal S32x20 .f32} {g : FVec Ideal S128 .f32}
    (H : fn (F := Ideal) q k v l T g = fun _ => 1#1) :
    (∀ i, ∃ r : ℝ, (q i : EReal) = r) ∧ (∀ i, ∃ r : ℝ, (k i : EReal) = r) ∧ (∀ i, ∃ r : ℝ, (v i : EReal) = r)
      ∧ (∀ i, ∃ r : ℝ, (l i : EReal) = r) ∧ (∀ i, ∃ r : ℝ, (T i : EReal) = r) := by
  have H0 := congrFun H (fun a => a.elim0)
  obtain ⟨H1, hT⟩ := (andi_one _ _).mp H0
  obtain ⟨H2, hl⟩ := (andi_one _ _).mp H1
  obtain ⟨H3, hv⟩ := (andi_one _ _).mp H2
  obtain ⟨hq, hk⟩ := (andi_one _ _).mp H3
  exact ⟨all_real q _ _ _ hq, all_real k _ _ _ hk, all_real v _ _ _ hv, all_real l _ _ _ hl, all_real T _ _ _ hT⟩

end Cert.Pre_finite
end
end
-- ==== Proof.Out.lean ====
/- The output projection of the even layers: the kernel multiplies the two halves of the rows by the two halves of the weight
   and adds both products to the residual stream; the reference joins the halves and multiplies once. -/
module

public import proofs.«01_k».proof.Proof.Body
public import proofs.«01_k».proof.Proof.Gen.Kernel4Ideal.Value
public import proofs.«01_k».proof.Proof.Gen.Reference4Ideal.Read
public import Idealize.ShloMosaic.Lib.StableHlo.ReadAt

@[expose] public section
set_option maxRecDepth 16384
noncomputable section
namespace Cert.Kernel4Ideal.OutBody
open Cert.Kernel4Ideal Cert.Kernel4Ideal.Gen Idealize.ShloMosaic Idealize.ShloMosaic.TcCoe Idealize.SL.Sem
open Cert.KernelIdeal.FfnBody (canon_blk ld_blk z3)

/-- The residual row plus the two halves' products with the rows of the weight that belong to them. -/
def outAt (X : Fin 16 → Fin 4096 → Fin 1024 → EReal) (A U : Fin 16 → Fin 4096 → Fin 512 → EReal) (W : Fin 1024 → Fin 1024 → EReal)
    (b : Fin 16) (s : Fin 4096) (n : Fin 1024) : EReal :=
  X b s n + ∑ k : Fin 512, A b s k * W (k.castAdd 512) n + ∑ k : Fin 512, U b s k * W (k.natAdd 512) n

variable (m : (l : Loc nD τ sig) → Buf (Elt Ideal) l)

def aX (c : Dev nD) (b : Fin 16) (s : Fin 4096) (n : Fin 1024) : EReal := m (c, Proc.tc.devRef main_arg0) (ix3 b s n)
def aA (c : Dev nD) (b : Fin 16) (s : Fin 4096) (n : Fin 512) : EReal := m (c, Proc.tc.devRef main_arg1) (ix3 b s n)
def aU (c : Dev nD) (b : Fin 16) (s : Fin 4096) (n : Fin 512) : EReal := m (c, Proc.tc.devRef main_arg2) (ix3 b s n)
def aW (c : Dev nD) (k n : Fin 1024) : EReal := m (c, Proc.tc.devRef main_arg3) (ix2 k n)

theorem V0_at (c : Dev nD) (b : Fin 16) (s : Fin 4096) (n : Fin 512) : V m c main_v0 (ix3 b s n) = aA m c b s n := by
  unfold V; after_reads_at; rfl
theorem V1_at (c : Dev nD) (b : Fin 16) (s : Fin 4096) (n : Fin 512) : V m c main_v1 (ix3 b s n) = aU m c b s n := by
  unfold V; after_reads_at; rfl
theorem V2_at (c : Dev nD) (k n : Fin 1024) : V m c main_v2 (ix2 k n) = aW m c k n := by
  unfold V; after_reads_at; rfl

theorem lt128 (t : Fin cfg0.N) : t.val < 128 := lt_of_lt_of_eq t.isLt N_0

theorem idx0 : ∀ t : Fin grid0.N, win0_0.index t (0 : Fin 3) = t.val / 8 ∧ win0_0.index t (1 : Fin 3) = t.val % 8 ∧ win0_0.index t (2 : Fin 3) = 0 := by decide +kernel
theorem idx1 : ∀ t : Fin grid0.N, win0_1.index t (0 : Fin 3) = t.val / 8 ∧ win0_1.index t (1 : Fin 3) = t.val % 8 ∧ win0_1.index t (2 : Fin 3) = 0 := by decide +kernel
theorem idx2 : ∀ t : Fin grid0.N, win0_2.index t (0 : Fin 3) = t.val / 8 ∧ win0_2.index t (1 : Fin 3) = t.val % 8 ∧ win0_2.index t (2 : Fin 3) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 3) = t.val / 8 ∧ win0_4.index t (1 : Fin 3) = t.val % 8 ∧ win0_4.index t (2 : Fin 3) = 0 := by decide +kernel
theorem flush4 : ∀ t : Fin cfg0.N, (cfg0.win 4).flush t = true := by decide +kernel

theorem blk0 (c : Dev nD) (t : Fin cfg0.N) (r : Fin 512) (n : Fin 1024) :
    iblk m c 0 t (ix3 0 r n) = aX m c ⟨t.val / 8, by have := lt128 t; omega⟩ ⟨512 * (t.val % 8) + r.val, by omega⟩ n := by
  unfold iblk aX
  rw [View.read_apply]
  show V m c main_arg0 _ = _
  rw [V_main_arg0]
  congr 1
  funext a
  apply Fin.ext
  match a with
  | ⟨0, _⟩ => show win0_0.index t 0 * 1 + 1 * 0 = t.val / 8; rw [(idx0 t).1]; omega
  | ⟨1, _⟩ => show win0_0.index t 1 * 512 + 1 * r.val = 512 * (t.val % 8) + r.val; rw [(idx0 t).2.1]; omega
  | ⟨2, _⟩ => show win0_0.index t 2 * 1024 + 1 * n.val = n.val; rw [(idx0 t).2.2]; omega

theorem blk1 (c : Dev nD) (t : Fin cfg0.N) (r n : Fin 512) :
    iblk m c 1 t (ix3 0 r n) = aA m c ⟨t.val / 8, by have := lt128 t; omega⟩ ⟨512 * (t.val % 8) + r.val, by omega⟩ n := by
  rw [← V0_at]
  unfold iblk
  rw [View.read_apply]
  show V m c main_v0 _ = _
  congr 1
  funext a
  apply Fin.ext
  match a with
  | ⟨0, _⟩ => show win0_1.index t 0 * 1 + 1 * 0 = t.val / 8; rw [(idx1 t).1]; omega
  | ⟨1, _⟩ => show win0_1.index t 1 * 512 + 1 * r.val = 512 * (t.val % 8) + r.val; rw [(idx1 t).2.1]; omega
  | ⟨2, _⟩ => show win0_1.index t 2 * 512 + 1 * n.val = n.val; rw [(idx1 t).2.2]; omega

theorem blk2 (c : Dev nD) (t : Fin cfg0.N) (r n : Fin 512) :
    iblk m c 2 t (ix3 0 r n) = aU m c ⟨t.val / 8, by have := lt128 t; omega⟩ ⟨512 * (t.val % 8) + r.val, by omega⟩ n := by
  rw [← V1_at]
  unfold iblk
  rw [View.read_apply]
  show V m c main_v1 _ = _
  congr 1
  funext a
  apply Fin.ext
  match a with
  | ⟨0, _⟩ => show win0_2.index t 0 * 1 + 1 * 0 = t.val / 8; rw [(idx2 t).1]; omega
  | ⟨1, _⟩ => show win0_2.index t 1 * 512 + 1 * r.val = 512 * (t.val % 8) + r.val; rw [(idx2 t).2.1]; omega
  | ⟨2, _⟩ => show win0_2.index t 2 * 512 + 1 * n.val = n.val; rw [(idx2 t).2.2]; omega

theorem blk3 (c : Dev nD) (t : Fin cfg0.N) (k n : Fin 1024) : iblk m c 3 t (ix2 k n) = aW m c k n := by
  rw [← V2_at]
  unfold iblk
  rw [View.read_apply]
  show V m c main_v2 _ = _
  congr 1
  funext a
  apply Fin.ext
  match a with
  | ⟨0, _⟩ => show win0_3.index t 0 * 1024 + 1 * k.val = k.val; rw [(idx3 t).1]; omega
  | ⟨1, _⟩ => show win0_3.index t 1 * 1024 + 1 * n.val = n.val; rw [(idx3 t).2]; omega

/-- A point's block of the result, at an index. -/
theorem pay_apply (v0 : Vec Ideal S1x512x1024 .f32) (v2 v8 : Vec Ideal S1x512x512 .bf16) (v4 v10 : Vec Ideal S512x1024 .bf16) (r : Fin 512) (n : Fin 1024) :
    k0_pay1 (F := Ideal) v0 v2 v4 v8 v10 (ix3 0 r n)
      = v0 (ix3 0 r n) + ∑ k : Fin 512, v2 (ix3 0 r k) * v4 (ix2 k n) + ∑ k : Fin 512, v8 (ix3 0 r k) * v10 (ix2 k n) := by
  pointwise [k0_pay1, dot_S512x512_S512x1024_S512x1024_1_0_0_1_n_n]

/-- The loads of the weight's upper and lower half. -/
theorem ld_upper (x3 : Vec Ideal S1024x1024 .bf16) (k : Fin 512) (n : Fin 1024) : View.ld x3 r0_2 (ix2 k n) = x3 (ix2 (k.castAdd 512) n) := by
  show x3 _ = x3 _
  congr 1
  funext a
  apply Fin.ext
  match a with
  | ⟨0, _⟩ => show 0 + 1 * k.val = k.val; omega
  | ⟨1, _⟩ => show 0 + 1 * n.val = n.val; omega
theorem ld_lower (x3 : Vec Ideal S1024x1024 .bf16) (k : Fin 512) (n : Fin 1024) : View.ld x3 r0_3 (ix2 k n) = x3 (ix2 (k.natAdd 512) n) := by
  show x3 _ = x3 _
  congr 1
  funext a
  apply Fin.ext
  match a with
  | ⟨0, _⟩ => show 512 + 1 * k.val = 512 + k.val; omega
  | ⟨1, _⟩ => show 0 + 1 * n.val = n.val; omega

theorem out_apply (x0 : Vec Ideal S1x512x1024 .f32) (x1 x2 : Vec Ideal S1x512x512 .bf16) (x3 : Vec Ideal S1024x1024 .bf16) (r : Fin 512) (n : Fin 1024) :
    out0_4 (F := Ideal) x0 x1 x2 x3 (ix3 0 r n)
      = x0 (ix3 0 r n) + ∑ k : Fin 512, x1 (ix3 0 r k) * x3 (ix2 (k.castAdd 512) n) + ∑ k : Fin 512, x2 (ix3 0 r k) * x3 (ix2 (k.natAdd 512) n) := by
  have e1 : View.ld x1 r0_1 = x1 := View.ld_unit_zero z3 _ x1
  have e2 : View.ld x2 r0_1 = x2 := View.ld_unit_zero z3 _ x2
  have e : out0_4 (F := Ideal) x0 x1 x2 x3 = k0_pay1 x0 x1 (View.ld x3 r0_2) x2 (View.ld x3 r0_3) := by
    unfold out0_4
    have e0 : View.ld x0 r0_0 = x0 := View.ld_unit_zero z3 _ x0
    rw [e0, e1, e2]
    exact View.canon_cons_unit_zero z3 _ _ []
  rw [e]
  refine (pay_apply _ _ _ _ _ r n).trans ?_
  exact congrArg₂ (fun a b : EReal => x0 (ix3 0 r n) + a + b) (Finset.sum_congr rfl fun k _ => congrArg (x1 (ix3 0 r k) * ·) (ld_upper x3 k n))
    (Finset.sum_congr rfl fun k _ => congrArg (x2 (ix3 0 r k) * ·) (ld_lower x3 k n))

/-- The result array, at an index. -/
theorem result_at (c : Dev nD) (b : Fin 16) (s : Fin 4096) (n : Fin 1024) :
    (dats m 0 c).arrAt 4 cfg0.N (ix3 b s n) = outAt (aX m c) (aA m c) (aU m c) (aW m c) b s n := by
  have hlt : 8 * b.val + s.val / 512 < cfg0.N := by show _ < grid0.N; rw [N_0]; omega
  obtain ⟨t, ht⟩ : ∃ t : Fin cfg0.N, t.val = 8 * b.val + s.val / 512 := ⟨⟨_, hlt⟩, rfl⟩
  have e1 := congrFun (Cert.Kernel4Ideal.Value.blocks4 m c t (flush4 t)) (ix3 0 ⟨s.val % 512, by omega⟩ n)
  rw [View.read_apply, Cert.Kernel4Ideal.Value.flushed4] at e1
  have e2 := out_apply (iblk m c 0 t) (iblk m c 1 t) (iblk m c 2 t) (iblk m c 3 t) ⟨s.val % 512, by omega⟩ n
  have eb : (⟨t.val / 8, by have := lt128 t; omega⟩ : Fin 16) = b := Fin.ext (by show t.val / 8 = b.val; omega)
  have ew : (⟨512 * (t.val % 8) + s.val % 512, by omega⟩ : Fin 4096) = s :=
    Fin.ext (by show 512 * (t.val % 8) + s.val % 512 = s.val; omega)
  simp only [blk0, blk1, blk2, blk3, eb, ew] at e2
  refine Eq.trans ?_ (e1.trans (Eq.trans ?_ e2))
  · refine congrArg ((dats m 0 c).arrAt 4 cfg0.N) (funext fun a => Fin.ext ?_)
    match a with
    | ⟨0, _⟩ => show b.val = win0_4.index t 0 * 1 + 1 * 0; rw [(idx4 t).1]; omega
    | ⟨1, _⟩ => show s.val = win0_4.index t 1 * 512 + 1 * (s.val % 512); rw [(idx4 t).2.1]; omega
    | ⟨2, _⟩ => show n.val = win0_4.index t 2 * 1024 + 1 * n.val; rw [(idx4 t).2.2]; omega
  · rfl

end Cert.Kernel4Ideal.OutBody

namespace Cert.Reference4Ideal.OutRef
open Cert.Reference4Ideal Cert.Reference4Ideal.Gen Cert.Reference4Ideal.Read Idealize.ShloMosaic
open Cert.Kernel4Ideal.OutBody (outAt)

variable (x0 : Vec Ideal S16x4096x1024 .f32) (x1 x2 : Vec Ideal S16x4096x512 .f32) (x3 : Vec Ideal S1024x1024 .f32)

theorem left_at (b : Fin 16) (s : Fin 4096) (k : Fin 512) : val_main_v0 (F := Ideal) x1 x2 (ix3 b s (k.castAdd 512)) = x1 (ix3 b s k) := by
  unfold val_main_v0
  pointwise
  exact dif_pos k.isLt

theorem right_at (b : Fin 16) (s : Fin 4096) (k : Fin 512) : val_main_v0 (F := Ideal) x1 x2 (ix3 b s (k.natAdd 512)) = x2 (ix3 b s k) := by
  unfold val_main_v0
  pointwise
  refine (dif_neg (show ¬ 512 + k.val < 512 by omega)).trans ?_
  exact congrArg (fun k : Fin 512 => x2 (ix3 b s k)) (Fin.ext (show 512 + k.val - 512 = k.val by omega))

/-- The reference's result at an index. -/
theorem result_at (b : Fin 16) (s : Fin 4096) (n : Fin 1024) :
    val_main_v2 (F := Ideal) x0 x1 x2 x3 (ix3 b s n)
      = outAt (fun b s n => x0 (ix3 b s n)) (fun b s k => x1 (ix3 b s k)) (fun b s k => x2 (ix3 b s k)) (fun k n => x3 (ix2 k n)) b s n := by
  have el : ∀ k : Fin 1024, lidx_main_v1 (ix3 b s n) k = ix3 b s k := fun k => by
    funext a
    match a with
    | ⟨0, _⟩ => rfl
    | ⟨1, _⟩ => rfl
    | ⟨2, _⟩ => rfl
  have er : ∀ k : Fin 1024, ridx_main_v1 (ix3 b s n) k = ix2 k n := fun k => by
    funext a
    match a with
    | ⟨0, _⟩ => rfl
    | ⟨1, _⟩ => rfl
  rw [val_main_v2_apply, val_main_v1_apply]
  simp only [el, er]
  have hs : ∑ k : Fin 1024, val_main_v0 (F := Ideal) x1 x2 (ix3 b s k) * x3 (ix2 k n)
      = ∑ k : Fin 512, x1 (ix3 b s k) * x3 (ix2 (k.castAdd 512) n) + ∑ k : Fin 512, x2 (ix3 b s k) * x3 (ix2 (k.natAdd 512) n) := by
    refine (Fin.sum_univ_add (a := 512) (b := 512) fun k => val_main_v0 (F := Ideal) x1 x2 (ix3 b s k) * x3 (ix2 k n)).trans ?_
    exact congrArg₂ (· + ·) (Finset.sum_congr rfl fun k _ => by rw [left_at]) (Finset.sum_congr rfl fun k _ => by rw [right_at])
  rw [hs]
  exact (add_assoc _ _ _).symm

end Cert.Reference4Ideal.OutRef
end
end
-- ==== Proof.OddProjRef.lean ====
/- The input projection of the odd layers: its formula, and the reference's results at an index. A row is normalised, multiplied by
   the six weights side by side, and both queries are scaled; the dilated half comes out once for each stride, the rows of a residue
   together. -/
module

public import proofs.«01_k».proof.Proof.Spec
public import proofs.«01_k».proof.Proof.Gen.Reference6Ideal.Read
public import Idealize.ShloMosaic.Lib.Pointwise
public import Idealize.ShloMosaic.Lib.KernelVsHost

@[expose] public section
set_option maxRecDepth 16384
noncomputable section
namespace Cert.OddSpec
open Idealize.ShloMosaic Cert.FfnSpec

/-- One over eight times the logarithm of two. -/
abbrev qscale : EReal := (((Real.log 256)⁻¹ : ℝ) : EReal)

/-- A normalised row times a column of the weight. -/
def col (x g : Fin 1024 → EReal) (w : Fin 1024 → Fin 3072 → EReal) (n : Fin 3072) : EReal := ∑ k : Fin 1024, rms x g k * w k n

/-- Column `n` of the part of the weight that starts at column `o`, for a row of the whole input. -/
def colAt (X : Fin 16 → Fin 4096 → Fin 1024 → EReal) (g : Fin 1024 → EReal) (w : Fin 1024 → Fin 3072 → EReal) (o : ℕ) (ho : o + 512 ≤ 3072)
    (b : Fin 16) (s : Fin 4096) (n : Fin 512) : EReal :=
  col (X b s) g w ⟨o + n.val, by omega⟩

/-- The row with place `i` among those of residue `r`. -/
abbrev dil (d k : ℕ) (h : d * k = 4096) (r : Fin d) (i : Fin k) : Fin 4096 :=
  ⟨d * i.val + r.val, by have h1 : d * (i.val + 1) ≤ d * k := Nat.mul_le_mul_left d i.isLt; have h2 := r.isLt; rw [Nat.mul_add] at h1; omega⟩

theorem two_eq : Ideal.ofBits .f32 0x40000000#32 = ((2 : ℝ) : EReal) := by
  simp [Ideal.ofBits, Ideal.ieee, -EReal.coe_mul]; norm_num
theorem eighth_eq : Ideal.ofBits .f32 0x3E000000#32 = ((1 / 8 : ℝ) : EReal) := by
  simp [Ideal.ofBits, Ideal.ieee, -EReal.coe_mul]; norm_num

/-- An eighth, divided by the logarithm of two, is times the scale. -/
theorem scale_eq (y : EReal) : Ideal.div (y * Ideal.ofBits .f32 0x3E000000#32) (Ideal.log (Ideal.ofBits .f32 0x40000000#32)) = y * qscale := by
  have h2 : (0 : ℝ) < Real.log 2 := Real.log_pos (by norm_num)
  have h8 : Real.log 256 = 8 * Real.log 2 := by rw [show (256 : ℝ) = 2 ^ 8 by norm_num, Real.log_pow]; norm_num
  rw [two_eq, eighth_eq, Ideal.log_coe, if_neg (by norm_num), Ideal.div_coe h2.ne', mul_assoc, ← EReal.coe_mul, qscale, h8]
  congr 2
  field_simp

end Cert.OddSpec

namespace Cert.Reference6Ideal.OddRef
open Cert.Reference6Ideal Cert.Reference6Ideal.Gen Cert.Reference6Ideal.Read Idealize.ShloMosaic Cert.FfnSpec Cert.OddSpec

variable (x0 : (⟨S16x4096x1024, .f32⟩ : BufTy).Contents (Elt Ideal)) (x1 : (⟨S1024, .f32⟩ : BufTy).Contents (Elt Ideal)) (x2 : (⟨S1024x3072, .f32⟩ : BufTy).Contents (Elt Ideal))

/-- The formula on the reference's arguments. -/
abbrev at' (o : ℕ) (ho : o + 512 ≤ 3072) : Fin 16 → Fin 4096 → Fin 512 → EReal :=
  colAt (fun b s k => x0 (ix3 b s k)) (fun k => x1 (ix1 k)) (fun k n => x2 (ix2 k n)) o ho

theorem norm_at (b : Fin 16) (s : Fin 4096) (k : Fin 1024) :
    val_main_v12 (F := Ideal) x0 x1 (ix3 b s k) = rms (fun k => x0 (ix3 b s k)) (fun k => x1 (ix1 k)) k := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  unfold rms
  rfl

theorem col_at (o : ℕ) (ho : o + 512 ≤ 3072) (b : Fin 16) (s : Fin 4096) (n : Fin 512) (j : S16x4096x3072.Idx)
    (h0 : (j 0).val = b.val) (h1 : (j 1).val = s.val) (h2 : (j 2).val = o + n.val) : val_main_v13 (F := Ideal) x0 x1 x2 j = at' x0 x1 x2 o ho b s n := by
  have hlt : o + n.val < 3072 := by clear h0 h1 h2; omega
  have hj : j = ix3 b s ⟨o + n.val, hlt⟩ := by
    funext a
    apply Fin.ext
    match a with
    | ⟨0, _⟩ => exact h0
    | ⟨1, _⟩ => exact h1
    | ⟨2, _⟩ => exact h2
  subst hj
  rw [val_main_v13_apply]
  unfold at' colAt col
  refine Finset.sum_congr rfl fun k _ => ?_
  have e : lidx_main_v13 (ix3 b s ⟨o + n.val, hlt⟩) k = ix3 b s k := by funext a; match a with | ⟨0, _⟩ => rfl | ⟨1, _⟩ => rfl | ⟨2, _⟩ => rfl
  have e' : ridx_main_v13 (ix3 b s ⟨o + n.val, hlt⟩) k = ix2 k ⟨o + n.val, hlt⟩ := by funext a; match a with | ⟨0, _⟩ => rfl | ⟨1, _⟩ => rfl
  rw [e, e', norm_at]

theorem ck_at (b : Fin 16) (s : Fin 4096) (n : Fin 512) : val_main_v51 (F := Ideal) x0 x1 x2 (ix3 b s n) = at' x0 x1 x2 512 (by omega) b s n := by
  rw [val_main_v51_apply, val_main_v15_apply]
  exact col_at x0 x1 x2 512 (by omega) b s n _ rfl rfl rfl
theorem cv_at (b : Fin 16) (s : Fin 4096) (n : Fin 512) : val_main_v52 (F := Ideal) x0 x1 x2 (ix3 b s n) = at' x0 x1 x2 1024 (by omega) b s n := by
  rw [val_main_v52_apply, val_main_v16_apply]
  exact col_at x0 x1 x2 1024 (by omega) b s n _ rfl rfl rfl
theorem cq_at (b : Fin 16) (s : Fin 4096) (n : Fin 512) : val_main_v50 (F := Ideal) x0 x1 x2 (ix3 b s n) = at' x0 x1 x2 0 (by omega) b s n * qscale := by
  rw [val_main_v50_apply, val_main_v25_apply, val_main_v21_apply, val_main_v14_apply, col_at x0 x1 x2 0 (by omega) b s n _ rfl rfl (by show n.val = 0 + n.val; omega),
    val_main_v20_apply, val_main_v24_apply, val_main_v23_apply, val_main_v22_apply]
  exact scale_eq _

theorem dq_at (b : Fin 16) (s : Fin 4096) (n : Fin 512) : val_main_v31 (F := Ideal) x0 x1 x2 (ix3 b s n) = at' x0 x1 x2 1536 (by omega) b s n * qscale := by
  rw [val_main_v31_apply, val_main_v27_apply, val_main_v17_apply, col_at x0 x1 x2 1536 (by omega) b s n _ rfl rfl rfl,
    val_main_v26_apply, val_main_v30_apply, val_main_v29_apply, val_main_v28_apply]
  exact scale_eq _
theorem dk_at (b : Fin 16) (s : Fin 4096) (n : Fin 512) : val_main_v18 (F := Ideal) x0 x1 x2 (ix3 b s n) = at' x0 x1 x2 2048 (by omega) b s n := by
  rw [val_main_v18_apply]
  exact col_at x0 x1 x2 2048 (by omega) b s n _ rfl rfl rfl
theorem dv_at (b : Fin 16) (s : Fin 4096) (n : Fin 512) : val_main_v19 (F := Ideal) x0 x1 x2 (ix3 b s n) = at' x0 x1 x2 2560 (by omega) b s n := by
  rw [val_main_v19_apply]
  exact col_at x0 x1 x2 2560 (by omega) b s n _ rfl rfl rfl

/-- The index of a row in the order of its residue and its place, for each stride. -/
theorem one_idx (b : Fin 16) (r : Fin 1) (i : Fin 4096) (n : Fin 512) : idx_main_v32 (idx_main_v33 (ix4 b r i n)) = ix3 b (dil 1 4096 rfl r i) n := by
  funext a
  apply Fin.ext
  match a with
  | ⟨0, _⟩ => show (((b.val * 4096 + i.val) * 1 + r.val) * 512 + n.val) / 2097152 = b.val; omega
  | ⟨1, _⟩ => show (((b.val * 4096 + i.val) * 1 + r.val) * 512 + n.val) / 512 % 4096 = 1 * i.val + r.val; omega
  | ⟨2, _⟩ => show (((b.val * 4096 + i.val) * 1 + r.val) * 512 + n.val) % 512 = n.val; omega
theorem four_idx (b : Fin 16) (r : Fin 4) (i : Fin 1024) (n : Fin 512) : idx_main_v38 (idx_main_v39 (ix4 b r i n)) = ix3 b (dil 4 1024 rfl r i) n := by
  funext a
  apply Fin.ext
  match a with
  | ⟨0, _⟩ => show (((b.val * 1024 + i.val) * 4 + r.val) * 512 + n.val) / 2097152 = b.val; omega
  | ⟨1, _⟩ => show (((b.val * 1024 + i.val) * 4 + r.val) * 512 + n.val) / 512 % 4096 = 4 * i.val + r.val; omega
  | ⟨2, _⟩ => show (((b.val * 1024 + i.val) * 4 + r.val) * 512 + n.val) % 512 = n.val; omega
theorem sixteen_idx (b : Fin 16) (r : Fin 16) (i : Fin 256) (n : Fin 512) : idx_main_v44 (idx_main_v45 (ix4 b r i n)) = ix3 b (dil 16 256 rfl r i) n := by
  funext a
  apply Fin.ext
  match a with
  | ⟨0, _⟩ => show (((b.val * 256 + i.val) * 16 + r.val) * 512 + n.val) / 2097152 = b.val; omega
  | ⟨1, _⟩ => show (((b.val * 256 + i.val) * 16 + r.val) * 512 + n.val) / 512 % 4096 = 16 * i.val + r.val; omega
  | ⟨2, _⟩ => show (((b.val * 256 + i.val) * 16 + r.val) * 512 + n.val) % 512 = n.val; omega

theorem q1_at (b : Fin 16) (r : Fin 1) (i : Fin 4096) (n : Fin 512) :
    val_main_v53 (F := Ideal) x0 x1 x2 (ix4 b r i n) = at' x0 x1 x2 1536 (by omega) b (dil 1 4096 rfl r i) n * qscale := by
  rw [val_main_v53_apply, val_main_v33_apply, val_main_v32_apply, one_idx, dq_at]; rfl
theorem k1_at (b : Fin 16) (r : Fin 1) (i : Fin 4096) (n : Fin 512) :
    val_main_v54 (F := Ideal) x0 x1 x2 (ix4 b r i n) = at' x0 x1 x2 2048 (by omega) b (dil 1 4096 rfl r i) n := by
  rw [val_main_v54_apply, val_main_v35_apply, val_main_v34_apply]
  exact (congrArg (val_main_v18 (F := Ideal) x0 x1 x2) (one_idx b r i n)).trans (dk_at x0 x1 x2 b _ n)
theorem v1_at (b : Fin 16) (r : Fin 1) (i : Fin 4096) (n : Fin 512) :
    val_main_v55 (F := Ideal) x0 x1 x2 (ix4 b r i n) = at' x0 x1 x2 2560 (by omega) b (dil 1 4096 rfl r i) n := by
  rw [val_main_v55_apply, val_main_v37_apply, val_main_v36_apply]
  exact (congrArg (val_main_v19 (F := Ideal) x0 x1 x2) (one_idx b r i n)).trans (dv_at x0 x1 x2 b _ n)
theorem q4_at (b : Fin 16) (r : Fin 4) (i : Fin 1024) (n : Fin 512) :
    val_main_v56 (F := Ideal) x0 x1 x2 (ix4 b r i n) = at' x0 x1 x2 1536 (by omega) b (dil 4 1024 rfl r i) n * qscale := by
  rw [val_main_v56_apply, val_main_v39_apply, val_main_v38_apply, four_idx, dq_at]; rfl
theorem k4_at (b : Fin 16) (r : Fin 4) (i : Fin 1024) (n : Fin 512) :
    val_main_v57 (F := Ideal) x0 x1 x2 (ix4 b r i n) = at' x0 x1 x2 2048 (by omega) b (dil 4 1024 rfl r i) n := by
  rw [val_main_v57_apply, val_main_v41_apply, val_main_v40_apply]
  exact (congrArg (val_main_v18 (F := Ideal) x0 x1 x2) (four_idx b r i n)).trans (dk_at x0 x1 x2 b _ n)
theorem v4_at (b : Fin 16) (r : Fin 4) (i : Fin 1024) (n : Fin 512) :
    val_main_v58 (F := Ideal) x0 x1 x2 (ix4 b r i n) = at' x0 x1 x2 2560 (by omega) b (dil 4 1024 rfl r i) n := by
  rw [val_main_v58_apply, val_main_v43_apply, val_main_v42_apply]
  exact (congrArg (val_main_v19 (F := Ideal) x0 x1 x2) (four_idx b r i n)).trans (dv_at x0 x1 x2 b _ n)
theorem q16_at (b : Fin 16) (r : Fin 16) (i : Fin 256) (n : Fin 512) :
    val_main_v59 (F := Ideal) x0 x1 x2 (ix4 b r i n) = at' x0 x1 x2 1536 (by omega) b (dil 16 256 rfl r i) n * qscale := by
  rw [val_main_v59_apply, val_main_v45_apply, val_main_v44_apply, sixteen_idx, dq_at]; rfl
theorem k16_at (b : Fin 16) (r : Fin 16) (i : Fin 256) (n : Fin 512) :
    val_main_v60 (F := Ideal) x0 x1 x2 (ix4 b r i n) = at' x0 x1 x2 2048 (by omega) b (dil 16 256 rfl r i) n := by
  rw [val_main_v60_apply, val_main_v47_apply, val_main_v46_apply]
  exact (congrArg (val_main_v18 (F := Ideal) x0 x1 x2) (sixteen_idx b r i n)).trans (dk_at x0 x1 x2 b _ n)
theorem v16_at (b : Fin 16) (r : Fin 16) (i : Fin 256) (n : Fin 512) :
    val_main_v61 (F := Ideal) x0 x1 x2 (ix4 b r i n) = at' x0 x1 x2 2560 (by omega) b (dil 16 256 rfl r i) n := by
  rw [val_main_v61_apply, val_main_v49_apply, val_main_v48_apply]
  exact (congrArg (val_main_v19 (F := Ideal) x0 x1 x2) (sixteen_idx b r i n)).trans (dv_at x0 x1 x2 b _ n)

end Cert.Reference6Ideal.OddRef
end
end
-- ==== Proof.OddProj.lean ====
/- The input projection of the odd layers: what a point writes. Each of the six parts is the product of the normalised rows with its
   columns of the weight; the dilated parts pass through a scratch of four planes of 128 lanes, from which the rows of a residue are
   read at a stride and joined again. -/
module

public import proofs.«01_k».proof.Proof.Body
public import proofs.«01_k».proof.Proof.OddProjRef
public import proofs.«01_k».proof.Proof.Gen.Kernel6Ideal.Frame

@[expose] public section
set_option maxRecDepth 16384
noncomputable section
namespace Cert.Kernel6Ideal.OddBody
open Cert.Kernel6Ideal Cert.Kernel6Ideal.Gen Idealize.ShloMosaic Idealize.ShloMosaic.TcCoe Idealize.SL.Sem Cert.FfnSpec Cert.OddSpec
open Cert.KernelIdeal.FfnBody (ld_blk ld_row z3 z2)
variable {F : FTy → Type} [FloatOps F] [Named F]

theorem z4 : (![0, 0, 0, 0] : Fin 4 → ℕ) = fun _ => 0 := by funext a; fin_cases a <;> rfl

/-- The four planes of 128 lanes that the scratch is given. -/
def lane0 (Y : FVec F S512x512 .f32) : FVec F S1x512x128 .f32 :=
  shapeCast S1x512x128 (extractStridedSlice S512x128 ![0, 0] Y slices_S512x512_o0_0_S512x128) shapeCasts_S512x128_S1x512x128
def lane1 (Y : FVec F S512x512 .f32) : FVec F S1x512x128 .f32 :=
  shapeCast S1x512x128 (extractStridedSlice S512x128 ![0, 128] Y slices_S512x512_o0_128_S512x128) shapeCasts_S512x128_S1x512x128
def lane2 (Y : FVec F S512x512 .f32) : FVec F S1x512x128 .f32 :=
  shapeCast S1x512x128 (extractStridedSlice S512x128 ![0, 256] Y slices_S512x512_o0_256_S512x128) shapeCasts_S512x128_S1x512x128
def lane3 (Y : FVec F S512x512 .f32) : FVec F S1x512x128 .f32 :=
  shapeCast S1x512x128 (extractStridedSlice S512x128 ![0, 384] Y slices_S512x512_o0_384_S512x128) shapeCasts_S512x128_S1x512x128

/-- The scratch's writes after those of `L`. -/
def scr (Y : FVec F S512x512 .f32) (L : List (View.Piece (Elt F) S4x512x128 .f32)) : List (View.Piece (Elt F) S4x512x128 .f32) :=
  ⟨Rect.unit (s := S4x512x128) ![3, 0, 0] S1x512x128.size inb_S4x512x128_S1x512x128_3_0_0, lane3 Y⟩
    :: ⟨Rect.unit (s := S4x512x128) ![2, 0, 0] S1x512x128.size inb_S4x512x128_S1x512x128_2_0_0, lane2 Y⟩
    :: ⟨Rect.unit (s := S4x512x128) ![1, 0, 0] S1x512x128.size inb_S4x512x128_S1x512x128_1_0_0, lane1 Y⟩
    :: ⟨Rect.unit (s := S4x512x128) ![0, 0, 0] S1x512x128.size inb_S4x512x128_S1x512x128_0_0_0, lane0 Y⟩ :: L

theorem plane_hit (n : ℕ) (y : S4x512x128.Idx) (e : (y 0).val = n) (i : ∀ a, (![n, 0, 0] : Fin 3 → ℕ) a + S1x512x128.size a ≤ S4x512x128.size a)
    (p : FVec F S1x512x128 .f32) (L : List (View.Piece (Elt F) S4x512x128 .f32)) :
    View.canon ((⟨Rect.unit (s := S4x512x128) ![n, 0, 0] S1x512x128.size i, p⟩ : View.Piece (Elt F) S4x512x128 .f32) :: L) y = p (ix3 0 (y 1) (y 2)) := by
  have e : y = (Rect.unit (s := S4x512x128) ![n, 0, 0] S1x512x128.size i).emb (ix3 0 (y 1) (y 2)) := by
    funext a; apply Fin.ext; fin_cases a
    · show (y 0).val = n + 1 * 0; omega
    · show (y 1).val = 0 + 1 * (y 1).val; omega
    · show (y 2).val = 0 + 1 * (y 2).val; omega
  conv_lhs => rw [e]
  rw [View.canon_cons_emb]

theorem plane_miss (n : ℕ) (y : S4x512x128.Idx) (e : (y 0).val ≠ n) (i : ∀ a, (![n, 0, 0] : Fin 3 → ℕ) a + S1x512x128.size a ≤ S4x512x128.size a)
    (p : FVec F S1x512x128 .f32) (L : List (View.Piece (Elt F) S4x512x128 .f32)) :
    View.canon ((⟨Rect.unit (s := S4x512x128) ![n, 0, 0] S1x512x128.size i, p⟩ : View.Piece (Elt F) S4x512x128 .f32) :: L) y = View.canon L y := by
  apply View.canon_cons_of_not_mem
  intro hm
  rw [Rect.mem_set_unit] at hm
  have h1 : n ≤ (y 0).val := (hm 0).1
  have h2 : (y 0).val < n + 1 := (hm 0).2
  omega

/-- The scratch holds the matrix, 128 lanes to a plane. -/
theorem scr_apply (Y : FVec Ideal S512x512 .f32) (L : List (View.Piece (Elt Ideal) S4x512x128 .f32)) (y : S4x512x128.Idx) :
    View.canon (scr Y L) y = Y (ix2 (y 1) ⟨128 * (y 0).val + (y 2).val, by
      have h0 : (y 0).val < 4 := (y 0).isLt; have h2 : (y 2).val < 128 := (y 2).isLt; omega⟩) := by
  have h0 : (y 0).val < 4 := (y 0).isLt
  have h2 : (y 2).val < 128 := (y 2).isLt
  have pick : ∀ (n : ℕ) (hn : (y 0).val = n) (z : Fin 512), z.val = 128 * n + (y 2).val →
      Y (ix2 (y 1) z) = Y (ix2 (y 1) ⟨128 * (y 0).val + (y 2).val, by omega⟩) := fun n hn z hz =>
    congrArg (fun z : Fin 512 => Y (ix2 (y 1) z)) (Fin.ext (by show z.val = 128 * (y 0).val + (y 2).val; omega))
  unfold scr
  by_cases c3 : (y 0).val = 3
  · refine (plane_hit 3 y c3 _ _ _).trans ?_
    unfold lane3; pointwise
    exact pick 3 c3 _ rfl
  refine (plane_miss 3 y c3 _ _ _).trans ?_
  by_cases c2 : (y 0).val = 2
  · refine (plane_hit 2 y c2 _ _ _).trans ?_
    unfold lane2; pointwise
    exact pick 2 c2 _ rfl
  refine (plane_miss 2 y c2 _ _ _).trans ?_
  by_cases c1 : (y 0).val = 1
  · refine (plane_hit 1 y c1 _ _ _).trans ?_
    unfold lane1; pointwise
    exact pick 1 c1 _ rfl
  refine (plane_miss 1 y c1 _ _ _).trans ?_
  have c : (y 0).val = 0 := by omega
  refine (plane_hit 0 y c _ _ _).trans ?_
  unfold lane0; pointwise
  exact pick 0 c _ (by show (y 2).val = 128 * 0 + (y 2).val; omega)

theorem inbR (d k j : ℕ) (h : j < d) : ∀ a, (![0, j, 0, 0] : Fin 4 → ℕ) a + (![1, 1, k, 512] : Fin 4 → ℕ) a ≤ (![1, d, k, 512] : Fin 4 → ℕ) a := by
  intro a; fin_cases a
  · show 0 + 1 ≤ 1; omega
  · show j + 1 ≤ d; omega
  · show 0 + k ≤ k; omega
  · show 0 + 512 ≤ 512; omega

/-- A block of `d` residues written one after the other. -/
def rows (d k : ℕ) (V : Fin d → FVec F ⟨4, ![1, 1, k, 512]⟩ .bf16) : (j : ℕ) → j ≤ d → List (View.Piece (Elt F) ⟨4, ![1, d, k, 512]⟩ .bf16)
  | 0, _ => []
  | j + 1, h => ⟨Rect.unit (s := ⟨4, ![1, d, k, 512]⟩) ![0, j, 0, 0] ![1, 1, k, 512] (inbR d k j h), V ⟨j, h⟩⟩ :: rows d k V j (by omega)

theorem rows_apply (d k : ℕ) (V : Fin d → FVec F ⟨4, ![1, 1, k, 512]⟩ .bf16) (r : Fin d) (i : Fin k) (n : Fin 512) :
    ∀ (j : ℕ) (h : j ≤ d), r.val < j → View.canon (rows d k V j h) (ix4 0 r i n) = V r (ix4 0 0 i n) := by
  intro j
  induction j with
  | zero => intro h hr; omega
  | succ j ih =>
    intro h hr
    unfold rows
    by_cases c : r.val = j
    · have e : (ix4 0 r i n : (⟨4, ![1, d, k, 512]⟩ : Shape).Idx)
          = (Rect.unit (s := ⟨4, ![1, d, k, 512]⟩) ![0, j, 0, 0] ![1, 1, k, 512] (inbR d k j h)).emb (ix4 0 0 i n) := by
        funext a; apply Fin.ext; fin_cases a
        · show 0 = 0 + 1 * 0; omega
        · show r.val = j + 1 * 0; omega
        · show i.val = 0 + 1 * i.val; omega
        · show n.val = 0 + 1 * n.val; omega
      have er : (⟨j, h⟩ : Fin d) = r := Fin.ext c.symm
      rw [e, View.canon_cons_emb, er]
    · refine (View.canon_cons_of_not_mem _ _ ?_).trans (ih _ (by omega))
      intro hm
      rw [Rect.mem_set_unit] at hm
      have h1 : j ≤ r.val := (hm 1).1
      have h2 : r.val < j + 1 := (hm 1).2
      omega

/-- The rows of a residue in one plane of the scratch, for each stride. -/
theorem inbS4 (c r : Fin 4) : ∀ a, S1x128x128.size a = 0 ∨ (![c.val, r.val, 0] : Fin 3 → ℕ) a + (![1, 4, 1] : Fin 3 → ℕ) a * (S1x128x128.size a - 1) < S4x512x128.size a := by
  intro a; right; fin_cases a
  · show c.val + 1 * 0 < 4; omega
  · show r.val + 4 * 127 < 512; omega
  · show 0 + 1 * 127 < 128; omega
theorem inbS16 (c : Fin 4) (r : Fin 16) : ∀ a, S1x32x128.size a = 0 ∨ (![c.val, r.val, 0] : Fin 3 → ℕ) a + (![1, 16, 1] : Fin 3 → ℕ) a * (S1x32x128.size a - 1) < S4x512x128.size a := by
  intro a; right; fin_cases a
  · show c.val + 1 * 0 < 4; omega
  · show r.val + 16 * 31 < 512; omega
  · show 0 + 1 * 127 < 128; omega
abbrev str4 (c r : Fin 4) : LoadRect S4x512x128 := ⟨![c.val, r.val, 0], S1x128x128.size, ![1, 4, 1], inbS4 c r⟩
abbrev str16 (c : Fin 4) (r : Fin 16) : LoadRect S4x512x128 := ⟨![c.val, r.val, 0], S1x32x128.size, ![1, 16, 1], inbS16 c r⟩

/-- The four planes of a residue, joined. -/
def piece4 {sig' : RefSig} {κ' : Kind} {sp : Space} (v : View sig' κ' sp S4x512x128 .f32) (L : List (View.Piece (Elt F) S4x512x128 .f32)) (r : Fin 4) : FVec F S1x1x128x512 .bf16 :=
  k0_pay12 (v.readCov L (str4 0 r)) (v.readCov L (str4 1 r)) (v.readCov L (str4 2 r)) (v.readCov L (str4 3 r))
def piece16 {sig' : RefSig} {κ' : Kind} {sp : Space} (v : View sig' κ' sp S4x512x128 .f32) (L : List (View.Piece (Elt F) S4x512x128 .f32)) (r : Fin 16) : FVec F S1x1x32x512 .bf16 :=
  k0_pay18 (v.readCov L (str16 0 r)) (v.readCov L (str16 1 r)) (v.readCov L (str16 2 r)) (v.readCov L (str16 3 r))

theorem join4_apply (t : Fin 4 → FVec Ideal S1x128x128 .f32) (r : Fin 128) (n : Fin 512) :
    k0_pay12 (F := Ideal) (t 0) (t 1) (t 2) (t 3) (ix4 0 0 r n) = t ⟨n.val / 128, by omega⟩ (ix3 0 r ⟨n.val % 128, by omega⟩) := by
  have e0 : k0_pay12 (F := Ideal) (t 0) (t 1) (t 2) (t 3) = shapeCast S1x1x128x512 (truncf .bf16 (concatenate S128x512 1 (List.ofFn fun n : Fin 4 => (⟨S128x128, shapeCast S128x128 (t n) shapeCasts_S1x128x128_S128x128⟩ : (s : Shape) × (s.Idx → Ideal .f32)))
      concatenates_S128x128_S128x128_S128x128_S128x128_S128x512_d1 : FVec Ideal S128x512 .f32) bitsLt_bf16_f32) shapeCasts_S128x512_S1x1x128x512 := rfl
  have e1 := concatenate_ofFn_apply (s₁ := S128x128) (t := S128x512) 1 (fun n : Fin 4 => shapeCast S128x128 (t n) shapeCasts_S1x128x128_S128x128) concatenates_S128x128_S128x128_S128x128_S128x128_S128x512_d1 rfl 128 rfl
    (ix2 r n) ⟨n.val / 128, by omega⟩ rfl (ix2 r ⟨n.val % 128, by omega⟩) rfl
    (by intro b hb; fin_cases b; · rfl
        · exact absurd rfl hb)
  have e2 : shapeCast S128x128 (t ⟨n.val / 128, by omega⟩) shapeCasts_S1x128x128_S128x128 (ix2 r ⟨n.val % 128, by omega⟩) = t ⟨n.val / 128, by omega⟩ (ix3 0 r ⟨n.val % 128, by omega⟩) := by pointwise
  rw [e0, ← e2, ← e1]
  generalize concatenate S128x512 1 _ _ = X
  pointwise

theorem join16_apply (t : Fin 4 → FVec Ideal S1x32x128 .f32) (r : Fin 32) (n : Fin 512) :
    k0_pay18 (F := Ideal) (t 0) (t 1) (t 2) (t 3) (ix4 0 0 r n) = t ⟨n.val / 128, by omega⟩ (ix3 0 r ⟨n.val % 128, by omega⟩) := by
  have e0 : k0_pay18 (F := Ideal) (t 0) (t 1) (t 2) (t 3) = shapeCast S1x1x32x512 (truncf .bf16 (concatenate S32x512 1 (List.ofFn fun n : Fin 4 => (⟨S32x128, shapeCast S32x128 (t n) shapeCasts_S1x32x128_S32x128⟩ : (s : Shape) × (s.Idx → Ideal .f32)))
      concatenates_S32x128_S32x128_S32x128_S32x128_S32x512_d1 : FVec Ideal S32x512 .f32) bitsLt_bf16_f32) shapeCasts_S32x512_S1x1x32x512 := rfl
  have e1 := concatenate_ofFn_apply (s₁ := S32x128) (t := S32x512) 1 (fun n : Fin 4 => shapeCast S32x128 (t n) shapeCasts_S1x32x128_S32x128) concatenates_S32x128_S32x128_S32x128_S32x128_S32x512_d1 rfl 128 rfl
    (ix2 r n) ⟨n.val / 128, by omega⟩ rfl (ix2 r ⟨n.val % 128, by omega⟩) rfl
    (by intro b hb; fin_cases b; · rfl
        · exact absurd rfl hb)
  have e2 : shapeCast S32x128 (t ⟨n.val / 128, by omega⟩) shapeCasts_S1x32x128_S32x128 (ix2 r ⟨n.val % 128, by omega⟩) = t ⟨n.val / 128, by omega⟩ (ix3 0 r ⟨n.val % 128, by omega⟩) := by pointwise
  rw [e0, ← e2, ← e1]
  generalize concatenate S32x512 1 _ _ = X
  pointwise

theorem piece4_apply {sig' : RefSig} {κ' : Kind} {sp : Space} (v : View sig' κ' sp S4x512x128 .f32) (Y : FVec Ideal S512x512 .f32) (L : List (View.Piece (Elt Ideal) S4x512x128 .f32))
    (r : Fin 4) (i : Fin 128) (n : Fin 512) : piece4 v (scr Y L) r (ix4 0 0 i n) = Y (ix2 ⟨4 * i.val + r.val, by omega⟩ n) := by
  unfold piece4
  refine (join4_apply (fun c => v.readCov (scr Y L) (str4 c r)) i n).trans ?_
  show v.readCov (scr Y L) (str4 ⟨n.val / 128, by omega⟩ r) (ix3 0 i ⟨n.val % 128, by omega⟩) = _
  rw [View.readCov_eq_canon']
  refine (scr_apply Y L _).trans (congrArg₂ (fun (a b : Fin 512) => Y (ix2 a b)) (Fin.ext ?_) (Fin.ext ?_))
  · show r.val + 4 * i.val = 4 * i.val + r.val; omega
  · show 128 * (n.val / 128 + 1 * 0) + (0 + 1 * (n.val % 128)) = n.val; omega

theorem piece16_apply {sig' : RefSig} {κ' : Kind} {sp : Space} (v : View sig' κ' sp S4x512x128 .f32) (Y : FVec Ideal S512x512 .f32) (L : List (View.Piece (Elt Ideal) S4x512x128 .f32))
    (r : Fin 16) (i : Fin 32) (n : Fin 512) : piece16 v (scr Y L) r (ix4 0 0 i n) = Y (ix2 ⟨16 * i.val + r.val, by omega⟩ n) := by
  unfold piece16
  refine (join16_apply (fun c => v.readCov (scr Y L) (str16 c r)) i n).trans ?_
  show v.readCov (scr Y L) (str16 ⟨n.val / 128, by omega⟩ r) (ix3 0 i ⟨n.val % 128, by omega⟩) = _
  rw [View.readCov_eq_canon']
  refine (scr_apply Y L _).trans (congrArg₂ (fun (a b : Fin 512) => Y (ix2 a b)) (Fin.ext ?_) (Fin.ext ?_))
  · show r.val + 16 * i.val = 16 * i.val + r.val; omega
  · show 128 * (n.val / 128 + 1 * 0) + (0 + 1 * (n.val % 128)) = n.val; omega

end Cert.Kernel6Ideal.OddBody
end
end
-- ==== Proof.OddOut.lean ====
/- The input projection of the odd layers: the blocks a point writes, in the terms of its input blocks. -/
module

public import proofs.«01_k».proof.Proof.OddProj

@[expose] public section
set_option maxRecDepth 16384
noncomputable section
namespace Cert.Kernel6Ideal.OddBody
open Cert.Kernel6Ideal Cert.Kernel6Ideal.Gen Idealize.ShloMosaic Idealize.ShloMosaic.TcCoe Idealize.SL.Sem Cert.FfnSpec Cert.OddSpec
open Cert.KernelIdeal.FfnBody (ld_blk ld_row z3 z2)
variable {F : FTy → Type} [FloatOps F] [Named F]

/-- A part's columns of the weight. -/
def part0 (x2 : Vec F S1024x3072 .bf16) : Vec F S1024x512 .bf16 := View.ld x2 (Rect.unit (s := S1024x3072) ![0, 0] S1024x512.size inb_S1024x3072_S1024x512_0_0)
def part1 (x2 : Vec F S1024x3072 .bf16) : Vec F S1024x512 .bf16 := View.ld x2 (Rect.unit (s := S1024x3072) ![0, 512] S1024x512.size inb_S1024x3072_S1024x512_0_512)
def part2 (x2 : Vec F S1024x3072 .bf16) : Vec F S1024x512 .bf16 := View.ld x2 (Rect.unit (s := S1024x3072) ![0, 1024] S1024x512.size inb_S1024x3072_S1024x512_0_1024)
def part3 (x2 : Vec F S1024x3072 .bf16) : Vec F S1024x512 .bf16 := View.ld x2 (Rect.unit (s := S1024x3072) ![0, 1536] S1024x512.size inb_S1024x3072_S1024x512_0_1536)
def part4 (x2 : Vec F S1024x3072 .bf16) : Vec F S1024x512 .bf16 := View.ld x2 (Rect.unit (s := S1024x3072) ![0, 2048] S1024x512.size inb_S1024x3072_S1024x512_0_2048)
def part5 (x2 : Vec F S1024x3072 .bf16) : Vec F S1024x512 .bf16 := View.ld x2 (Rect.unit (s := S1024x3072) ![0, 2560] S1024x512.size inb_S1024x3072_S1024x512_0_2560)

/-- The dilated half's three matrices. -/
def matQ (x0 : Vec F S1x512x1024 .f32) (x1 : Vec F S1x1024 .f32) (x2 : Vec F S1024x3072 .bf16) : FVec F S512x512 .f32 := k0_pay6 (k0_pay2 x0 x1) (part3 x2)
def matK (x0 : Vec F S1x512x1024 .f32) (x1 : Vec F S1x1024 .f32) (x2 : Vec F S1024x3072 .bf16) : FVec F S512x512 .f32 := k0_pay42 (k0_pay2 x0 x1) (part4 x2)
def matV (x0 : Vec F S1x512x1024 .f32) (x1 : Vec F S1x1024 .f32) (x2 : Vec F S1024x3072 .bf16) : FVec F S512x512 .f32 := k0_pay68 (k0_pay2 x0 x1) (part5 x2)

/-- The scratch's writes when the queries, the keys and the values are in it. -/
def scrQ (x0 : Vec F S1x512x1024 .f32) (x1 : Vec F S1x1024 .f32) (x2 : Vec F S1024x3072 .bf16) := scr (matQ x0 x1 x2) []
def scrK (x0 : Vec F S1x512x1024 .f32) (x1 : Vec F S1x1024 .f32) (x2 : Vec F S1024x3072 .bf16) := scr (matK x0 x1 x2) (scrQ x0 x1 x2)
def scrV (x0 : Vec F S1x512x1024 .f32) (x1 : Vec F S1x1024 .f32) (x2 : Vec F S1024x3072 .bf16) := scr (matV x0 x1 x2) (scrK x0 x1 x2)

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1x512x512 .bf16) (harg8 : arg8.IsWhole) (arg9 : Memref sig .tc .vmem S1x1x512x512 .bf16) (harg9 : arg9.IsWhole) (arg10 : Memref sig .tc .vmem S1x1x512x512 .bf16) (harg10 : arg10.IsWhole) (arg11 : Memref sig .tc .vmem S1x4x128x512 .bf16) (harg11 : arg11.IsWhole) (arg12 : Memref sig .tc .vmem S1x4x128x512 .bf16) (harg12 : arg12.IsWhole) (arg13 : Memref sig .tc .vmem S1x4x128x512 .bf16) (harg13 : arg13.IsWhole) (arg14 : Memref sig .tc .vmem S1x16x32x512 .bf16) (harg14 : arg14.IsWhole) (arg15 : Memref sig .tc .vmem S1x16x32x512 .bf16) (harg15 : arg15.IsWhole) (arg16 : Memref sig .tc .vmem S1x16x32x512 .bf16) (harg16 : arg16.IsWhole) (arg17 : Memref sig .tc .vmem S4x512x128 .f32) (harg17 : arg17.IsWhole)
    (x0 : Vec F S1x512x1024 .f32) (x1 : Vec F S1x1024 .f32) (x2 : Vec F S1024x3072 .bf16)

/-- The rows and a part of the weight, as a point reads them. -/
abbrev rX : Vec F S1x512x1024 .f32 := View.readAt (Elt F) arg2.view (Rect.unit (s := S1x512x1024) ![0, 0, 0] S1x512x1024.size inb_S1x512x1024_S1x512x1024_0_0_0).toLoadRect (harg2.unread x0)
abbrev rG : Vec F S1x1024 .f32 := View.readAt (Elt F) arg3.view (Rect.unit (s := S1x1024) ![0, 0] S1x1024.size inb_S1x1024_S1x1024_0_0).toLoadRect (harg3.unread x1)
abbrev rW (R : Rect S1024x3072) := View.readAt (Elt F) arg4.view R.toLoadRect (harg4.unread x2)
theorem rd0 : rX arg2 harg2 x0 = x0 := by
  unfold rX; rw [View.readAt_eq_ld, harg2.read_unread]; exact View.ld_unit_zero z3 _ x0
theorem rd1 : rG arg3 harg3 x1 = x1 := by
  unfold rG; rw [View.readAt_eq_ld, harg3.read_unread]; exact View.ld_unit_zero z2 _ x1
theorem rd2 (R : Rect S1024x3072) : rW arg4 harg4 x2 R = View.ld x2 R := by
  unfold rW; rw [View.readAt_eq_ld, harg4.read_unread]

/-- One store of a whole block. -/
theorem whole3 (w : Vec F S1x512x512 .bf16) :
    View.canon [(⟨Rect.unit (s := S1x512x512) ![0, 0, 0] S1x512x512.size inb_S1x512x512_S1x512x512_0_0_0, w⟩ : View.Piece (Elt F) S1x512x512 .bf16)] = w :=
  View.canon_cons_unit_zero z3 _ w []
theorem whole4 (w : Vec F S1x1x512x512 .bf16) :
    View.canon [(⟨Rect.unit (s := S1x1x512x512) ![0, 0, 0, 0] S1x1x512x512.size inb_S1x1x512x512_S1x1x512x512_0_0_0_0, w⟩ : View.Piece (Elt F) S1x1x512x512 .bf16)] = w :=
  View.canon_cons_unit_zero z4 _ w []

theorem scrQ_eq : kernelRun0_A.sl.HS0_4 c arg2 harg2 arg3 harg3 arg4 harg4 x0 x1 x2 = scrQ x0 x1 x2 := by
  have e : kernelRun0_A.sl.HS0_4 c arg2 harg2 arg3 harg3 arg4 harg4 x0 x1 x2 = scr (k0_pay6 (k0_pay2 (rX arg2 harg2 x0) (rG arg3 harg3 x1)) (rW arg4 harg4 x2 (Rect.unit (s := S1024x3072) ![0, 1536] S1024x512.size inb_S1024x3072_S1024x512_0_1536))) [] := rfl
  rw [e, rd0, rd1, rd2]
  rfl
theorem scrK_eq : kernelRun0_A.sl.HS0_8 c arg2 harg2 arg3 harg3 arg4 harg4 x0 x1 x2 = scrK x0 x1 x2 := by
  have e : kernelRun0_A.sl.HS0_8 c arg2 harg2 arg3 harg3 arg4 harg4 x0 x1 x2 = scr (k0_pay42 (k0_pay2 (rX arg2 harg2 x0) (rG arg3 harg3 x1)) (rW arg4 harg4 x2 (Rect.unit (s := S1024x3072) ![0, 2048] S1024x512.size inb_S1024x3072_S1024x512_0_2048))) (kernelRun0_A.sl.HS0_4 c arg2 harg2 arg3 harg3 arg4 harg4 x0 x1 x2) := rfl
  rw [e, scrQ_eq, rd0, rd1, rd2]
  rfl
theorem scrV_eq : kernelRun0_A.sl.HS0_12 c arg2 harg2 arg3 harg3 arg4 harg4 x0 x1 x2 = scrV x0 x1 x2 := by
  have e : kernelRun0_A.sl.HS0_12 c arg2 harg2 arg3 harg3 arg4 harg4 x0 x1 x2 = scr (k0_pay68 (k0_pay2 (rX arg2 harg2 x0) (rG arg3 harg3 x1)) (rW arg4 harg4 x2 (Rect.unit (s := S1024x3072) ![0, 2560] S1024x512.size inb_S1024x3072_S1024x512_0_2560))) (kernelRun0_A.sl.HS0_8 c arg2 harg2 arg3 harg3 arg4 harg4 x0 x1 x2) := rfl
  rw [e, scrK_eq, rd0, rd1, rd2]
  rfl

theorem out3_eq : out0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 = k0_pay3 x0 x1 (part0 x2) := by
  unfold out0_A_3
  rw [View.read_writes_junk_eq_canon]
  unfold kernelRun0_A
  dsimp only
  refine (whole3 (k0_pay3 (rX arg2 harg2 x0) (rG arg3 harg3 x1) (rW arg4 harg4 x2 (Rect.unit (s := S1024x3072) ![0, 0] S1024x512.size inb_S1024x3072_S1024x512_0_0)))).trans ?_
  rw [rd0, rd1, rd2]
  rfl
theorem out4_eq : out0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 = k0_pay4 x0 x1 (part1 x2) := by
  unfold out0_A_4
  rw [View.read_writes_junk_eq_canon]
  unfold kernelRun0_A
  dsimp only
  refine (whole3 (k0_pay4 (rX arg2 harg2 x0) (rG arg3 harg3 x1) (rW arg4 harg4 x2 (Rect.unit (s := S1024x3072) ![0, 512] S1024x512.size inb_S1024x3072_S1024x512_0_512)))).trans ?_
  rw [rd0, rd1, rd2]
  rfl
theorem out5_eq : out0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 = k0_pay5 (k0_pay2 x0 x1) (part2 x2) := by
  unfold out0_A_5
  rw [View.read_writes_junk_eq_canon]
  unfold kernelRun0_A
  dsimp only
  refine (whole3 (k0_pay5 (k0_pay2 (rX arg2 harg2 x0) (rG arg3 harg3 x1)) (rW arg4 harg4 x2 (Rect.unit (s := S1024x3072) ![0, 1024] S1024x512.size inb_S1024x3072_S1024x512_0_1024)))).trans ?_
  rw [rd0, rd1, rd2]
  rfl
theorem out6_eq : out0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 = k0_pay7 (k0_pay2 x0 x1) (part3 x2) := by
  unfold out0_A_6
  rw [View.read_writes_junk_eq_canon]
  unfold kernelRun0_A
  dsimp only
  refine (whole4 (k0_pay7 (k0_pay2 (rX arg2 harg2 x0) (rG arg3 harg3 x1)) (rW arg4 harg4 x2 (Rect.unit (s := S1024x3072) ![0, 1536] S1024x512.size inb_S1024x3072_S1024x512_0_1536)))).trans ?_
  rw [rd0, rd1, rd2]
  rfl
theorem out7_eq : out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 = k0_pay43 (k0_pay2 x0 x1) (part4 x2) := by
  unfold out0_A_7
  rw [View.read_writes_junk_eq_canon]
  unfold kernelRun0_A
  dsimp only
  refine (whole4 (k0_pay43 (k0_pay2 (rX arg2 harg2 x0) (rG arg3 harg3 x1)) (rW arg4 harg4 x2 (Rect.unit (s := S1024x3072) ![0, 2048] S1024x512.size inb_S1024x3072_S1024x512_0_2048)))).trans ?_
  rw [rd0, rd1, rd2]
  rfl
theorem out8_eq : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 = k0_pay69 (k0_pay2 x0 x1) (part5 x2) := by
  unfold out0_A_8
  rw [View.read_writes_junk_eq_canon]
  unfold kernelRun0_A
  dsimp only
  refine (whole4 (k0_pay69 (k0_pay2 (rX arg2 harg2 x0) (rG arg3 harg3 x1)) (rW arg4 harg4 x2 (Rect.unit (s := S1024x3072) ![0, 2560] S1024x512.size inb_S1024x3072_S1024x512_0_2560)))).trans ?_
  rw [rd0, rd1, rd2]
  rfl
set_option maxHeartbeats 2000000 in
theorem out9_eq : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 = View.canon (rows 4 128 (piece4 arg17.view (scrQ x0 x1 x2)) 4 le_rfl) := by
  refine Eq.trans ?_ (congrArg (fun L => View.canon (rows 4 128 (piece4 arg17.view L) 4 le_rfl)) (scrQ_eq c arg2 harg2 arg3 harg3 arg4 harg4 x0 x1 x2))
  unfold out0_A_9
  rw [View.read_writes_junk_eq_canon]
  unfold kernelRun0_A
  dsimp only
  rfl
set_option maxHeartbeats 2000000 in
theorem out10_eq : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 = View.canon (rows 4 128 (piece4 arg17.view (scrK x0 x1 x2)) 4 le_rfl) := by
  refine Eq.trans ?_ (congrArg (fun L => View.canon (rows 4 128 (piece4 arg17.view L) 4 le_rfl)) (scrK_eq c arg2 harg2 arg3 harg3 arg4 harg4 x0 x1 x2))
  unfold out0_A_10
  rw [View.read_writes_junk_eq_canon]
  unfold kernelRun0_A
  dsimp only
  rfl
set_option maxHeartbeats 2000000 in
theorem out11_eq : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 = View.canon (rows 4 128 (piece4 arg17.view (scrV x0 x1 x2)) 4 le_rfl) := by
  refine Eq.trans ?_ (congrArg (fun L => View.canon (rows 4 128 (piece4 arg17.view L) 4 le_rfl)) (scrV_eq c arg2 harg2 arg3 harg3 arg4 harg4 x0 x1 x2))
  unfold out0_A_11
  rw [View.read_writes_junk_eq_canon]
  unfold kernelRun0_A
  dsimp only
  rfl
set_option maxHeartbeats 2000000 in
theorem out12_eq : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 = View.canon (rows 16 32 (piece16 arg17.view (scrQ x0 x1 x2)) 16 le_rfl) := by
  refine Eq.trans ?_ (congrArg (fun L => View.canon (rows 16 32 (piece16 arg17.view L) 16 le_rfl)) (scrQ_eq c arg2 harg2 arg3 harg3 arg4 harg4 x0 x1 x2))
  unfold out0_A_12
  rw [View.read_writes_junk_eq_canon]
  unfold kernelRun0_A
  dsimp only
  rfl
set_option maxHeartbeats 2000000 in
theorem out13_eq : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 = View.canon (rows 16 32 (piece16 arg17.view (scrK x0 x1 x2)) 16 le_rfl) := by
  refine Eq.trans ?_ (congrArg (fun L => View.canon (rows 16 32 (piece16 arg17.view L) 16 le_rfl)) (scrK_eq c arg2 harg2 arg3 harg3 arg4 harg4 x0 x1 x2))
  unfold out0_A_13
  rw [View.read_writes_junk_eq_canon]
  unfold kernelRun0_A
  dsimp only
  rfl
set_option maxHeartbeats 2000000 in
theorem out14_eq : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 = View.canon (rows 16 32 (piece16 arg17.view (scrV x0 x1 x2)) 16 le_rfl) := by
  refine Eq.trans ?_ (congrArg (fun L => View.canon (rows 16 32 (piece16 arg17.view L) 16 le_rfl)) (scrV_eq c arg2 harg2 arg3 harg3 arg4 harg4 x0 x1 x2))
  unfold out0_A_14
  rw [View.read_writes_junk_eq_canon]
  unfold kernelRun0_A
  dsimp only
  rfl

end Cert.Kernel6Ideal.OddBody
end
end
-- ==== Proof.OddPay.lean ====
/- The input projection of the odd layers: the same blocks over extended reals, at an index. -/
module

public import proofs.«01_k».proof.Proof.OddOut

@[expose] public section
set_option maxRecDepth 16384
noncomputable section
namespace Cert.Kernel6Ideal.OddBody
open Cert.Kernel6Ideal Cert.Kernel6Ideal.Gen Idealize.ShloMosaic Idealize.ShloMosaic.TcCoe Idealize.SL.Sem Cert.FfnSpec Cert.OddSpec

theorem named_qscale : Named.named (F := Ideal) Cert.Kernel6Ideal.κ "qscale" (φ := .f32) 0x3E38AA3B#32 = qscale :=
  IdealRules.named_const.ideal_named_scalar _ _ _ _ rfl

/-- A row of the block times a column of a part of the weight. -/
def dotRow (x0 : Vec Ideal S1x512x1024 .f32) (x1 : Vec Ideal S1x1024 .f32) (w : Vec Ideal S1024x512 .bf16) (r n : Fin 512) : EReal :=
  ∑ k : Fin 1024, rms (fun j => x0 (ix3 0 r j)) (fun j => x1 (ix2 0 j)) k * w (ix2 k n)

variable (x0 : Vec Ideal S1x512x1024 .f32) (x1 : Vec Ideal S1x1024 .f32) (w : Vec Ideal S1024x512 .bf16) (r n : Fin 512)

theorem norm_apply (k : Fin 1024) : k0_pay2 (F := Ideal) x0 x1 (ix2 r k) = rms (fun j => x0 (ix3 0 r j)) (fun j => x1 (ix2 0 j)) k := by
  pointwise [k0_pay2]
  rfl

theorem cq_apply : k0_pay3 (F := Ideal) x0 x1 w (ix3 0 r n) = dotRow x0 x1 w r n * qscale := by
  pointwise [k0_pay3, dot_S512x1024_S1024x512_S512x512_1_0_0_1_n_n, norm_apply, named_qscale]
  rfl
theorem ck_apply : k0_pay4 (F := Ideal) x0 x1 w (ix3 0 r n) = dotRow x0 x1 w r n := by
  pointwise [k0_pay4, dot_S512x1024_S1024x512_S512x512_1_0_0_1_n_n, norm_apply]
  rfl
theorem cv_apply : k0_pay5 (F := Ideal) (k0_pay2 x0 x1) w (ix3 0 r n) = dotRow x0 x1 w r n := by
  pointwise [k0_pay5, dot_S512x1024_S1024x512_S512x512_1_0_0_1_n_n, norm_apply]
  rfl
theorem dq_apply : k0_pay6 (F := Ideal) (k0_pay2 x0 x1) w (ix2 r n) = dotRow x0 x1 w r n * qscale := by
  pointwise [k0_pay6, dot_S512x1024_S1024x512_S512x512_1_0_0_1_n_n, norm_apply, named_qscale]
  rfl
theorem dk_apply : k0_pay42 (F := Ideal) (k0_pay2 x0 x1) w (ix2 r n) = dotRow x0 x1 w r n := by
  pointwise [k0_pay42, dot_S512x1024_S1024x512_S512x512_1_0_0_1_n_n, norm_apply]
  rfl
theorem dv_apply : k0_pay68 (F := Ideal) (k0_pay2 x0 x1) w (ix2 r n) = dotRow x0 x1 w r n := by
  pointwise [k0_pay68, dot_S512x1024_S1024x512_S512x512_1_0_0_1_n_n, norm_apply]
  rfl
theorem q1_apply : k0_pay7 (F := Ideal) (k0_pay2 x0 x1) w (ix4 0 0 r n) = dotRow x0 x1 w r n * qscale := by
  rw [← dq_apply]
  unfold k0_pay7
  generalize k0_pay6 (F := Ideal) (k0_pay2 x0 x1) w = Y
  pointwise
theorem k1_apply : k0_pay43 (F := Ideal) (k0_pay2 x0 x1) w (ix4 0 0 r n) = dotRow x0 x1 w r n := by
  rw [← dk_apply]
  unfold k0_pay43
  generalize k0_pay42 (F := Ideal) (k0_pay2 x0 x1) w = Y
  pointwise
theorem v1_apply : k0_pay69 (F := Ideal) (k0_pay2 x0 x1) w (ix4 0 0 r n) = dotRow x0 x1 w r n := by
  rw [← dv_apply]
  unfold k0_pay69
  generalize k0_pay68 (F := Ideal) (k0_pay2 x0 x1) w = Y
  pointwise

/-- A load of a part's columns of the weight. -/
theorem dotRow_ld (x2 : Vec Ideal S1024x3072 .bf16) (o : ℕ) (ho : o + 512 ≤ 3072) (inb : ∀ a, (![0, o] : Fin 2 → ℕ) a + S1024x512.size a ≤ S1024x3072.size a) :
    dotRow x0 x1 (View.ld x2 (Rect.unit (s := S1024x3072) ![0, o] S1024x512.size inb)) r n
      = col (fun j => x0 (ix3 0 r j)) (fun j => x1 (ix2 0 j)) (fun k n => x2 (ix2 k n)) ⟨o + n.val, by omega⟩ := by
  unfold dotRow col
  refine Finset.sum_congr rfl fun k _ => congrArg (rms _ _ k * ·) (congrArg x2 (funext fun a => Fin.ext ?_))
  match a with
  | ⟨0, _⟩ => show 0 + 1 * k.val = k.val; omega
  | ⟨1, _⟩ => show o + 1 * n.val = o + n.val; omega

end Cert.Kernel6Ideal.OddBody
end
end
-- ==== Proof.OddResult.lean ====
/- The input projection of the odd layers: each of the twelve arrays at an index is the projection's formula there. -/
module

public import proofs.«01_k».proof.Proof.OddPay
public import proofs.«01_k».proof.Proof.Gen.Kernel6Ideal.Value
public import Idealize.ShloMosaic.Lib.StableHlo.ReadAt

@[expose] public section
set_option maxRecDepth 16384
noncomputable section
namespace Cert.Kernel6Ideal.OddBody
open Cert.Kernel6Ideal Cert.Kernel6Ideal.Gen Idealize.ShloMosaic Idealize.ShloMosaic.TcCoe Idealize.SL.Sem Cert.FfnSpec Cert.OddSpec

variable (m : (l : Loc nD τ sig) → Buf (Elt Ideal) l)

def aX (c : Dev nD) (b : Fin 16) (s : Fin 4096) (k : Fin 1024) : EReal := m (c, Proc.tc.devRef main_arg0) (ix3 b s k)
def aG (c : Dev nD) (k : Fin 1024) : EReal := m (c, Proc.tc.devRef main_arg1) (ix1 k)
def aW (c : Dev nD) (k : Fin 1024) (n : Fin 3072) : EReal := m (c, Proc.tc.devRef main_arg2) (ix2 k n)

/-- The formula on the arguments. -/
abbrev res (c : Dev nD) (o : ℕ) (ho : o + 512 ≤ 3072) : Fin 16 → Fin 4096 → Fin 512 → EReal := colAt (aX m c) (aG m c) (aW m c) o ho

theorem V0_at (c : Dev nD) (k : Fin 1024) : V m c main_v0 (ix2 0 k) = aG m c k := by
  unfold V; after_reads_at; rfl
theorem V1_at (c : Dev nD) (k : Fin 1024) (n : Fin 3072) : V m c main_v1 (ix2 k n) = aW m c k n := by
  unfold V; after_reads_at; rfl

theorem lt128 (t : Fin cfg0.N) : t.val < 128 := lt_of_lt_of_eq t.isLt N_0

theorem idx0 : ∀ t : Fin grid0.N, win0_0.index t (0 : Fin 3) = t.val / 8 ∧ win0_0.index t (1 : Fin 3) = t.val % 8 ∧ win0_0.index t (2 : Fin 3) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 3) = t.val / 8 ∧ win0_3.index t (1 : Fin 3) = t.val % 8 ∧ win0_3.index t (2 : Fin 3) = 0 := by decide +kernel
theorem idx4 : ∀ t : Fin grid0.N, win0_4.index t (0 : Fin 3) = t.val / 8 ∧ win0_4.index t (1 : Fin 3) = t.val % 8 ∧ win0_4.index t (2 : Fin 3) = 0 := by decide +kernel
theorem idx5 : ∀ t : Fin grid0.N, win0_5.index t (0 : Fin 3) = t.val / 8 ∧ win0_5.index t (1 : Fin 3) = t.val % 8 ∧ win0_5.index t (2 : Fin 3) = 0 := by decide +kernel
theorem idx6 : ∀ t : Fin grid0.N, win0_6.index t (0 : Fin 4) = t.val / 8 ∧ win0_6.index t (1 : Fin 4) = 0 ∧ win0_6.index t (2 : Fin 4) = t.val % 8 ∧ win0_6.index t (3 : Fin 4) = 0 := by decide +kernel
theorem idx7 : ∀ t : Fin grid0.N, win0_7.index t (0 : Fin 4) = t.val / 8 ∧ win0_7.index t (1 : Fin 4) = 0 ∧ win0_7.index t (2 : Fin 4) = t.val % 8 ∧ win0_7.index t (3 : Fin 4) = 0 := by decide +kernel
theorem idx8 : ∀ t : Fin grid0.N, win0_8.index t (0 : Fin 4) = t.val / 8 ∧ win0_8.index t (1 : Fin 4) = 0 ∧ win0_8.index t (2 : Fin 4) = t.val % 8 ∧ win0_8.index t (3 : Fin 4) = 0 := by decide +kernel
theorem idx9 : ∀ t : Fin grid0.N, win0_9.index t (0 : Fin 4) = t.val / 8 ∧ win0_9.index t (1 : Fin 4) = 0 ∧ win0_9.index t (2 : Fin 4) = t.val % 8 ∧ win0_9.index t (3 : Fin 4) = 0 := by decide +kernel
theorem idx10 : ∀ t : Fin grid0.N, win0_10.index t (0 : Fin 4) = t.val / 8 ∧ win0_10.index t (1 : Fin 4) = 0 ∧ win0_10.index t (2 : Fin 4) = t.val % 8 ∧ win0_10.index t (3 : Fin 4) = 0 := by decide +kernel
theorem idx11 : ∀ t : Fin grid0.N, win0_11.index t (0 : Fin 4) = t.val / 8 ∧ win0_11.index t (1 : Fin 4) = 0 ∧ win0_11.index t (2 : Fin 4) = t.val % 8 ∧ win0_11.index t (3 : Fin 4) = 0 := by decide +kernel
theorem idx12 : ∀ t : Fin grid0.N, win0_12.index t (0 : Fin 4) = t.val / 8 ∧ win0_12.index t (1 : Fin 4) = 0 ∧ win0_12.index t (2 : Fin 4) = t.val % 8 ∧ win0_12.index t (3 : Fin 4) = 0 := by decide +kernel
theorem idx13 : ∀ t : Fin grid0.N, win0_13.index t (0 : Fin 4) = t.val / 8 ∧ win0_13.index t (1 : Fin 4) = 0 ∧ win0_13.index t (2 : Fin 4) = t.val % 8 ∧ win0_13.index t (3 : Fin 4) = 0 := by decide +kernel
theorem idx14 : ∀ t : Fin grid0.N, win0_14.index t (0 : Fin 4) = t.val / 8 ∧ win0_14.index t (1 : Fin 4) = 0 ∧ win0_14.index t (2 : Fin 4) = t.val % 8 ∧ win0_14.index t (3 : Fin 4) = 0 := by decide +kernel
theorem flush : ∀ t : Fin cfg0.N, (cfg0.win 3).flush t = true ∧ (cfg0.win 4).flush t = true ∧ (cfg0.win 5).flush t = true ∧ (cfg0.win 6).flush t = true ∧ (cfg0.win 7).flush t = true ∧ (cfg0.win 8).flush t = true ∧ (cfg0.win 9).flush t = true ∧ (cfg0.win 10).flush t = true ∧ (cfg0.win 11).flush t = true ∧ (cfg0.win 12).flush t = true ∧ (cfg0.win 13).flush t = true ∧ (cfg0.win 14).flush t = true := by decide +kernel

theorem blk0 (c : Dev nD) (t : Fin cfg0.N) (r : Fin 512) (n : Fin 1024) :
    iblk m c 0 t (ix3 0 r n) = aX m c ⟨t.val / 8, by have := lt128 t; omega⟩ ⟨512 * (t.val % 8) + r.val, by omega⟩ n := by
  unfold iblk aX
  rw [View.read_apply]
  show V m c main_arg0 _ = _
  rw [V_main_arg0]
  congr 1
  funext a
  apply Fin.ext
  match a with
  | ⟨0, _⟩ => show win0_0.index t 0 * 1 + 1 * 0 = t.val / 8; rw [(idx0 t).1]; omega
  | ⟨1, _⟩ => show win0_0.index t 1 * 512 + 1 * r.val = 512 * (t.val % 8) + r.val; rw [(idx0 t).2.1]; omega
  | ⟨2, _⟩ => show win0_0.index t 2 * 1024 + 1 * n.val = n.val; rw [(idx0 t).2.2]; omega

theorem blk1 (c : Dev nD) (t : Fin cfg0.N) (k : Fin 1024) : iblk m c 1 t (ix2 0 k) = aG m c k := by
  rw [← V0_at]
  unfold iblk
  rw [View.read_apply]
  show V m c main_v0 _ = _
  congr 1
  funext a
  apply Fin.ext
  match a with
  | ⟨0, _⟩ => show win0_1.index t 0 * 1 + 1 * 0 = 0; rw [(idx1 t).1]
  | ⟨1, _⟩ => show win0_1.index t 1 * 1024 + 1 * k.val = k.val; rw [(idx1 t).2]; omega

theorem blk2 (c : Dev nD) (t : Fin cfg0.N) (k : Fin 1024) (n : Fin 3072) : iblk m c 2 t (ix2 k n) = aW m c k n := by
  rw [← V1_at]
  unfold iblk
  rw [View.read_apply]
  show V m c main_v1 _ = _
  congr 1
  funext a
  apply Fin.ext
  match a with
  | ⟨0, _⟩ => show win0_2.index t 0 * 1024 + 1 * k.val = k.val; rw [(idx2 t).1]; omega
  | ⟨1, _⟩ => show win0_2.index t 1 * 3072 + 1 * n.val = n.val; rw [(idx2 t).2]; omega

/-- A point's rows times a part's column. -/
theorem dot_at (c : Dev nD) (t : Fin cfg0.N) (b : Fin 16) (s : Fin 4096) (r n : Fin 512) (hb : t.val / 8 = b.val) (hs : 512 * (t.val % 8) + r.val = s.val)
    (o : ℕ) (ho : o + 512 ≤ 3072) (inb : ∀ a, (![0, o] : Fin 2 → ℕ) a + S1024x512.size a ≤ S1024x3072.size a) :
    dotRow (iblk m c 0 t) (iblk m c 1 t) (View.ld (iblk m c 2 t) (Rect.unit (s := S1024x3072) ![0, o] S1024x512.size inb)) r n = res m c o ho b s n := by
  rw [dotRow_ld _ _ _ _ _ o ho]
  have eb : (⟨t.val / 8, by have := lt128 t; omega⟩ : Fin 16) = b := Fin.ext hb
  have es : (⟨512 * (t.val % 8) + r.val, by omega⟩ : Fin 4096) = s := Fin.ext hs
  simp only [blk0, blk1, blk2, eb, es]
  rfl

/-- The point whose block holds a row of a batch, rows taken `k` to a block. -/
theorem point (b : Fin 16) (q : ℕ) (hq : q < 8) : ∃ t : Fin cfg0.N, t.val = 8 * b.val + q :=
  ⟨⟨8 * b.val + q, by show _ < grid0.N; rw [N_0]; omega⟩, rfl⟩

/-- The causal half's three arrays. -/
theorem result3_at (c : Dev nD) (b : Fin 16) (s : Fin 4096) (n : Fin 512) : (dats m 0 c).arrAt 3 cfg0.N (ix3 b s n) = res m c 0 (by omega) b s n * qscale := by
  obtain ⟨t, ht⟩ := point b (s.val / 512) (by omega)
  have e := congrFun (Cert.Kernel6Ideal.Value.blocks3 m c t (flush t).1) (ix3 0 ⟨s.val % 512, by omega⟩ n)
  rw [View.read_apply, Cert.Kernel6Ideal.Value.flushed3_A, out3_eq] at e
  refine Eq.trans ?_ (e.trans ((cq_apply _ _ _ ⟨s.val % 512, by omega⟩ n).trans (congrArg (· * qscale) (dot_at m c t b s _ n (by omega) (by show 512 * (t.val % 8) + s.val % 512 = s.val; omega) 0 (by omega) _))))
  refine congrArg ((dats m 0 c).arrAt 3 cfg0.N) (funext fun a => Fin.ext ?_)
  match a with
  | ⟨0, _⟩ => show b.val = win0_3.index t 0 * 1 + 1 * 0; rw [(idx3 t).1]; omega
  | ⟨1, _⟩ => show s.val = win0_3.index t 1 * 512 + 1 * (s.val % 512); rw [(idx3 t).2.1]; omega
  | ⟨2, _⟩ => show n.val = win0_3.index t 2 * 512 + 1 * n.val; rw [(idx3 t).2.2]; omega

theorem result4_at (c : Dev nD) (b : Fin 16) (s : Fin 4096) (n : Fin 512) : (dats m 0 c).arrAt 4 cfg0.N (ix3 b s n) = res m c 512 (by omega) b s n := by
  obtain ⟨t, ht⟩ := point b (s.val / 512) (by omega)
  have e := congrFun (Cert.Kernel6Ideal.Value.blocks4 m c t (flush t).2.1) (ix3 0 ⟨s.val % 512, by omega⟩ n)
  rw [View.read_apply, Cert.Kernel6Ideal.Value.flushed4_A, out4_eq] at e
  refine Eq.trans ?_ (e.trans ((ck_apply _ _ _ ⟨s.val % 512, by omega⟩ n).trans (dot_at m c t b s _ n (by omega) (by show 512 * (t.val % 8) + s.val % 512 = s.val; omega) 512 (by omega) _)))
  refine congrArg ((dats m 0 c).arrAt 4 cfg0.N) (funext fun a => Fin.ext ?_)
  match a with
  | ⟨0, _⟩ => show b.val = win0_4.index t 0 * 1 + 1 * 0; rw [(idx4 t).1]; omega
  | ⟨1, _⟩ => show s.val = win0_4.index t 1 * 512 + 1 * (s.val % 512); rw [(idx4 t).2.1]; omega
  | ⟨2, _⟩ => show n.val = win0_4.index t 2 * 512 + 1 * n.val; rw [(idx4 t).2.2]; omega

theorem result5_at (c : Dev nD) (b : Fin 16) (s : Fin 4096) (n : Fin 512) : (dats m 0 c).arrAt 5 cfg0.N (ix3 b s n) = res m c 1024 (by omega) b s n := by
  obtain ⟨t, ht⟩ := point b (s.val / 512) (by omega)
  have e := congrFun (Cert.Kernel6Ideal.Value.blocks5 m c t (flush t).2.2.1) (ix3 0 ⟨s.val % 512, by omega⟩ n)
  rw [View.read_apply, Cert.Kernel6Ideal.Value.flushed5_A, out5_eq] at e
  refine Eq.trans ?_ (e.trans ((cv_apply _ _ _ ⟨s.val % 512, by omega⟩ n).trans (dot_at m c t b s _ n (by omega) (by show 512 * (t.val % 8) + s.val % 512 = s.val; omega) 1024 (by omega) _)))
  refine congrArg ((dats m 0 c).arrAt 5 cfg0.N) (funext fun a => Fin.ext ?_)
  match a with
  | ⟨0, _⟩ => show b.val = win0_5.index t 0 * 1 + 1 * 0; rw [(idx5 t).1]; omega
  | ⟨1, _⟩ => show s.val = win0_5.index t 1 * 512 + 1 * (s.val % 512); rw [(idx5 t).2.1]; omega
  | ⟨2, _⟩ => show n.val = win0_5.index t 2 * 512 + 1 * n.val; rw [(idx5 t).2.2]; omega

/-- The dilated half's three arrays at stride 1. -/
theorem result6_at (c : Dev nD) (b : Fin 16) (r : Fin 1) (i : Fin 4096) (n : Fin 512) :
    (dats m 0 c).arrAt 6 cfg0.N (ix4 b r i n) = res m c 1536 (by omega) b (dil 1 4096 rfl r i) n * qscale := by
  obtain ⟨t, ht⟩ := point b (i.val / 512) (by omega)
  have e := congrFun (Cert.Kernel6Ideal.Value.blocks6 m c t (flush t).2.2.2.1) (ix4 0 0 ⟨i.val % 512, by omega⟩ n)
  rw [View.read_apply, Cert.Kernel6Ideal.Value.flushed6_A, out6_eq] at e
  refine Eq.trans ?_ (e.trans <| (q1_apply _ _ _ ⟨i.val % 512, by omega⟩ n).trans (congrArg (· * qscale) (dot_at m c t b (dil 1 4096 rfl r i) _ n (by omega) (by show 512 * (t.val % 8) + (i.val % 512) = 1 * i.val + r.val; omega) 1536 (by omega) _)))
  refine congrArg ((dats m 0 c).arrAt 6 cfg0.N) (funext fun a => Fin.ext ?_)
  match a with
  | ⟨0, _⟩ => show b.val = win0_6.index t 0 * 1 + 1 * 0; rw [(idx6 t).1]; omega
  | ⟨1, _⟩ => show r.val = win0_6.index t 1 * 1 + 1 * 0; rw [(idx6 t).2.1]; omega
  | ⟨2, _⟩ => show i.val = win0_6.index t 2 * 512 + 1 * (i.val % 512); rw [(idx6 t).2.2.1]; omega
  | ⟨3, _⟩ => show n.val = win0_6.index t 3 * 512 + 1 * n.val; rw [(idx6 t).2.2.2]; omega

theorem result7_at (c : Dev nD) (b : Fin 16) (r : Fin 1) (i : Fin 4096) (n : Fin 512) :
    (dats m 0 c).arrAt 7 cfg0.N (ix4 b r i n) = res m c 2048 (by omega) b (dil 1 4096 rfl r i) n := by
  obtain ⟨t, ht⟩ := point b (i.val / 512) (by omega)
  have e := congrFun (Cert.Kernel6Ideal.Value.blocks7 m c t (flush t).2.2.2.2.1) (ix4 0 0 ⟨i.val % 512, by omega⟩ n)
  rw [View.read_apply, Cert.Kernel6Ideal.Value.flushed7_A, out7_eq] at e
  refine Eq.trans ?_ (e.trans <| (k1_apply _ _ _ ⟨i.val % 512, by omega⟩ n).trans (dot_at m c t b (dil 1 4096 rfl r i) _ n (by omega) (by show 512 * (t.val % 8) + (i.val % 512) = 1 * i.val + r.val; omega) 2048 (by omega) _))
  refine congrArg ((dats m 0 c).arrAt 7 cfg0.N) (funext fun a => Fin.ext ?_)
  match a with
  | ⟨0, _⟩ => show b.val = win0_7.index t 0 * 1 + 1 * 0; rw [(idx7 t).1]; omega
  | ⟨1, _⟩ => show r.val = win0_7.index t 1 * 1 + 1 * 0; rw [(idx7 t).2.1]; omega
  | ⟨2, _⟩ => show i.val = win0_7.index t 2 * 512 + 1 * (i.val % 512); rw [(idx7 t).2.2.1]; omega
  | ⟨3, _⟩ => show n.val = win0_7.index t 3 * 512 + 1 * n.val; rw [(idx7 t).2.2.2]; omega

theorem result8_at (c : Dev nD) (b : Fin 16) (r : Fin 1) (i : Fin 4096) (n : Fin 512) :
    (dats m 0 c).arrAt 8 cfg0.N (ix4 b r i n) = res m c 2560 (by omega) b (dil 1 4096 rfl r i) n := by
  obtain ⟨t, ht⟩ := point b (i.val / 512) (by omega)
  have e := congrFun (Cert.Kernel6Ideal.Value.blocks8 m c t (flush t).2.2.2.2.2.1) (ix4 0 0 ⟨i.val % 512, by omega⟩ n)
  rw [View.read_apply, Cert.Kernel6Ideal.Value.flushed8_A, out8_eq] at e
  refine Eq.trans ?_ (e.trans <| (v1_apply _ _ _ ⟨i.val % 512, by omega⟩ n).trans (dot_at m c t b (dil 1 4096 rfl r i) _ n (by omega) (by show 512 * (t.val % 8) + (i.val % 512) = 1 * i.val + r.val; omega) 2560 (by omega) _))
  refine congrArg ((dats m 0 c).arrAt 8 cfg0.N) (funext fun a => Fin.ext ?_)
  match a with
  | ⟨0, _⟩ => show b.val = win0_8.index t 0 * 1 + 1 * 0; rw [(idx8 t).1]; omega
  | ⟨1, _⟩ => show r.val = win0_8.index t 1 * 1 + 1 * 0; rw [(idx8 t).2.1]; omega
  | ⟨2, _⟩ => show i.val = win0_8.index t 2 * 512 + 1 * (i.val % 512); rw [(idx8 t).2.2.1]; omega
  | ⟨3, _⟩ => show n.val = win0_8.index t 3 * 512 + 1 * n.val; rw [(idx8 t).2.2.2]; omega

/-- The dilated half's three arrays at stride 4. -/
theorem result9_at (c : Dev nD) (b : Fin 16) (r : Fin 4) (i : Fin 1024) (n : Fin 512) :
    (dats m 0 c).arrAt 9 cfg0.N (ix4 b r i n) = res m c 1536 (by omega) b (dil 4 1024 rfl r i) n * qscale := by
  obtain ⟨t, ht⟩ := point b (i.val / 128) (by omega)
  have e := congrFun (Cert.Kernel6Ideal.Value.blocks9 m c t (flush t).2.2.2.2.2.2.1) (ix4 0 r ⟨i.val % 128, by omega⟩ n)
  rw [View.read_apply, Cert.Kernel6Ideal.Value.flushed9_A, out9_eq] at e
  refine Eq.trans ?_ (e.trans <| (rows_apply 4 128 _ r ⟨i.val % 128, by omega⟩ n 4 le_rfl r.isLt).trans <| (piece4_apply _ _ _ r ⟨i.val % 128, by omega⟩ n).trans <| (dq_apply _ _ _ _ n).trans (congrArg (· * qscale) (dot_at m c t b (dil 4 1024 rfl r i) _ n (by omega) (by show 512 * (t.val % 8) + (4 * (i.val % 128) + r.val) = 4 * i.val + r.val; omega) 1536 (by omega) _)))
  refine congrArg ((dats m 0 c).arrAt 9 cfg0.N) (funext fun a => Fin.ext ?_)
  match a with
  | ⟨0, _⟩ => show b.val = win0_9.index t 0 * 1 + 1 * 0; rw [(idx9 t).1]; omega
  | ⟨1, _⟩ => show r.val = win0_9.index t 1 * 4 + 1 * r.val; rw [(idx9 t).2.1]; omega
  | ⟨2, _⟩ => show i.val = win0_9.index t 2 * 128 + 1 * (i.val % 128); rw [(idx9 t).2.2.1]; omega
  | ⟨3, _⟩ => show n.val = win0_9.index t 3 * 512 + 1 * n.val; rw [(idx9 t).2.2.2]; omega

theorem result10_at (c : Dev nD) (b : Fin 16) (r : Fin 4) (i : Fin 1024) (n : Fin 512) :
    (dats m 0 c).arrAt 10 cfg0.N (ix4 b r i n) = res m c 2048 (by omega) b (dil 4 1024 rfl r i) n := by
  obtain ⟨t, ht⟩ := point b (i.val / 128) (by omega)
  have e := congrFun (Cert.Kernel6Ideal.Value.blocks10 m c t (flush t).2.2.2.2.2.2.2.1) (ix4 0 r ⟨i.val % 128, by omega⟩ n)
  rw [View.read_apply, Cert.Kernel6Ideal.Value.flushed10_A, out10_eq] at e
  refine Eq.trans ?_ (e.trans <| (rows_apply 4 128 _ r ⟨i.val % 128, by omega⟩ n 4 le_rfl r.isLt).trans <| (piece4_apply _ _ _ r ⟨i.val % 128, by omega⟩ n).trans <| (dk_apply _ _ _ _ n).trans (dot_at m c t b (dil 4 1024 rfl r i) _ n (by omega) (by show 512 * (t.val % 8) + (4 * (i.val % 128) + r.val) = 4 * i.val + r.val; omega) 2048 (by omega) _))
  refine congrArg ((dats m 0 c).arrAt 10 cfg0.N) (funext fun a => Fin.ext ?_)
  match a with
  | ⟨0, _⟩ => show b.val = win0_10.index t 0 * 1 + 1 * 0; rw [(idx10 t).1]; omega
  | ⟨1, _⟩ => show r.val = win0_10.index t 1 * 4 + 1 * r.val; rw [(idx10 t).2.1]; omega
  | ⟨2, _⟩ => show i.val = win0_10.index t 2 * 128 + 1 * (i.val % 128); rw [(idx10 t).2.2.1]; omega
  | ⟨3, _⟩ => show n.val = win0_10.index t 3 * 512 + 1 * n.val; rw [(idx10 t).2.2.2]; omega

theorem result11_at (c : Dev nD) (b : Fin 16) (r : Fin 4) (i : Fin 1024) (n : Fin 512) :
    (dats m 0 c).arrAt 11 cfg0.N (ix4 b r i n) = res m c 2560 (by omega) b (dil 4 1024 rfl r i) n := by
  obtain ⟨t, ht⟩ := point b (i.val / 128) (by omega)
  have e := congrFun (Cert.Kernel6Ideal.Value.blocks11 m c t (flush t).2.2.2.2.2.2.2.2.1) (ix4 0 r ⟨i.val % 128, by omega⟩ n)
  rw [View.read_apply, Cert.Kernel6Ideal.Value.flushed11_A, out11_eq] at e
  refine Eq.trans ?_ (e.trans <| (rows_apply 4 128 _ r ⟨i.val % 128, by omega⟩ n 4 le_rfl r.isLt).trans <| (piece4_apply _ _ _ r ⟨i.val % 128, by omega⟩ n).trans <| (dv_apply _ _ _ _ n).trans (dot_at m c t b (dil 4 1024 rfl r i) _ n (by omega) (by show 512 * (t.val % 8) + (4 * (i.val % 128) + r.val) = 4 * i.val + r.val; omega) 2560 (by omega) _))
  refine congrArg ((dats m 0 c).arrAt 11 cfg0.N) (funext fun a => Fin.ext ?_)
  match a with
  | ⟨0, _⟩ => show b.val = win0_11.index t 0 * 1 + 1 * 0; rw [(idx11 t).1]; omega
  | ⟨1, _⟩ => show r.val = win0_11.index t 1 * 4 + 1 * r.val; rw [(idx11 t).2.1]; omega
  | ⟨2, _⟩ => show i.val = win0_11.index t 2 * 128 + 1 * (i.val % 128); rw [(idx11 t).2.2.1]; omega
  | ⟨3, _⟩ => show n.val = win0_11.index t 3 * 512 + 1 * n.val; rw [(idx11 t).2.2.2]; omega

/-- The dilated half's three arrays at stride 16. -/
theorem result12_at (c : Dev nD) (b : Fin 16) (r : Fin 16) (i : Fin 256) (n : Fin 512) :
    (dats m 0 c).arrAt 12 cfg0.N (ix4 b r i n) = res m c 1536 (by omega) b (dil 16 256 rfl r i) n * qscale := by
  obtain ⟨t, ht⟩ := point b (i.val / 32) (by omega)
  have e := congrFun (Cert.Kernel6Ideal.Value.blocks12 m c t (flush t).2.2.2.2.2.2.2.2.2.1) (ix4 0 r ⟨i.val % 32, by omega⟩ n)
  rw [View.read_apply, Cert.Kernel6Ideal.Value.flushed12_A, out12_eq] at e
  refine Eq.trans ?_ (e.trans <| (rows_apply 16 32 _ r ⟨i.val % 32, by omega⟩ n 16 le_rfl r.isLt).trans <| (piece16_apply _ _ _ r ⟨i.val % 32, by omega⟩ n).trans <| (dq_apply _ _ _ _ n).trans (congrArg (· * qscale) (dot_at m c t b (dil 16 256 rfl r i) _ n (by omega) (by show 512 * (t.val % 8) + (16 * (i.val % 32) + r.val) = 16 * i.val + r.val; omega) 1536 (by omega) _)))
  refine congrArg ((dats m 0 c).arrAt 12 cfg0.N) (funext fun a => Fin.ext ?_)
  match a with
  | ⟨0, _⟩ => show b.val = win0_12.index t 0 * 1 + 1 * 0; rw [(idx12 t).1]; omega
  | ⟨1, _⟩ => show r.val = win0_12.index t 1 * 16 + 1 * r.val; rw [(idx12 t).2.1]; omega
  | ⟨2, _⟩ => show i.val = win0_12.index t 2 * 32 + 1 * (i.val % 32); rw [(idx12 t).2.2.1]; omega
  | ⟨3, _⟩ => show n.val = win0_12.index t 3 * 512 + 1 * n.val; rw [(idx12 t).2.2.2]; omega

theorem result13_at (c : Dev nD) (b : Fin 16) (r : Fin 16) (i : Fin 256) (n : Fin 512) :
    (dats m 0 c).arrAt 13 cfg0.N (ix4 b r i n) = res m c 2048 (by omega) b (dil 16 256 rfl r i) n := by
  obtain ⟨t, ht⟩ := point b (i.val / 32) (by omega)
  have e := congrFun (Cert.Kernel6Ideal.Value.blocks13 m c t (flush t).2.2.2.2.2.2.2.2.2.2.1) (ix4 0 r ⟨i.val % 32, by omega⟩ n)
  rw [View.read_apply, Cert.Kernel6Ideal.Value.flushed13_A, out13_eq] at e
  refine Eq.trans ?_ (e.trans <| (rows_apply 16 32 _ r ⟨i.val % 32, by omega⟩ n 16 le_rfl r.isLt).trans <| (piece16_apply _ _ _ r ⟨i.val % 32, by omega⟩ n).trans <| (dk_apply _ _ _ _ n).trans (dot_at m c t b (dil 16 256 rfl r i) _ n (by omega) (by show 512 * (t.val % 8) + (16 * (i.val % 32) + r.val) = 16 * i.val + r.val; omega) 2048 (by omega) _))
  refine congrArg ((dats m 0 c).arrAt 13 cfg0.N) (funext fun a => Fin.ext ?_)
  match a with
  | ⟨0, _⟩ => show b.val = win0_13.index t 0 * 1 + 1 * 0; rw [(idx13 t).1]; omega
  | ⟨1, _⟩ => show r.val = win0_13.index t 1 * 16 + 1 * r.val; rw [(idx13 t).2.1]; omega
  | ⟨2, _⟩ => show i.val = win0_13.index t 2 * 32 + 1 * (i.val % 32); rw [(idx13 t).2.2.1]; omega
  | ⟨3, _⟩ => show n.val = win0_13.index t 3 * 512 + 1 * n.val; rw [(idx13 t).2.2.2]; omega

theorem result14_at (c : Dev nD) (b : Fin 16) (r : Fin 16) (i : Fin 256) (n : Fin 512) :
    (dats m 0 c).arrAt 14 cfg0.N (ix4 b r i n) = res m c 2560 (by omega) b (dil 16 256 rfl r i) n := by
  obtain ⟨t, ht⟩ := point b (i.val / 32) (by omega)
  have e := congrFun (Cert.Kernel6Ideal.Value.blocks14 m c t (flush t).2.2.2.2.2.2.2.2.2.2.2) (ix4 0 r ⟨i.val % 32, by omega⟩ n)
  rw [View.read_apply, Cert.Kernel6Ideal.Value.flushed14_A, out14_eq] at e
  refine Eq.trans ?_ (e.trans <| (rows_apply 16 32 _ r ⟨i.val % 32, by omega⟩ n 16 le_rfl r.isLt).trans <| (piece16_apply _ _ _ r ⟨i.val % 32, by omega⟩ n).trans <| (dv_apply _ _ _ _ n).trans (dot_at m c t b (dil 16 256 rfl r i) _ n (by omega) (by show 512 * (t.val % 8) + (16 * (i.val % 32) + r.val) = 16 * i.val + r.val; omega) 2560 (by omega) _))
  refine congrArg ((dats m 0 c).arrAt 14 cfg0.N) (funext fun a => Fin.ext ?_)
  match a with
  | ⟨0, _⟩ => show b.val = win0_14.index t 0 * 1 + 1 * 0; rw [(idx14 t).1]; omega
  | ⟨1, _⟩ => show r.val = win0_14.index t 1 * 16 + 1 * r.val; rw [(idx14 t).2.1]; omega
  | ⟨2, _⟩ => show i.val = win0_14.index t 2 * 32 + 1 * (i.val % 32); rw [(idx14 t).2.2.1]; omega
  | ⟨3, _⟩ => show n.val = win0_14.index t 3 * 512 + 1 * n.val; rw [(idx14 t).2.2.2]; omega

end Cert.Kernel6Ideal.OddBody
end
end
-- ==== Proof.EvenRef.lean ====
/- The input projection of the even layers: its formulas, and the reference's results at an index. A row is normalised and multiplied
   by the weights side by side; a head's columns stand at the front of a slot of 128 lanes, and zeros fill the slot up. -/
module

public import proofs.«01_k».proof.Proof.OddProjRef
public import proofs.«01_k».proof.Proof.Gen.Reference7Ideal.Read

@[expose] public section
set_option maxRecDepth 16384
noncomputable section
namespace Cert.EvenSpec
open Idealize.ShloMosaic Cert.FfnSpec

/-- A column of the weight, zero beyond the last. -/
def colN (w : Fin 1024 → Fin 2328 → EReal) (c : ℕ) (k : Fin 1024) : EReal := if h : c < 2328 then w k ⟨c, h⟩ else 0

/-- Lane `n` of the slots that hold `u` columns each, from column `o` on. -/
def slot (w : Fin 1024 → Fin 2328 → EReal) (o u n : ℕ) (k : Fin 1024) : EReal :=
  if n % 128 < u then colN w (o + (u * (n / 128) + n % 128)) k else 0

/-- A normalised row times a column. -/
def dotN (x g : Fin 1024 → EReal) (f : Fin 1024 → EReal) : EReal := ∑ k : Fin 1024, rms x g k * f k

/-- The logistic function. -/
def logi (y : EReal) : EReal := Ideal.div 1 (1 + Ideal.exp (-y))

/-- A value that is chosen by whether a lane stands among its slot's columns. -/
theorem dite_slot {P : Prop} [Decidable P] (φ : EReal → EReal) (x g : Fin 1024 → EReal) (w : Fin 1024 → Fin 2328 → EReal) (o u n : ℕ) (f : P → EReal) (z : EReal)
    (hP : P ↔ n % 128 < u) (hz : z = φ 0) (hf : ∀ h, f h = φ (dotN x g (colN w (o + (u * (n / 128) + n % 128))))) :
    (if h : P then f h else z) = φ (dotN x g (slot w o u n)) := by
  unfold dotN slot at *
  by_cases h : P
  · rw [dif_pos h, hf h]
    simp only [if_pos (hP.1 h)]
  · rw [dif_neg h, hz]
    simp only [if_neg (fun e => h (hP.2 e)), mul_zero, Finset.sum_const_zero]

/-- The same for slots whose lane 64 holds the number one. -/
theorem dite_ones {P Q : Prop} [Decidable P] [Decidable Q] (x g : Fin 1024 → EReal) (w : Fin 1024 → Fin 2328 → EReal) (o n : ℕ) (f : P → Q → EReal) (z : EReal)
    (hP : P ↔ n % 128 < 65) (hQ : Q ↔ n % 128 < 64) (hz : z = 0) (hf : ∀ h h', f h h' = dotN x g (colN w (o + (64 * (n / 128) + n % 128)))) :
    (if h : P then if h' : Q then f h h' else 1 else z) = if n % 128 = 64 then 1 else dotN x g (slot w o 64 n) := by
  by_cases e : n % 128 = 64
  · rw [if_pos e, dif_pos (hP.2 (by omega)), dif_neg (fun q => by have := hQ.1 q; omega)]
  · rw [if_neg e]
    by_cases h : P
    · have := hP.1 h
      rw [dif_pos h]
      have q : Q := hQ.2 (by omega)
      rw [dif_pos q]
      exact (dif_pos q).symm.trans (dite_slot id x g w o 64 n (f h) 0 hQ rfl (hf h))
    · rw [dif_neg h]
      have q : ¬Q := fun q => h (hP.2 (by have := hQ.1 q; omega))
      exact (dif_neg q).symm.trans (dite_slot id x g w o 64 n (fun h' => absurd h' q) z hQ hz fun h' => absurd h' q)

theorem dite_col {P : Prop} [Decidable P] (w : Fin 1024 → Fin 2328 → EReal) (o u n : ℕ) (k : Fin 1024) (f : P → EReal) (z : EReal)
    (hP : P ↔ n % 128 < u) (hz : z = 0) (hf : ∀ h, f h = colN w (o + (u * (n / 128) + n % 128)) k) : (if h : P then f h else z) = slot w o u n k := by
  unfold slot
  by_cases h : P
  · rw [dif_pos h, hf h, if_pos (hP.1 h)]
  · rw [dif_neg h, hz, if_neg (fun e => h (hP.2 e))]

theorem zero_eq : FloatOps.sitofp (F := Ideal) .f32 (0#32) = 0 := by
  show (((0#32 : BitVec 32).toInt : ℝ) : EReal) = 0
  simp

theorem one_eq : Ideal.ofBits .f32 0x3F800000#32 = 1 := by
  simp [Ideal.ofBits, Ideal.ieee, -EReal.coe_mul]; norm_num

end Cert.EvenSpec

namespace Cert.Reference7Ideal.EvenRef
open Cert.Reference7Ideal Cert.Reference7Ideal.Gen Cert.Reference7Ideal.Read Idealize.ShloMosaic Cert.FfnSpec Cert.OddSpec Cert.EvenSpec

variable (x0 : (⟨S16x4096x1024, .f32⟩ : BufTy).Contents (Elt Ideal)) (x1 : (⟨S1024, .f32⟩ : BufTy).Contents (Elt Ideal)) (x2 : (⟨S1024x2328, .f32⟩ : BufTy).Contents (Elt Ideal))

/-- A row of the input times a column. -/
abbrev row (b : Fin 16) (s : Fin 4096) (f : Fin 1024 → EReal) : EReal := dotN (fun k => x0 (ix3 b s k)) (fun k => x1 (ix1 k)) f
abbrev wt (k : Fin 1024) (n : Fin 2328) : EReal := x2 (ix2 k n)

theorem norm_at (b : Fin 16) (s : Fin 4096) (k : Fin 1024) :
    val_main_v12 (F := Ideal) x0 x1 (ix3 b s k) = rms (fun k => x0 (ix3 b s k)) (fun k => x1 (ix1 k)) k := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  unfold rms
  rfl

theorem proj_at (c : ℕ) (hc : c < 2328) (b : Fin 16) (s : Fin 4096) (j : S16x4096x2328.Idx)
    (h0 : (j 0).val = b.val) (h1 : (j 1).val = s.val) (h2 : (j 2).val = c) : val_main_v13 (F := Ideal) x0 x1 x2 j = row x0 x1 b s (colN (wt x2) c) := by
  have hj : j = ix3 b s ⟨c, hc⟩ := by
    funext a
    apply Fin.ext
    match a with
    | ⟨0, _⟩ => exact h0
    | ⟨1, _⟩ => exact h1
    | ⟨2, _⟩ => exact h2
  subst hj
  rw [val_main_v13_apply]
  unfold row dotN
  refine Finset.sum_congr rfl fun k _ => ?_
  have e : lidx_main_v13 (ix3 b s ⟨c, hc⟩) k = ix3 b s k := by funext a; match a with | ⟨0, _⟩ => rfl | ⟨1, _⟩ => rfl | ⟨2, _⟩ => rfl
  have e' : ridx_main_v13 (ix3 b s ⟨c, hc⟩) k = ix2 k ⟨c, hc⟩ := by funext a; match a with | ⟨0, _⟩ => rfl | ⟨1, _⟩ => rfl
  rw [e, e', norm_at]
  rw [colN, dif_pos hc]

theorem kvc_at (b : Fin 16) (s : Fin 4096) (n : Fin 256) : val_main_v15 (F := Ideal) x0 x1 x2 (ix3 b s n) = row x0 x1 b s (colN (wt x2) (512 + n.val)) := by
  rw [val_main_v15_apply]
  exact proj_at x0 x1 x2 (512 + n.val) (by omega) b s _ rfl rfl rfl

theorem glu_at (b : Fin 16) (s : Fin 4096) (n : Fin 512) :
    val_main_v29 (F := Ideal) x0 x1 x2 (ix3 b s n) = row x0 x1 b s (colN (wt x2) (1304 + n.val)) * logi (row x0 x1 b s (colN (wt x2) (1816 + n.val))) := by
  rw [val_main_v29_apply, val_main_v28_apply, val_main_v26_apply, val_main_v24_apply, val_main_v23_apply, val_main_v21_apply, val_main_v22_apply,
    proj_at x0 x1 x2 (1304 + n.val) (by omega) b s (idx_main_v21 (ix3 b s n)) rfl rfl rfl, proj_at x0 x1 x2 (1816 + n.val) (by omega) b s (idx_main_v22 (ix3 b s n)) rfl rfl rfl,
    val_main_v27_apply, val_main_v25_apply]
  unfold logi
  rw [← one_eq]
  rfl

theorem kwin_heads (b : Fin 16) (s : Fin 4096) (j : S16x4096x2x64.Idx) (h0 : (j 0).val = b.val) (h1 : (j 1).val = s.val) (h3 : (j 3).val < 64) :
    val_main_v39 (F := Ideal) x0 x1 x2 j = row x0 x1 b s (colN (wt x2) (1024 + (64 * (j 2).val + (j 3).val))) := by
  have h2 : (j 2).val < 2 := (j 2).isLt
  rw [val_main_v39_apply, val_main_v18_apply]
  refine proj_at x0 x1 x2 _ (by omega) b s _ ?_ ?_ ?_
  · show ((((j 0).val * 4096 + (j 1).val) * 2 + (j 2).val) * 64 + (j 3).val) / 524288 = b.val; omega
  · show ((((j 0).val * 4096 + (j 1).val) * 2 + (j 2).val) * 64 + (j 3).val) / 128 % 4096 = s.val; omega
  · show 1024 + ((((j 0).val * 4096 + (j 1).val) * 2 + (j 2).val) * 64 + (j 3).val) % 128 = _; omega

theorem kwin_at (b : Fin 16) (s : Fin 4096) (n : Fin 256) : val_main_v62 (F := Ideal) x0 x1 x2 (ix3 b s n) = row x0 x1 b s (slot (wt x2) 1024 64 n.val) := by
  have hy := kwin_heads x0 x1 x2 b s
  rw [val_main_v62_apply, val_main_v41_apply]
  unfold val_main_v40
  generalize val_main_v39 (F := Ideal) x0 x1 x2 = y at hy ⊢
  pointwise [val_main_call1_v0, val_main_c_6]
  refine dite_slot id _ _ _ 1024 64 n.val _ _ (by omega) zero_eq fun h => (hy _ ?_ ?_ ?_).trans ?_
  · show ((b.val * 4096 + s.val) * 256 + n.val) / 1048576 = b.val; omega
  · show ((b.val * 4096 + s.val) * 256 + n.val) / 256 % 4096 = s.val; omega
  · show ((b.val * 4096 + s.val) * 256 + n.val) % 128 < 64; omega
  · show row x0 x1 b s (colN (wt x2) (1024 + (64 * (((b.val * 4096 + s.val) * 256 + n.val) / 128 % 2) + ((b.val * 4096 + s.val) * 256 + n.val) % 128))) = _
    congr 2
    omega

theorem q_heads (b : Fin 16) (s : Fin 4096) (j : S16x4096x8x64.Idx) (h0 : (j 0).val = b.val) (h1 : (j 1).val = s.val) (h3 : (j 3).val < 64) :
    val_main_v36 (F := Ideal) x0 x1 x2 j = row x0 x1 b s (colN (wt x2) (0 + (64 * (j 2).val + (j 3).val))) * qscale := by
  have h2 : (j 2).val < 8 := (j 2).isLt
  rw [val_main_v36_apply, val_main_v35_apply, val_main_v31_apply, val_main_v14_apply, proj_at x0 x1 x2 (0 + (64 * (j 2).val + (j 3).val)) (by omega) b s,
    val_main_v30_apply, val_main_v34_apply, val_main_v33_apply, val_main_v32_apply]
  · exact scale_eq _
  · show ((((j 0).val * 4096 + (j 1).val) * 8 + (j 2).val) * 64 + (j 3).val) / 2097152 = b.val; omega
  · show ((((j 0).val * 4096 + (j 1).val) * 8 + (j 2).val) * 64 + (j 3).val) / 512 % 4096 = s.val; omega
  · show ((((j 0).val * 4096 + (j 1).val) * 8 + (j 2).val) * 64 + (j 3).val) % 512 = _; omega

theorem q_at (b : Fin 16) (s : Fin 4096) (n : Fin 1024) : val_main_v60 (F := Ideal) x0 x1 x2 (ix3 b s n) = row x0 x1 b s (slot (wt x2) 0 64 n.val) * qscale := by
  have hy := q_heads x0 x1 x2 b s
  rw [val_main_v60_apply, val_main_v38_apply]
  unfold val_main_v37
  generalize val_main_v36 (F := Ideal) x0 x1 x2 = y at hy ⊢
  pointwise [val_main_call0_v0, val_main_c]
  refine dite_slot (· * qscale) _ _ _ 0 64 n.val _ _ (by omega) (zero_eq.trans (zero_mul _).symm) fun h => (hy _ ?_ ?_ ?_).trans ?_
  · show ((b.val * 4096 + s.val) * 1024 + n.val) / 4194304 = b.val; omega
  · show ((b.val * 4096 + s.val) * 1024 + n.val) / 1024 % 4096 = s.val; omega
  · show ((b.val * 4096 + s.val) * 1024 + n.val) % 128 < 64; omega
  · show row x0 x1 b s (colN (wt x2) (0 + (64 * (((b.val * 4096 + s.val) * 1024 + n.val) / 128 % 8) + ((b.val * 4096 + s.val) * 1024 + n.val) % 128))) * qscale = _
    congr 3
    omega

theorem gate_heads (b : Fin 16) (s : Fin 4096) (j : S16x4096x2x12.Idx) (h0 : (j 0).val = b.val) (h1 : (j 1).val = s.val) (h3 : (j 3).val < 12) :
    val_main_v42 (F := Ideal) x0 x1 x2 j = row x0 x1 b s (colN (wt x2) (1280 + (12 * (j 2).val + (j 3).val))) := by
  have h2 : (j 2).val < 2 := (j 2).isLt
  rw [val_main_v42_apply, val_main_v20_apply]
  refine proj_at x0 x1 x2 _ (by omega) b s _ ?_ ?_ ?_
  · show ((((j 0).val * 4096 + (j 1).val) * 2 + (j 2).val) * 12 + (j 3).val) / 98304 = b.val; omega
  · show ((((j 0).val * 4096 + (j 1).val) * 2 + (j 2).val) * 12 + (j 3).val) / 24 % 4096 = s.val; omega
  · show 1280 + ((((j 0).val * 4096 + (j 1).val) * 2 + (j 2).val) * 12 + (j 3).val) % 24 = _; omega

theorem gate_slots (b : Fin 16) (s : Fin 4096) (n : Fin 256) : val_main_v44 (F := Ideal) x0 x1 x2 (ix3 b s n) = row x0 x1 b s (slot (wt x2) 1280 12 n.val) := by
  have hy := gate_heads x0 x1 x2 b s
  rw [val_main_v44_apply]
  unfold val_main_v43
  generalize val_main_v42 (F := Ideal) x0 x1 x2 = y at hy ⊢
  pointwise [val_main_call2_v0, val_main_c_7]
  refine dite_slot id _ _ _ 1280 12 n.val _ _ (by omega) zero_eq fun h => (hy _ ?_ ?_ ?_).trans ?_
  · show ((b.val * 4096 + s.val) * 256 + n.val) / 1048576 = b.val; omega
  · show ((b.val * 4096 + s.val) * 256 + n.val) / 256 % 4096 = s.val; omega
  · show ((b.val * 4096 + s.val) * 256 + n.val) % 128 < 12; omega
  · show row x0 x1 b s (colN (wt x2) (1280 + (12 * (((b.val * 4096 + s.val) * 256 + n.val) / 128 % 2) + ((b.val * 4096 + s.val) * 256 + n.val) % 128))) = _
    congr 2
    omega

theorem gate_at (b : Fin 16) (s : Fin 4096) (n : Fin 256) : val_main_v50 (F := Ideal) x0 x1 x2 (ix3 b s n) = logi (row x0 x1 b s (slot (wt x2) 1280 12 n.val)) := by
  rw [val_main_v50_apply, val_main_v48_apply, val_main_v46_apply, val_main_v45_apply, gate_slots, val_main_v49_apply, val_main_v47_apply]
  unfold logi
  rw [← one_eq]
  rfl

theorem vsel_heads (b : Fin 16) (s : Fin 4096) (j : S16x4096x2x64.Idx) (h0 : (j 0).val = b.val) (h1 : (j 1).val = s.val) (h3 : (j 3).val < 64) :
    val_main_v52 (F := Ideal) x0 x1 x2 j = row x0 x1 b s (colN (wt x2) (896 + (64 * (j 2).val + (j 3).val))) := by
  have h2 : (j 2).val < 2 := (j 2).isLt
  rw [val_main_v52_apply, val_main_v17_apply]
  refine proj_at x0 x1 x2 _ (by omega) b s _ ?_ ?_ ?_
  · show ((((j 0).val * 4096 + (j 1).val) * 2 + (j 2).val) * 64 + (j 3).val) / 524288 = b.val; omega
  · show ((((j 0).val * 4096 + (j 1).val) * 2 + (j 2).val) * 64 + (j 3).val) / 128 % 4096 = s.val; omega
  · show 896 + ((((j 0).val * 4096 + (j 1).val) * 2 + (j 2).val) * 64 + (j 3).val) % 128 = _; omega

theorem vsel_at (b : Fin 16) (s : Fin 4096) (n : Fin 256) :
    val_main_v61 (F := Ideal) x0 x1 x2 (ix3 b s n) = if n.val % 128 = 64 then 1 else row x0 x1 b s (slot (wt x2) 896 64 n.val) := by
  have hy := vsel_heads x0 x1 x2 b s
  rw [val_main_v61_apply, val_main_v55_apply]
  unfold val_main_v54 val_main_v53
  generalize val_main_v52 (F := Ideal) x0 x1 x2 = y at hy ⊢
  pointwise [val_main_call3_v0, val_main_c_11, val_main_v51, val_main_cst_10]
  refine dite_ones _ _ _ 896 n.val _ _ (by omega) (by omega) zero_eq fun h h' => (hy _ ?_ ?_ ?_).trans ?_
  · show ((b.val * 4096 + s.val) * 256 + n.val) / 1048576 = b.val; omega
  · show ((b.val * 4096 + s.val) * 256 + n.val) / 256 % 4096 = s.val; omega
  · show ((b.val * 4096 + s.val) * 256 + n.val) % 128 < 64; omega
  · show row x0 x1 b s (colN (wt x2) (896 + (64 * (((b.val * 4096 + s.val) * 256 + n.val) / 128 % 2) + ((b.val * 4096 + s.val) * 256 + n.val) % 128))) = _
    congr 2
    omega

theorem vwin_heads (b : Fin 16) (s : Fin 4096) (j : S16x4096x2x64.Idx) (h0 : (j 0).val = b.val) (h1 : (j 1).val = s.val) (h3 : (j 3).val < 64) :
    val_main_v56 (F := Ideal) x0 x1 x2 j = row x0 x1 b s (colN (wt x2) (1152 + (64 * (j 2).val + (j 3).val))) := by
  have h2 : (j 2).val < 2 := (j 2).isLt
  rw [val_main_v56_apply, val_main_v19_apply]
  refine proj_at x0 x1 x2 _ (by omega) b s _ ?_ ?_ ?_
  · show ((((j 0).val * 4096 + (j 1).val) * 2 + (j 2).val) * 64 + (j 3).val) / 524288 = b.val; omega
  · show ((((j 0).val * 4096 + (j 1).val) * 2 + (j 2).val) * 64 + (j 3).val) / 128 % 4096 = s.val; omega
  · show 1152 + ((((j 0).val * 4096 + (j 1).val) * 2 + (j 2).val) * 64 + (j 3).val) % 128 = _; omega

theorem vwin_at (b : Fin 16) (s : Fin 4096) (n : Fin 256) :
    val_main_v63 (F := Ideal) x0 x1 x2 (ix3 b s n) = if n.val % 128 = 64 then 1 else row x0 x1 b s (slot (wt x2) 1152 64 n.val) := by
  have hy := vwin_heads x0 x1 x2 b s
  rw [val_main_v63_apply, val_main_v59_apply]
  unfold val_main_v58 val_main_v57
  generalize val_main_v56 (F := Ideal) x0 x1 x2 = y at hy ⊢
  pointwise [val_main_call4_v0, val_main_c_12, val_main_v51, val_main_cst_10]
  refine dite_ones _ _ _ 1152 n.val _ _ (by omega) (by omega) zero_eq fun h h' => (hy _ ?_ ?_ ?_).trans ?_
  · show ((b.val * 4096 + s.val) * 256 + n.val) / 1048576 = b.val; omega
  · show ((b.val * 4096 + s.val) * 256 + n.val) / 256 % 4096 = s.val; omega
  · show ((b.val * 4096 + s.val) * 256 + n.val) % 128 < 64; omega
  · show row x0 x1 b s (colN (wt x2) (1152 + (64 * (((b.val * 4096 + s.val) * 256 + n.val) / 128 % 2) + ((b.val * 4096 + s.val) * 256 + n.val) % 128))) = _
    congr 2
    omega

end Cert.Reference7Ideal.EvenRef
end
end
-- ==== Proof.EvenPay.lean ====
/- The input projection of the even layers: each stored block over extended reals, at an index. -/
module

public import proofs.«01_k».proof.Proof.EvenRef
public import proofs.«01_k».proof.Proof.Gen.Kernel7Ideal.Frame

@[expose] public section
set_option maxRecDepth 16384
noncomputable section
namespace Cert.Kernel7Ideal.EvenBody
open Cert.Kernel7Ideal Cert.Kernel7Ideal.Gen Idealize.ShloMosaic Idealize.ShloMosaic.TcCoe Idealize.SL.Sem Cert.FfnSpec Cert.OddSpec Cert.EvenSpec

theorem named_qscale : Named.named (F := Ideal) Cert.Kernel7Ideal.κ "qscale" (φ := .f32) 0x3E38AA3B#32 = qscale :=
  IdealRules.named_const.ideal_named_scalar _ _ _ _ rfl

/-- A row of the block times a vector. -/
abbrev dotRow (x0 : Vec Ideal S1x512x1024 .f32) (x1 : Vec Ideal S1x1024 .f32) (r : Fin 512) (f : Fin 1024 → EReal) : EReal :=
  dotN (fun j => x0 (ix3 0 r j)) (fun j => x1 (ix2 0 j)) f

variable (x0 : Vec Ideal S1x512x1024 .f32) (x1 : Vec Ideal S1x1024 .f32) (x2 : Vec Ideal S1024x3584 .bf16) (i : grid0.Coords) (r : Fin 512)

theorem norm_apply (k : Fin 1024) : k0_pay4 (F := Ideal) x0 x1 (ix2 r k) = rms (fun j => x0 (ix3 0 r j)) (fun j => x1 (ix2 0 j)) k := by
  pointwise [k0_pay4]
  rfl

/-- The lane within its slot. -/
theorem lane_apply (n : Fin 256) : (Scalar.cmpi .eq (k0_pay8 (ix2 r n)) 64#32 = 1#1) ↔ n.val % 128 = 64 := by
  pointwise [k0_pay8]
  revert n
  decide +kernel

theorem q_pay (w : Vec Ideal S1024x1024 .bf16) (n : Fin 1024) : k0_pay5 (F := Ideal) x0 x1 w (ix3 0 r n) = dotRow x0 x1 r (fun k => w (ix2 k n)) * qscale := by
  pointwise [k0_pay5, dot_S512x1024_S1024x1024_S512x1024_1_0_0_1_n_n, norm_apply, named_qscale]
  rfl
theorem kvc_pay (w : Vec Ideal S1024x256 .bf16) (n : Fin 256) : k0_pay6 (F := Ideal) x0 x1 w (ix3 0 r n) = dotRow x0 x1 r (fun k => w (ix2 k n)) := by
  pointwise [k0_pay6, dot_S512x1024_S1024x256_S512x256_1_0_0_1_n_n, norm_apply]
  rfl
theorem kwin_pay (w : Vec Ideal S1024x256 .bf16) (n : Fin 256) : k0_pay16 (F := Ideal) (k0_pay4 x0 x1) w (ix3 0 r n) = dotRow x0 x1 r (fun k => w (ix2 k n)) := by
  pointwise [k0_pay16, dot_S512x1024_S1024x256_S512x256_1_0_0_1_n_n, norm_apply]
  rfl
theorem gate_pay (w : Vec Ideal S1024x256 .bf16) (n : Fin 256) : k0_pay2 (F := Ideal) (k0_pay4 x0 x1) w (ix3 0 r n) = logi (dotRow x0 x1 r (fun k => w (ix2 k n))) := by
  pointwise [k0_pay2, dot_S512x1024_S1024x256_S512x256_1_0_0_1_n_n, norm_apply]
  rfl
theorem glu_pay (w w' : Vec Ideal S1024x512 .bf16) (n : Fin 512) :
    k0_pay3 (F := Ideal) (k0_pay4 x0 x1) w w' (ix3 0 r n) = dotRow x0 x1 r (fun k => w (ix2 k n)) * logi (dotRow x0 x1 r (fun k => w' (ix2 k n))) := by
  pointwise [k0_pay3, dot_S512x1024_S1024x512_S512x512_1_0_0_1_n_n, norm_apply]
  rfl
theorem vsel_pay (w : Vec Ideal S1024x256 .bf16) (n : Fin 256) :
    k0_pay15 (F := Ideal) (k0_pay4 x0 x1) k0_pay8 w (ix3 0 r n) = if n.val % 128 = 64 then 1 else dotRow x0 x1 r (fun k => w (ix2 k n)) := by
  have h := lane_apply r n
  generalize (k0_pay8 : IVec S512x256 32) = L at h ⊢
  pointwise [k0_pay15, dot_S512x1024_S1024x256_S512x256_1_0_0_1_n_n, norm_apply]
  exact if_congr h rfl rfl
theorem vwin_pay (w : Vec Ideal S1024x256 .bf16) (n : Fin 256) :
    k0_pay1 (F := Ideal) (k0_pay4 x0 x1) (k0_pay17 k0_pay8) w (ix3 0 r n) = if n.val % 128 = 64 then 1 else dotRow x0 x1 r (fun k => w (ix2 k n)) := by
  have h := lane_apply r n
  generalize (k0_pay8 : IVec S512x256 32) = L at h ⊢
  pointwise [k0_pay1, k0_pay17, dot_S512x1024_S1024x256_S512x256_1_0_0_1_n_n, norm_apply]
  exact if_congr h rfl rfl

theorem ld_1024 (o : ℕ) (ho : o + 1024 ≤ 3584) (inb : ∀ a, (![0, o] : Fin 2 → ℕ) a + S1024x1024.size a ≤ S1024x3584.size a) (k : Fin 1024) (n : Fin 1024) :
    View.ld x2 (Rect.unit (s := S1024x3584) ![0, o] S1024x1024.size inb) (ix2 k n) = x2 (ix2 k ⟨o + n.val, by omega⟩) := by
  refine congrArg x2 (funext fun a => Fin.ext ?_)
  match a with
  | ⟨0, _⟩ => show 0 + 1 * k.val = k.val; omega
  | ⟨1, _⟩ => show o + 1 * n.val = o + n.val; omega
theorem ld_256 (o : ℕ) (ho : o + 256 ≤ 3584) (inb : ∀ a, (![0, o] : Fin 2 → ℕ) a + S1024x256.size a ≤ S1024x3584.size a) (k : Fin 1024) (n : Fin 256) :
    View.ld x2 (Rect.unit (s := S1024x3584) ![0, o] S1024x256.size inb) (ix2 k n) = x2 (ix2 k ⟨o + n.val, by omega⟩) := by
  refine congrArg x2 (funext fun a => Fin.ext ?_)
  match a with
  | ⟨0, _⟩ => show 0 + 1 * k.val = k.val; omega
  | ⟨1, _⟩ => show o + 1 * n.val = o + n.val; omega
theorem ld_512 (o : ℕ) (ho : o + 512 ≤ 3584) (inb : ∀ a, (![0, o] : Fin 2 → ℕ) a + S1024x512.size a ≤ S1024x3584.size a) (k : Fin 1024) (n : Fin 512) :
    View.ld x2 (Rect.unit (s := S1024x3584) ![0, o] S1024x512.size inb) (ix2 k n) = x2 (ix2 k ⟨o + n.val, by omega⟩) := by
  refine congrArg x2 (funext fun a => Fin.ext ?_)
  match a with
  | ⟨0, _⟩ => show 0 + 1 * k.val = k.val; omega
  | ⟨1, _⟩ => show o + 1 * n.val = o + n.val; omega

theorem z2 : ![0, 0] = (fun _ : Fin 2 => 0) := by funext a; fin_cases a <;> rfl
theorem z3 : ![0, 0, 0] = (fun _ : Fin 3 => 0) := by funext a; fin_cases a <;> rfl
theorem ld_x : View.ld x0 r0_0 = x0 := View.ld_unit_zero z3 _ x0
theorem ld_g : View.ld x1 r0_1 = x1 := View.ld_unit_zero z2 _ x1
theorem norm_ld : k0_pay18 (F := Ideal) i x0 x1 x2 = k0_pay4 x0 x1 := by unfold k0_pay18; rw [ld_x, ld_g]

/-- The columns of the block's weight from an offset on. -/
abbrev cols (o : ℕ) (n : ℕ) (h : o + n < 3584) (k : Fin 1024) : EReal := x2 (ix2 k ⟨o + n, h⟩)

theorem q_out (n : Fin 1024) : out0_3 (F := Ideal) i x0 x1 x2 (ix3 0 r n) = dotRow x0 x1 r (cols x2 0 n.val (by omega)) * qscale := by
  have e : out0_3 (F := Ideal) i x0 x1 x2 = k0_pay5 x0 x1 (View.ld x2 r0_2) := by
    unfold out0_3
    rw [ld_x, ld_g]
    exact View.canon_cons_unit_zero z3 _ _ []
  rw [e, q_pay]
  simp only [fun k => ld_1024 x2 0 (by omega) inb_S1024x3584_S1024x1024_0_0 k n]
theorem kvc_out (n : Fin 256) : out0_4 (F := Ideal) i x0 x1 x2 (ix3 0 r n) = dotRow x0 x1 r (cols x2 1024 n.val (by omega)) := by
  have e : out0_4 (F := Ideal) i x0 x1 x2 = k0_pay6 x0 x1 (View.ld x2 r0_3) := by
    unfold out0_4
    rw [ld_x, ld_g]
    exact View.canon_cons_unit_zero z3 _ _ []
  rw [e, kvc_pay]
  simp only [fun k => ld_256 x2 1024 (by omega) inb_S1024x3584_S1024x256_0_1024 k n]
theorem vsel_out (n : Fin 256) : out0_6 (F := Ideal) i x0 x1 x2 (ix3 0 r n) = if n.val % 128 = 64 then 1 else dotRow x0 x1 r (cols x2 1536 n.val (by omega)) := by
  have e : out0_6 (F := Ideal) i x0 x1 x2 = k0_pay15 (k0_pay4 x0 x1) k0_pay8 (View.ld x2 r0_6) := by
    unfold out0_6
    rw [norm_ld]
    exact View.canon_cons_unit_zero z3 _ _ []
  rw [e, vsel_pay]
  simp only [fun k => ld_256 x2 1536 (by omega) inb_S1024x3584_S1024x256_0_1536 k n]
theorem kwin_out (n : Fin 256) : out0_7 (F := Ideal) i x0 x1 x2 (ix3 0 r n) = dotRow x0 x1 r (cols x2 1792 n.val (by omega)) := by
  have e : out0_7 (F := Ideal) i x0 x1 x2 = k0_pay16 (k0_pay4 x0 x1) (View.ld x2 r0_7) := by
    unfold out0_7
    rw [norm_ld]
    exact View.canon_cons_unit_zero z3 _ _ []
  rw [e, kwin_pay]
  simp only [fun k => ld_256 x2 1792 (by omega) inb_S1024x3584_S1024x256_0_1792 k n]
theorem vwin_out (n : Fin 256) : out0_8 (F := Ideal) i x0 x1 x2 (ix3 0 r n) = if n.val % 128 = 64 then 1 else dotRow x0 x1 r (cols x2 2048 n.val (by omega)) := by
  have e : out0_8 (F := Ideal) i x0 x1 x2 = k0_pay1 (k0_pay4 x0 x1) (k0_pay17 k0_pay8) (View.ld x2 r0_8) := by
    unfold out0_8
    rw [norm_ld]
    exact View.canon_cons_unit_zero z3 _ _ []
  rw [e, vwin_pay]
  simp only [fun k => ld_256 x2 2048 (by omega) inb_S1024x3584_S1024x256_0_2048 k n]
theorem gate_out (n : Fin 256) : out0_9 (F := Ideal) i x0 x1 x2 (ix3 0 r n) = logi (dotRow x0 x1 r (cols x2 2304 n.val (by omega))) := by
  have e : out0_9 (F := Ideal) i x0 x1 x2 = k0_pay2 (k0_pay4 x0 x1) (View.ld x2 r0_9) := by
    unfold out0_9
    rw [norm_ld]
    exact View.canon_cons_unit_zero z3 _ _ []
  rw [e, gate_pay]
  simp only [fun k => ld_256 x2 2304 (by omega) inb_S1024x3584_S1024x256_0_2304 k n]
theorem glu_out (n : Fin 512) : out0_10 (F := Ideal) i x0 x1 x2 (ix3 0 r n) = dotRow x0 x1 r (cols x2 2560 n.val (by omega)) * logi (dotRow x0 x1 r (cols x2 3072 n.val (by omega))) := by
  have e : out0_10 (F := Ideal) i x0 x1 x2 = k0_pay3 (k0_pay4 x0 x1) (View.ld x2 r0_10) (View.ld x2 r0_11) := by
    unfold out0_10
    rw [norm_ld]
    exact View.canon_cons_unit_zero z3 _ _ []
  rw [e, glu_pay]
  simp only [fun k => ld_512 x2 2560 (by omega) inb_S1024x3584_S1024x512_0_2560 k n, fun k => ld_512 x2 3072 (by omega) inb_S1024x3584_S1024x512_0_3072 k n]

end Cert.Kernel7Ideal.EvenBody
end
end
-- ==== Proof.EvenHost.lean ====
/- The input projection of the even layers: the weight that the host code lays out, at an index. -/
module

public import proofs.«01_k».proof.Proof.EvenRef
public import proofs.«01_k».proof.Proof.Gen.Kernel7Ideal.Value
public import Idealize.ShloMosaic.Lib.StableHlo.ReadAt

@[expose] public section
set_option maxRecDepth 16384
noncomputable section
namespace Cert.Kernel7Ideal.EvenBody
open Cert.Kernel7Ideal Cert.Kernel7Ideal.Gen Idealize.ShloMosaic Idealize.ShloMosaic.TcCoe Idealize.SL.Sem Cert.FfnSpec Cert.EvenSpec
variable (m : (l : Loc nD τ sig) → Buf (Elt Ideal) l)
def aW (c : Dev nD) (k : Fin 1024) (n : Fin 2328) : EReal := m (c, Proc.tc.devRef main_arg2) (ix2 k n)

/-- A column of the argument. -/
theorem at_col (c : Dev nD) (k : Fin 1024) (n : ℕ) (j : Fin 2328) (h : n = j.val) : colN (aW m c) n k = m (c, Proc.tc.devRef main_arg2) (ix2 k j) := by
  subst h
  exact dif_pos j.isLt

/-- Each part of the laid-out weight. -/
theorem q_col (c : Dev nD) (k : Fin 1024) (n : Fin 1024) : V m c main_v28 (ix2 k ⟨0 + n.val, by omega⟩) = slot (aW m c) 0 64 n.val k := by
  unfold V
  after_reads_at
  after_reads_at
  refine dite_col (aW m c) 0 64 n.val k _ _ (by omega) zero_eq fun h => (at_col m c k _ _ ?_).symm
  dsimp only
  omega
theorem kvc_col (c : Dev nD) (k : Fin 1024) (n : Fin 256) : V m c main_v28 (ix2 k ⟨1024 + n.val, by omega⟩) = colN (aW m c) (512 + n.val) k := by
  unfold V
  after_reads_at
  after_reads_at
  refine (at_col m c k _ _ rfl).symm
theorem vsel_col (c : Dev nD) (k : Fin 1024) (n : Fin 256) : V m c main_v28 (ix2 k ⟨1536 + n.val, by omega⟩) = slot (aW m c) 896 64 n.val k := by
  unfold V
  after_reads_at
  rw [dif_neg (by omega), dif_neg (by omega), dif_neg (by omega), dif_pos (by omega)]
  after_reads_at
  refine dite_col (aW m c) 896 64 n.val k _ _ (by omega) zero_eq fun h => (at_col m c k _ _ ?_).symm
  dsimp only
  omega
theorem kwin_col (c : Dev nD) (k : Fin 1024) (n : Fin 256) : V m c main_v28 (ix2 k ⟨1792 + n.val, by omega⟩) = slot (aW m c) 1024 64 n.val k := by
  unfold V
  after_reads_at
  rw [dif_neg (by omega), dif_neg (by omega), dif_neg (by omega), dif_neg (by omega), dif_pos (by omega)]
  after_reads_at
  refine dite_col (aW m c) 1024 64 n.val k _ _ (by omega) zero_eq fun h => (at_col m c k _ _ ?_).symm
  dsimp only
  omega
theorem vwin_col (c : Dev nD) (k : Fin 1024) (n : Fin 256) : V m c main_v28 (ix2 k ⟨2048 + n.val, by omega⟩) = slot (aW m c) 1152 64 n.val k := by
  unfold V
  after_reads_at
  rw [dif_neg (by omega), dif_neg (by omega), dif_neg (by omega), dif_neg (by omega), dif_neg (by omega), dif_pos (by omega)]
  after_reads_at
  refine dite_col (aW m c) 1152 64 n.val k _ _ (by omega) zero_eq fun h => (at_col m c k _ _ ?_).symm
  dsimp only
  omega
theorem gate_col (c : Dev nD) (k : Fin 1024) (n : Fin 256) : V m c main_v28 (ix2 k ⟨2304 + n.val, by omega⟩) = slot (aW m c) 1280 12 n.val k := by
  unfold V
  after_reads_at
  rw [dif_neg (by omega), dif_neg (by omega), dif_neg (by omega), dif_neg (by omega), dif_neg (by omega), dif_neg (by omega), dif_pos (by omega)]
  after_reads_at
  refine dite_col (aW m c) 1280 12 n.val k _ _ (by omega) zero_eq fun h => (at_col m c k _ _ ?_).symm
  dsimp only
  omega
set_option maxHeartbeats 2000000 in
theorem glu_col (c : Dev nD) (k : Fin 1024) (n : Fin 1024) : V m c main_v28 (ix2 k ⟨2560 + n.val, by omega⟩) = colN (aW m c) (1304 + n.val) k := by
  unfold V
  after_reads_at
  rw [dif_neg (by omega), dif_neg (by omega), dif_neg (by omega), dif_neg (by omega), dif_neg (by omega), dif_neg (by omega), dif_neg (by omega)]
  after_reads_at
  refine (at_col m c k _ _ ?_).symm
  dsimp only
  omega
end Cert.Kernel7Ideal.EvenBody
end
end
-- ==== Proof.EvenResult.lean ====
/- The input projection of the even layers: each array at an index is the projection's formula there. -/
module

public import proofs.«01_k».proof.Proof.EvenPay
public import proofs.«01_k».proof.Proof.EvenHost

@[expose] public section
set_option maxRecDepth 16384
noncomputable section
namespace Cert.Kernel7Ideal.EvenBody
open Cert.Kernel7Ideal Cert.Kernel7Ideal.Gen Idealize.ShloMosaic Idealize.ShloMosaic.TcCoe Idealize.SL.Sem Cert.FfnSpec Cert.OddSpec Cert.EvenSpec

variable (m : (l : Loc nD τ sig) → Buf (Elt Ideal) l)

def aX (c : Dev nD) (b : Fin 16) (s : Fin 4096) (k : Fin 1024) : EReal := m (c, Proc.tc.devRef main_arg0) (ix3 b s k)
def aG (c : Dev nD) (k : Fin 1024) : EReal := m (c, Proc.tc.devRef main_arg1) (ix1 k)

/-- A row of the argument times a vector. -/
abbrev row (c : Dev nD) (b : Fin 16) (s : Fin 4096) (f : Fin 1024 → EReal) : EReal := dotN (aX m c b s) (aG m c) f

theorem V0_at (c : Dev nD) (k : Fin 1024) : V m c main_v0 (ix2 0 k) = aG m c k := by
  unfold V; after_reads_at; rfl

theorem glu_gate_col (c : Dev nD) (k : Fin 1024) (n : Fin 512) : V m c main_v28 (ix2 k ⟨3072 + n.val, by omega⟩) = colN (aW m c) (1816 + n.val) k := by
  have e : (⟨3072 + n.val, by omega⟩ : Fin 3584) = ⟨2560 + (⟨512 + n.val, by omega⟩ : Fin 1024).val, by dsimp only; omega⟩ := Fin.ext (by dsimp only; omega)
  rw [e, glu_col]
  congr 1
  dsimp only
  omega

theorem lt128 (t : Fin cfg0.N) : t.val < 128 := lt_of_lt_of_eq t.isLt N_0

theorem idx0 : ∀ t : Fin grid0.N, win0_0.index t (0 : Fin 3) = t.val / 8 ∧ win0_0.index t (1 : Fin 3) = t.val % 8 ∧ win0_0.index t (2 : Fin 3) = 0 := by decide +kernel
theorem idx3 : ∀ t : Fin grid0.N, win0_3.index t (0 : Fin 3) = t.val / 8 ∧ win0_3.index t (1 : Fin 3) = t.val % 8 ∧ win0_3.index t (2 : Fin 3) = 0 := by decide +kernel
theorem idx4 : ∀ t : Fin grid0.N, win0_4.index t (0 : Fin 3) = t.val / 8 ∧ win0_4.index t (1 : Fin 3) = t.val % 8 ∧ win0_4.index t (2 : Fin 3) = 0 := by decide +kernel
theorem idx6 : ∀ t : Fin grid0.N, win0_6.index t (0 : Fin 3) = t.val / 8 ∧ win0_6.index t (1 : Fin 3) = t.val % 8 ∧ win0_6.index t (2 : Fin 3) = 0 := by decide +kernel
theorem idx7 : ∀ t : Fin grid0.N, win0_7.index t (0 : Fin 3) = t.val / 8 ∧ win0_7.index t (1 : Fin 3) = t.val % 8 ∧ win0_7.index t (2 : Fin 3) = 0 := by decide +kernel
theorem idx8 : ∀ t : Fin grid0.N, win0_8.index t (0 : Fin 3) = t.val / 8 ∧ win0_8.index t (1 : Fin 3) = t.val % 8 ∧ win0_8.index t (2 : Fin 3) = 0 := by decide +kernel
theorem idx9 : ∀ t : Fin grid0.N, win0_9.index t (0 : Fin 3) = t.val / 8 ∧ win0_9.index t (1 : Fin 3) = t.val % 8 ∧ win0_9.index t (2 : Fin 3) = 0 := by decide +kernel
theorem idx10 : ∀ t : Fin grid0.N, win0_10.index t (0 : Fin 3) = t.val / 8 ∧ win0_10.index t (1 : Fin 3) = t.val % 8 ∧ win0_10.index t (2 : Fin 3) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = 0 ∧ win0_2.index t (1 : Fin 2) = 0 := by decide +kernel
theorem flush : ∀ t : Fin cfg0.N, (cfg0.win 3).flush t = true ∧ (cfg0.win 4).flush t = true ∧ (cfg0.win 6).flush t = true ∧ (cfg0.win 7).flush t = true ∧ (cfg0.win 8).flush t = true ∧ (cfg0.win 9).flush t = true ∧ (cfg0.win 10).flush t = true := by decide +kernel

theorem blk0 (c : Dev nD) (t : Fin cfg0.N) (r : Fin 512) (n : Fin 1024) :
    iblk m c 0 t (ix3 0 r n) = aX m c ⟨t.val / 8, by have := lt128 t; omega⟩ ⟨512 * (t.val % 8) + r.val, by omega⟩ n := by
  unfold iblk aX
  rw [View.read_apply]
  show V m c main_arg0 _ = _
  rw [V_main_arg0]
  congr 1
  funext a
  apply Fin.ext
  match a with
  | ⟨0, _⟩ => show win0_0.index t 0 * 1 + 1 * 0 = t.val / 8; rw [(idx0 t).1]; omega
  | ⟨1, _⟩ => show win0_0.index t 1 * 512 + 1 * r.val = 512 * (t.val % 8) + r.val; rw [(idx0 t).2.1]; omega
  | ⟨2, _⟩ => show win0_0.index t 2 * 1024 + 1 * n.val = n.val; rw [(idx0 t).2.2]; omega

theorem blk1 (c : Dev nD) (t : Fin cfg0.N) (k : Fin 1024) : iblk m c 1 t (ix2 0 k) = aG m c k := by
  rw [← V0_at]
  unfold iblk
  rw [View.read_apply]
  show V m c main_v0 _ = _
  congr 1
  funext a
  apply Fin.ext
  match a with
  | ⟨0, _⟩ => show win0_1.index t 0 * 1 + 1 * 0 = 0; rw [(idx1 t).1]
  | ⟨1, _⟩ => show win0_1.index t 1 * 1024 + 1 * k.val = k.val; rw [(idx1 t).2]; omega

theorem blk2 (c : Dev nD) (t : Fin cfg0.N) (k : Fin 1024) (n : Fin 3584) : iblk m c 2 t (ix2 k n) = V m c main_v28 (ix2 k n) := by
  unfold iblk
  rw [View.read_apply]
  show V m c main_v28 _ = _
  congr 1
  funext a
  apply Fin.ext
  match a with
  | ⟨0, _⟩ => show win0_2.index t 0 * 1024 + 1 * k.val = k.val; rw [(idx2 t).1]; omega
  | ⟨1, _⟩ => show win0_2.index t 1 * 3584 + 1 * n.val = n.val; rw [(idx2 t).2]; omega

/-- A point's row times a column of the laid-out weight. -/
theorem dot_at (c : Dev nD) (t : Fin cfg0.N) (b : Fin 16) (s : Fin 4096) (r : Fin 512) (hb : t.val / 8 = b.val) (hs : 512 * (t.val % 8) + r.val = s.val)
    (o n : ℕ) (h : o + n < 3584) (f : Fin 1024 → EReal) (hf : ∀ k, V m c main_v28 (ix2 k ⟨o + n, h⟩) = f k) :
    dotRow (iblk m c 0 t) (iblk m c 1 t) r (cols (iblk m c 2 t) o n h) = row m c b s f := by
  have eb : (⟨t.val / 8, by have := lt128 t; omega⟩ : Fin 16) = b := Fin.ext hb
  have es : (⟨512 * (t.val % 8) + r.val, by omega⟩ : Fin 4096) = s := Fin.ext hs
  have ef : f = fun k => V m c main_v28 (ix2 k ⟨o + n, h⟩) := funext fun k => (hf k).symm
  subst ef
  show dotN (fun j => iblk m c 0 t (ix3 0 r j)) (fun j => iblk m c 1 t (ix2 0 j)) (fun k => iblk m c 2 t (ix2 k ⟨o + n, h⟩)) = _
  simp only [blk0, blk1, blk2, eb, es]

/-- The point whose block holds a row of a batch, rows taken `k` to a block. -/
theorem point (b : Fin 16) (q : ℕ) (hq : q < 8) : ∃ t : Fin cfg0.N, t.val = 8 * b.val + q :=
  ⟨⟨8 * b.val + q, by show _ < grid0.N; rw [N_0]; omega⟩, rfl⟩

theorem q_result (c : Dev nD) (b : Fin 16) (s : Fin 4096) (n : Fin 1024) : (dats m 0 c).arrAt 3 cfg0.N (ix3 b s n) = row m c b s (slot (aW m c) 0 64 n.val) * qscale := by
  obtain ⟨t, ht⟩ := point b (s.val / 512) (by omega)
  have e := congrFun (Cert.Kernel7Ideal.Value.blocks3 m c t (flush t).1) (ix3 0 ⟨s.val % 512, by omega⟩ n)
  rw [View.read_apply, Cert.Kernel7Ideal.Value.flushed3] at e
  have e' := q_out (iblk m c 0 t) (iblk m c 1 t) (iblk m c 2 t) (grid0.coords t) ⟨s.val % 512, by omega⟩ n
  rw [dot_at m c t b s ⟨s.val % 512, by omega⟩ (by omega) (by show 512 * (t.val % 8) + s.val % 512 = s.val; omega) _ _ _ _ (fun k => q_col m c k n)] at e'
  refine Eq.trans ?_ (e.trans e')
  refine congrArg ((dats m 0 c).arrAt 3 cfg0.N) (funext fun a => Fin.ext ?_)
  match a with
  | ⟨0, _⟩ => show b.val = win0_3.index t 0 * 1 + 1 * 0; rw [(idx3 t).1]; omega
  | ⟨1, _⟩ => show s.val = win0_3.index t 1 * 512 + 1 * (s.val % 512); rw [(idx3 t).2.1]; omega
  | ⟨2, _⟩ => show n.val = win0_3.index t 2 * 1024 + 1 * n.val; rw [(idx3 t).2.2]; omega
theorem kvc_result (c : Dev nD) (b : Fin 16) (s : Fin 4096) (n : Fin 256) : (dats m 0 c).arrAt 4 cfg0.N (ix3 b s n) = row m c b s (colN (aW m c) (512 + n.val)) := by
  obtain ⟨t, ht⟩ := point b (s.val / 512) (by omega)
  have e := congrFun (Cert.Kernel7Ideal.Value.blocks4 m c t (flush t).2.1) (ix3 0 ⟨s.val % 512, by omega⟩ n)
  rw [View.read_apply, Cert.Kernel7Ideal.Value.flushed4] at e
  have e' := kvc_out (iblk m c 0 t) (iblk m c 1 t) (iblk m c 2 t) (grid0.coords t) ⟨s.val % 512, by omega⟩ n
  rw [dot_at m c t b s ⟨s.val % 512, by omega⟩ (by omega) (by show 512 * (t.val % 8) + s.val % 512 = s.val; omega) _ _ _ _ (fun k => kvc_col m c k n)] at e'
  refine Eq.trans ?_ (e.trans e')
  refine congrArg ((dats m 0 c).arrAt 4 cfg0.N) (funext fun a => Fin.ext ?_)
  match a with
  | ⟨0, _⟩ => show b.val = win0_4.index t 0 * 1 + 1 * 0; rw [(idx4 t).1]; omega
  | ⟨1, _⟩ => show s.val = win0_4.index t 1 * 512 + 1 * (s.val % 512); rw [(idx4 t).2.1]; omega
  | ⟨2, _⟩ => show n.val = win0_4.index t 2 * 256 + 1 * n.val; rw [(idx4 t).2.2]; omega
theorem vsel_result (c : Dev nD) (b : Fin 16) (s : Fin 4096) (n : Fin 256) : (dats m 0 c).arrAt 6 cfg0.N (ix3 b s n) = if n.val % 128 = 64 then 1 else row m c b s (slot (aW m c) 896 64 n.val) := by
  obtain ⟨t, ht⟩ := point b (s.val / 512) (by omega)
  have e := congrFun (Cert.Kernel7Ideal.Value.blocks6 m c t (flush t).2.2.1) (ix3 0 ⟨s.val % 512, by omega⟩ n)
  rw [View.read_apply, Cert.Kernel7Ideal.Value.flushed6] at e
  have e' := vsel_out (iblk m c 0 t) (iblk m c 1 t) (iblk m c 2 t) (grid0.coords t) ⟨s.val % 512, by omega⟩ n
  rw [dot_at m c t b s ⟨s.val % 512, by omega⟩ (by omega) (by show 512 * (t.val % 8) + s.val % 512 = s.val; omega) _ _ _ _ (fun k => vsel_col m c k n)] at e'
  refine Eq.trans ?_ (e.trans e')
  refine congrArg ((dats m 0 c).arrAt 6 cfg0.N) (funext fun a => Fin.ext ?_)
  match a with
  | ⟨0, _⟩ => show b.val = win0_6.index t 0 * 1 + 1 * 0; rw [(idx6 t).1]; omega
  | ⟨1, _⟩ => show s.val = win0_6.index t 1 * 512 + 1 * (s.val % 512); rw [(idx6 t).2.1]; omega
  | ⟨2, _⟩ => show n.val = win0_6.index t 2 * 256 + 1 * n.val; rw [(idx6 t).2.2]; omega
theorem kwin_result (c : Dev nD) (b : Fin 16) (s : Fin 4096) (n : Fin 256) : (dats m 0 c).arrAt 7 cfg0.N (ix3 b s n) = row m c b s (slot (aW m c) 1024 64 n.val) := by
  obtain ⟨t, ht⟩ := point b (s.val / 512) (by omega)
  have e := congrFun (Cert.Kernel7Ideal.Value.blocks7 m c t (flush t).2.2.2.1) (ix3 0 ⟨s.val % 512, by omega⟩ n)
  rw [View.read_apply, Cert.Kernel7Ideal.Value.flushed7] at e
  have e' := kwin_out (iblk m c 0 t) (iblk m c 1 t) (iblk m c 2 t) (grid0.coords t) ⟨s.val % 512, by omega⟩ n
  rw [dot_at m c t b s ⟨s.val % 512, by omega⟩ (by omega) (by show 512 * (t.val % 8) + s.val % 512 = s.val; omega) _ _ _ _ (fun k => kwin_col m c k n)] at e'
  refine Eq.trans ?_ (e.trans e')
  refine congrArg ((dats m 0 c).arrAt 7 cfg0.N) (funext fun a => Fin.ext ?_)
  match a with
  | ⟨0, _⟩ => show b.val = win0_7.index t 0 * 1 + 1 * 0; rw [(idx7 t).1]; omega
  | ⟨1, _⟩ => show s.val = win0_7.index t 1 * 512 + 1 * (s.val % 512); rw [(idx7 t).2.1]; omega
  | ⟨2, _⟩ => show n.val = win0_7.index t 2 * 256 + 1 * n.val; rw [(idx7 t).2.2]; omega
theorem vwin_result (c : Dev nD) (b : Fin 16) (s : Fin 4096) (n : Fin 256) : (dats m 0 c).arrAt 8 cfg0.N (ix3 b s n) = if n.val % 128 = 64 then 1 else row m c b s (slot (aW m c) 1152 64 n.val) := by
  obtain ⟨t, ht⟩ := point b (s.val / 512) (by omega)
  have e := congrFun (Cert.Kernel7Ideal.Value.blocks8 m c t (flush t).2.2.2.2.1) (ix3 0 ⟨s.val % 512, by omega⟩ n)
  rw [View.read_apply, Cert.Kernel7Ideal.Value.flushed8] at e
  have e' := vwin_out (iblk m c 0 t) (iblk m c 1 t) (iblk m c 2 t) (grid0.coords t) ⟨s.val % 512, by omega⟩ n
  rw [dot_at m c t b s ⟨s.val % 512, by omega⟩ (by omega) (by show 512 * (t.val % 8) + s.val % 512 = s.val; omega) _ _ _ _ (fun k => vwin_col m c k n)] at e'
  refine Eq.trans ?_ (e.trans e')
  refine congrArg ((dats m 0 c).arrAt 8 cfg0.N) (funext fun a => Fin.ext ?_)
  match a with
  | ⟨0, _⟩ => show b.val = win0_8.index t 0 * 1 + 1 * 0; rw [(idx8 t).1]; omega
  | ⟨1, _⟩ => show s.val = win0_8.index t 1 * 512 + 1 * (s.val % 512); rw [(idx8 t).2.1]; omega
  | ⟨2, _⟩ => show n.val = win0_8.index t 2 * 256 + 1 * n.val; rw [(idx8 t).2.2]; omega
theorem gate_result (c : Dev nD) (b : Fin 16) (s : Fin 4096) (n : Fin 256) : (dats m 0 c).arrAt 9 cfg0.N (ix3 b s n) = logi (row m c b s (slot (aW m c) 1280 12 n.val)) := by
  obtain ⟨t, ht⟩ := point b (s.val / 512) (by omega)
  have e := congrFun (Cert.Kernel7Ideal.Value.blocks9 m c t (flush t).2.2.2.2.2.1) (ix3 0 ⟨s.val % 512, by omega⟩ n)
  rw [View.read_apply, Cert.Kernel7Ideal.Value.flushed9] at e
  have e' := gate_out (iblk m c 0 t) (iblk m c 1 t) (iblk m c 2 t) (grid0.coords t) ⟨s.val % 512, by omega⟩ n
  rw [dot_at m c t b s ⟨s.val % 512, by omega⟩ (by omega) (by show 512 * (t.val % 8) + s.val % 512 = s.val; omega) _ _ _ _ (fun k => gate_col m c k n)] at e'
  refine Eq.trans ?_ (e.trans e')
  refine congrArg ((dats m 0 c).arrAt 9 cfg0.N) (funext fun a => Fin.ext ?_)
  match a with
  | ⟨0, _⟩ => show b.val = win0_9.index t 0 * 1 + 1 * 0; rw [(idx9 t).1]; omega
  | ⟨1, _⟩ => show s.val = win0_9.index t 1 * 512 + 1 * (s.val % 512); rw [(idx9 t).2.1]; omega
  | ⟨2, _⟩ => show n.val = win0_9.index t 2 * 256 + 1 * n.val; rw [(idx9 t).2.2]; omega
theorem glu_result (c : Dev nD) (b : Fin 16) (s : Fin 4096) (n : Fin 512) : (dats m 0 c).arrAt 10 cfg0.N (ix3 b s n) = row m c b s (colN (aW m c) (1304 + n.val)) * logi (row m c b s (colN (aW m c) (1816 + n.val))) := by
  obtain ⟨t, ht⟩ := point b (s.val / 512) (by omega)
  have e := congrFun (Cert.Kernel7Ideal.Value.blocks10 m c t (flush t).2.2.2.2.2.2) (ix3 0 ⟨s.val % 512, by omega⟩ n)
  rw [View.read_apply, Cert.Kernel7Ideal.Value.flushed10] at e
  have e' := glu_out (iblk m c 0 t) (iblk m c 1 t) (iblk m c 2 t) (grid0.coords t) ⟨s.val % 512, by omega⟩ n
  rw [dot_at m c t b s ⟨s.val % 512, by omega⟩ (by omega) (by show 512 * (t.val % 8) + s.val % 512 = s.val; omega) _ _ _ _ (fun k => glu_col m c k ⟨n.val, by omega⟩), dot_at m c t b s ⟨s.val % 512, by omega⟩ (by omega) (by show 512 * (t.val % 8) + s.val % 512 = s.val; omega) _ _ _ _ (fun k => glu_gate_col m c k n)] at e'
  refine Eq.trans ?_ (e.trans e')
  refine congrArg ((dats m 0 c).arrAt 10 cfg0.N) (funext fun a => Fin.ext ?_)
  match a with
  | ⟨0, _⟩ => show b.val = win0_10.index t 0 * 1 + 1 * 0; rw [(idx10 t).1]; omega
  | ⟨1, _⟩ => show s.val = win0_10.index t 1 * 512 + 1 * (s.val % 512); rw [(idx10 t).2.1]; omega
  | ⟨2, _⟩ => show n.val = win0_10.index t 2 * 512 + 1 * n.val; rw [(idx10 t).2.2]; omega

end Cert.Kernel7Ideal.EvenBody
end
end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Point
public import proofs.«01_k».proof.Proof.Sum
public import proofs.«01_k».proof.Proof.RefValue
public import proofs.«01_k».proof.Proof.DiffWhole
public import proofs.«01_k».proof.Proof.DiffFour
public import proofs.«01_k».proof.Proof.DiffFourRef
public import proofs.«01_k».proof.Proof.DiffRef
public import proofs.«01_k».proof.Proof.DiffPre
public import proofs.«01_k».proof.Proof.Out
public import proofs.«01_k».proof.Proof.OddProjRef
public import proofs.«01_k».proof.Proof.OddResult
public import proofs.«01_k».proof.Proof.EvenResult
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v65_eq]
  obtain ⟨a0, a1, a2, a3, a4, a5, a6, a7⟩ := hagree c
  rw [a0, a1, a2, a3, a4, a5, a6, a7]
  funext j
  idx_vars j
  exact (Cert.ReferenceIdeal.FfnRef.result_at _ _ _ _ _ _ _ _ _ _ _).trans (Cert.KernelIdeal.FfnBody.result_at m c _ _ _).symm

theorem preserves_Kernel_KernelIdeal : preserves_Kernel_KernelIdeal :=
  IdealRules.named_const.statement Cert.KernelIdeal.κ "rsqrt2" .f32 0x3F3504F3#32 (((Real.sqrt 2)⁻¹ : ℝ) : EReal) rfl

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves_Kernel2_Kernel2Ideal : preserves_Kernel2_Kernel2Ideal :=
  IdealRules.named_const.statement Cert.Kernel2Ideal.κ "rsqrt2" .f32 0x3F3504F3#32 (((Real.sqrt 2)⁻¹ : ℝ) : EReal) rfl

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1, Cert.Reference2Ideal.Read.val_main_v52_eq]
  obtain ⟨a0, a1, a2, a3, a4, a5, a6, a7⟩ := hagree c
  rw [a0, a1, a2, a3, a4, a5, a6]
  funext j
  idx_vars j
  exact (Cert.ReferenceIdeal.FfnRef.mix_at _ _ _ _ _ _ _ _ _ _).trans (Cert.Kernel2Ideal.FfnBody.result_at m c _ _ _).symm

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves_Kernel3_Kernel3Ideal : preserves_Kernel3_Kernel3Ideal :=
  ⟨IdealRules.named_const.statement Cert.Kernel3Ideal.κ "mask" .f32 0xF149F2CA#32 ⊥ rfl,
    IdealRules.named_const.statement Cert.Kernel3Ideal.κ "log2e" .f32 0x3FB8AA3B#32 (((Real.log 2)⁻¹ : ℝ) : EReal) rfl⟩

theorem algebraic_Kernel3Ideal_Reference3Ideal_pre_finite : algebraic_Kernel3Ideal_Reference3Ideal_pre_finite := by
  intro m ρ m' ρ' hpre hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1, Cert.Reference3Ideal.Read.val_main_v100_eq]
  show Cert.Reference3Ideal.Read.val_main_v100 (F := Ideal) (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4))
      (m' ((c.tc : Thread Cert.Reference3Ideal.nD Cert.Reference3Ideal.τ).loc Cert.Reference3Ideal.main_arg5)) = _
  obtain ⟨a0, a1, a2, a3, a4, a5⟩ := hagree c
  rw [a0, a1, a2, a3, a4, a5]
  obtain ⟨hq, hk, hv, hl, hT⟩ := Cert.Pre_finite.reals (hpre c)
  funext j
  idx_vars j
  obtain ⟨h, e, rfl⟩ : ∃ (h : Fin 4) (e : Fin 128), (⟨128 * h.val + e.val, by omega⟩ : Fin 512) = j2 :=
    ⟨⟨j2.val / 128, by omega⟩, ⟨j2.val % 128, by omega⟩, Fin.ext (Nat.div_add_mod j2.val 128)⟩
  exact (Cert.Reference3Ideal.DiffRef.result_at (fun _ _ _ => hq _) (fun _ _ _ => hk _) (fun _ _ _ => hv _) (fun _ _ => hl _) (fun _ _ => hT _) j0 j1 h e).trans
    (Cert.Kernel3Ideal.DiffBody.result_at (m := m) (c := c) (fun _ _ _ => hq _) (fun _ _ _ => hk _) (fun _ _ _ => hv _) (fun _ _ => hl _) (fun _ _ => hT _) j0 j1 h e).symm

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_Kernel4Ideal_Reference4Ideal : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  rw [(h c).1, Cert.Reference4Ideal.Read.val_main_v2_eq]
  obtain ⟨a0, a1, a2, a3⟩ := hagree c
  rw [a0, a1, a2, a3]
  funext j
  idx_vars j
  exact (Cert.Reference4Ideal.OutRef.result_at _ _ _ _ _ _ _).trans (Cert.Kernel4Ideal.OutBody.result_at m c _ _ _).symm

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves_Kernel5_Kernel5Ideal : preserves_Kernel5_Kernel5Ideal :=
  ⟨IdealRules.named_const.statement Cert.Kernel5Ideal.κ "mask" .f32 0xF149F2CA#32 ⊥ rfl,
    IdealRules.named_const.statement Cert.Kernel5Ideal.κ "log2e" .f32 0x3FB8AA3B#32 (((Real.log 2)⁻¹ : ℝ) : EReal) rfl⟩

theorem algebraic_Kernel5Ideal_Reference5Ideal_pre_finite : algebraic_Kernel5Ideal_Reference5Ideal_pre_finite := by
  intro m ρ m' ρ' hpre hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  rw [(h c).1, Cert.Reference5Ideal.Read.val_main_v100_eq]
  show Cert.Reference5Ideal.Read.val_main_v100 (F := Ideal) (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2))
      (m' ((c.tc : Thread Cert.Reference5Ideal.nD Cert.Reference5Ideal.τ).loc Cert.Reference5Ideal.main_arg3))
      (m' ((c.tc : Thread Cert.Reference5Ideal.nD Cert.Reference5Ideal.τ).loc Cert.Reference5Ideal.main_arg4))
      (m' ((c.tc : Thread Cert.Reference5Ideal.nD Cert.Reference5Ideal.τ).loc Cert.Reference5Ideal.main_arg5)) = _
  obtain ⟨a0, a1, a2, a3, a4, a5⟩ := hagree c
  rw [a0, a1, a2, a3, a4, a5]
  obtain ⟨hq, hk, hv, hl, hT⟩ := Cert.Pre_finite.reals (hpre c)
  funext j
  idx_vars j
  obtain ⟨h, e, rfl⟩ : ∃ (h : Fin 4) (e : Fin 128), (⟨128 * h.val + e.val, by omega⟩ : Fin 512) = j2 :=
    ⟨⟨j2.val / 128, by omega⟩, ⟨j2.val % 128, by omega⟩, Fin.ext (Nat.div_add_mod j2.val 128)⟩
  exact (Cert.Reference5Ideal.DiffFourRef.result_at (fun _ _ _ => hq _) (fun _ _ _ => hk _) (fun _ _ _ => hv _) (fun _ _ => hl _) (fun _ _ => hT _) j0 j1 h e).trans
    (Cert.Kernel5Ideal.DiffFour.result_at (m := m) (c := c) (fun _ _ _ => hq _) (fun _ _ _ => hk _) (fun _ _ _ => hv _) (fun _ _ => hl _) (fun _ _ => hT _) j0 j1 h e).symm

theorem quiescent_Reference6Ideal : quiescent_Reference6Ideal := fun m ρ _ =>
  (θ_run Cert.Reference6Ideal.defs _ _).mono (fun r h => ⟨fun c => (h c).2.2.2.2.2.2.2.2.2.2.2.2, sem_eq_zero_of_no_sems (by decide) r.2⟩)
    (Cert.Reference6Ideal.Value.run (F := Ideal) m ρ)

theorem preserves_Kernel6_Kernel6Ideal : preserves_Kernel6_Kernel6Ideal :=
  IdealRules.named_const.statement Cert.Kernel6Ideal.κ "qscale" .f32 0x3E38AA3B#32 (((Real.log 256)⁻¹ : ℝ) : EReal) rfl

set_option maxHeartbeats 2000000 in
theorem algebraic_Kernel6Ideal_Reference6Ideal : algebraic_Kernel6Ideal_Reference6Ideal := by
  intro m ρ m' ρ' _ hagree
  refine ⟨_, _, _, _, _, _, _, _, _, _, _, _, Cert.Kernel6Ideal.Value.run_blocks (F := Ideal) m ρ, ?_⟩
  refine (θ_run Cert.Reference6Ideal.defs _ _).mono (fun _ h c => ?_) (Cert.Reference6Ideal.Value.run (F := Ideal) m' ρ')
  obtain ⟨a0, a1, a2⟩ := hagree c
  obtain ⟨h3, h4, h5, h6, h7, h8, h9, h10, h11, h12, h13, h14, hargs⟩ := h c
  refine ⟨?_, ?_, ?_, ?_, ?_, ?_, ?_, ?_, ?_, ?_, ?_, ?_, hargs⟩
  · rw [h3, Cert.Reference6Ideal.Read.val_main_v50_eq, a0, a1, a2]
    funext j
    idx_vars j
    exact (Cert.Reference6Ideal.OddRef.cq_at _ _ _ _ _ _).trans (Cert.Kernel6Ideal.OddBody.result3_at m c _ _ _).symm
  · rw [h4, Cert.Reference6Ideal.Read.val_main_v51_eq, a0, a1, a2]
    funext j
    idx_vars j
    exact (Cert.Reference6Ideal.OddRef.ck_at _ _ _ _ _ _).trans (Cert.Kernel6Ideal.OddBody.result4_at m c _ _ _).symm
  · rw [h5, Cert.Reference6Ideal.Read.val_main_v52_eq, a0, a1, a2]
    funext j
    idx_vars j
    exact (Cert.Reference6Ideal.OddRef.cv_at _ _ _ _ _ _).trans (Cert.Kernel6Ideal.OddBody.result5_at m c _ _ _).symm
  · rw [h6, Cert.Reference6Ideal.Read.val_main_v53_eq, a0, a1, a2]
    funext j
    idx_vars j
    exact (Cert.Reference6Ideal.OddRef.q1_at _ _ _ _ _ _ _).trans (Cert.Kernel6Ideal.OddBody.result6_at m c _ _ _ _).symm
  · rw [h7, Cert.Reference6Ideal.Read.val_main_v54_eq, a0, a1, a2]
    funext j
    idx_vars j
    exact (Cert.Reference6Ideal.OddRef.k1_at _ _ _ _ _ _ _).trans (Cert.Kernel6Ideal.OddBody.result7_at m c _ _ _ _).symm
  · rw [h8, Cert.Reference6Ideal.Read.val_main_v55_eq, a0, a1, a2]
    funext j
    idx_vars j
    exact (Cert.Reference6Ideal.OddRef.v1_at _ _ _ _ _ _ _).trans (Cert.Kernel6Ideal.OddBody.result8_at m c _ _ _ _).symm
  · rw [h9, Cert.Reference6Ideal.Read.val_main_v56_eq, a0, a1, a2]
    funext j
    idx_vars j
    exact (Cert.Reference6Ideal.OddRef.q4_at _ _ _ _ _ _ _).trans (Cert.Kernel6Ideal.OddBody.result9_at m c _ _ _ _).symm
  · rw [h10, Cert.Reference6Ideal.Read.val_main_v57_eq, a0, a1, a2]
    funext j
    idx_vars j
    exact (Cert.Reference6Ideal.OddRef.k4_at _ _ _ _ _ _ _).trans (Cert.Kernel6Ideal.OddBody.result10_at m c _ _ _ _).symm
  · rw [h11, Cert.Reference6Ideal.Read.val_main_v58_eq, a0, a1, a2]
    funext j
    idx_vars j
    exact (Cert.Reference6Ideal.OddRef.v4_at _ _ _ _ _ _ _).trans (Cert.Kernel6Ideal.OddBody.result11_at m c _ _ _ _).symm
  · rw [h12, Cert.Reference6Ideal.Read.val_main_v59_eq, a0, a1, a2]
    funext j
    idx_vars j
    exact (Cert.Reference6Ideal.OddRef.q16_at _ _ _ _ _ _ _).trans (Cert.Kernel6Ideal.OddBody.result12_at m c _ _ _ _).symm
  · rw [h13, Cert.Reference6Ideal.Read.val_main_v60_eq, a0, a1, a2]
    funext j
    idx_vars j
    exact (Cert.Reference6Ideal.OddRef.k16_at _ _ _ _ _ _ _).trans (Cert.Kernel6Ideal.OddBody.result13_at m c _ _ _ _).symm
  · rw [h14, Cert.Reference6Ideal.Read.val_main_v61_eq, a0, a1, a2]
    funext j
    idx_vars j
    exact (Cert.Reference6Ideal.OddRef.v16_at _ _ _ _ _ _ _).trans (Cert.Kernel6Ideal.OddBody.result14_at m c _ _ _ _).symm

theorem quiescent_Reference7Ideal : quiescent_Reference7Ideal := fun m ρ _ =>
  (θ_run Cert.Reference7Ideal.defs _ _).mono (fun r h => ⟨fun c => (h c).2.2.2.2.2.2.2, sem_eq_zero_of_no_sems (by decide) r.2⟩)
    (Cert.Reference7Ideal.Value.run (F := Ideal) m ρ)

theorem preserves_Kernel7_Kernel7Ideal : preserves_Kernel7_Kernel7Ideal :=
  IdealRules.named_const.statement Cert.Kernel7Ideal.κ "qscale" .f32 0x3E38AA3B#32 (((Real.log 256)⁻¹ : ℝ) : EReal) rfl

set_option maxHeartbeats 2000000 in
theorem algebraic_Kernel7Ideal_Reference7Ideal : algebraic_Kernel7Ideal_Reference7Ideal := by
  intro m ρ m' ρ' _ hagree
  refine ⟨_, _, _, _, _, _, _, (θ_run Cert.Kernel7Ideal.defs _ _).mono (fun _ h c => ⟨(h c).1, (h c).2.1, (h c).2.2.2⟩) (Cert.Kernel7Ideal.Value.run_blocks (F := Ideal) m ρ), ?_⟩
  refine (θ_run Cert.Reference7Ideal.defs _ _).mono (fun _ h c => ?_) (Cert.Reference7Ideal.Value.run (F := Ideal) m' ρ')
  obtain ⟨a0, a1, a2⟩ := hagree c
  obtain ⟨h_q, h_kvc, h_vsel, h_kwin, h_vwin, h_gate, h_glu, hargs⟩ := h c
  refine ⟨?_, ?_, ?_, ?_, ?_, ?_, ?_, hargs⟩
  · rw [h_q, Cert.Reference7Ideal.Read.val_main_v60_eq, a0, a1, a2]
    funext j
    idx_vars j
    exact (Cert.Reference7Ideal.EvenRef.q_at _ _ _ _ _ _).trans (Cert.Kernel7Ideal.EvenBody.q_result m c _ _ _).symm
  · rw [h_kvc, Cert.Reference7Ideal.Read.val_main_v15_eq, a0, a1, a2]
    funext j
    idx_vars j
    exact (Cert.Reference7Ideal.EvenRef.kvc_at _ _ _ _ _ _).trans (Cert.Kernel7Ideal.EvenBody.kvc_result m c _ _ _).symm
  · rw [h_vsel, Cert.Reference7Ideal.Read.val_main_v61_eq, a0, a1, a2]
    funext j
    idx_vars j
    exact (Cert.Reference7Ideal.EvenRef.vsel_at _ _ _ _ _ _).trans (Cert.Kernel7Ideal.EvenBody.vsel_result m c _ _ _).symm
  · rw [h_kwin, Cert.Reference7Ideal.Read.val_main_v62_eq, a0, a1, a2]
    funext j
    idx_vars j
    exact (Cert.Reference7Ideal.EvenRef.kwin_at _ _ _ _ _ _).trans (Cert.Kernel7Ideal.EvenBody.kwin_result m c _ _ _).symm
  · rw [h_vwin, Cert.Reference7Ideal.Read.val_main_v63_eq, a0, a1, a2]
    funext j
    idx_vars j
    exact (Cert.Reference7Ideal.EvenRef.vwin_at _ _ _ _ _ _).trans (Cert.Kernel7Ideal.EvenBody.vwin_result m c _ _ _).symm
  · rw [h_gate, Cert.Reference7Ideal.Read.val_main_v50_eq, a0, a1, a2]
    funext j
    idx_vars j
    exact (Cert.Reference7Ideal.EvenRef.gate_at _ _ _ _ _ _).trans (Cert.Kernel7Ideal.EvenBody.gate_result m c _ _ _).symm
  · rw [h_glu, Cert.Reference7Ideal.Read.val_main_v29_eq, a0, a1, a2]
    funext j
    idx_vars j
    exact (Cert.Reference7Ideal.EvenRef.glu_at _ _ _ _ _ _).trans (Cert.Kernel7Ideal.EvenBody.glu_result m c _ _ _).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, fun m ρ _ => Cert.Kernel3Ideal.Gen.frame m ρ,
  quiescent_Reference3Ideal, fun m ρ _ => quiescent_Reference3Ideal m ρ trivial,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, fun m ρ _ => Cert.Kernel5Ideal.Gen.frame m ρ,
  quiescent_Reference5Ideal, fun m ρ _ => quiescent_Reference5Ideal m ρ trivial,
  fun m ρ _ => Cert.Kernel6.Gen.frame m ρ, fun m ρ _ => Cert.Kernel6Ideal.Gen.frame m ρ, quiescent_Reference6Ideal,
  fun m ρ _ => Cert.Kernel7.Gen.frame m ρ, fun m ρ _ => Cert.Kernel7Ideal.Gen.frame m ρ, quiescent_Reference7Ideal,
  preserves_Kernel_KernelIdeal, algebraic_KernelIdeal_ReferenceIdeal, preserves_Kernel2_Kernel2Ideal, algebraic_Kernel2Ideal_Reference2Ideal,
  preserves_Kernel3_Kernel3Ideal, algebraic_Kernel3Ideal_Reference3Ideal_pre_finite,
  trivial, algebraic_Kernel4Ideal_Reference4Ideal,
  preserves_Kernel5_Kernel5Ideal, algebraic_Kernel5Ideal_Reference5Ideal_pre_finite,
  preserves_Kernel6_Kernel6Ideal, algebraic_Kernel6Ideal_Reference6Ideal,
  preserves_Kernel7_Kernel7Ideal, algebraic_Kernel7Ideal_Reference7Ideal⟩

end Cert.Proof

end
